-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v56_0)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v56_0) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_finite_in_range : Cert.Pre_finite_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S327680x64 : Shape := ⟨2, ![327680, 64]⟩
abbrev S16384 : Shape := ⟨1, ![16384]⟩
abbrev S327680 : Shape := ⟨1, ![327680]⟩
abbrev S64x128 : Shape := ⟨2, ![64, 128]⟩
abbrev S64 : Shape := ⟨1, ![64]⟩
abbrev S64x64 : Shape := ⟨2, ![64, 64]⟩
abbrev S68x64 : Shape := ⟨2, ![68, 64]⟩
abbrev S68 : Shape := ⟨1, ![68]⟩
abbrev S1x64 : Shape := ⟨2, ![1, 64]⟩
abbrev S1 : Shape := ⟨1, ![1]⟩
abbrev S_ : Shape := ⟨0, ![]⟩

class Facts : Prop where
  bcast_S_S327680 : S_.BroadcastsInDim S327680 (![] : Fin 0 → Fin S327680.rank)
  bcast_S_S16384 : S_.BroadcastsInDim S16384 (![] : Fin 0 → Fin S16384.rank)
  reducesTo_S16384_S_d0 : S16384.ReducesTo [0] S_
  h_S_ : 0 < S_.numel
  bcast_S_S327680x64 : S_.BroadcastsInDim S327680x64 (![] : Fin 0 → Fin S327680x64.rank)
  reducesTo_S327680x64_S_d0_1 : S327680x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S327680 1) (main_v52 : IVec S_ 1) : IVec S327680 1 :=
  let main_v53 : IVec S327680 1 := broadcastInDim S327680 ![] bcast_S_S327680 main_v52
  let main_v54 : IVec S327680 1 := andi main_v48 main_v53
  let main_v55 : FVec F S1 .f32 := Host.absf main_arg12
  let main_cst_17 : FVec F S_ .f32 := constant S_ .f32 0x7F800000#32
  let main_v56 : FVec F S1 .f32 := broadcastInDim S1 ![] bcast_S_S1 main_cst_17
  let main_v57 : IVec S1 1 := cmpf .olt main_v55 main_v56
  let main_c_18 : IVec S_ 1 := constantI S_ 1 1#1
  let main_v58 : IVec S_ 1 := (fun x v => Host.reduce IntOp.andi x v reducesTo_S1_S_d0 h_S_) main_v57 main_c_18
  let main_v59 : IVec S327680 1 := broadcastInDim S327680 ![] bcast_S_S327680 main_v58
  let main_v60 : IVec S327680 1 := andi main_v54 main_v59
  main_v60

def fn_part2 {F : FTy → Type} [FloatOps F] (main_arg7 : FVec F S64 .f32) (main_arg8 : FVec F S64 .f32) (main_arg11 : FVec F S1x64 .f32) (main_arg12 : FVec F S1 .f32) (main_v30 : IVec S327680 1) (main_v34 : IVec S_ 1) : IVec S327680 1 :=
  let main_v35 : IVec S327680 1 := broadcastInDim S327680 ![] bcast_S_S327680 main_v34
  let main_v36 : IVec S327680 1 := andi main_v30 main_v35
  let main_v37 : FVec F S64 .f32 := Host.absf main_arg7
  let main_cst_11 : FVec F S_ .f32 := constant S_ .f32 0x7F800000#32
  let main_v38 : FVec F S64 .f32 := broadcastInDim S64 ![] bcast_S_S64 main_cst_11
  let main_v39 : IVec S64 1 := cmpf .olt main_v37 main_v38
  let main_c_12 : IVec S_ 1 := constantI S_ 1 1#1
  let main_v40 : IVec S_ 1 := (fun x v => Host.reduce IntOp.andi x v reducesTo_S64_S_d0 h_S_) main_v39 main_c_12
  let main_v41 : IVec S327680 1 := broadcastInDim S327680 ![] bcast_S_S327680 main_v40
  let main_v42 : IVec S327680 1 := andi main_v36 main_v41
  let main_v43 : FVec F S64 .f32 := Host.absf main_arg8
  let main_cst_13 : FVec F S_ .f32 := constant S_ .f32 0x7F800000#32
  let main_v44 : FVec F S64 .f32 := broadcastInDim S64 ![] bcast_S_S64 main_cst_13
  let main_v45 : IVec S64 1 := cmpf .olt main_v43 main_v44
  let main_c_14 : IVec S_ 1 := constantI S_ 1 1#1
  let main_v46 : IVec S_ 1 := (fun x v => Host.reduce IntOp.andi x v reducesTo_S64_S_d0 h_S_) main_v45 main_c_14
  let main_v47 : IVec S327680 1 := broadcastInDim S327680 ![] bcast_S_S327680 main_v46
  let main_v48 : IVec S327680 1 := andi main_v42 main_v47
  let main_v49 : FVec F S1x64 .f32 := Host.absf main_arg11
  let main_cst_15 : FVec F S_ .f32 := constant S_ .f32 0x7F800000#32
  let main_v50 : FVec F S1x64 .f32 := broadcastInDim S1x64 ![] bcast_S_S1x64 main_cst_15
  let main_v51 : IVec S1x64 1 := cmpf .olt main_v49 main_v50
  let main_c_16 : IVec S_ 1 := constantI S_ 1 1#1
  let main_v52 : IVec S_ 1 := (fun x v => Host.reduce IntOp.andi x v reducesTo_S1x64_S_d0_1 h_S_) main_v51 main_c_16
  fn_part3 (F := F) main_arg12 main_v48 main_v52

def fn_part1 {F : FTy → Type} [FloatOps F] (main_arg3 : FVec F S64x128 .f32) (main_arg4 : FVec F S64 .f32) (main_arg6 : FVec F S64x64 .f32) (main_arg7 : FVec F S64 .f32) (main_arg8 : FVec F S64 .f32) (main_arg11 : FVec F S1x64 .f32) (main_arg12 : FVec F S1 .f32) (main_v12 : IVec S327680 1) (main_v16 : IVec S_ 1) : IVec S327680 1 :=
  let main_v17 : IVec S327680 1 := broadcastInDim S327680 ![] bcast_S_S327680 main_v16
  let main_v18 : IVec S327680 1 := andi main_v12 main_v17
  let main_v19 : FVec F S64x128 .f32 := Host.absf main_arg3
  let main_cst_5 : FVec F S_ .f32 := constant S_ .f32 0x7F800000#32
  let main_v20 : FVec F S64x128 .f32 := broadcastInDim S64x128 ![] bcast_S_S64x128 main_cst_5
  let main_v21 : IVec S64x128 1 := cmpf .olt main_v19 main_v20
  let main_c_6 : IVec S_ 1 := constantI S_ 1 1#1
  let main_v22 : IVec S_ 1 := (fun x v => Host.reduce IntOp.andi x v reducesTo_S64x128_S_d0_1 h_S_) main_v21 main_c_6
  let main_v23 : IVec S327680 1 := broadcastInDim S327680 ![] bcast_S_S327680 main_v22
  let main_v24 : IVec S327680 1 := andi main_v18 main_v23
  let main_v25 : FVec F S64 .f32 := Host.absf main_arg4
  let main_cst_7 : FVec F S_ .f32 := constant S_ .f32 0x7F800000#32
  let main_v26 : FVec F S64 .f32 := broadcastInDim S64 ![] bcast_S_S64 main_cst_7
  let main_v27 : IVec S64 1 := cmpf .olt main_v25 main_v26
  let main_c_8 : IVec S_ 1 := constantI S_ 1 1#1
  let main_v28 : IVec S_ 1 := (fun x v => Host.reduce IntOp.andi x v reducesTo_S64_S_d0 h_S_) main_v27 main_c_8
  let main_v29 : IVec S327680 1 := broadcastInDim S327680 ![] bcast_S_S327680 main_v28
  let main_v30 : IVec S327680 1 := andi main_v24 main_v29
  let main_v31 : FVec F S64x64 .f32 := Host.absf main_arg6
  let main_cst_9 : FVec F S_ .f32 := constant S_ .f32 0x7F800000#32
  let main_v32 : FVec F S64x64 .f32 := broadcastInDim S64x64 ![] bcast_S_S64x64 main_cst_9
  let main_v33 : IVec S64x64 1 := cmpf .olt main_v31 main_v32
  let main_c_10 : IVec S_ 1 := constantI S_ 1 1#1
  let main_v34 : IVec S_ 1 := (fun x v => Host.reduce IntOp.andi x v reducesTo_S64x64_S_d0_1 h_S_) main_v33 main_c_10
  fn_part2 (F := F) main_arg7 main_arg8 main_arg11 main_arg12 main_v30 main_v34

def fn {F : FTy → Type} [FloatOps F] (main_arg0 : FVec F S327680x64 .f32) (main_arg1 : IVec S16384 32) (main_arg2 : IVec S327680 32) (main_arg3 : FVec F S64x128 .f32) (main_arg4 : FVec F S64 .f32) (main_arg5 : FVec F S64 .f32) (main_arg6 : FVec F S64x64 .f32) (main_arg7 : FVec F S64 .f32) (main_arg8 : FVec F S64 .f32) (main_arg9 : FVec F S68x64 .f32) (main_arg10 : FVec F S68 .f32) (main_arg11 : FVec F S1x64 .f32) (main_arg12 : FVec F S1 .f32) : IVec S327680 1 :=
  let main_c : IVec S_ 32 := constantI S_ 32 0#32
  let main_v0 : IVec S327680 32 := broadcastInDim S327680 ![] bcast_S_S327680 main_c
  let main_v1 : IVec S327680 1 := cmpi .sge main_arg2 main_v0
  let main_c_0 : IVec S_ 32 := constantI S_ 32 16384#32
  let main_v2 : IVec S327680 32 := broadcastInDim S327680 ![] bcast_S_S327680 main_c_0
  let main_v3 : IVec S327680 1 := cmpi .slt main_arg2 main_v2
  let main_v4 : IVec S327680 1 := andi main_v1 main_v3
  let main_c_1 : IVec S_ 32 := constantI S_ 32 1#32
  let main_v5 : IVec S16384 32 := broadcastInDim S16384 ![] bcast_S_S16384 main_c_1
  let main_v6 : IVec S16384 1 := cmpi .sge main_arg1 main_v5
  let main_c_2 : IVec S_ 32 := constantI S_ 32 327680#32
  let main_v7 : IVec S16384 32 := broadcastInDim S16384 ![] bcast_S_S16384 main_c_2
  let main_v8 : IVec S16384 1 := cmpi .sle main_arg1 main_v7
  let main_v9 : IVec S16384 1 := andi main_v6 main_v8
  let main_c_3 : IVec S_ 1 := constantI S_ 1 1#1
  let main_v10 : IVec S_ 1 := (fun x v => Host.reduce IntOp.andi x v reducesTo_S16384_S_d0 h_S_) main_v9 main_c_3
  let main_v11 : IVec S327680 1 := broadcastInDim S327680 ![] bcast_S_S327680 main_v10
  let main_v12 : IVec S327680 1 := andi main_v4 main_v11
  let main_v13 : FVec F S327680x64 .f32 := Host.absf main_arg0
  let main_cst : FVec F S_ .f32 := constant S_ .f32 0x7F800000#32
  let main_v14 : FVec F S327680x64 .f32 := broadcastInDim S327680x64 ![] bcast_S_S327680x64 main_cst
  let main_v15 : IVec S327680x64 1 := cmpf .olt main_v13 main_v14
  let main_c_4 : IVec S_ 1 := constantI S_ 1 1#1
  let main_v16 : IVec S_ 1 := (fun x v => Host.reduce IntOp.andi x v reducesTo_S327680x64_S_d0_1 h_S_) main_v15 main_c_4
  fn_part1 (F := F) main_arg3 main_arg4 main_arg6 main_arg7 main_arg8 main_arg11 main_arg12 main_v12 main_v16
-- ==== Pre_ids_in_range.lean ====
abbrev S327680x64 : Shape := ⟨2, ![327680, 64]⟩
abbrev S16384 : Shape := ⟨1, ![16384]⟩
abbrev S327680 : Shape := ⟨1, ![327680]⟩
abbrev S64x128 : Shape := ⟨2, ![64, 128]⟩
abbrev S64 : Shape := ⟨1, ![64]⟩
abbrev S64x64 : Shape := ⟨2, ![64, 64]⟩
abbrev S68x64 : Shape := ⟨2, ![68, 64]⟩
abbrev S68 : Shape := ⟨1, ![68]⟩
abbrev S1x64 : Shape := ⟨2, ![1, 64]⟩
abbrev S1 : Shape := ⟨1, ![1]⟩
abbrev S_ : Shape := ⟨0, ![]⟩

class Facts : Prop where
  bcast_S_S327680 : S_.BroadcastsInDim S327680 (![] : Fin 0 → Fin S327680.rank)

variable [Facts]

def fn {F : FTy → Type} [FloatOps F] (main_arg0 : FVec F S327680x64 .f32) (main_arg1 : IVec S16384 32) (main_arg2 : IVec S327680 32) (main_arg3 : FVec F S64x128 .f32) (main_arg4 : FVec F S64 .f32) (main_arg5 : FVec F S64 .f32) (main_arg6 : FVec F S64x64 .f32) (main_arg7 : FVec F S64 .f32) (main_arg8 : FVec F S64 .f32) (main_arg9 : FVec F S68x64 .f32) (main_arg10 : FVec F S68 .f32) (main_arg11 : FVec F S1x64 .f32) (main_arg12 : FVec F S1 .f32) : IVec S327680 1 :=
  let main_c : IVec S_ 32 := constantI S_ 32 0#32
  let main_v0 : IVec S327680 32 := broadcastInDim S327680 ![] bcast_S_S327680 main_c
  let main_v1 : IVec S327680 1 := cmpi .sge main_arg2 main_v0
  let main_c_0 : IVec S_ 32 := constantI S_ 32 16384#32
  let main_v2 : IVec S327680 32 := broadcastInDim S327680 ![] bcast_S_S327680 main_c_0
  let main_v3 : IVec S327680 1 := cmpi .slt main_arg2 main_v2
  let main_v4 : IVec S327680 1 := andi main_v1 main_v3
  main_v4
-- ==== Kernel.lean ====
abbrev S327680x64 : Shape := ⟨2, ![327680, 64]⟩
abbrev S16384 : Shape := ⟨1, ![16384]⟩
abbrev S327680 : Shape := ⟨1, ![327680]⟩
abbrev S64x128 : Shape := ⟨2, ![64, 128]⟩
abbrev S64 : Shape := ⟨1, ![64]⟩
abbrev S64x64 : Shape := ⟨2, ![64, 64]⟩
abbrev S68x64 : Shape := ⟨2, ![68, 64]⟩
abbrev S68 : Shape := ⟨1, ![68]⟩
abbrev S1x64 : Shape := ⟨2, ![1, 64]⟩
abbrev S1 : Shape := ⟨1, ![1]⟩
abbrev S_ : Shape := ⟨0, ![]⟩
abbrev S128x64 : Shape := ⟨2, ![128, 64]⟩
abbrev S128x16 : Shape := ⟨2, ![128, 16]⟩
abbrev S16384x64 : Shape := ⟨2, ![16384, 64]⟩
abbrev S327680x1 : Shape := ⟨2, ![327680, 1]⟩
abbrev S1x16384x64 : Shape := ⟨3, ![1, 16384, 64]⟩
abbrev S2x16384x64 : Shape := ⟨3, ![2, 16384, 64]⟩
abbrev S1x16384 : Shape := ⟨2, ![1, 16384]⟩
abbrev S2x16384 : Shape := ⟨2, ![2, 16384]⟩
abbrev S2x16384x1 : Shape := ⟨3, ![2, 16384, 1]⟩
abbrev S2x16384x16 : Shape := ⟨3, ![2, 16384, 16]⟩
abbrev S8x64 : Shape := ⟨2, ![8, 64]⟩
abbrev S2048x64 : Shape := ⟨2, ![2048, 64]⟩
abbrev S16384x1 : Shape := ⟨2, ![16384, 1]⟩
abbrev S64x1 : Shape := ⟨2, ![64, 1]⟩
abbrev S1x1 : Shape := ⟨2, ![1, 1]⟩
abbrev S16384x128 : Shape := ⟨2, ![16384, 128]⟩
abbrev S2x1024x64 : Shape := ⟨3, ![2, 1024, 64]⟩
abbrev S2x1024x16 : Shape := ⟨3, ![2, 1024, 16]⟩
abbrev S1024x1 : Shape := ⟨2, ![1024, 1]⟩
abbrev S1024x128 : Shape := ⟨2, ![1024, 128]⟩
abbrev S1x1024x64 : Shape := ⟨3, ![1, 1024, 64]⟩
abbrev S1024x64 : Shape := ⟨2, ![1024, 64]⟩
abbrev S1x1024x1 : Shape := ⟨3, ![1, 1024, 1]⟩
abbrev S327680x128 : Shape := ⟨2, ![327680, 128]⟩
abbrev S256 : Shape := ⟨1, ![256]⟩
abbrev S256x128 : Shape := ⟨2, ![256, 128]⟩
abbrev S64x68 : Shape := ⟨2, ![64, 68]⟩
abbrev S1x68 : Shape := ⟨2, ![1, 68]⟩
abbrev S327680x68 : Shape := ⟨2, ![327680, 68]⟩
abbrev S327680x16 : Shape := ⟨2, ![327680, 16]⟩
abbrev S2048x128 : Shape := ⟨2, ![2048, 128]⟩
abbrev S2048x68 : Shape := ⟨2, ![2048, 68]⟩
abbrev S2048x16 : Shape := ⟨2, ![2048, 16]⟩
abbrev S2048 : Shape := ⟨1, ![2048]⟩
abbrev S2048x1 : Shape := ⟨2, ![2048, 1]⟩
abbrev S1x16384x1 : Shape := ⟨3, ![1, 16384, 1]⟩
abbrev S327680x4 : Shape := ⟨2, ![327680, 4]⟩
abbrev S2048x4 : Shape := ⟨2, ![2048, 4]⟩
abbrev S327680x16x4 : Shape := ⟨3, ![327680, 16, 4]⟩

abbrev nBuf : Table → Nat
  | .hbm => 87
  | .local .tc .vmem => 50
  | .local .scVector .vmem => 4
  | _ => 0

abbrev bufTy : (tb : Table) → Fin (nBuf tb) → BufTy
  | .hbm, ⟨0, _⟩ => ⟨S327680x64, .f32⟩
  | .hbm, ⟨1, _⟩ => ⟨S16384, .i32⟩
  | .hbm, ⟨2, _⟩ => ⟨S327680, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S68x64, .f32⟩
  | .hbm, ⟨10, _⟩ => ⟨S68, .f32⟩
  | .hbm, ⟨11, _⟩ => ⟨S1x64, .f32⟩
  | .hbm, ⟨12, _⟩ => ⟨S1, .f32⟩
  | .hbm, ⟨13, _⟩ => ⟨S_, .f32⟩
  | .hbm, ⟨14, _⟩ => ⟨S128x64, .f32⟩
  | .hbm, ⟨15, _⟩ => ⟨S_, .f32⟩
  | .hbm, ⟨16, _⟩ => ⟨S128x16, .f32⟩
  | .hbm, ⟨17, _⟩ => ⟨S_, .f32⟩
  | .hbm, ⟨18, _⟩ => ⟨S128x16, .f32⟩
  | .hbm, ⟨19, _⟩ => ⟨S_, .f32⟩
  | .hbm, ⟨20, _⟩ => ⟨S16384x64, .f32⟩
  | .hbm, ⟨21, _⟩ => ⟨S327680x1, .i32⟩
  | .hbm, ⟨22, _⟩ => ⟨S16384x64, .f32⟩
  | .hbm, ⟨23, _⟩ => ⟨S_, .f32⟩
  | .hbm, ⟨24, _⟩ => ⟨S327680, .f32⟩
  | .hbm, ⟨25, _⟩ => ⟨S_, .f32⟩
  | .hbm, ⟨26, _⟩ => ⟨S16384, .f32⟩
  | .hbm, ⟨27, _⟩ => ⟨S327680x1, .i32⟩
  | .hbm, ⟨28, _⟩ => ⟨S16384, .f32⟩
  | .hbm, ⟨29, _⟩ => ⟨S_, .f32⟩
  | .hbm, ⟨30, _⟩ => ⟨S16384x64, .f32⟩
  | .hbm, ⟨31, _⟩ => ⟨S1x16384x64, .f32⟩
  | .hbm, ⟨32, _⟩ => ⟨S1x16384x64, .f32⟩
  | .hbm, ⟨33, _⟩ => ⟨S2x16384x64, .f32⟩
  | .hbm, ⟨34, _⟩ => ⟨S_, .f32⟩
  | .hbm, ⟨35, _⟩ => ⟨S16384, .f32⟩
  | .hbm, ⟨36, _⟩ => ⟨S1x16384, .f32⟩
  | .hbm, ⟨37, _⟩ => ⟨S1x16384, .f32⟩
  | .hbm, ⟨38, _⟩ => ⟨S2x16384, .f32⟩
  | .hbm, ⟨39, _⟩ => ⟨S2x16384x1, .f32⟩
  | .hbm, ⟨40, _⟩ => ⟨S2x16384x16, .f32⟩
  | .hbm, ⟨41, _⟩ => ⟨S64x64, .f32⟩
  | .hbm, ⟨42, _⟩ => ⟨S64x64, .f32⟩
  | .hbm, ⟨43, _⟩ => ⟨S8x64, .f32⟩
  | .hbm, ⟨44, _⟩ => ⟨S16384, .f32⟩
  | .hbm, ⟨45, _⟩ => ⟨S16384x1, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S64x1, .f32⟩
  | .hbm, ⟨56, _⟩ => ⟨S1x1, .f32⟩
  | .hbm, ⟨57, _⟩ => ⟨S16384x128, .f32⟩
  | .hbm, ⟨58, _⟩ => ⟨S16384x1, .f32⟩
  | .hbm, ⟨59, _⟩ => ⟨S8x64, .f32⟩
  | .hbm, ⟨60, _⟩ => ⟨S327680x128, .f32⟩
  | .hbm, ⟨61, _⟩ => ⟨S64x64, .f32⟩
  | .hbm, ⟨62, _⟩ => ⟨S64x64, .f32⟩
  | .hbm, ⟨63, _⟩ => ⟨S64x68, .f32⟩
  | .hbm, ⟨64, _⟩ => ⟨S1x68, .f32⟩
  | .hbm, ⟨65, _⟩ => ⟨S327680x68, .f32⟩
  | .hbm, ⟨66, _⟩ => ⟨S327680x16, .f32⟩
  | .hbm, ⟨67, _⟩ => ⟨S327680x1, .f32⟩
  | .hbm, ⟨68, _⟩ => ⟨S327680, .f32⟩
  | .hbm, ⟨69, _⟩ => ⟨S_, .f32⟩
  | .hbm, ⟨70, _⟩ => ⟨S16384, .f32⟩
  | .hbm, ⟨71, _⟩ => ⟨S327680x1, .i32⟩
  | .hbm, ⟨72, _⟩ => ⟨S16384, .f32⟩
  | .hbm, ⟨73, _⟩ => ⟨S_, .f32⟩
  | .hbm, ⟨74, _⟩ => ⟨S16384, .f32⟩
  | .hbm, ⟨75, _⟩ => ⟨S1x16384, .f32⟩
  | .hbm, ⟨76, _⟩ => ⟨S1x16384, .f32⟩
  | .hbm, ⟨77, _⟩ => ⟨S2x16384, .f32⟩
  | .hbm, ⟨78, _⟩ => ⟨S2x16384x1, .f32⟩
  | .hbm, ⟨79, _⟩ => ⟨S2x16384x16, .f32⟩
  | .hbm, ⟨80, _⟩ => ⟨S16384x128, .f32⟩
  | .hbm, ⟨81, _⟩ => ⟨S16384x1, .f32⟩
  | .hbm, ⟨82, _⟩ => ⟨S327680x128, .f32⟩
  | .hbm, ⟨83, _⟩ => ⟨S327680x4, .f32⟩
  | .hbm, ⟨84, _⟩ => ⟨S327680x64, .f32⟩
  | .hbm, ⟨85, _⟩ => ⟨S327680x16x4, .f32⟩
  | .hbm, ⟨86, _⟩ => ⟨S16384, .f32⟩
  | .local .tc .vmem, ⟨0, _⟩ => ⟨S2048x64, .f32⟩
  | .local .tc .vmem, ⟨1, _⟩ => ⟨S2048x64, .f32⟩
  | .local .tc .vmem, ⟨2, _⟩ => ⟨S64x64, .f32⟩
  | .local .tc .vmem, ⟨3, _⟩ => ⟨S8x64, .f32⟩
  | .local .tc .vmem, ⟨4, _⟩ => ⟨S2x1024x64, .f32⟩
  | .local .tc .vmem, ⟨5, _⟩ => ⟨S2x1024x64, .f32⟩
  | .local .tc .vmem, ⟨6, _⟩ => ⟨S2x1024x16, .f32⟩
  | .local .tc .vmem, ⟨7, _⟩ => ⟨S2x1024x16, .f32⟩
  | .local .tc .vmem, ⟨8, _⟩ => ⟨S1024x1, .f32⟩
  | .local .tc .vmem, ⟨9, _⟩ => ⟨S1024x1, .f32⟩
  | .local .tc .vmem, ⟨10, _⟩ => ⟨S64x64, .f32⟩
  | .local .tc .vmem, ⟨11, _⟩ => ⟨S64x64, .f32⟩
  | .local .tc .vmem, ⟨12, _⟩ => ⟨S64x64, .f32⟩
  | .local .tc .vmem, ⟨13, _⟩ => ⟨S1x64, .f32⟩
  | .local .tc .vmem, ⟨14, _⟩ => ⟨S1x64, .f32⟩
  | .local .tc .vmem, ⟨15, _⟩ => ⟨S1x64, .f32⟩
  | .local .tc .vmem, ⟨16, _⟩ => ⟨S1x64, .f32⟩
  | .local .tc .vmem, ⟨17, _⟩ => ⟨S64x1, .f32⟩
  | .local .tc .vmem, ⟨18, _⟩ => ⟨S1x1, .f32⟩
  | .local .tc .vmem, ⟨19, _⟩ => ⟨S8x64, .f32⟩
  | .local .tc .vmem, ⟨20, _⟩ => ⟨S1024x128, .f32⟩
  | .local .tc .vmem, ⟨21, _⟩ => ⟨S1024x128, .f32⟩
  | .local .tc .vmem, ⟨22, _⟩ => ⟨S1024x1, .f32⟩
  | .local .tc .vmem, ⟨23, _⟩ => ⟨S1024x1, .f32⟩
  | .local .tc .vmem, ⟨24, _⟩ => ⟨S8x64, .f32⟩
  | .local .tc .vmem, ⟨25, _⟩ => ⟨S8x64, .f32⟩
  | .local .tc .vmem, ⟨26, _⟩ => ⟨S2048x64, .f32⟩
  | .local .tc .vmem, ⟨27, _⟩ => ⟨S2048x64, .f32⟩
  | .local .tc .vmem, ⟨28, _⟩ => ⟨S2048x128, .f32⟩
  | .local .tc .vmem, ⟨29, _⟩ => ⟨S2048x128, .f32⟩
  | .local .tc .vmem, ⟨30, _⟩ => ⟨S64x64, .f32⟩
  | .local .tc .vmem, ⟨31, _⟩ => ⟨S8x64, .f32⟩
  | .local .tc .vmem, ⟨32, _⟩ => ⟨S64x68, .f32⟩
  | .local .tc .vmem, ⟨33, _⟩ => ⟨S1x68, .f32⟩
  | .local .tc .vmem, ⟨34, _⟩ => ⟨S2048x68, .f32⟩
  | .local .tc .vmem, ⟨35, _⟩ => ⟨S2048x68, .f32⟩
  | .local .tc .vmem, ⟨36, _⟩ => ⟨S2048x16, .f32⟩
  | .local .tc .vmem, ⟨37, _⟩ => ⟨S2048x16, .f32⟩
  | .local .tc .vmem, ⟨38, _⟩ => ⟨S2x16384x16, .f32⟩
  | .local .tc .vmem, ⟨39, _⟩ => ⟨S16384x1, .f32⟩
  | .local .tc .vmem, ⟨40, _⟩ => ⟨S16384x128, .f32⟩
  | .local .tc .vmem, ⟨41, _⟩ => ⟨S16384x1, .f32⟩
  | .local .tc .vmem, ⟨42, _⟩ => ⟨S2048x68, .f32⟩
  | .local .tc .vmem, ⟨43, _⟩ => ⟨S2048x68, .f32⟩
  | .local .tc .vmem, ⟨44, _⟩ => ⟨S2048x128, .f32⟩
  | .local .tc .vmem, ⟨45, _⟩ => ⟨S2048x128, .f32⟩
  | .local .tc .vmem, ⟨46, _⟩ => ⟨S2048x4, .f32⟩
  | .local .tc .vmem, ⟨47, _⟩ => ⟨S2048x4, .f32⟩
  | .local .tc .vmem, ⟨48, _⟩ => ⟨S2048x64, .f32⟩
  | .local .tc .vmem, ⟨49, _⟩ => ⟨S2048x64, .f32⟩
  | .local .scVector .vmem, ⟨0, _⟩ => ⟨S256, .i32⟩
  | .local .scVector .vmem, ⟨1, _⟩ => ⟨S256x128, .f32⟩
  | .local .scVector .vmem, ⟨2, _⟩ => ⟨S256, .i32⟩
  | .local .scVector .vmem, ⟨3, _⟩ => ⟨S256x128, .f32⟩
  | _, _ => ⟨S327680x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => false
  | ⟨45, _⟩ => false
  | ⟨46, _⟩ => false
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTables nBuf rfl bufTy 4 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_cst_4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54_0 : Ref sig .tc := ⟨.hbm, 80, rfl⟩
abbrev main_v54_1 : Ref sig .tc := ⟨.hbm, 81, rfl⟩
abbrev main_v55 : Ref sig .tc := ⟨.hbm, 82, rfl⟩
abbrev main_v56_0 : Ref sig .tc := ⟨.hbm, 83, rfl⟩
abbrev main_v56_1 : Ref sig .tc := ⟨.hbm, 84, rfl⟩
abbrev main_v57 : Ref sig .tc := ⟨.hbm, 85, rfl⟩
abbrev main_v58 : Ref sig .tc := ⟨.hbm, 86, rfl⟩
abbrev main_v36_0_scv : Ref sig .scVector := ⟨.hbm, 57, rfl⟩
abbrev main_arg2_scv : Ref sig .scVector := ⟨.hbm, 2, rfl⟩
abbrev main_v37_scv : Ref sig .scVector := ⟨.hbm, 60, rfl⟩
abbrev main_v54_0_scv : Ref sig .scVector := ⟨.hbm, 80, rfl⟩
abbrev main_v55_scv : Ref sig .scVector := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc1_stg14_0 : Ref sig .tc := ⟨.vmem, 22, rfl⟩
abbrev cc1_stg14_1 : Ref sig .tc := ⟨.vmem, 23, rfl⟩
abbrev cc1_stg15_0 : Ref sig .tc := ⟨.vmem, 24, rfl⟩
abbrev cc1_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc2_scratch0 : Ref sig .scVector := ⟨.vmem, 0, rfl⟩
abbrev cc2_scratch1 : Ref sig .scVector := ⟨.vmem, 1, rfl⟩
abbrev cc5_scratch0 : Ref sig .scVector := ⟨.vmem, 2, rfl⟩
abbrev cc5_scratch1 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21
abbrev cc1_sem14_0 : DmaSem sig := 22
abbrev cc1_sem14_1 : DmaSem sig := 23
abbrev cc1_sem15_0 : DmaSem sig := 24
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem7_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem2_1 : DmaSem sig := 52
abbrev cc6_sem3_0 : DmaSem sig := 53
abbrev cc6_sem3_1 : DmaSem sig := 54
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_cond4 (i : grid1.Coords) : BitVec 1 :=
  let arg0 : BitVec 32 := BitVec.ofNat 32 (i 0).val
  let c1_i32_18 : BitVec 32 := 1#32
  let v30 : BitVec 1 := Scalar.cmpi .eq arg0 c1_i32_18
  let v31 : BitVec 32 := Scalar.extui v30
  let c0_i32_19 : BitVec 32 := 0#32
  let v32 : BitVec 1 := Scalar.cmpi .ne v31 c0_i32_19
  v32

def k1_cond3 (i : grid1.Coords) : BitVec 1 :=
  let arg0 : BitVec 32 := BitVec.ofNat 32 (i 0).val
  let c1_i32 : BitVec 32 := 1#32
  let v25 : BitVec 1 := Scalar.cmpi .eq arg0 c1_i32
  let arg1 : BitVec 32 := BitVec.ofNat 32 (i 1).val
  let c0_i32_16 : BitVec 32 := 0#32
  let v26 : BitVec 1 := Scalar.cmpi .eq arg1 c0_i32_16
  let v27 : BitVec 1 := Scalar.andi v25 v26
  let v28 : BitVec 32 := Scalar.extui v27
  let c0_i32_17 : BitVec 32 := 0#32
  let v29 : BitVec 1 := Scalar.cmpi .ne v28 c0_i32_17
  v29

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2x1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S8x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1024x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![false, true]

abbrev stage1_14 : Fin 2 → Memref sig .tc .vmem S1024x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![false, true]

abbrev stage1_15 : Fin 1 → Memref sig .tc .vmem S8x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev grid2 : Pipeline.Grid := ⟨2, ![2, 16], ![false, false]⟩

@[reducible] def k2_t1_loop : Scf.Loop 32 :=
  let c0_i32 : BitVec 32 := 0#32
  let c40_i32 : BitVec 32 := 40#32
  let v3 : BitVec 32 := Scalar.addi c0_i32 c40_i32
  let c1_i32 : BitVec 32 := 1#32
  ⟨c0_i32, v3, c1_i32⟩
def k2_mult1 (i : grid2.Coords) (k2_t1 : Fin k2_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k2_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  v7
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k2_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  let v8 : BitVec 32 := v7
  ![v8.toNat]
def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k2_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  let v8 : BitVec 32 := v7
  let c0_i32_7_r1 : BitVec 32 := 0#32
  ![v8.toNat, 0]
abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x68 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x68 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x68 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2048x16 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := .none

abbrev stage4_0 : Fin 1 → Memref sig .tc .vmem S2x16384x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S16384x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S16384x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S16384x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := ⟨2, ![2, 16], ![false, false]⟩

@[reducible] def k5_t1_loop : Scf.Loop 32 :=
  let c0_i32 : BitVec 32 := 0#32
  let c40_i32 : BitVec 32 := 40#32
  let v3 : BitVec 32 := Scalar.addi c0_i32 c40_i32
  let c1_i32 : BitVec 32 := 1#32
  ⟨c0_i32, v3, c1_i32⟩
def k5_mult1 (i : grid5.Coords) (k5_t1 : Fin k5_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k5_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  v7
def k5_off1 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k5_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  let v8 : BitVec 32 := v7
  ![v8.toNat]
def k5_off2 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c0_i32_2 : BitVec 32 := 0#32
  let c0_i32 : BitVec 32 := 0#32
  let c1_i32 : BitVec 32 := 1#32
  let arg8 : BitVec 32 := Scf.iv c0_i32 c1_i32 k5_t1
  let c1_i32_1 : BitVec 32 := 1#32
  let v4 : BitVec 32 := Scalar.muli arg8 c1_i32_1
  let v5 : BitVec 32 := Scalar.addi c0_i32_2 v4
  let c256_i32 : BitVec 32 := 256#32
  let v6 : BitVec 32 := Scalar.muli v5 c256_i32
  let v7 : BitVec 32 := Scalar.addi v2 v6
  let v8 : BitVec 32 := v7
  let c0_i32_7_r1 : BitVec 32 := 0#32
  ![v8.toNat, 0]
abbrev grid6 : Pipeline.Grid := ⟨1, ![160], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x68 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x4 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2048x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S327680x64 : Shape := ⟨2, ![327680, 64]⟩
abbrev S16384 : Shape := ⟨1, ![16384]⟩
abbrev S327680 : Shape := ⟨1, ![327680]⟩
abbrev S64x128 : Shape := ⟨2, ![64, 128]⟩
abbrev S64 : Shape := ⟨1, ![64]⟩
abbrev S64x64 : Shape := ⟨2, ![64, 64]⟩
abbrev S68x64 : Shape := ⟨2, ![68, 64]⟩
abbrev S68 : Shape := ⟨1, ![68]⟩
abbrev S1x64 : Shape := ⟨2, ![1, 64]⟩
abbrev S1 : Shape := ⟨1, ![1]⟩
abbrev S_ : Shape := ⟨0, ![]⟩
abbrev S16384x64 : Shape := ⟨2, ![16384, 64]⟩
abbrev S327680x1 : Shape := ⟨2, ![327680, 1]⟩
abbrev S16384x1 : Shape := ⟨2, ![16384, 1]⟩
abbrev S327680x128 : Shape := ⟨2, ![327680, 128]⟩
abbrev S128x64 : Shape := ⟨2, ![128, 64]⟩
abbrev S64x68 : Shape := ⟨2, ![64, 68]⟩
abbrev S327680x68 : Shape := ⟨2, ![327680, 68]⟩
abbrev S1x68 : Shape := ⟨2, ![1, 68]⟩
abbrev S327680x1x68 : Shape := ⟨3, ![327680, 1, 68]⟩
abbrev S64x1 : Shape := ⟨2, ![64, 1]⟩
abbrev S1x1 : Shape := ⟨2, ![1, 1]⟩
abbrev S16384x1x1 : Shape := ⟨3, ![16384, 1, 1]⟩
abbrev S16384x1x68 : Shape := ⟨3, ![16384, 1, 68]⟩
abbrev S327680x1x1 : Shape := ⟨3, ![327680, 1, 1]⟩
abbrev S327680x4 : Shape := ⟨2, ![327680, 4]⟩
abbrev S327680x16x4 : Shape := ⟨3, ![327680, 16, 4]⟩

abbrev nBuf : Space → Nat
  | .hbm => 169
  | .vmem => 0
  | .smem => 0
  | _ => 0

abbrev hbmTy0_0 (i : Nat) : BufTy := match i % 128 with
  | 0 => ⟨S327680x64, .f32⟩
  | 1 => ⟨S16384, .i32⟩
  | 2 => ⟨S327680, .i32⟩
  | 3 => ⟨S64x128, .f32⟩
  | 4 => ⟨S64, .f32⟩
  | 5 => ⟨S64, .f32⟩
  | 6 => ⟨S64x64, .f32⟩
  | 7 => ⟨S64, .f32⟩
  | 8 => ⟨S64, .f32⟩
  | 9 => ⟨S68x64, .f32⟩
  | 10 => ⟨S68, .f32⟩
  | 11 => ⟨S1x64, .f32⟩
  | 12 => ⟨S1, .f32⟩
  | 13 => ⟨S_, .f32⟩
  | 14 => ⟨S16384x64, .f32⟩
  | 15 => ⟨S327680x1, .i32⟩
  | 16 => ⟨S16384x64, .f32⟩
  | 17 => ⟨S16384x1, .i32⟩
  | 18 => ⟨S16384x1, .f32⟩
  | 19 => ⟨S16384x64, .f32⟩
  | 20 => ⟨S16384x64, .f32⟩
  | 21 => ⟨S_, .i32⟩
  | 22 => ⟨S327680, .i32⟩
  | 23 => ⟨S327680, .i1⟩
  | 24 => ⟨S_, .i32⟩
  | 25 => ⟨S327680, .i32⟩
  | 26 => ⟨S327680, .i32⟩
  | 27 => ⟨S327680, .i32⟩
  | 28 => ⟨S327680x1, .i32⟩
  | 29 => ⟨S327680x64, .f32⟩
  | 30 => ⟨S327680x128, .f32⟩
  | 31 => ⟨S128x64, .f32⟩
  | 32 => ⟨S327680x64, .f32⟩
  | 33 => ⟨S_, .f32⟩
  | 34 => ⟨S64, .f32⟩
  | 35 => ⟨S_, .f32⟩
  | 36 => ⟨S64, .f32⟩
  | 37 => ⟨S64, .f32⟩
  | 38 => ⟨S_, .i32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S327680x64, .f32⟩
  | 46 => ⟨S327680x64, .f32⟩
  | 47 => ⟨S327680x64, .f32⟩
  | 48 => ⟨S_, .f32⟩
  | 49 => ⟨S_, .f32⟩
  | 50 => ⟨S_, .f32⟩
  | 51 => ⟨S_, .f32⟩
  | 52 => ⟨S64, .f32⟩
  | 53 => ⟨S64, .f32⟩
  | 54 => ⟨S64, .f32⟩
  | 55 => ⟨S_, .f32⟩
  | 56 => ⟨S_, .i1⟩
  | 57 => ⟨S_, .f32⟩
  | 58 => ⟨S_, .f32⟩
  | 59 => ⟨S64, .f32⟩
  | 60 => ⟨S64, .f32⟩
  | 61 => ⟨S1x64, .f32⟩
  | 62 => ⟨S327680x64, .f32⟩
  | 63 => ⟨S327680x64, .f32⟩
  | 64 => ⟨S_, .f32⟩
  | 65 => ⟨S64, .f32⟩
  | 66 => ⟨S64, .f32⟩
  | 67 => ⟨S64, .f32⟩
  | 68 => ⟨S1x64, .f32⟩
  | 69 => ⟨S327680x64, .f32⟩
  | 70 => ⟨S327680x64, .f32⟩
  | 71 => ⟨S1x64, .f32⟩
  | 72 => ⟨S327680x64, .f32⟩
  | 73 => ⟨S327680x64, .f32⟩
  | 74 => ⟨S1x64, .f32⟩
  | 75 => ⟨S327680x64, .f32⟩
  | 76 => ⟨S327680x64, .f32⟩
  | 77 => ⟨S_, .f32⟩
  | 78 => ⟨S327680x64, .f32⟩
  | 79 => ⟨S327680x64, .f32⟩
  | 80 => ⟨S64x64, .f32⟩
  | 81 => ⟨S16384x64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S16384x64, .f32⟩
  | 95 => ⟨S16384x64, .f32⟩
  | 96 => ⟨S16384x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S16384x64, .f32⟩
  | 112 => ⟨S16384x64, .f32⟩
  | 113 => ⟨S_, .f32⟩
  | 114 => ⟨S64, .f32⟩
  | 115 => ⟨S64, .f32⟩
  | 116 => ⟨S64, .f32⟩
  | 117 => ⟨S1x64, .f32⟩
  | 118 => ⟨S16384x64, .f32⟩
  | 119 => ⟨S16384x64, .f32⟩
  | 120 => ⟨S1x64, .f32⟩
  | 121 => ⟨S16384x64, .f32⟩
  | 122 => ⟨S16384x64, .f32⟩
  | 123 => ⟨S1x64, .f32⟩
  | 124 => ⟨S16384x64, .f32⟩
  | 125 => ⟨S16384x64, .f32⟩
  | 126 => ⟨S_, .f32⟩
  | 127 => ⟨S16384x64, .f32⟩
  | _ => ⟨S327680x64, .f32⟩

abbrev hbmTy0_1 (i : Nat) : BufTy := match i % 128 with
  | 0 => ⟨S16384x64, .f32⟩
  | 1 => ⟨S64x68, .f32⟩
  | 2 => ⟨S327680x68, .f32⟩
  | 3 => ⟨S1x68, .f32⟩
  | 4 => ⟨S327680x68, .f32⟩
  | 5 => ⟨S327680x68, .f32⟩
  | 6 => ⟨S327680x68, .f32⟩
  | 7 => ⟨S327680x1x68, .f32⟩
  | 8 => ⟨S64x1, .f32⟩
  | 9 => ⟨S16384x1, .f32⟩
  | 10 => ⟨S1x1, .f32⟩
  | 11 => ⟨S16384x1, .f32⟩
  | 12 => ⟨S16384x1, .f32⟩
  | 13 => ⟨S16384x1, .f32⟩
  | 14 => ⟨S16384x1x1, .f32⟩
  | 15 => ⟨S_, .f32⟩
  | 16 => ⟨S16384x1x68, .f32⟩
  | 17 => ⟨S327680x1, .i32⟩
  | 18 => ⟨S16384x1x68, .f32⟩
  | 19 => ⟨S_, .f32⟩
  | 20 => ⟨S16384x1, .f32⟩
  | 21 => ⟨S16384x1x1, .f32⟩
  | 22 => ⟨S16384x1x1, .f32⟩
  | 23 => ⟨S_, .i32⟩
  | 24 => ⟨S327680, .i32⟩
  | 25 => ⟨S327680, .i1⟩
  | 26 => ⟨S_, .i32⟩
  | 27 => ⟨S327680, .i32⟩
  | 28 => ⟨S327680, .i32⟩
  | 29 => ⟨S327680, .i32⟩
  | 30 => ⟨S327680x1, .i32⟩
  | 31 => ⟨S327680x1x1, .f32⟩
  | 32 => ⟨S327680x1x68, .f32⟩
  | 33 => ⟨S327680x1x68, .f32⟩
  | 34 => ⟨S16384x1x1, .f32⟩
  | 35 => ⟨S327680x68, .f32⟩
  | 36 => ⟨S16384x1, .f32⟩
  | 37 => ⟨S327680x4, .f32⟩
  | 38 => ⟨S327680x64, .f32⟩
  | 39 => ⟨S327680x16x4, .f32⟩
  | 40 => ⟨S16384, .f32⟩
  | _ => ⟨S327680x64, .f32⟩

abbrev hbmTy (i : Nat) : BufTy := match i / 128 with
  | 0 => hbmTy0_0 i
  | 1 => hbmTy0_1 i
  | _ => ⟨S327680x64, .f32⟩

abbrev bufTy : (tb : Table) → Fin (tcTables nBuf tb) → BufTy
  | .hbm, ⟨i, _⟩ => hbmTy i
  | _, _ => ⟨S327680x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_4 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call1_cst : Ref sig .tc := ⟨.hbm, 77, rfl⟩
abbrev main_call1_v0 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_5 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_v41 : Ref sig .tc := ⟨.hbm, 86, rfl⟩
abbrev main_c_7 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_8 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call3_cst : Ref sig .tc := ⟨.hbm, 126, rfl⟩
abbrev main_call3_v0 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_9 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_10 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_c_11 : Ref sig .tc := ⟨.hbm, 151, rfl⟩
abbrev main_v79 : Ref sig .tc := ⟨.hbm, 152, rfl⟩
abbrev main_v80 : Ref sig .tc := ⟨.hbm, 153, rfl⟩
abbrev main_c_12 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩

abbrev nD : Nat := 1
abbrev τ : Topo := Topo.v7x

variable {F : FTy → Type} [FloatOps F]
-- ==== Proof.Setup.lean ====
/-
  What the modules of the run share: the program as the SparseCore launch theorem sees it, the ghost state, and the rows
  that a table and a list of row numbers give.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 5) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP (F := F)).LandsIn (upEmb : UEmb _ 𝕄) := by unfold EP embR; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rows a table and a list of row numbers give -/

/-- The table's row that a word names (a word out of range, which the precondition excludes, wraps). -/
abbrev rowIx (w : BitVec 32) (l : Fin 128) : S16384x128.Idx := fun a => match a with
  | 0 => (⟨w.toNat % 16384, Nat.mod_lt _ (by decide)⟩ : Fin 16384)
  | 1 => l

abbrev listIx (r : Fin 327680) : S327680.Idx := fun a => match a with
  | 0 => r

/-- Row `r` of the result is row `I r` of the table. -/
def gathered (T : S16384x128.Idx → Elt F .f32) (I : S327680.Idx → BitVec 32) : S327680x128.Idx → Elt F .f32 :=
  fun j => T (rowIx (I (listIx (j 0))) (j 1))

/-- The rows of task `w`: `10240 w`, and the 10239 after it. -/
abbrev taskRows (w : ℕ) : Finset S327680x128.Idx := Finset.univ.filter fun j => (j 0).val / 10240 = w

/-- A rank-one shape's row-major position is its one coordinate. -/
theorem rowMajor_val (y : S256.Idx) : (S256.rowMajor y : ℕ) = (y 0).val := by
  show (Shape.rowMajorPi S256.size y).val = _
  rw [Shape.rowMajorPi_succ_val]
  have h0 := (Shape.rowMajorPi (fun a : Fin 0 => S256.size a.succ) (fun a => y a.succ)).isLt
  simp at h0
  exact (congrArg₂ (· + ·) (Nat.mul_one (y 0).val) h0)

/-- SparseCore `c`'s half of a share, and its task `i`'s sixteenth of that. -/
abbrev cq (c : Fin 2) : PosShare TreeShare := Idealize.ShloMosaic.pieceOf fullShare 2 (by decide) c
abbrev tq (c : Fin 2) (i : Fin 16) : PosShare TreeShare := Idealize.ShloMosaic.pieceOf (cq c) 16 (by decide) i

/-- The result's rows that SparseCore `c`'s tasks write. -/
abbrev coreRows (c : Fin 2) : Finset S327680x128.Idx := Finset.univ.filter fun j => (j 0).val / 10240 % 2 = c.val

theorem taskRows_disjoint (c : Fin 2) : ∀ i ∈ (Finset.univ : Finset (Fin 16)), ∀ j ∈ (Finset.univ : Finset (Fin 16)), i ≠ j →
    Disjoint (taskRows (2 * i.val + c.val)) (taskRows (2 * j.val + c.val)) := fun i _ j _ h =>
  Finset.disjoint_filter.mpr fun y _ h1 h2 => h (Fin.ext (by omega))

theorem taskRows_cover (c : Fin 2) : (Finset.univ : Finset (Fin 16)).biUnion (fun i => taskRows (2 * i.val + c.val)) = coreRows c := by
  ext y
  simp only [Finset.mem_biUnion, Finset.mem_univ, Finset.mem_filter, true_and]
  have hy : (y 0).val < 327680 := (y 0).isLt
  have hc := c.isLt
  constructor
  · rintro ⟨i, hi⟩; omega
  · intro h
    exact ⟨⟨(y 0).val / 10240 / 2, by omega⟩, by show _ = 2 * ((y 0).val / 10240 / 2) + c.val; omega⟩

theorem coreRows_disjoint : ∀ i ∈ (Finset.univ : Finset (Fin 2)), ∀ j ∈ (Finset.univ : Finset (Fin 2)), i ≠ j →
    Disjoint (coreRows i) (coreRows j) := fun i _ j _ h =>
  Finset.disjoint_filter.mpr fun y _ h1 h2 => h (Fin.ext (by omega))

theorem coreRows_cover : (Finset.univ : Finset (Fin 2)).biUnion coreRows = Finset.univ := by
  ext y
  simp only [Finset.mem_biUnion, Finset.mem_univ, Finset.mem_filter, true_and, iff_true]
  exact ⟨⟨(y 0).val / 10240 % 2, Nat.mod_lt _ (by decide)⟩, rfl⟩

end Cert.Proof

end
-- ==== Proof.Region.lean ====
/-
  A pipelined TensorCore call inside a program that also launches SparseCore calls, as the pipeline library's region
  record. The core enters it holding a set of whole buffers at a valuation and leaves it holding them at another; the
  bound on the waits the core has recorded, which the SparseCore handshakes need, is kept through the region.
-/
module

public import Idealize.ShloMosaic.Lib.Pipeline.RegionArraysF
public import Idealize.ShloMosaic.Lib.Pipeline.FrameTail

@[expose] public section

noncomputable section

namespace Cert.Proof

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe PCS
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]
variable (pcs : P → PCfg sig Λ₀ Val) (a : (p : P) → (pcs p).Adm)
  (rdats : (q : P) → (c : Dev nD) → RDat τ Val Ix Name U Lvl (pin pcs a q) c) (ι : Ix)
  (defs₀ : Defs nD τ sig Val Λ₀) (𝒱₀ : Variants)
  (L : GSem nD τ sig → Finset Ix) (lv : GSem nD τ sig → Ix → Lvl)
  (p : P)

omit [Fintype P] in
/-- A region's arrays, each whole at the full share, are the buffers behind them held at a valuation. -/
theorem region_arrays (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc := by
  have h0 : (rdats p c).arrays G = bigSep Finset.univ fun w => (((c.tc : Thread nD τ).loc (arrRef (pin pcs a p).spec w)) ↦{fullShare} G w : sProp 𝕄) := by
    unfold RDat.arrays
    exact bigSep_congr fun w _ => by rw [(kit.arr_whole w).set_eq_univ, hshare]
  rw [h0]
  unfold StableHlo.held arrRefs
  rw [BI.bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, BI.bigSep_map]
  exact bigSep_congr fun w _ => by rw [hG]; rfl

/-- The region's record: it takes the held buffers from `W` to `W'`, the windows' arrays ending as the proof data say
    and the others staying; the recorded waits stay within `rec` up to the loop's own. -/
def regionR [∀ e, Nonempty (Val e)] (D : Dev nD → CellTallies nD τ sig Ix) (rec : Dev nD → Set (SemLoc sig × Ix))
    (S : Finset (DevRef τ sig)) (hS : arrRefs (τ := τ) (pcs p).spec ⊆ S)
    (kit : PLaunchFacts (nD := nD) (τ := τ) pcs p) (hK : (pcs p).pre.K = 0)
    (hbody : ∀ c, (rdats p c).BodyObligation defs₀ 𝒱₀ ι Set.univ)
    (howed : ∀ c t, (rdats p c).owed t = D c) (hrec : ∀ c t, (rdats p c).recorded t = rec c)
    (hshare : ∀ c w, (rdats p c).share w = fullShare)
    (b : Dev nD → Lvl)
    (hι : ∀ (c : Dev nD) (w : Fin (pin pcs a p).W) (s : Fin ((pin pcs a p).win w).nbuf), ι ∈ L ((c : Thread nD τ), .dma (((pin pcs a p).win w).sem s)))
    (hιb : ∀ (c : Dev nD) (w : Fin (pin pcs a p).W) (s : Fin ((pin pcs a p).win w).nbuf), lv ((c : Thread nD τ), .dma (((pin pcs a p).win w).sem s)) ι ≤ b c)
    (hD : ∀ (c : Dev nD) (g : GSem nD τ sig) (i : Ix), 0 < D c g i → i ∈ L g ∧ b c < lv g i)
    (W W' : Dev nD → Valuation τ sig Val)
    (hW : ∀ c w, (rdats p c).A w = W c (Proc.devRef .tc (arrRef (pin pcs a p).spec w)))
    (hW' : ∀ (c : Dev nD) (A : (w : Fin (pin pcs a p).W) → Buf Val (((pin pcs a p).win w).arr.view.loc (c.tc : Thread nD τ))), (∀ w, (rdats p c).ArrAt w (pin pcs a p).N (A w)) → ∀ w, A w = W' c (Proc.devRef .tc (arrRef (pin pcs a p).spec w)))
    (hoff : ∀ c, ∀ d ∈ S \ arrRefs (τ := τ) (pcs p).spec, W c d = W' c d)
    (hin : ∀ c : Dev nD, (scopedRest (pcs p).spec c : sProp 𝕄) ⊢ (rdats p c).Φ 0)
    (hout : ∀ c : Dev nD, (rdats p c).Φ (Fin.last (pin pcs a p).N) ⊢ (scopedRest (pcs p).spec c : sProp 𝕄)) :
    RDat.RegionSeg pcs a rdats ι defs₀ 𝒱₀ L lv p where
  win := kit.to₀.win
  block_pos := kit.to₀.block_pos
  stage_whole := kit.to₀.stage_whole
  K := PEmpty
  osem := fun k => k.elim
  ho := OwnSemFacts.none _
  hbody := hbody
  hwaits c := RDat.cellsWaits_of_cut (pin pcs a) rdats ι p c (b c) (D c) (howed c) (hι c) (hιb c) (hD c)
  pre c := iprop(StableHlo.held (c.tc : Thread nD τ) S (W c) ∗ owesWithin c (D c) (rec c))
  post c := iprop(StableHlo.held (c.tc : Thread nD τ) S (W' c) ∗ owesWithin c (D c) (rec c ∪ (pin pcs a p).waitPairs ι))
  X _ := iprop(emp)
  Y _ := iprop(emp)
  Z c := StableHlo.held (c.tc : Thread nD τ) (S \ arrRefs (pcs p).spec) (W c)
  hentry c := by
    show _ ⊢ |={Set.univ}=> iprop((rdats p c).arrays (rdats p c).A ∗ prefHeld (pcs p).pre c (fun _ => fullShare) (a p).1
        ∗ (rdats p c).owesAt ι 0 ∗ _ ∗ _)
    rw [prefHeld_of_none _ hK, region_arrays pcs a rdats p kit c (hshare c) (rdats p c).A (W c) (hW c),
      StableHlo.held_sub_split (c.tc : Thread nD τ) hS (W c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c 0]
      icases HO with ⟨%Wd, %hWd, HO⟩; iexists Wd; isplitr; · ipureintro; exact fun x hx => Or.inl (hWd hx)
      iexact HO
    isplitr; · iempintro
    iexact Hr
  hin c := by
    refine BI.Entails.trans (show _ ⊢ (scopedRest (pcs p).spec c : sProp 𝕄) from ?_) (hin c)
    iintro ⟨-, -, Hr⟩
    iexact Hr
  hout c := by
    refine (hout c).trans ?_
    iintro Hr
    isplitr; · iempintro
    isplitr
    · rw [show (ownSems0 (fun k : PEmpty => k.elim) c : sProp 𝕄) = iprop(emp) from by
        unfold ownSems0; rw [Finset.univ_eq_empty, BI.bigSep_empty]; rfl]
      iempintro
    iexact Hr
  hexit c := by
    show iprop((rdats p c).arraysAt (pin pcs a p).N ∗ (rdats p c).owesAt ι (Fin.last (pin pcs a p).N) ∗ _ ∗ _) ⊢ _
    unfold RDat.arraysAt
    iintro ⟨Ha, HO, -, Hr⟩
    ihave Ha := (BI.bigSep_exists_pi Finset.univ _) $$ Ha
    icases Ha with ⟨%A, Ha⟩
    ihave Ha := (BI.bigSep_pure_sep Finset.univ (fun w => (rdats p c).ArrAt w (pin pcs a p).N (A w)) _) $$ Ha
    icases Ha with ⟨%hA, Ha⟩
    imodintro
    rw [StableHlo.held_sub_split (c.tc : Thread nD τ) hS (W' c), ← StableHlo.held_congr (c.tc : Thread nD τ) (hoff c),
      ← region_arrays pcs a rdats p kit c (hshare c) A (W' c) (hW' c A fun w => hA w (Finset.mem_univ w))]
    isplitl [Ha Hr]
    · isplitl [Ha]
      · unfold RDat.arrays; iexact Ha
      iexact Hr
    unfold RDat.owesAt RDat.bound
    rw [howed c (Fin.last _), hrec c (Fin.last _)]
    iexact HO

/-- `regionR` for a call whose body keeps nothing between points but the untouched scoped rest: it takes the held buffers from `W` to `W'`, the windows' arrays ending as the proof data say
    and the others staying; the recorded waits stay within `rec` up to the loop's own. -/
def regionR₀ [∀ e, Nonempty (Val e)] (D : Dev nD → CellTallies nD τ sig Ix) (rec : Dev nD → Set (SemLoc sig × Ix))
    (S : Finset (DevRef τ sig)) (hS : arrRefs (τ := τ) (pcs p).spec ⊆ S)
    (kit : PLaunchFacts (nD := nD) (τ := τ) pcs p) (hK : (pcs p).pre.K = 0)
    (hbody : ∀ c, (rdats p c).BodyObligation defs₀ 𝒱₀ ι Set.univ)
    (howed : ∀ c t, (rdats p c).owed t = D c) (hrec : ∀ c t, (rdats p c).recorded t = rec c)
    (hshare : ∀ c w, (rdats p c).share w = fullShare)
    (b : Dev nD → Lvl)
    (hι : ∀ (c : Dev nD) (w : Fin (pin pcs a p).W) (s : Fin ((pin pcs a p).win w).nbuf), ι ∈ L ((c : Thread nD τ), .dma (((pin pcs a p).win w).sem s)))
    (hιb : ∀ (c : Dev nD) (w : Fin (pin pcs a p).W) (s : Fin ((pin pcs a p).win w).nbuf), lv ((c : Thread nD τ), .dma (((pin pcs a p).win w).sem s)) ι ≤ b c)
    (hD : ∀ (c : Dev nD) (g : GSem nD τ sig) (i : Ix), 0 < D c g i → i ∈ L g ∧ b c < lv g i)
    (W W' : Dev nD → Valuation τ sig Val)
    (hW : ∀ c w, (rdats p c).A w = W c (Proc.devRef .tc (arrRef (pin pcs a p).spec w)))
    (hW' : ∀ (c : Dev nD) (A : (w : Fin (pin pcs a p).W) → Buf Val (((pin pcs a p).win w).arr.view.loc (c.tc : Thread nD τ))), (∀ w, (rdats p c).ArrAt w (pin pcs a p).N (A w)) → ∀ w, A w = W' c (Proc.devRef .tc (arrRef (pin pcs a p).spec w)))
    (hoff : ∀ c, ∀ d ∈ S \ arrRefs (τ := τ) (pcs p).spec, W c d = W' c d)
    (hΦ : ∀ (c : Dev nD) (t : Fin ((pin pcs a p).N + 1)), (rdats p c).Φ t = (scopedRest (pcs p).spec c : sProp 𝕄)) :
    RDat.RegionSeg pcs a rdats ι defs₀ 𝒱₀ L lv p :=
  regionR pcs a rdats ι defs₀ 𝒱₀ L lv p D rec S hS kit hK hbody howed hrec hshare b hι hιb hD W W' hW hW' hoff
    (fun c => by rw [hΦ c 0]) (fun c => by rw [hΦ c _])

end Cert.Proof

end
-- ==== Proof.Steps.lean ====
/-
  The steps of `@main` on the TensorCore, each from the core's unscoped buffers held at a valuation to the same buffers
  held at the next: a SparseCore call's three operands taken out and put back, and a pipelined call entered between two
  handshakes. Also the program's launch ghost state.
-/
module

public import proofs.«01_k».proof.Proof.Setup
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr)

variable {F : FTy → Type}

local notation "𝕄" => MT nD τ sig (HIx 2) (Elt F) ℕ UU ℕ

/-! ## Three buffers out of a held set -/

theorem held_three (c : Thread nD τ) (S : Finset (DevRef τ sig)) (V : Valuation τ sig (Elt F)) {a b o : DevRef τ sig}
    (hab : a ≠ b) (hao : a ≠ o) (hbo : b ≠ o) (hS : ({a, b, o} : Finset (DevRef τ sig)) ⊆ S) :
    (held c S V : sProp 𝕄) = iprop(((c.1, a) ↦{fullShare} V a) ∗ ((c.1, b) ↦{fullShare} V b) ∗ ((c.1, o) ↦{fullShare} V o)
      ∗ held c (S \ {a, b, o}) V) := by
  rw [held_sub_split c hS V]
  have h : (held c ({a, b, o} : Finset (DevRef τ sig)) V : sProp 𝕄)
      = iprop(((c.1, a) ↦{fullShare} V a) ∗ ((c.1, b) ↦{fullShare} V b) ∗ ((c.1, o) ↦{fullShare} V o)) := by
    unfold held
    rw [SparseCore.bigSep_insert' (by simp [hab, hao]), SparseCore.bigSep_insert' (by simp [hbo]), bigSep_singleton]
  rw [h]
  have assoc : ∀ P Q R : sProp 𝕄, iprop((P ∗ Q) ∗ R) = iprop(P ∗ Q ∗ R) := fun _ _ _ => Idealize.SL.BI.Entails.antisymm BI.sep_assoc BI.sep_assoc'
  rw [assoc, assoc]

theorem held_put (c : Thread nD τ) (S : Finset (DevRef τ sig)) (V : Valuation τ sig (Elt F)) {a b o : DevRef τ sig} (X : o.ty.Contents (Elt F))
    (hab : a ≠ b) (hao : a ≠ o) (hbo : b ≠ o) (hS : ({a, b, o} : Finset (DevRef τ sig)) ⊆ S) :
    iprop(((c.1, a) ↦{fullShare} V a) ∗ ((c.1, b) ↦{fullShare} V b) ∗ ((c.1, o) ↦{fullShare} X)
      ∗ held c (S \ {a, b, o}) V) ⊢ (held c S (Function.update V o X) : sProp 𝕄) := by
  rw [held_three c S (Function.update V o X) hab hao hbo hS, Function.update_of_ne hao, Function.update_of_ne hbo, Function.update_self,
    held_congr c (S := S \ {a, b, o}) (V := Function.update V o X) (V' := V) fun d hd => by
      rw [Function.update_of_ne fun e => (Finset.mem_sdiff.mp hd).2 (by rw [e]; simp)]]

/-! ## A pipelined call between two handshakes -/

variable [FloatOps F]

abbrev adm : (p : Fin 5) → (pcfgs (F := F) p).Adm := fun p => (cfgs p).toPCfg_adm

theorem phinj : Function.Injective (Pipeline.cellOf (nD := nD) (τ := τ) (Pipeline.pin (pcfgs (F := F)) adm)) := cellOf_inj

/-- The waits the core may have recorded before handshake `n`. -/
abbrev recd (n : ℕ) : Dev nD → Set (SemLoc sig × HIx 2) := fun d => {p | (K (F := F)).lev (T d, p.1) p.2 ≤ 8 * n}

abbrev Oc (n : ℕ) : Dev nD → CellTallies nD τ sig (HIx 2) := fun d => (K (F := F)).Otc d n

/-- The pipelines' ghost state on core `d`. -/
abbrev ghost (p : Fin 5) (d : Dev nD) : sProp 𝕄 :=
  iprop(Pipeline.cellsGhost (Pipeline.pin (pcfgs (F := F)) adm) EP p d ∗ Pipeline.toksInit (Pipeline.pin (pcfgs (F := F)) adm) EP p d)

theorem Otc_pos (n : ℕ) (d : Dev nD) (g : GSem nD τ sig) (i : HIx 2) (h : 0 < Oc (F := F) n d g i) :
    i ∈ (K (F := F)).L g ∧ 0 < (K (F := F)).lev g i := by
  have h1 : 8 * n + 1 ≤ (K (F := F)).lev g i := (K (F := F)).lev_of_Otc_pos h
  exact ⟨Finset.mem_univ _, by omega⟩

variable [∀ e, Nonempty (Elt F e)]

/-- A pipelined call between handshakes, from its region's record. -/
theorem region_step {P : (K (F := F)).Pay (nD := nD) (Val := Elt F) (Name := ℕ) (U := UU)} (κ : GSem nD τ sig → ℕ) (n : ℕ) {p : Fin 5}
    {rdats : (q : Fin 5) → (c : Dev nD) → Pipeline.RDat τ (Elt F) (HIx 2) ℕ UU ℕ (Pipeline.pin (pcfgs (F := F)) adm q) c}
    (R : Pipeline.RDat.RegionSeg (pcfgs (F := F)) adm rdats none (defs₀ (F := F)) 𝒱₀ (K (F := F)).L (K (F := F)).lev p)
    (d : Dev nD) (V V' : Valuation τ sig (Elt F))
    (hpre : R.pre d = iprop(held (d.tc : Thread nD τ) (Pipeline.ucRefs τ sig) V ∗ Pipeline.owesWithin d (Oc (F := F) n d) (recd (F := F) n d)))
    (hpost : R.post d = iprop(held (d.tc : Thread nD τ) (Pipeline.ucRefs τ sig) V'
      ∗ Pipeline.owesWithin d (Oc (F := F) n d) (recd (F := F) n d ∪ (Pipeline.pin (pcfgs (F := F)) adm p).waitPairs none)))
    (Φ : PUnit → sProp 𝕄) :
    iprop((K (F := F)).ctx EH P κ ∗ (K (F := F)).tcSt EH d n ∗ boundary (d.tc : Thread nD τ) ∗ held (d.tc : Thread nD τ) (Pipeline.ucRefs τ sig) V
        ∗ ghost p d
        ∗ (((K (F := F)).tcSt EH d n ∗ boundary (d.tc : Thread nD τ) ∗ held (d.tc : Thread nD τ) (Pipeline.ucRefs τ sig) V') -∗ Φ ⟨⟩))
      ⊢ wp frame (wpE ((K (F := F)).defs (D (F := F))) 𝒱 (T d) none) Set.univ
          (Prog.lift (.customCall (SparseCore.inner (Pipeline.entry p)) ())) Φ := by
  unfold SparseCore.Cfg.tcSt
  iintro ⟨#Hctx, ⟨⟨%W0, %hW0, HO⟩, Hst⟩, Hb, Hh, ⟨Hg, Ht⟩, Hk⟩
  ihave #Hlv := (show (K (F := F)).ctx EH P κ ⊢ levAts (K (F := F)).L (K (F := F)).lev from by
    unfold SparseCore.Cfg.ctx; iintro ⟨H, -⟩; iexact H) $$ Hctx
  iapply ((K (F := F)).wp_liftProg (D (F := F)) 𝒱 (T d) Set.univ none
    (.op (.customCall (Pipeline.entry p) ()) .ret) Φ)
  iapply (Pipeline.RDat.RegionSeg.wp (pcfgs (F := F)) adm rdats none phinj EP (defs₀ (F := F)) 𝒱₀ (K (F := F)).L (K (F := F)).lev R d none
    (fun _ h => nomatch h) .ret Φ)
  rw [hpre, hpost]
  isplitl [Hk Hst]
  · iintro ⟨Hb, Hh, HO⟩
    rw [wp_ret]; imodintro
    iapply Hk
    isplitl [HO Hst]
    · isplitl [HO]
      · unfold Pipeline.owesWithin
        icases HO with ⟨%W1, %hW1, HO⟩
        iexists W1; isplitr
        · ipureintro
          intro q hq
          rcases hW1 hq with h | h
          · exact h
          · obtain ⟨w, s, rfl⟩ := h
            exact Nat.zero_le _
        iexact HO
      iexact Hst
    isplitl [Hb] <;> iassumption
  isplitl [Hb]; · iexact Hb
  isplitl [Hh HO]
  · isplitl [Hh]; · iexact Hh
    unfold Pipeline.owesWithin
    iexists W0; isplitr
    · ipureintro; exact fun q hq => hW0 q hq
    iexact HO
  isplitr; · iexact Hlv
  isplitl [Hg] <;> iassumption

end Cert.Proof

end
-- ==== Proof.Region1.lean ====
/-
  The tables' TensorCore call: what one run of its body does.
-/
module

public import proofs.«01_k».proof.Proof.Setup
public import Idealize.ShloMosaic.Lib.Pipeline.FrameBody
public import proofs.«01_k».proof.Proof.Gen.KernelIdeal.Points

@[expose] public section

set_option maxRecDepth 16384

noncomputable section

namespace Cert.Proof.Region1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The parts of the input blocks the body reads, and the rows of the accumulator. -/
abbrev q0a : Rect S2x1024x64 := Rect.unit (s := S2x1024x64) ![0, 0, 0] S1x1024x64.size inb_S2x1024x64_S1x1024x64_0_0_0
abbrev q0b : Rect S2x1024x64 := Rect.unit (s := S2x1024x64) ![1, 0, 0] S1x1024x64.size inb_S2x1024x64_S1x1024x64_1_0_0
abbrev q1a : Rect S2x1024x16 := Rect.unit (s := S2x1024x16) ![0, 0, 0] S1x1024x1.size inb_S2x1024x16_S1x1024x1_0_0_0
abbrev q1b : Rect S2x1024x16 := Rect.unit (s := S2x1024x16) ![1, 0, 0] S1x1024x1.size inb_S2x1024x16_S1x1024x1_1_0_0
abbrev q2 : Rect S1024x1 := Rect.unit (s := S1024x1) ![0, 0] S1024x1.size inb_S1024x1_S1024x1_0_0
abbrev q3 : Rect S64x64 := Rect.unit (s := S64x64) ![0, 0] S64x64.size inb_S64x64_S64x64_0_0
abbrev q6 : Rect S1x64 := Rect.unit (s := S1x64) ![0, 0] S1x64.size inb_S1x64_S1x64_0_0
abbrev q10 : Rect S64x1 := Rect.unit (s := S64x1) ![0, 0] S64x1.size inb_S64x1_S64x1_0_0
abbrev q11 : Rect S1x1 := Rect.unit (s := S1x1) ![0, 0] S1x1.size inb_S1x1_S1x1_0_0
abbrev q13 : Rect S1024x128 := Rect.unit (s := S1024x128) ![0, 0] S1024x128.size inb_S1024x128_S1024x128_0_0
abbrev qA : Rect S8x64 := Rect.unit (s := S8x64) ![0, 0] S8x64.size inb_S8x64_S8x64_0_0
abbrev rw0 : Rect S8x64 := Rect.unit (s := S8x64) ![0, 0] S1x64.size inb_S8x64_S1x64_0_0
abbrev rw1 : Rect S8x64 := Rect.unit (s := S8x64) ![1, 0] S1x64.size inb_S8x64_S1x64_1_0
abbrev rw2 : Rect S8x64 := Rect.unit (s := S8x64) ![2, 0] S1x64.size inb_S8x64_S1x64_2_0
abbrev rw3 : Rect S8x64 := Rect.unit (s := S8x64) ![3, 0] S1x64.size inb_S8x64_S1x64_3_0
abbrev rw4 : Rect S8x64 := Rect.unit (s := S8x64) ![4, 0] S1x64.size inb_S8x64_S1x64_4_0
abbrev rw5 : Rect S8x64 := Rect.unit (s := S8x64) ![5, 0] S1x64.size inb_S8x64_S1x64_5_0

theorem coverA (p0 : Vec F S8x64 .f32) (y : S8x64.Idx) :
    ∃ pc ∈ ([⟨qA, p0⟩] : List (View.Piece (Elt F) S8x64 .f32)), y ∈ pc.1.set :=
  View.cover_of_tiled [⟨qA, p0⟩] S8x64.size (by rfl) y
theorem canonA (p : Vec F S8x64 .f32) : View.canon [⟨qA, p⟩] = p := by
  funext y
  obtain ⟨pc, hm, hy⟩ := coverA p y
  obtain rfl := List.mem_singleton.mp hm
  obtain ⟨x, rfl⟩ : ∃ x, qA.emb x = y := qA.exists_idx_of_mem hy
  rw [View.canon_cons_emb]
  have : qA.emb x = x := by
    funext b; apply Fin.ext; fin_cases b <;> (show 0 + 1 * _ = _; simp)
  rw [this]

/-- So do the pieces that end in a whole fill. -/
theorem coverL (L : List (View.Piece (Elt F) S8x64 .f32)) (p0 : Vec F S8x64 .f32) (y : S8x64.Idx) :
    ∃ pc ∈ L ++ [⟨qA, p0⟩], y ∈ pc.1.set := by
  obtain ⟨pc, hm, hy⟩ := coverA p0 y
  exact ⟨pc, List.mem_append_right _ hm, hy⟩
theorem cover13 (p0 : Vec F S1024x128 .f32) (y : S1024x128.Idx) :
    ∃ pc ∈ ([⟨q13, p0⟩] : List (View.Piece (Elt F) S1024x128 .f32)), y ∈ pc.1.set :=
  View.cover_of_tiled [⟨q13, p0⟩] S1024x128.size (by rfl) y
theorem cover14 (p0 : Vec F S1024x1 .f32) (y : S1024x1.Idx) :
    ∃ pc ∈ ([⟨q2, p0⟩] : List (View.Piece (Elt F) S1024x1 .f32)), y ∈ pc.1.set :=
  View.cover_of_tiled [⟨q2, p0⟩] S1024x1.size (by rfl) y

/-- Pieces written over a buffer read as the same pieces over its contents taken as one more piece. -/
theorem read_writes_over {sig' : RefSig} {κ : Kind} {sp : Space} (v : View sig' κ sp S8x64 .f32) (f : v.ty.Contents (Elt F)) :
    ∀ L : List (View.Piece (Elt F) S8x64 .f32), v.read (Elt F) (v.writes (Elt F) f L) = View.canon (L ++ [⟨qA, v.read (Elt F) f⟩])
  | [] => by
    funext y
    obtain ⟨pc, hm, hy⟩ := coverA (v.read (Elt F) f) y
    obtain rfl := List.mem_singleton.mp hm
    obtain ⟨x, rfl⟩ : ∃ x, qA.emb x = y := qA.exists_idx_of_mem hy
    rw [List.nil_append, View.canon_cons_emb]
    have : qA.emb x = x := by
      funext b; apply Fin.ext; fin_cases b <;> (show 0 + 1 * _ = _; simp)
    show v.read (Elt F) f (qA.emb x) = v.read (Elt F) f x
    rw [this]
  | p :: L => by
    funext y
    by_cases hy : y ∈ p.1.set
    · obtain ⟨r, w⟩ := p
      obtain ⟨x, rfl⟩ : ∃ x, r.emb x = y := r.exists_idx_of_mem hy
      rw [List.cons_append, View.canon_cons_emb, View.read_writes_cons_emb]
    · rw [List.cons_append, View.canon_cons_of_not_mem _ _ hy, View.read_writes_cons_miss _ _ _ _ _ hy, read_writes_over v f L]

/-- The accumulator's buffer after the writes, at contents known by what they read as. -/
theorem norm_writes (c : Dev nD) (m : Memref sig .tc .vmem S8x64 .f32) (f : m.view.ty.Contents (Elt F)) (L : List (View.Piece (Elt F) S8x64 .f32)) :
    (m.view.loc (c : Thread nD τ) ↦[m.view.set]{fullShare} m.view.writes (Elt F) f L : sProp 𝕄)
      ⊢ iprop(∃ g, ⌜m.view.read (Elt F) g = View.canon (L ++ [⟨qA, m.view.read (Elt F) f⟩])⌝ ∗ m.view.loc (c : Thread nD τ) ↦[m.view.set]{fullShare} g) := by
  iintro H
  iexists _; isplitr
  swap; · iexact H
  ipureintro; exact read_writes_over _ _ _
theorem norm_clear (c : Dev nD) (m : Memref sig .tc .vmem S8x64 .f32) (f : m.view.ty.Contents (Elt F)) (p : Vec F S8x64 .f32) :
    (m.view.loc (c : Thread nD τ) ↦[m.view.set]{fullShare} m.view.writes (Elt F) f [⟨qA, p⟩] : sProp 𝕄)
      ⊢ iprop(∃ g, ⌜m.view.read (Elt F) g = p⌝ ∗ m.view.loc (c : Thread nD τ) ↦[m.view.set]{fullShare} g) := by
  iintro H
  iexists _; isplitr
  swap; · iexact H
  ipureintro; exact (View.read_writes_eq_canon _ _ _ (coverA p)).trans (canonA p)

/-- The segment sums' part of a block through the second and the third weight matrix. -/
abbrev payB (x0 : Vec F S2x1024x64 .f32) (x2 : Vec F S1024x1 .f32) (x4 : Vec F S64x64 .f32) : FVec F S1024x64 .f32 :=
  k1_pay14 (View.ld x0 q0a) (View.ld x0 q0b) (View.ld x2 q2) (View.ld x4 q3)
abbrev payC (x0 : Vec F S2x1024x64 .f32) (x2 : Vec F S1024x1 .f32) (x5 : Vec F S64x64 .f32) : FVec F S1024x64 .f32 :=
  k1_pay15 (View.ld x0 q0a) (View.ld x0 q0b) (View.ld x2 q2) (View.ld x5 q3)
abbrev payS (x0 : Vec F S2x1024x64 .f32) : FVec F S1024x64 .f32 := k1_pay12 (View.ld x0 q0a) (View.ld x0 q0b)

/-- The accumulator after a block of the first pass: six of its rows have grown. -/
def accP (x0 : Vec F S2x1024x64 .f32) (x1 : Vec F S2x1024x16 .f32) (x2 : Vec F S1024x1 .f32) (x3 x4 x5 : Vec F S64x64 .f32) (a : Vec F S8x64 .f32) : Vec F S8x64 .f32 :=
  View.canon [⟨rw5, k1_pay18 (View.ld x0 q0a) (View.ld x0 q0b) (View.ld x2 q2) (View.ld x5 q3) (View.ld a rw5)⟩,
    ⟨rw4, k1_pay17 (View.ld x0 q0a) (View.ld x0 q0b) (View.ld x2 q2) (View.ld x5 q3) (View.ld a rw4)⟩,
    ⟨rw3, k1_pay16 (View.ld x0 q0a) (View.ld x0 q0b) (View.ld x2 q2) (View.ld x4 q3) (k1_pay3 (View.ld x1 q1a) (View.ld x1 q1b)) (View.ld a rw3)⟩,
    ⟨rw2, k1_pay6 (payS x0) (payB x0 x2 x4) (View.ld x3 q3) (View.ld a rw2)⟩,
    ⟨rw1, k1_pay5 (payB x0 x2 x4) (View.ld x1 q1a) (View.ld x1 q1b) (View.ld a rw1)⟩,
    ⟨rw0, k1_pay4 (payS x0) (View.ld a rw0)⟩, ⟨qA, a⟩]

/-- The batch norm's scale from the accumulated sums. -/
abbrev pay8 (x3 : Vec F S64x64 .f32) (x6 : Vec F S1x64 .f32) (x12 a : Vec F S8x64 .f32) : FVec F S1x64 .f32 :=
  k1_pay8 (View.ld a rw0) (View.ld x3 q3) (View.ld a rw1) (View.ld x12 rw0) (View.ld a rw2) (View.ld a rw3) (View.ld x6 q6)

/-- The accumulator once the sums are turned into the two scales and shifts. -/
def accN (x3 : Vec F S64x64 .f32) (x6 x7 x8 x9 : Vec F S1x64 .f32) (x12 a : Vec F S8x64 .f32) : Vec F S8x64 .f32 :=
  View.canon [⟨rw3, k1_pay23 (k1_pay10 (View.ld a rw4)) (View.ld a rw5) (View.ld x8 q6) (View.ld x9 q6)⟩,
    ⟨rw2, k1_pay22 (k1_pay10 (View.ld a rw4)) (View.ld a rw5) (View.ld x8 q6)⟩,
    ⟨rw1, k1_pay21 (k1_pay9 (View.ld a rw0) (View.ld x3 q3) (View.ld a rw1) (View.ld x12 rw0) (View.ld a rw2) (View.ld a rw3) (View.ld x6 q6) (View.ld x7 q6))⟩,
    ⟨rw0, k1_pay20 (pay8 x3 x6 x12 a)⟩, ⟨qA, a⟩]

/-- The three output blocks of the second pass. -/
def out13 (x0 : Vec F S2x1024x64 .f32) (x2 : Vec F S1024x1 .f32) (x4 : Vec F S64x64 .f32) (a : Vec F S8x64 .f32) : Vec F S1024x128 .f32 :=
  View.canon [⟨q13, k1_pay1 (payB x0 x2 x4) (View.ld a rw0) (View.ld a rw1)⟩]
def out14 (x0 : Vec F S2x1024x64 .f32) (x2 : Vec F S1024x1 .f32) (x5 : Vec F S64x64 .f32) (x10 : Vec F S64x1 .f32) (x11 : Vec F S1x1 .f32) (a : Vec F S8x64 .f32) : Vec F S1024x1 .f32 :=
  View.canon [⟨q2, k1_pay2 (payC x0 x2 x5) (View.ld a rw2) (View.ld a rw3) (View.ld x10 q10) (View.ld x11 q11)⟩]
def out15 (x3 : Vec F S64x64 .f32) (x6 : Vec F S1x64 .f32) (x12 a : Vec F S8x64 .f32) : Vec F S8x64 .f32 :=
  View.canon [⟨qA, k1_pay24 (pay8 x3 x6 x12 a)⟩]

set_option maxHeartbeats 600000 in
/-- The first block of the first pass: the accumulator is cleared, then grows. -/
theorem runA (c : Dev nD) (E : Set ℕ) (i : grid1.Coords) (arg2 : Memref sig .tc .vmem S2x1024x64 .f32) (harg2 : arg2.IsWhole) (arg3 : Memref sig .tc .vmem S2x1024x16 .f32) (harg3 : arg3.IsWhole) (arg4 : Memref sig .tc .vmem S1024x1 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S8x64 .f32) (harg14 : arg14.IsWhole) (arg15 : Memref sig .tc .vmem S1024x128 .f32) (harg15 : arg15.IsWhole) (arg16 : Memref sig .tc .vmem S1024x1 .f32) (harg16 : arg16.IsWhole) (arg17 : Memref sig .tc .vmem S8x64 .f32) (harg17 : arg17.IsWhole) (arg18 : Memref sig .tc .vmem S8x64 .f32) (harg18 : arg18.IsWhole)
    (hc1 : Scalar.cmpi .ne (Scalar.extui (Scalar.andi (Scalar.cmpi .eq (BitVec.ofNat 32 (i 0).val) 0#32) (Scalar.cmpi .eq (BitVec.ofNat 32 (i 1).val) 0#32))) (0#32 : BitVec 32) = 1#1)
    (hc2 : Scalar.cmpi .ne (Scalar.extui (Scalar.cmpi .eq (BitVec.ofNat 32 (i 0).val) 0#32)) (0#32 : BitVec 32) = 1#1)
    (hc3 : ¬ (k1_cond3 i = 1#1))
    (hc4 : ¬ (k1_cond4 i = 1#1))
    (x0 : Vec F S2x1024x64 .f32) (x1 : Vec F S2x1024x16 .f32) (x2 : Vec F S1024x1 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S64x1 .f32) (x11 : Vec F S1x1 .f32) (x12 : Vec F S8x64 .f32) (d13 : Vec F S1024x128 .f32) (d14 : Vec F S1024x1 .f32) (d15 : Vec F S8x64 .f32) (a : Vec F S8x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ owns (c : Thread nD τ) arg15 fullShare d13 ∗ owns (c : Thread nD τ) arg16 fullShare d14 ∗ owns (c : Thread nD τ) arg17 fullShare d15 ∗ owns (c : Thread nD τ) arg18 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (d13) ∗ owns (c : Thread nD τ) arg16 fullShare (d14) ∗ owns (c : Thread nD τ) arg17 fullShare (d15) ∗ owns (c : Thread nD τ) arg18 fullShare (accP x0 x1 x2 x3 x4 x5 (k1_pay11 (F := F)))) -∗ K ⟨⟩))
      ⊢ wp frame (wpE (defs₀ (F := F)) 𝒱₀ c none) E (cc1__tcb_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__tcb_body_eq_skeleton]; unfold cc1__tcb_body_skel
  simp only [k1_part3_eq_skeleton]; unfold k1_part3_skel
  skip
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  set_option sl_exec.stopBefore "k1_part1" in
  sl_exec (disch := first | sl_exact hc1 | sl_exact hc2)
  ihave H16 := (norm_clear c arg18 f16 _) $$ H16
  icases H16 with ⟨%g, %hg, H16⟩
  simp only [k1_part1_eq_skeleton]; unfold k1_part1_skel
  sl_exec (disch := first | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  · iexists _; isplitr
    swap; · iexact H16
    ipureintro
    rw [← hg]; exact read_writes_over _ _ _

set_option maxHeartbeats 600000 in
/-- A later block of the first pass. -/
theorem runB (c : Dev nD) (E : Set ℕ) (i : grid1.Coords) (arg2 : Memref sig .tc .vmem S2x1024x64 .f32) (harg2 : arg2.IsWhole) (arg3 : Memref sig .tc .vmem S2x1024x16 .f32) (harg3 : arg3.IsWhole) (arg4 : Memref sig .tc .vmem S1024x1 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S8x64 .f32) (harg14 : arg14.IsWhole) (arg15 : Memref sig .tc .vmem S1024x128 .f32) (harg15 : arg15.IsWhole) (arg16 : Memref sig .tc .vmem S1024x1 .f32) (harg16 : arg16.IsWhole) (arg17 : Memref sig .tc .vmem S8x64 .f32) (harg17 : arg17.IsWhole) (arg18 : Memref sig .tc .vmem S8x64 .f32) (harg18 : arg18.IsWhole)
    (hc1 : ¬ (Scalar.cmpi .ne (Scalar.extui (Scalar.andi (Scalar.cmpi .eq (BitVec.ofNat 32 (i 0).val) 0#32) (Scalar.cmpi .eq (BitVec.ofNat 32 (i 1).val) 0#32))) (0#32 : BitVec 32) = 1#1))
    (hc2 : Scalar.cmpi .ne (Scalar.extui (Scalar.cmpi .eq (BitVec.ofNat 32 (i 0).val) 0#32)) (0#32 : BitVec 32) = 1#1)
    (hc3 : ¬ (k1_cond3 i = 1#1))
    (hc4 : ¬ (k1_cond4 i = 1#1))
    (x0 : Vec F S2x1024x64 .f32) (x1 : Vec F S2x1024x16 .f32) (x2 : Vec F S1024x1 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S64x1 .f32) (x11 : Vec F S1x1 .f32) (x12 : Vec F S8x64 .f32) (d13 : Vec F S1024x128 .f32) (d14 : Vec F S1024x1 .f32) (d15 : Vec F S8x64 .f32) (a : Vec F S8x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ owns (c : Thread nD τ) arg15 fullShare d13 ∗ owns (c : Thread nD τ) arg16 fullShare d14 ∗ owns (c : Thread nD τ) arg17 fullShare d15 ∗ owns (c : Thread nD τ) arg18 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (d13) ∗ owns (c : Thread nD τ) arg16 fullShare (d14) ∗ owns (c : Thread nD τ) arg17 fullShare (d15) ∗ owns (c : Thread nD τ) arg18 fullShare (accP x0 x1 x2 x3 x4 x5 a)) -∗ K ⟨⟩))
      ⊢ wp frame (wpE (defs₀ (F := F)) 𝒱₀ c none) E (cc1__tcb_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__tcb_body_eq_skeleton]; unfold cc1__tcb_body_skel
  simp only [k1_part3_eq_skeleton]; unfold k1_part3_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  · iexists _; isplitr
    swap; · iexact H16
    ipureintro
    exact read_writes_over _ _ _

set_option maxHeartbeats 600000 in
/-- The first block of the second pass: the sums become scales and shifts, and the blocks are stored. -/
theorem runC (c : Dev nD) (E : Set ℕ) (i : grid1.Coords) (arg2 : Memref sig .tc .vmem S2x1024x64 .f32) (harg2 : arg2.IsWhole) (arg3 : Memref sig .tc .vmem S2x1024x16 .f32) (harg3 : arg3.IsWhole) (arg4 : Memref sig .tc .vmem S1024x1 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S8x64 .f32) (harg14 : arg14.IsWhole) (arg15 : Memref sig .tc .vmem S1024x128 .f32) (harg15 : arg15.IsWhole) (arg16 : Memref sig .tc .vmem S1024x1 .f32) (harg16 : arg16.IsWhole) (arg17 : Memref sig .tc .vmem S8x64 .f32) (harg17 : arg17.IsWhole) (arg18 : Memref sig .tc .vmem S8x64 .f32) (harg18 : arg18.IsWhole)
    (hc1 : ¬ (Scalar.cmpi .ne (Scalar.extui (Scalar.andi (Scalar.cmpi .eq (BitVec.ofNat 32 (i 0).val) 0#32) (Scalar.cmpi .eq (BitVec.ofNat 32 (i 1).val) 0#32))) (0#32 : BitVec 32) = 1#1))
    (hc2 : ¬ (Scalar.cmpi .ne (Scalar.extui (Scalar.cmpi .eq (BitVec.ofNat 32 (i 0).val) 0#32)) (0#32 : BitVec 32) = 1#1))
    (hc3 : k1_cond3 i = 1#1)
    (hc4 : k1_cond4 i = 1#1)
    (x0 : Vec F S2x1024x64 .f32) (x1 : Vec F S2x1024x16 .f32) (x2 : Vec F S1024x1 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S64x1 .f32) (x11 : Vec F S1x1 .f32) (x12 : Vec F S8x64 .f32) (d13 : Vec F S1024x128 .f32) (d14 : Vec F S1024x1 .f32) (d15 : Vec F S8x64 .f32) (a : Vec F S8x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ owns (c : Thread nD τ) arg15 fullShare d13 ∗ owns (c : Thread nD τ) arg16 fullShare d14 ∗ owns (c : Thread nD τ) arg17 fullShare d15 ∗ owns (c : Thread nD τ) arg18 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (out13 x0 x2 x4 (accN x3 x6 x7 x8 x9 x12 a)) ∗ owns (c : Thread nD τ) arg16 fullShare (out14 x0 x2 x5 x10 x11 (accN x3 x6 x7 x8 x9 x12 a)) ∗ owns (c : Thread nD τ) arg17 fullShare (out15 x3 x6 x12 a) ∗ owns (c : Thread nD τ) arg18 fullShare (accN x3 x6 x7 x8 x9 x12 a)) -∗ K ⟨⟩))
      ⊢ wp frame (wpE (defs₀ (F := F)) 𝒱₀ c none) E (cc1__tcb_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__tcb_body_eq_skeleton]; unfold cc1__tcb_body_skel
  simp only [k1_part3_eq_skeleton]; unfold k1_part3_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  set_option sl_exec.stopBefore "k1_cond4" in
  sl_exec (disch := first | sl_exact hc1 | sl_exact hc2 | sl_exact hc3)
  ihave H16 := (norm_writes c arg18 f16 _) $$ H16
  icases H16 with ⟨%g, %hg, H16⟩
  have hg' : View.read (Elt F) arg18.view g = accN (View.read (Elt F) arg5.view f3) (View.read (Elt F) arg8.view f6) (View.read (Elt F) arg9.view f7) (View.read (Elt F) arg10.view f8) (View.read (Elt F) arg11.view f9) (View.read (Elt F) arg14.view f12) (View.read (Elt F) arg18.view f16) := hg
  clear hg
  simp only [pure_bind, dif_pos hc4]
  sl_exec (disch := first | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [← hg']; exact View.read_writes_eq_canon _ _ _ (cover13 _)
  isplitl [H14]
  · iexists _; isplitr
    swap; · iexact H14
    ipureintro
    rw [← hg']; exact View.read_writes_eq_canon _ _ _ (cover14 _)
  isplitl [H15]
  · iexists _; isplitr
    swap; · iexact H15
    ipureintro
    exact View.read_writes_eq_canon _ _ _ (coverA _)
  · iexists _; isplitr
    swap; · iexact H16
    ipureintro
    exact hg'

set_option maxHeartbeats 600000 in
/-- A later block of the second pass. -/
theorem runD (c : Dev nD) (E : Set ℕ) (i : grid1.Coords) (arg2 : Memref sig .tc .vmem S2x1024x64 .f32) (harg2 : arg2.IsWhole) (arg3 : Memref sig .tc .vmem S2x1024x16 .f32) (harg3 : arg3.IsWhole) (arg4 : Memref sig .tc .vmem S1024x1 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S8x64 .f32) (harg14 : arg14.IsWhole) (arg15 : Memref sig .tc .vmem S1024x128 .f32) (harg15 : arg15.IsWhole) (arg16 : Memref sig .tc .vmem S1024x1 .f32) (harg16 : arg16.IsWhole) (arg17 : Memref sig .tc .vmem S8x64 .f32) (harg17 : arg17.IsWhole) (arg18 : Memref sig .tc .vmem S8x64 .f32) (harg18 : arg18.IsWhole)
    (hc1 : ¬ (Scalar.cmpi .ne (Scalar.extui (Scalar.andi (Scalar.cmpi .eq (BitVec.ofNat 32 (i 0).val) 0#32) (Scalar.cmpi .eq (BitVec.ofNat 32 (i 1).val) 0#32))) (0#32 : BitVec 32) = 1#1))
    (hc2 : ¬ (Scalar.cmpi .ne (Scalar.extui (Scalar.cmpi .eq (BitVec.ofNat 32 (i 0).val) 0#32)) (0#32 : BitVec 32) = 1#1))
    (hc3 : ¬ (k1_cond3 i = 1#1))
    (hc4 : k1_cond4 i = 1#1)
    (x0 : Vec F S2x1024x64 .f32) (x1 : Vec F S2x1024x16 .f32) (x2 : Vec F S1024x1 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S64x1 .f32) (x11 : Vec F S1x1 .f32) (x12 : Vec F S8x64 .f32) (d13 : Vec F S1024x128 .f32) (d14 : Vec F S1024x1 .f32) (d15 : Vec F S8x64 .f32) (a : Vec F S8x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ owns (c : Thread nD τ) arg15 fullShare d13 ∗ owns (c : Thread nD τ) arg16 fullShare d14 ∗ owns (c : Thread nD τ) arg17 fullShare d15 ∗ owns (c : Thread nD τ) arg18 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (out13 x0 x2 x4 a) ∗ owns (c : Thread nD τ) arg16 fullShare (out14 x0 x2 x5 x10 x11 a) ∗ owns (c : Thread nD τ) arg17 fullShare (d15) ∗ owns (c : Thread nD τ) arg18 fullShare (a)) -∗ K ⟨⟩))
      ⊢ wp frame (wpE (defs₀ (F := F)) 𝒱₀ c none) E (cc1__tcb_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__tcb_body_eq_skeleton]; unfold cc1__tcb_body_skel
  simp only [k1_part3_eq_skeleton]; unfold k1_part3_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  sl_exec (disch := first | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover13 _)
  isplitl [H14]
  · iexists _; isplitr
    swap; · iexact H14
    ipureintro
    exact View.read_writes_eq_canon _ _ _ (cover14 _)
  isplitl [H15]
  · iexists f15; isplitr; · ipureintro; rfl
    iexact H15
  · iexists f16; isplitr; · ipureintro; rfl
    iexact H16

end Cert.Proof.Region1

end
-- ==== Proof.Region1Dat.lean ====
/-
  The tables' TensorCore call, point by point: the accumulator's contents, and what is known of each window's buffer.
-/
module

public import proofs.«01_k».proof.Proof.Region1
public import proofs.«01_k».proof.Proof.Gen.KernelIdeal.Launch
public import Idealize.ShloMosaic.Lib.Pipeline.FrameBody
public import proofs.«01_k».proof.Proof.Gen.KernelIdeal.Points

@[expose] public section

set_option maxRecDepth 16384

noncomputable section

namespace Cert.Proof.Region1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig (HIx 2) (Elt F) ℕ UU ℕ

variable (W : Dev nD → Valuation τ sig (Elt F)) (O : Dev nD → CellTallies nD τ sig (HIx 2)) (R : Dev nD → Set (SemLoc sig × HIx 2))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The conditions at each point. -/
theorem cond1_iff : ∀ t : Fin cfg1.N, Scalar.cmpi .ne (Scalar.extui (Scalar.andi (Scalar.cmpi .eq (BitVec.ofNat 32 ((grid1.coords t) 0).val) 0#32) (Scalar.cmpi .eq (BitVec.ofNat 32 ((grid1.coords t) 1).val) 0#32))) (0#32 : BitVec 32) = 1#1 ↔ t.val = 0 :=
  (by decide +kernel : ∀ t : Fin grid1.N, Scalar.cmpi .ne (Scalar.extui (Scalar.andi (Scalar.cmpi .eq (BitVec.ofNat 32 ((grid1.coords t) 0).val) 0#32) (Scalar.cmpi .eq (BitVec.ofNat 32 ((grid1.coords t) 1).val) 0#32))) (0#32 : BitVec 32) = 1#1 ↔ t.val = 0)
theorem cond2_iff : ∀ t : Fin cfg1.N, Scalar.cmpi .ne (Scalar.extui (Scalar.cmpi .eq (BitVec.ofNat 32 ((grid1.coords t) 0).val) 0#32)) (0#32 : BitVec 32) = 1#1 ↔ t.val < 16 :=
  (by decide +kernel : ∀ t : Fin grid1.N, Scalar.cmpi .ne (Scalar.extui (Scalar.cmpi .eq (BitVec.ofNat 32 ((grid1.coords t) 0).val) 0#32)) (0#32 : BitVec 32) = 1#1 ↔ t.val < 16)
theorem cond3_iff : ∀ t : Fin cfg1.N, k1_cond3 (grid1.coords t) = 1#1 ↔ t.val = 16 :=
  (by decide +kernel : ∀ t : Fin grid1.N, k1_cond3 (grid1.coords t) = 1#1 ↔ t.val = 16)
theorem cond4_iff : ∀ t : Fin cfg1.N, k1_cond4 (grid1.coords t) = 1#1 ↔ 16 ≤ t.val :=
  (by decide +kernel : ∀ t : Fin grid1.N, k1_cond4 (grid1.coords t) = 1#1 ↔ 16 ≤ t.val)

/-- The first point of the second pass. -/
abbrev t16 : Fin cfg1.N := ⟨16, by decide⟩

/-- The sums after the first `n` blocks. -/
def accSum (c : Dev nD) : ℕ → Vec F S8x64 .f32
  | 0 => k1_pay11 (F := F)
  | n + 1 => if h : n < 32 then
      (fun t : Fin cfg1.N => accP (iblk W c 0 t) (iblk W c 1 t) (iblk W c 2 t) (iblk W c 3 t) (iblk W c 4 t) (iblk W c 5 t) (accSum c n)) ⟨n, h⟩
    else accSum c n

/-- The two scales and shifts. -/
def accNorm (c : Dev nD) : Vec F S8x64 .f32 :=
  accN (iblk W c 3 t16) (iblk W c 6 t16) (iblk W c 7 t16) (iblk W c 8 t16) (iblk W c 9 t16) (iblk W c 12 t16) (accSum W c 16)

/-- The accumulator before point `n` (after the first). -/
def accS (c : Dev nD) (n : ℕ) : Vec F S8x64 .f32 := if n ≤ 16 then accSum W c n else accNorm W c

abbrev scr : Memref sig .tc .vmem S8x64 .f32 := Memref.whole cc1_scratch0

/-- What is held between the points: before the first the scoped rest, later the accumulator at its contents. -/
def Phi (c : Dev nD) (n : ℕ) : sProp 𝕄 :=
  if n = 0 then Pipeline.scopedRest spec1 c
  else iprop(owns (c : Thread nD τ) scr fullShare (accS W c n) ∗ Pipeline.scopedRestBut (Ix := HIx 2) (Name := ℕ) (U := UU) (Lvl := ℕ) (Val := Elt F) spec1 c [cc1_scratch0])

theorem scr_in (c : Dev nD) (f : Buf (Elt F) ((c : Thread nD τ).loc cc1_scratch0)) :
    (((c : Thread nD τ).loc cc1_scratch0) ↦{fullShare} f : sProp 𝕄) ⊢ owns (c : Thread nD τ) scr fullShare (scr.view.read (Elt F) f) := by
  unfold owns
  rw [(Memref.isWhole_whole cc1_scratch0).set_eq_univ]
  iintro H
  iexists f; isplitr; · ipureintro; rfl
  iexact H
theorem scr_out (c : Dev nD) (x : Vec F S8x64 .f32) :
    (owns (c : Thread nD τ) scr fullShare x : sProp 𝕄) ⊢ iprop(∃ f : Buf (Elt F) ((c : Thread nD τ).loc cc1_scratch0), ((c : Thread nD τ).loc cc1_scratch0) ↦{fullShare} f) := by
  unfold owns
  rw [(Memref.isWhole_whole cc1_scratch0).set_eq_univ]
  iintro ⟨%f, -, H⟩
  iexists f
  iexact H

/-- The blocks of the second pass. -/
def O13 (c : Dev nD) (t : Fin cfg1.N) : Vec F S1024x128 .f32 := out13 (iblk W c 0 t) (iblk W c 2 t) (iblk W c 4 t) (accNorm W c)
def O14 (c : Dev nD) (t : Fin cfg1.N) : Vec F S1024x1 .f32 := out14 (iblk W c 0 t) (iblk W c 2 t) (iblk W c 5 t) (iblk W c 10 t) (iblk W c 11 t) (accNorm W c)
def O15 (c : Dev nD) : Vec F S8x64 .f32 := out15 (iblk W c 3 t16) (iblk W c 6 t16) (iblk W c 12 t16) (accSum W c 16)

/-- The proof data: an input's buffer stays; an output's is known in the second pass only. -/
def rdats (c : Dev nD) : RDat τ (Elt F) (HIx 2) ℕ UU ℕ cfg1 c where
  A w := W c (Proc.devRef .tc (Pipeline.arrRef spec1 w))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => X = Y
    | ⟨11, _⟩ => X = Y
    | ⟨12, _⟩ => X = Y
    | ⟨13, _⟩ => 16 ≤ t.val → X = O13 W c t
    | ⟨14, _⟩ => 16 ≤ t.val → X = O14 W c t
    | ⟨15, _⟩ => 16 ≤ t.val → X = O15 W c
    | ⟨_ + 16, h⟩ => absurd h (by show ¬ (_ < 16); omega)
  Φ n := Phi W c n.val
  q _ := fullShare
  owed _ := O c
  recorded _ := R c

theorem A_eq (c : Dev nD) (w : Fin cfg1.W) : (rdats W O R c).A w = W c (Proc.devRef .tc (Pipeline.arrRef spec1 w)) := by
  dsimp only [rdats]
theorem after0 (c : Dev nD) (t : Fin cfg1.N) (Y X) : (rdats W O R c).after 0 t Y X = (X = Y) := by dsimp only [rdats]
theorem finds0 (c : Dev nD) (t : Fin cfg1.N) (Y) (h : (rdats W O R c).Finds 0 t Y) : Y = iblk W c 0 t := by
  obtain ⟨d, rfl⟩ := (rdats W O R c).finds_in_eq_fetched 0 rfl (fun _ _ _ => rfl) (fun t Y X h => by rw [after0] at h; exact h) t Y h
  unfold RDat.fetched RDat.blockOf iblk; rw [A_eq]; rfl
theorem after1 (c : Dev nD) (t : Fin cfg1.N) (Y X) : (rdats W O R c).after 1 t Y X = (X = Y) := by dsimp only [rdats]
theorem finds1 (c : Dev nD) (t : Fin cfg1.N) (Y) (h : (rdats W O R c).Finds 1 t Y) : Y = iblk W c 1 t := by
  obtain ⟨d, rfl⟩ := (rdats W O R c).finds_in_eq_fetched 1 rfl (fun _ _ _ => rfl) (fun t Y X h => by rw [after1] at h; exact h) t Y h
  unfold RDat.fetched RDat.blockOf iblk; rw [A_eq]; rfl
theorem after2 (c : Dev nD) (t : Fin cfg1.N) (Y X) : (rdats W O R c).after 2 t Y X = (X = Y) := by dsimp only [rdats]
theorem finds2 (c : Dev nD) (t : Fin cfg1.N) (Y) (h : (rdats W O R c).Finds 2 t Y) : Y = iblk W c 2 t := by
  obtain ⟨d, rfl⟩ := (rdats W O R c).finds_in_eq_fetched 2 rfl (fun _ _ _ => rfl) (fun t Y X h => by rw [after2] at h; exact h) t Y h
  unfold RDat.fetched RDat.blockOf iblk; rw [A_eq]; rfl
theorem after3 (c : Dev nD) (t : Fin cfg1.N) (Y X) : (rdats W O R c).after 3 t Y X = (X = Y) := by dsimp only [rdats]
theorem finds3 (c : Dev nD) (t : Fin cfg1.N) (Y) (h : (rdats W O R c).Finds 3 t Y) : Y = iblk W c 3 t := by
  obtain ⟨d, rfl⟩ := (rdats W O R c).finds_in_eq_fetched 3 rfl (fun _ _ _ => rfl) (fun t Y X h => by rw [after3] at h; exact h) t Y h
  unfold RDat.fetched RDat.blockOf iblk; rw [A_eq]; rfl
theorem after4 (c : Dev nD) (t : Fin cfg1.N) (Y X) : (rdats W O R c).after 4 t Y X = (X = Y) := by dsimp only [rdats]
theorem finds4 (c : Dev nD) (t : Fin cfg1.N) (Y) (h : (rdats W O R c).Finds 4 t Y) : Y = iblk W c 4 t := by
  obtain ⟨d, rfl⟩ := (rdats W O R c).finds_in_eq_fetched 4 rfl (fun _ _ _ => rfl) (fun t Y X h => by rw [after4] at h; exact h) t Y h
  unfold RDat.fetched RDat.blockOf iblk; rw [A_eq]; rfl
theorem after5 (c : Dev nD) (t : Fin cfg1.N) (Y X) : (rdats W O R c).after 5 t Y X = (X = Y) := by dsimp only [rdats]
theorem finds5 (c : Dev nD) (t : Fin cfg1.N) (Y) (h : (rdats W O R c).Finds 5 t Y) : Y = iblk W c 5 t := by
  obtain ⟨d, rfl⟩ := (rdats W O R c).finds_in_eq_fetched 5 rfl (fun _ _ _ => rfl) (fun t Y X h => by rw [after5] at h; exact h) t Y h
  unfold RDat.fetched RDat.blockOf iblk; rw [A_eq]; rfl
theorem after6 (c : Dev nD) (t : Fin cfg1.N) (Y X) : (rdats W O R c).after 6 t Y X = (X = Y) := by dsimp only [rdats]
theorem finds6 (c : Dev nD) (t : Fin cfg1.N) (Y) (h : (rdats W O R c).Finds 6 t Y) : Y = iblk W c 6 t := by
  obtain ⟨d, rfl⟩ := (rdats W O R c).finds_in_eq_fetched 6 rfl (fun _ _ _ => rfl) (fun t Y X h => by rw [after6] at h; exact h) t Y h
  unfold RDat.fetched RDat.blockOf iblk; rw [A_eq]; rfl
theorem after7 (c : Dev nD) (t : Fin cfg1.N) (Y X) : (rdats W O R c).after 7 t Y X = (X = Y) := by dsimp only [rdats]
theorem finds7 (c : Dev nD) (t : Fin cfg1.N) (Y) (h : (rdats W O R c).Finds 7 t Y) : Y = iblk W c 7 t := by
  obtain ⟨d, rfl⟩ := (rdats W O R c).finds_in_eq_fetched 7 rfl (fun _ _ _ => rfl) (fun t Y X h => by rw [after7] at h; exact h) t Y h
  unfold RDat.fetched RDat.blockOf iblk; rw [A_eq]; rfl
theorem after8 (c : Dev nD) (t : Fin cfg1.N) (Y X) : (rdats W O R c).after 8 t Y X = (X = Y) := by dsimp only [rdats]
theorem finds8 (c : Dev nD) (t : Fin cfg1.N) (Y) (h : (rdats W O R c).Finds 8 t Y) : Y = iblk W c 8 t := by
  obtain ⟨d, rfl⟩ := (rdats W O R c).finds_in_eq_fetched 8 rfl (fun _ _ _ => rfl) (fun t Y X h => by rw [after8] at h; exact h) t Y h
  unfold RDat.fetched RDat.blockOf iblk; rw [A_eq]; rfl
theorem after9 (c : Dev nD) (t : Fin cfg1.N) (Y X) : (rdats W O R c).after 9 t Y X = (X = Y) := by dsimp only [rdats]
theorem finds9 (c : Dev nD) (t : Fin cfg1.N) (Y) (h : (rdats W O R c).Finds 9 t Y) : Y = iblk W c 9 t := by
  obtain ⟨d, rfl⟩ := (rdats W O R c).finds_in_eq_fetched 9 rfl (fun _ _ _ => rfl) (fun t Y X h => by rw [after9] at h; exact h) t Y h
  unfold RDat.fetched RDat.blockOf iblk; rw [A_eq]; rfl
theorem after10 (c : Dev nD) (t : Fin cfg1.N) (Y X) : (rdats W O R c).after 10 t Y X = (X = Y) := by dsimp only [rdats]
theorem finds10 (c : Dev nD) (t : Fin cfg1.N) (Y) (h : (rdats W O R c).Finds 10 t Y) : Y = iblk W c 10 t := by
  obtain ⟨d, rfl⟩ := (rdats W O R c).finds_in_eq_fetched 10 rfl (fun _ _ _ => rfl) (fun t Y X h => by rw [after10] at h; exact h) t Y h
  unfold RDat.fetched RDat.blockOf iblk; rw [A_eq]; rfl
theorem after11 (c : Dev nD) (t : Fin cfg1.N) (Y X) : (rdats W O R c).after 11 t Y X = (X = Y) := by dsimp only [rdats]
theorem finds11 (c : Dev nD) (t : Fin cfg1.N) (Y) (h : (rdats W O R c).Finds 11 t Y) : Y = iblk W c 11 t := by
  obtain ⟨d, rfl⟩ := (rdats W O R c).finds_in_eq_fetched 11 rfl (fun _ _ _ => rfl) (fun t Y X h => by rw [after11] at h; exact h) t Y h
  unfold RDat.fetched RDat.blockOf iblk; rw [A_eq]; rfl
theorem after12 (c : Dev nD) (t : Fin cfg1.N) (Y X) : (rdats W O R c).after 12 t Y X = (X = Y) := by dsimp only [rdats]
theorem finds12 (c : Dev nD) (t : Fin cfg1.N) (Y) (h : (rdats W O R c).Finds 12 t Y) : Y = iblk W c 12 t := by
  obtain ⟨d, rfl⟩ := (rdats W O R c).finds_in_eq_fetched 12 rfl (fun _ _ _ => rfl) (fun t Y X h => by rw [after12] at h; exact h) t Y h
  unfold RDat.fetched RDat.blockOf iblk; rw [A_eq]; rfl
theorem after13 (c : Dev nD) (t : Fin cfg1.N) (Y X) : (rdats W O R c).after 13 t Y X = (16 ≤ t.val → X = O13 W c t) := by dsimp only [rdats]
theorem after14 (c : Dev nD) (t : Fin cfg1.N) (Y X) : (rdats W O R c).after 14 t Y X = (16 ≤ t.val → X = O14 W c t) := by dsimp only [rdats]
theorem after15 (c : Dev nD) (t : Fin cfg1.N) (Y X) : (rdats W O R c).after 15 t Y X = (16 ≤ t.val → X = O15 W c) := by dsimp only [rdats]

theorem leaves15 (c : Dev nD) (t : Fin cfg1.N) (X) (h : (rdats W O R c).Leaves 15 t X) (ht : 16 ≤ t.val) : X = O15 W c := by
  obtain ⟨Y, -, hR⟩ := h
  rw [after15] at hR
  exact hR ht
theorem leaves13 (c : Dev nD) (t : Fin cfg1.N) (X) (h : (rdats W O R c).Leaves 13 t X) (ht : 16 ≤ t.val) : X = O13 W c t := by
  obtain ⟨Y, -, hR⟩ := h
  rw [after13] at hR
  exact hR ht
theorem leaves14 (c : Dev nD) (t : Fin cfg1.N) (X) (h : (rdats W O R c).Leaves 14 t X) (ht : 16 ≤ t.val) : X = O14 W c t := by
  obtain ⟨Y, -, hR⟩ := h
  rw [after14] at hR
  exact hR ht

theorem nofetch15 : ∀ t : Fin cfg1.N, (cfg1.win 15).fetch t = false :=
  (by decide +kernel : ∀ t : Fin grid1.N, win1_15.fetch t = false)

/-- The scale's buffer, once written, is found as it was left. -/
theorem finds15 (c : Dev nD) (t : Fin cfg1.N) (Y) (h : (rdats W O R c).Finds 15 t Y) (ht : 16 < t.val) : Y = O15 W c := by
  rcases ((rdats W O R c).finds_of_pos (nofetch15 t) (by omega) Y).mp h with hf | hl
  · have hN : t.val < 32 := t.isLt
    have := (flush1_15 _).mp hf
    dsimp only at this
    omega
  · exact leaves15 W O R c _ Y hl (by show 16 ≤ t.val - 1; omega)

set_option maxHeartbeats 1000000 in
/-- The body at point `t`. -/
theorem step (c : Dev nD) (t : Fin cfg1.N) (d13 : Vec F S1024x128 .f32) (d14 : Vec F S1024x1 .f32) (d15 : Vec F S8x64 .f32) (h15 : 16 < t.val → d15 = O15 W c) (Q : sProp 𝕄) :
    iprop(Phi W c t.val ∗ Q ∗ owns (c : Thread nD τ) (st1_0 t) fullShare (iblk W c 0 t) ∗ owns (c : Thread nD τ) (st1_1 t) fullShare (iblk W c 1 t) ∗ owns (c : Thread nD τ) (st1_2 t) fullShare (iblk W c 2 t) ∗ owns (c : Thread nD τ) (st1_3 t) fullShare (iblk W c 3 t) ∗ owns (c : Thread nD τ) (st1_4 t) fullShare (iblk W c 4 t) ∗ owns (c : Thread nD τ) (st1_5 t) fullShare (iblk W c 5 t) ∗ owns (c : Thread nD τ) (st1_6 t) fullShare (iblk W c 6 t) ∗ owns (c : Thread nD τ) (st1_7 t) fullShare (iblk W c 7 t) ∗ owns (c : Thread nD τ) (st1_8 t) fullShare (iblk W c 8 t) ∗ owns (c : Thread nD τ) (st1_9 t) fullShare (iblk W c 9 t) ∗ owns (c : Thread nD τ) (st1_10 t) fullShare (iblk W c 10 t) ∗ owns (c : Thread nD τ) (st1_11 t) fullShare (iblk W c 11 t) ∗ owns (c : Thread nD τ) (st1_12 t) fullShare (iblk W c 12 t) ∗ owns (c : Thread nD τ) (st1_13 t) fullShare d13 ∗ owns (c : Thread nD τ) (st1_14 t) fullShare d14 ∗ owns (c : Thread nD τ) (st1_15 t) fullShare d15)
      ⊢ wp frame (wpE (defs₀ (F := F)) 𝒱₀ c none) Set.univ (bodyAt1 t) (fun _ =>
        iprop(Phi W c (t.val + 1) ∗ Q ∗ owns (c : Thread nD τ) (st1_0 t) fullShare (iblk W c 0 t) ∗ owns (c : Thread nD τ) (st1_1 t) fullShare (iblk W c 1 t) ∗ owns (c : Thread nD τ) (st1_2 t) fullShare (iblk W c 2 t) ∗ owns (c : Thread nD τ) (st1_3 t) fullShare (iblk W c 3 t) ∗ owns (c : Thread nD τ) (st1_4 t) fullShare (iblk W c 4 t) ∗ owns (c : Thread nD τ) (st1_5 t) fullShare (iblk W c 5 t) ∗ owns (c : Thread nD τ) (st1_6 t) fullShare (iblk W c 6 t) ∗ owns (c : Thread nD τ) (st1_7 t) fullShare (iblk W c 7 t) ∗ owns (c : Thread nD τ) (st1_8 t) fullShare (iblk W c 8 t) ∗ owns (c : Thread nD τ) (st1_9 t) fullShare (iblk W c 9 t) ∗ owns (c : Thread nD τ) (st1_10 t) fullShare (iblk W c 10 t) ∗ owns (c : Thread nD τ) (st1_11 t) fullShare (iblk W c 11 t) ∗ owns (c : Thread nD τ) (st1_12 t) fullShare (iblk W c 12 t)
          ∗ (∃ X, ⌜16 ≤ t.val → X = O13 W c t⌝ ∗ owns (c : Thread nD τ) (st1_13 t) fullShare X)
          ∗ (∃ X, ⌜16 ≤ t.val → X = O14 W c t⌝ ∗ owns (c : Thread nD τ) (st1_14 t) fullShare X)
          ∗ (∃ X, ⌜16 ≤ t.val → X = O15 W c⌝ ∗ owns (c : Thread nD τ) (st1_15 t) fullShare X))) := by
  have hN : t.val < 32 := t.isLt
  have hΦ : (Phi W c (t.val + 1) : sProp 𝕄) = iprop(owns (c : Thread nD τ) scr fullShare (accS W c (t.val + 1)) ∗ Pipeline.scopedRestBut (Ix := HIx 2) (Name := ℕ) (U := UU) (Lvl := ℕ) (Val := Elt F) spec1 c [cc1_scratch0]) := by
    unfold Phi; rw [if_neg (by omega)]
  have hsum : t.val < 16 → accS W c (t.val + 1) = accP (iblk W c 0 t) (iblk W c 1 t) (iblk W c 2 t) (iblk W c 3 t) (iblk W c 4 t) (iblk W c 5 t) (accSum W c t.val) := fun h => by
    unfold accS; rw [if_pos (by omega)]
    rw [accSum, dif_pos hN]
  unfold bodyAt1
  by_cases h0 : t.val = 0
  · have e := hsum (by omega)
    have hz : accSum W c t.val = k1_pay11 (F := F) := by rw [h0]; rfl
    rw [hz] at e
    rw [e] at hΦ
    have hs : (Phi W c t.val : sProp 𝕄) = Pipeline.scopedRest spec1 c := by unfold Phi; rw [if_pos h0]
    rw [hs, scopedRest1_split]
    iintro ⟨⟨⟨%f, Hs⟩, Hr⟩, Ho, H0, H1, H2, H3, H4, H5, H6, H7, H8, H9, H10, H11, H12, H13, H14, H15⟩
    ihave Hs := (scr_in c f) $$ Hs
    iapply (runA c Set.univ (grid1.coords t) _ _ _ _ _ _ _ _ _ _ _ _ _ _ _ _ _ _ _ _ _ _ _ _ _ _ _ _ _ _ _ _ _ _ ((cond1_iff t).mpr (by omega)) ((cond2_iff t).mpr (by omega)) (fun h => absurd ((cond3_iff t).mp h) (by omega)) (fun h => absurd ((cond4_iff t).mp h) (by omega)) (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) (iblk W c 12 t) d13 d14 d15 (scr.view.read (Elt F) f) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · iexact Hs
    iintro ⟨H0, H1, H2, H3, H4, H5, H6, H7, H8, H9, H10, H11, H12, H13, H14, H15, Hs⟩
    isplitl [Hs Hr]
    · rw [hΦ]
      isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr
      swap; · iexact H13
      ipureintro; exact fun h => absurd h (by omega)
    isplitl [H14]
    · iexists _; isplitr
      swap; · iexact H14
      ipureintro; exact fun h => absurd h (by omega)
    iexists _; isplitr
    swap; · iexact H15
    ipureintro; exact fun h => absurd h (by omega)
  have hs : (Phi W c t.val : sProp 𝕄) = iprop(owns (c : Thread nD τ) scr fullShare (accS W c t.val) ∗ Pipeline.scopedRestBut (Ix := HIx 2) (Name := ℕ) (U := UU) (Lvl := ℕ) (Val := Elt F) spec1 c [cc1_scratch0]) := by
    unfold Phi; rw [if_neg h0]
  rw [hs]
  iintro ⟨⟨Hs, Hr⟩, Ho, H0, H1, H2, H3, H4, H5, H6, H7, H8, H9, H10, H11, H12, H13, H14, H15⟩
  by_cases h1 : t.val < 16
  · have e := hsum h1
    rw [e] at hΦ
    have hb : accS W c t.val = accSum W c t.val := by unfold accS; rw [if_pos (by omega)]
    rw [hb]
    iapply (runB c Set.univ (grid1.coords t) _ _ _ _ _ _ _ _ _ _ _ _ _ _ _ _ _ _ _ _ _ _ _ _ _ _ _ _ _ _ _ _ _ _ (fun h => absurd ((cond1_iff t).mp h) (by omega)) ((cond2_iff t).mpr (by omega)) (fun h => absurd ((cond3_iff t).mp h) (by omega)) (fun h => absurd ((cond4_iff t).mp h) (by omega)) (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) (iblk W c 12 t) d13 d14 d15 (accSum W c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · iexact Hs
    iintro ⟨H0, H1, H2, H3, H4, H5, H6, H7, H8, H9, H10, H11, H12, H13, H14, H15, Hs⟩
    isplitl [Hs Hr]
    · rw [hΦ]
      isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr
      swap; · iexact H13
      ipureintro; exact fun h => absurd h (by omega)
    isplitl [H14]
    · iexists _; isplitr
      swap; · iexact H14
      ipureintro; exact fun h => absurd h (by omega)
    iexists _; isplitr
    swap; · iexact H15
    ipureintro; exact fun h => absurd h (by omega)
  have he : accS W c (t.val + 1) = accNorm W c := by unfold accS; rw [if_neg (by omega)]
  rw [he] at hΦ
  by_cases h2 : t.val = 16
  · obtain rfl : t = t16 := Fin.ext h2
    have hb : accS W c t16.val = accSum W c 16 := by unfold accS; rw [if_pos (by decide)]
    rw [hb]
    iapply (runC c Set.univ (grid1.coords t16) _ _ _ _ _ _ _ _ _ _ _ _ _ _ _ _ _ _ _ _ _ _ _ _ _ _ _ _ _ _ _ _ _ _ (fun h => absurd ((cond1_iff t16).mp h) (by omega)) (fun h => absurd ((cond2_iff t16).mp h) (by omega)) ((cond3_iff t16).mpr (by omega)) ((cond4_iff t16).mpr (by omega)) (iblk W c 0 t16) (iblk W c 1 t16) (iblk W c 2 t16) (iblk W c 3 t16) (iblk W c 4 t16) (iblk W c 5 t16) (iblk W c 6 t16) (iblk W c 7 t16) (iblk W c 8 t16) (iblk W c 9 t16) (iblk W c 10 t16) (iblk W c 11 t16) (iblk W c 12 t16) d13 d14 d15 (accSum W c 16) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · iexact Hs
    iintro ⟨H0, H1, H2, H3, H4, H5, H6, H7, H8, H9, H10, H11, H12, H13, H14, H15, Hs⟩
    isplitl [Hs Hr]
    · rw [hΦ]
      isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr
      swap; · iexact H13
      ipureintro; exact fun _ => rfl
    isplitl [H14]
    · iexists _; isplitr
      swap; · iexact H14
      ipureintro; exact fun _ => rfl
    iexists _; isplitr
    swap; · iexact H15
    ipureintro; exact fun _ => rfl
  have hb : accS W c t.val = accNorm W c := by unfold accS; rw [if_neg (by omega)]
  rw [hb]
  iapply (runD c Set.univ (grid1.coords t) _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) (iblk W c 12 t) d13 d14 d15 (accNorm W c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Hs]; · iexact Hs
  iintro ⟨H0, H1, H2, H3, H4, H5, H6, H7, H8, H9, H10, H11, H12, H13, H14, H15, Hs⟩
  isplitl [Hs Hr]
  · rw [hΦ]
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; exact fun _ => rfl
  isplitl [H14]
  · iexists _; isplitr
    swap; · iexact H14
    ipureintro; exact fun _ => rfl
  iexists _; isplitr
  swap; · iexact H15
  ipureintro; exact fun _ => h15 (by omega)

theorem defs₀_row (t : Fin cfg1.N) :
    defs₀ (F := F) .tc cfg1.body (cfg1.bodyArgs t (cfg1.slots t)) = bodyAt1 t := by
  rfl

/-- The pipeline library's body obligation, at every point. -/
theorem body_obligation (c : Dev nD) : (rdats W O R c).BodyObligation (defs₀ (F := F)) 𝒱₀ none Set.univ := fun t Y hY => by
  rw [bigSep_W1, bigSep_W1, defs₀_row]
  rw [finds0 W O R c t (Y 0) (hY 0), finds1 W O R c t (Y 1) (hY 1), finds2 W O R c t (Y 2) (hY 2), finds3 W O R c t (Y 3) (hY 3), finds4 W O R c t (Y 4) (hY 4), finds5 W O R c t (Y 5) (hY 5), finds6 W O R c t (Y 6) (hY 6), finds7 W O R c t (Y 7) (hY 7), finds8 W O R c t (Y 8) (hY 8), finds9 W O R c t (Y 9) (hY 9), finds10 W O R c t (Y 10) (hY 10), finds11 W O R c t (Y 11) (hY 11), finds12 W O R c t (Y 12) (hY 12)]
  simp only [after0, after1, after2, after3, after4, after5, after6, after7, after8, after9, after10, after11, after12, after13, after14, after15]
  rw [show (rdats W O R c).Φ t.castSucc = Phi W c t.val from rfl, show (rdats W O R c).Φ t.succ = Phi W c (t.val + 1) from rfl,
    show (rdats W O R c).owesAt none t.succ = (rdats W O R c).owesAt none t.castSucc from rfl]
  refine (step W c t (Y 13) (Y 14) (Y 15) (fun h => finds15 W O R c t (Y 15) (hY 15) h) ((rdats W O R c).owesAt none t.castSucc)).trans ?_
  apply wp_mono
  intro _
  iintro ⟨HΦ, Ho, H0, H1, H2, H3, H4, H5, H6, H7, H8, H9, H10, H11, H12, H13, H14, H15⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]; · iexact H13
  isplitl [H14]; · iexact H14
  iexact H15

end Cert.Proof.Region1

end
-- ==== Proof.Region0.lean ====
/-
  The squares' TensorCore call: it sums, over the rows, the squares of the first weight matrix' products.
-/
module

public import proofs.«01_k».proof.Proof.Region1
public import proofs.«01_k».proof.Proof.Gen.KernelIdeal.Launch
public import Idealize.ShloMosaic.Lib.Pipeline.FrameBody
public import proofs.«01_k».proof.Proof.Gen.KernelIdeal.Points

@[expose] public section

set_option maxRecDepth 16384

noncomputable section

namespace Cert.Proof.Region0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig (HIx 2) (Elt F) ℕ UU ℕ

abbrev qX : Rect S2048x64 := Rect.unit (s := S2048x64) ![0, 0] S2048x64.size inb_S2048x64_S2048x64_0_0

/-- The accumulator after a block: its first row has grown. -/
def accQ (x0 : Vec F S2048x64 .f32) (x1 : Vec F S64x64 .f32) (a : Vec F S8x64 .f32) : Vec F S8x64 .f32 :=
  View.canon [⟨Region1.rw0, k0_pay2 (View.ld x0 qX) (View.ld x1 Region1.q3) (View.ld a Region1.rw0)⟩, ⟨Region1.qA, a⟩]

set_option maxHeartbeats 600000 in
/-- The first block: the accumulator is cleared first. -/
theorem runA (c : Dev nD) (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S8x64 .f32) (harg3 : arg3.IsWhole)
    (hc1 : Scalar.cmpi .ne (Scalar.extui (Scalar.cmpi .eq (BitVec.ofNat 32 (i 0).val) 0#32)) (0#32 : BitVec 32) = 1#1) (x0 : Vec F S2048x64 .f32) (x1 : Vec F S64x64 .f32) (a : Vec F S8x64 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1 ∗ owns (c : Thread nD τ) arg3 fullShare (accQ x0 x1 (k0_pay1 (F := F)))) -∗ K ⟨⟩))
      ⊢ wp frame (wpE (defs₀ (F := F)) 𝒱₀ c none) E (cc0__tca_body i arg1 harg1 arg2 harg2 arg3 harg3) K := by
  simp only [cc0__tca_body_eq_skeleton]; unfold cc0__tca_body_skel
  unfold owns
  iintro ⟨⟨%f0, %hf0, H0⟩, ⟨%f1, %hf1, H1⟩, ⟨%f2, %hf2, H2⟩, Hk⟩
  subst hf0 hf1 hf2
  sl_exec (disch := first | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (Region1.coverL [_] _)).trans ?_
  unfold runA.sl.v7 runA.sl.H2_1
  rw [View.readCov_eq_canon', show (View.canon [⟨Rect.unit ![0, 0] S8x64.size inb_S8x64_S8x64_0_0, k0_pay1 (F := F)⟩] : Vec F S8x64 .f32) = _ from Region1.canonA _]
  rfl

set_option maxHeartbeats 600000 in
/-- A later block. -/
theorem runB (c : Dev nD) (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S8x64 .f32) (harg3 : arg3.IsWhole)
    (hc1 : ¬ (Scalar.cmpi .ne (Scalar.extui (Scalar.cmpi .eq (BitVec.ofNat 32 (i 0).val) 0#32)) (0#32 : BitVec 32) = 1#1)) (x0 : Vec F S2048x64 .f32) (x1 : Vec F S64x64 .f32) (a : Vec F S8x64 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1 ∗ owns (c : Thread nD τ) arg3 fullShare (accQ x0 x1 a)) -∗ K ⟨⟩))
      ⊢ wp frame (wpE (defs₀ (F := F)) 𝒱₀ c none) E (cc0__tca_body i arg1 harg1 arg2 harg2 arg3 harg3) K := by
  simp only [cc0__tca_body_eq_skeleton]; unfold cc0__tca_body_skel
  unfold owns
  iintro ⟨⟨%f0, %hf0, H0⟩, ⟨%f1, %hf1, H1⟩, ⟨%f2, %hf2, H2⟩, Hk⟩
  subst hf0 hf1 hf2
  sl_exec (disch := first | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact Region1.read_writes_over _ _ _

variable (W : Dev nD → Valuation τ sig (Elt F)) (O : Dev nD → CellTallies nD τ sig (HIx 2)) (R : Dev nD → Set (SemLoc sig × HIx 2))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem cond1_iff : ∀ t : Fin cfg0.N, Scalar.cmpi .ne (Scalar.extui (Scalar.cmpi .eq (BitVec.ofNat 32 ((grid0.coords t) 0).val) 0#32)) (0#32 : BitVec 32) = 1#1 ↔ t.val = 0 :=
  (by decide +kernel : ∀ t : Fin grid0.N, Scalar.cmpi .ne (Scalar.extui (Scalar.cmpi .eq (BitVec.ofNat 32 ((grid0.coords t) 0).val) 0#32)) (0#32 : BitVec 32) = 1#1 ↔ t.val = 0)

/-- The sums after the first `n` blocks. -/
def sumQ (c : Dev nD) : ℕ → Vec F S8x64 .f32
  | 0 => k0_pay1 (F := F)
  | n + 1 => if h : n < 160 then (fun t : Fin cfg0.N => accQ (iblk W c 0 t) (iblk W c 1 t) (sumQ c n)) ⟨n, h⟩ else sumQ c n

theorem sumQ_succ (c : Dev nD) (t : Fin cfg0.N) : sumQ W c (t.val + 1) = accQ (iblk W c 0 t) (iblk W c 1 t) (sumQ W c t.val) := by
  rw [sumQ, dif_pos (show t.val < 160 from t.isLt)]

/-- The proof data. -/
def rdats (c : Dev nD) : RDat τ (Elt F) (HIx 2) ℕ UU ℕ cfg0 c where
  A w := W c (Proc.devRef .tc (Pipeline.arrRef spec0 w))
  after w t Y X := match w with
    | ⟨0, _⟩ => X = Y
    | ⟨1, _⟩ => X = Y
    | ⟨2, _⟩ => X = sumQ W c (t.val + 1)
    | ⟨_ + 3, h⟩ => absurd h (by show ¬ (_ < 3); omega)
  Φ _ := Pipeline.scopedRest spec0 c
  q _ := fullShare
  owed _ := O c
  recorded _ := R c

theorem A_eq (c : Dev nD) (w : Fin cfg0.W) : (rdats W O R c).A w = W c (Proc.devRef .tc (Pipeline.arrRef spec0 w)) := by
  dsimp only [rdats]
theorem after0 (c : Dev nD) (t : Fin cfg0.N) (Y X) : (rdats W O R c).after 0 t Y X = (X = Y) := by dsimp only [rdats]
theorem finds0 (c : Dev nD) (t : Fin cfg0.N) (Y) (h : (rdats W O R c).Finds 0 t Y) : Y = iblk W c 0 t := by
  obtain ⟨d, rfl⟩ := (rdats W O R c).finds_in_eq_fetched 0 rfl (fun _ _ _ => rfl) (fun t Y X h => by rw [after0] at h; exact h) t Y h
  unfold RDat.fetched RDat.blockOf iblk; rw [A_eq]; rfl
theorem after1 (c : Dev nD) (t : Fin cfg0.N) (Y X) : (rdats W O R c).after 1 t Y X = (X = Y) := by dsimp only [rdats]
theorem finds1 (c : Dev nD) (t : Fin cfg0.N) (Y) (h : (rdats W O R c).Finds 1 t Y) : Y = iblk W c 1 t := by
  obtain ⟨d, rfl⟩ := (rdats W O R c).finds_in_eq_fetched 1 rfl (fun _ _ _ => rfl) (fun t Y X h => by rw [after1] at h; exact h) t Y h
  unfold RDat.fetched RDat.blockOf iblk; rw [A_eq]; rfl
theorem after2 (c : Dev nD) (t : Fin cfg0.N) (Y X) : (rdats W O R c).after 2 t Y X = (X = sumQ W c (t.val + 1)) := by dsimp only [rdats]

theorem leaves2 (c : Dev nD) (t : Fin cfg0.N) (X) (h : (rdats W O R c).Leaves 2 t X) : X = sumQ W c (t.val + 1) := by
  obtain ⟨Y, -, hR⟩ := h
  rw [after2] at hR
  exact hR

theorem nofetch2 : ∀ t : Fin cfg0.N, (cfg0.win 2).fetch t = false :=
  (by decide +kernel : ∀ t : Fin grid0.N, win0_2.fetch t = false)

/-- The accumulator is found as the point before left it. -/
theorem finds2 (c : Dev nD) (t : Fin cfg0.N) (Y) (h : (rdats W O R c).Finds 2 t Y) (ht : 0 < t.val) : Y = sumQ W c t.val := by
  rcases ((rdats W O R c).finds_of_pos (nofetch2 t) (by omega) Y).mp h with hf | hl
  · have hN : t.val < 160 := t.isLt
    have := (flush0_2 _).mp hf
    dsimp only at this
    omega
  · rw [leaves2 W O R c _ Y hl]
    congr 1
    show t.val - 1 + 1 = t.val
    omega

/-- The body at point `t`. -/
theorem step (c : Dev nD) (t : Fin cfg0.N) (a : Vec F S8x64 .f32) (ha : 0 < t.val → a = sumQ W c t.val) (P Q : sProp 𝕄) :
    iprop(P ∗ Q ∗ owns (c : Thread nD τ) (st0_0 t) fullShare (iblk W c 0 t) ∗ owns (c : Thread nD τ) (st0_1 t) fullShare (iblk W c 1 t) ∗ owns (c : Thread nD τ) (st0_2 t) fullShare a)
      ⊢ wp frame (wpE (defs₀ (F := F)) 𝒱₀ c none) Set.univ (bodyAt0 t) (fun _ =>
        iprop(P ∗ Q ∗ owns (c : Thread nD τ) (st0_0 t) fullShare (iblk W c 0 t) ∗ owns (c : Thread nD τ) (st0_1 t) fullShare (iblk W c 1 t) ∗ owns (c : Thread nD τ) (st0_2 t) fullShare (sumQ W c (t.val + 1)))) := by
  rw [sumQ_succ]
  unfold bodyAt0
  iintro ⟨HP, HQ, H0, H1, H2⟩
  by_cases h0 : t.val = 0
  · rw [show sumQ W c t.val = k0_pay1 (F := F) by rw [h0]; rfl]
    iapply (runA c Set.univ (grid0.coords t) _ _ _ _ _ _ ((cond1_iff t).mpr h0) (iblk W c 0 t) (iblk W c 1 t) a _)
    isplitl [H0]; · iexact H0
    isplitl [H1]; · iexact H1
    isplitl [H2]; · iexact H2
    iintro ⟨H0, H1, H2⟩
    isplitl [HP]; · iexact HP
    isplitl [HQ]; · iexact HQ
    isplitl [H0]; · iexact H0
    isplitl [H1]; · iexact H1
    iexact H2
  · obtain rfl := ha (by omega)
    iapply (runB c Set.univ (grid0.coords t) _ _ _ _ _ _ (fun h => h0 ((cond1_iff t).mp h)) (iblk W c 0 t) (iblk W c 1 t) (sumQ W c t.val) _)
    isplitl [H0]; · iexact H0
    isplitl [H1]; · iexact H1
    isplitl [H2]; · iexact H2
    iintro ⟨H0, H1, H2⟩
    isplitl [HP]; · iexact HP
    isplitl [HQ]; · iexact HQ
    isplitl [H0]; · iexact H0
    isplitl [H1]; · iexact H1
    iexact H2

theorem defs₀_row (t : Fin cfg0.N) :
    defs₀ (F := F) .tc cfg0.body (cfg0.bodyArgs t (cfg0.slots t)) = bodyAt0 t := by
  rfl

/-- The pipeline library's body obligation, at every point. -/
theorem body_obligation (c : Dev nD) : (rdats W O R c).BodyObligation (defs₀ (F := F)) 𝒱₀ none Set.univ := fun t Y hY => by
  rw [bigSep_W0, bigSep_W0, defs₀_row]
  rw [finds0 W O R c t (Y 0) (hY 0), finds1 W O R c t (Y 1) (hY 1)]
  simp only [after0, after1, after2]
  rw [show (rdats W O R c).Φ t.succ = (rdats W O R c).Φ t.castSucc from rfl,
    show (rdats W O R c).owesAt none t.succ = (rdats W O R c).owesAt none t.castSucc from rfl]
  refine (step W c t (Y 2) (fun h => finds2 W O R c t (Y 2) (hY 2) h) ((rdats W O R c).Φ t.castSucc) ((rdats W O R c).owesAt none t.castSucc)).trans ?_
  apply wp_mono
  intro _
  iintro ⟨HP, HQ, H0, H1, H2⟩
  isplitl [HP]; · iexact HP
  isplitl [HQ]; · iexact HQ
  isplitl [H0]
  · iexists _; isplitr
    swap; · iexact H0
    ipureintro; rfl
  isplitl [H1]
  · iexists _; isplitr
    swap; · iexact H1
    ipureintro; rfl
  iexists _; isplitr
  swap; · iexact H2
  ipureintro; rfl

end Cert.Proof.Region0

end
-- ==== Proof.RegionFin.lean ====
/-
  What the first two TensorCore calls leave in their output arrays.
-/
module

public import proofs.«01_k».proof.Proof.Region1Dat
public import proofs.«01_k».proof.Proof.Region0
public import Idealize.ShloMosaic.Lib.Pipeline.ArrRel
public import Idealize.ShloMosaic.Lib.Pipeline.ValueKit
public import proofs.«01_k».proof.Proof.Gen.KernelIdeal.Launch
public import Idealize.ShloMosaic.Lib.Pipeline.FrameBody
public import proofs.«01_k».proof.Proof.Gen.KernelIdeal.Points

@[expose] public section

set_option maxRecDepth 16384

noncomputable section

namespace Cert.Proof.Region0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig (HIx 2) (Elt F) ℕ UU ℕ

variable [∀ e, Nonempty (Elt F e)]
variable (W : Dev nD → Valuation τ sig (Elt F)) (O : Dev nD → CellTallies nD τ sig (HIx 2)) (R : Dev nD → Set (SemLoc sig × HIx 2))

/-- The sums over every row. -/
theorem fin2 (c : Dev nD) (G) (h : (rdats W O R c).ArrAt 2 cfg0.N G) : G = sumQ W c 160 := by
  obtain ⟨X, hX, hG⟩ := h.emb_eq_of_wholeAt (t₀ := ⟨159, by decide⟩) (by decide +kernel)
  have e := leaves2 W O R c _ X hX
  funext i
  refine (hG i).trans ?_
  rw [e]
  rfl

end Cert.Proof.Region0

namespace Cert.Proof.Region1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F]

local notation "𝕄" => MT nD τ sig (HIx 2) (Elt F) ℕ UU ℕ

variable [∀ e, Nonempty (Elt F e)]
variable (W : Dev nD → Valuation τ sig (Elt F)) (O : Dev nD → CellTallies nD τ sig (HIx 2)) (R : Dev nD → Set (SemLoc sig × HIx 2))

/-- Another block's write is not read back. -/
theorem read_write_other {G : Pipeline.Grid} (w : Window sig G) (t u : Fin G.N) (h : w.index t ≠ w.index u) (f : (w.blk u).view.ty.Contents (Elt F))
    (X : (w.xblock (G.coords u)).Idx → Elt F w.elt) (hk : w.kind = .blocked := by first | rfl | decide) :
    (w.blk t).view.read (Elt F) ((w.blk u).view.write (Elt F) f X Finset.univ) = (w.blk t).view.read (Elt F) f := by
  funext x
  exact congrArg (cast _) ((w.blk u).view.write_of_not_mem _ _ _ fun hm => Finset.disjoint_left.mp (w.disjoint_blk (u := t) (u' := u) h hk) (View.emb_mem_set _ x) ((w.blk u).view.setOn_subset_set _ hm))

/-- Blocks written back at every point, and not again after the points of interest: read back, they are what was left there. -/
theorem read_flushed {cfg : Cfg sig Λ₀} {c : Dev nD} (rd : RDat τ (Elt F) (HIx 2) ℕ UU ℕ cfg c) (w : Fin cfg.W) (hk : (cfg.win w).kind = .blocked) (P : Fin cfg.N → Prop)
    (hfl : ∀ t, (cfg.win w).flush t = true) (hd : ∀ t u : Fin cfg.N, P t → t.val < u.val → (cfg.win w).index t ≠ (cfg.win w).index u)
    (out : (t : Fin cfg.N) → ((cfg.win w).xblock (cfg.grid.coords t)).Idx → Elt F (cfg.win w).elt)
    (hL : ∀ t X, P t → rd.Leaves w t X → (cfg.win w).cut (cfg.grid.coords t) X = out t) :
    ∀ (n : ℕ) (G), n ≤ cfg.N → rd.ArrAt w n G → ∀ t : Fin cfg.N, P t → t.val < n → ((cfg.win w).blk t).view.read (Elt F) G = out t
  | 0, _, _, _ => fun t _ h => absurd h (by omega)
  | n + 1, G, hn, h => fun t ht htn => by
    have hs := rd.ArrAt_succ w ⟨n, by omega⟩
    rw [if_pos (hfl _)] at hs
    have h' : rd.ArrStep w ⟨n, by omega⟩ (rd.ArrAt w n) G := by rw [← hs]; exact h
    obtain ⟨G₀, X, hG₀, hX, rfl⟩ := h'
    by_cases e : t.val = n
    · subst e
      refine Eq.trans (View.read_write_univ _ _) (hL t X ht hX)
    · refine Eq.trans (read_write_other (cfg.win w) t ⟨n, show n < cfg.N by omega⟩ (hd _ _ ht (by show t.val < n; omega)) G₀ _ hk) ?_
      exact read_flushed rd w hk P hfl hd out hL n G₀ (by omega) hG₀ t ht (by omega)

theorem index13 : ∀ t : Fin cfg1.N, win1_13.index t = ![t.val % 16, 0] ∧ win1_14.index t = ![t.val % 16, 0] :=
  (by decide +kernel : ∀ t : Fin grid1.N, win1_13.index t = ![t.val % 16, 0] ∧ win1_14.index t = ![t.val % 16, 0])

theorem fin15 (c : Dev nD) (G) (h : (rdats W O R c).ArrAt 15 cfg1.N G) : G = O15 W c := by
  obtain ⟨X, hX, hG⟩ := h.emb_eq_of_wholeAt (t₀ := ⟨31, by decide⟩) (by decide +kernel)
  have e := leaves15 W O R c _ X hX (by decide)
  funext i
  refine (hG i).trans ?_
  rw [e]
  rfl

/-- The second pass' blocks, read back after the call. -/
theorem read13 (c : Dev nD) (G) (h : (rdats W O R c).ArrAt 13 cfg1.N G) (t : Fin cfg1.N) (ht : 16 ≤ t.val) :
    ((cfg1.win 13).blk t).view.read (Elt F) G = O13 W c t :=
  read_flushed (rdats W O R c) 13 rfl (fun t => 16 ≤ t.val) flush1_13
    (fun t u ht hu hi => by
      have hN : u.val < 32 := u.isLt
      have hi' : win1_13.index t = win1_13.index u := hi
      rw [(index13 t).1, (index13 u).1] at hi'
      have hd : t.val % 16 = u.val % 16 := congrFun hi' 0
      omega)
    (fun t => O13 W c t) (fun t X ht hX => by rw [leaves13 W O R c t X hX ht]; rfl) cfg1.N G le_rfl h t ht t.isLt

/-- The point whose block holds a row. -/
theorem blk13 (t : Fin cfg1.N) (a : Fin 1024) (b : Fin 128) :
    ((cfg1.win 13).blk t).view.emb (ix2 a b) = (ix2 ⟨t.val % 16 * 1024 + a.val, by omega⟩ b : S16384x128.Idx) := by
  have e : (cfg1.win 13).index t = ![t.val % 16, 0] := (index13 t).1
  blk_ext [e]

/-- The array after the call. -/
def F13 (c : Dev nD) : Vec F S16384x128 .f32 := fun i =>
  O13 W c ⟨16 + (i 0).val / 1024, show _ < 32 by have : (i 0).val < 16384 := (i 0).isLt; omega⟩ (ix2 ⟨(i 0).val % 1024, Nat.mod_lt _ (by decide)⟩ (i 1))

theorem fin13 (c : Dev nD) (G : Vec F S16384x128 .f32) (h : (rdats W O R c).ArrAt 13 cfg1.N G) : G = F13 W c := by
  funext i
  have hi : (i 0).val < 16384 := (i 0).isLt
  have e := congrFun (read13 W O R c G h ⟨16 + (i 0).val / 1024, show _ < 32 by omega⟩ (by show 16 ≤ 16 + _; omega))
    (ix2 ⟨(i 0).val % 1024, Nat.mod_lt _ (by decide)⟩ (i 1))
  have hx : i = (ix2 ⟨(16 + (i 0).val / 1024) % 16 * 1024 + (i 0).val % 1024, by omega⟩ (i 1) : S16384x128.Idx) := by
    funext x
    match x with
    | ⟨0, _⟩ => exact Fin.ext (by show (i 0).val = (16 + (i 0).val / 1024) % 16 * 1024 + (i 0).val % 1024; omega)
    | ⟨1, _⟩ => rfl
  exact (congrArg G (hx.trans (blk13 ⟨16 + (i 0).val / 1024, show _ < 32 by omega⟩ ⟨(i 0).val % 1024, Nat.mod_lt _ (by decide)⟩ (i 1)).symm)).trans e

/-- The second pass' blocks, read back after the call. -/
theorem read14 (c : Dev nD) (G) (h : (rdats W O R c).ArrAt 14 cfg1.N G) (t : Fin cfg1.N) (ht : 16 ≤ t.val) :
    ((cfg1.win 14).blk t).view.read (Elt F) G = O14 W c t :=
  read_flushed (rdats W O R c) 14 rfl (fun t => 16 ≤ t.val) flush1_14
    (fun t u ht hu hi => by
      have hN : u.val < 32 := u.isLt
      have hi' : win1_14.index t = win1_14.index u := hi
      rw [(index13 t).2, (index13 u).2] at hi'
      have hd : t.val % 16 = u.val % 16 := congrFun hi' 0
      omega)
    (fun t => O14 W c t) (fun t X ht hX => by rw [leaves14 W O R c t X hX ht]; rfl) cfg1.N G le_rfl h t ht t.isLt

/-- The point whose block holds a row. -/
theorem blk14 (t : Fin cfg1.N) (a : Fin 1024) (b : Fin 1) :
    ((cfg1.win 14).blk t).view.emb (ix2 a b) = (ix2 ⟨t.val % 16 * 1024 + a.val, by omega⟩ b : S16384x1.Idx) := by
  have e : (cfg1.win 14).index t = ![t.val % 16, 0] := (index13 t).2
  blk_ext [e]

/-- The array after the call. -/
def F14 (c : Dev nD) : Vec F S16384x1 .f32 := fun i =>
  O14 W c ⟨16 + (i 0).val / 1024, show _ < 32 by have : (i 0).val < 16384 := (i 0).isLt; omega⟩ (ix2 ⟨(i 0).val % 1024, Nat.mod_lt _ (by decide)⟩ (i 1))

theorem fin14 (c : Dev nD) (G : Vec F S16384x1 .f32) (h : (rdats W O R c).ArrAt 14 cfg1.N G) : G = F14 W c := by
  funext i
  have hi : (i 0).val < 16384 := (i 0).isLt
  have e := congrFun (read14 W O R c G h ⟨16 + (i 0).val / 1024, show _ < 32 by omega⟩ (by show 16 ≤ 16 + _; omega))
    (ix2 ⟨(i 0).val % 1024, Nat.mod_lt _ (by decide)⟩ (i 1))
  have hx : i = (ix2 ⟨(16 + (i 0).val / 1024) % 16 * 1024 + (i 0).val % 1024, by omega⟩ (i 1) : S16384x1.Idx) := by
    funext x
    match x with
    | ⟨0, _⟩ => exact Fin.ext (by show (i 0).val = (16 + (i 0).val / 1024) % 16 * 1024 + (i 0).val % 1024; omega)
    | ⟨1, _⟩ => rfl
  exact (congrArg G (hx.trans (blk14 ⟨16 + (i 0).val / 1024, show _ < 32 by omega⟩ ⟨(i 0).val % 1024, Nat.mod_lt _ (by decide)⟩ (i 1)).symm)).trans e

end Cert.Proof.Region1

end
-- ==== Proof.Region3.lean ====
/-
  The main TensorCore call: the hidden layer, the logits and their exponentials, block by block.
-/
module

public import proofs.«01_k».proof.Proof.Setup
public import Idealize.ShloMosaic.Lib.Pipeline.FrameBody
public import proofs.«01_k».proof.Proof.Gen.KernelIdeal.Points

@[expose] public section

set_option maxRecDepth 16384

noncomputable section

namespace Cert.Proof.Region3

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

theorem before0_0_of {c : Dev nD} (dat : Dat τ (Elt F) (HIx 2) ℕ UU ℕ cfg3 c) (hA : dat.A 0 = W c (Proc.devRef .tc (Pipeline.arrRef spec3 0)))
    (hafter : ∀ t, dat.after 0 t = iblk W c 0 t) (t : Fin cfg3.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 2) ℕ UU ℕ cfg3 c) (hA : dat.A 1 = W c (Proc.devRef .tc (Pipeline.arrRef spec3 1)))
    (hafter : ∀ t, dat.after 1 t = iblk W c 1 t) (t : Fin cfg3.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) (HIx 2) ℕ UU ℕ cfg3 c) (hA : dat.A 2 = W c (Proc.devRef .tc (Pipeline.arrRef spec3 2)))
    (hafter : ∀ t, dat.after 2 t = iblk W c 2 t) (t : Fin cfg3.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) (HIx 2) ℕ UU ℕ cfg3 c) (hA : dat.A 3 = W c (Proc.devRef .tc (Pipeline.arrRef spec3 3)))
    (hafter : ∀ t, dat.after 3 t = iblk W c 3 t) (t : Fin cfg3.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) (HIx 2) ℕ UU ℕ cfg3 c) (hA : dat.A 4 = W c (Proc.devRef .tc (Pipeline.arrRef spec3 4)))
    (hafter : ∀ t, dat.after 4 t = iblk W c 4 t) (t : Fin cfg3.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) (HIx 2) ℕ UU ℕ cfg3 c) (hA : dat.A 5 = W c (Proc.devRef .tc (Pipeline.arrRef spec3 5)))
    (hafter : ∀ t, dat.after 5 t = iblk W c 5 t) (t : Fin cfg3.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0
abbrev r0_2 : Rect S8x64 := Rect.unit (s := S8x64) ![0, 0] S1x64.size inb_S8x64_S1x64_0_0
abbrev r0_3 : Rect S2048x128 := Rect.unit (s := S2048x128) ![0, 0] S2048x64.size inb_S2048x128_S2048x64_0_0
abbrev r0_4 : Rect S64x68 := Rect.unit (s := S64x68) ![0, 0] S64x68.size inb_S64x68_S64x68_0_0
abbrev r0_5 : Rect S1x68 := Rect.unit (s := S1x68) ![0, 0] S1x68.size inb_S1x68_S1x68_0_0
abbrev r0_6 : Rect S2048x68 := Rect.unit (s := S2048x68) ![0, 0] S2048x68.size inb_S2048x68_S2048x68_0_0
abbrev r0_7 : Rect S2048x16 := Rect.unit (s := S2048x16) ![0, 0] S2048x16.size inb_S2048x16_S2048x16_0_0

/-- Output window 6's buffer after the body, from the input blocks. -/
def out0_6 (x0 : Vec F S2048x64 .f32) (x1 : Vec F S2048x128 .f32) (x2 : Vec F S64x64 .f32) (x3 : Vec F S8x64 .f32) (x4 : Vec F S64x68 .f32) (x5 : Vec F S1x68 .f32) : Vec F S2048x68 .f32 :=
  View.canon [⟨r0_6, k3_pay1 (View.ld x0 r0_0) (View.ld x2 r0_1) (View.ld x3 r0_2) (View.ld x1 r0_3) (View.ld x4 r0_4) (View.ld x5 r0_5)⟩]

theorem cover0_6 (p0 : Vec F S2048x68 .f32) (y : S2048x68.Idx) :
    ∃ pc ∈ ([⟨r0_6, p0⟩] : List (View.Piece (Elt F) S2048x68 .f32)), y ∈ pc.1.set :=
  View.cover_of_tiled [⟨r0_6, p0⟩] S2048x68.size (by rfl) y

/-- Output window 7's buffer after the body, from the input blocks. -/
def out0_7 (x0 : Vec F S2048x64 .f32) (x1 : Vec F S2048x128 .f32) (x2 : Vec F S64x64 .f32) (x3 : Vec F S8x64 .f32) (x4 : Vec F S64x68 .f32) (x5 : Vec F S1x68 .f32) : Vec F S2048x16 .f32 :=
  View.canon [⟨r0_7, k3_pay2 (View.ld x0 r0_0) (View.ld x2 r0_1) (View.ld x3 r0_2) (View.ld x1 r0_3) (View.ld x4 r0_4) (View.ld x5 r0_5)⟩]

theorem cover0_7 (p0 : Vec F S2048x16 .f32) (y : S2048x16.Idx) :
    ∃ pc ∈ ([⟨r0_7, p0⟩] : List (View.Piece (Elt F) S2048x16 .f32)), y ∈ pc.1.set :=
  View.cover_of_tiled [⟨r0_7, p0⟩] S2048x16.size (by rfl) y

set_option maxHeartbeats 1000000 in
/-- The body on whole staging buffers, the inputs at `xW`: it leaves the inputs and fills each output with `out0_W` of them. -/
theorem sound_kernel (c : Dev nD) (E : Set ℕ) (i : grid3.Coords) (arg1 : Memref sig .tc .vmem S2048x64 .f32) (harg1 : arg1.IsWhole) (arg2 : Memref sig .tc .vmem S2048x128 .f32) (harg2 : arg2.IsWhole) (arg3 : Memref sig .tc .vmem S64x64 .f32) (harg3 : arg3.IsWhole) (arg4 : Memref sig .tc .vmem S8x64 .f32) (harg4 : arg4.IsWhole) (arg5 : Memref sig .tc .vmem S64x68 .f32) (harg5 : arg5.IsWhole) (arg6 : Memref sig .tc .vmem S1x68 .f32) (harg6 : arg6.IsWhole) (arg7 : Memref sig .tc .vmem S2048x68 .f32) (harg7 : arg7.IsWhole) (arg8 : Memref sig .tc .vmem S2048x16 .f32) (harg8 : arg8.IsWhole)
    (x0 : Vec F S2048x64 .f32) (x1 : Vec F S2048x128 .f32) (x2 : Vec F S64x64 .f32) (x3 : Vec F S8x64 .f32) (x4 : Vec F S64x68 .f32) (x5 : Vec F S1x68 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) 𝒱₀ c none) E (cc3__tcc_body i arg1 harg1 arg2 harg2 arg3 harg3 arg4 harg4 arg5 harg5 arg6 harg6 arg7 harg7 arg8 harg8) K := by
  simp only [cc3__tcc_body_eq_skeleton]; unfold cc3__tcc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data: the arrays as found; after point `t` each input buffer at its block and each output at `out0_W` of the blocks; the scoped rest untouched; what is owed and recorded constant. -/
def dats (c : Dev nD) : Dat τ (Elt F) (HIx 2) ℕ UU ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => out0_6 (iblk W c 0 t) (iblk W c 1 t) (iblk W c 2 t) (iblk W c 3 t) (iblk W c 4 t) (iblk W c 5 t)
    | ⟨7, _⟩ => out0_7 (iblk W c 0 t) (iblk W c 1 t) (iblk W c 2 t) (iblk W c 3 t) (iblk W c 4 t) (iblk W c 5 t)
  Φ _ := Pipeline.scopedRest spec3 c
  q _ := fullShare
  owed _ := O c
  recorded _ := R c

theorem A_eq (c : Dev nD) (w : Fin cfg3.W) : (dats W O R c).A w = W c (Proc.devRef .tc (Pipeline.arrRef spec3 w)) := by
  dsimp only [dats]

theorem after0_0 (c : Dev nD) (t : Fin cfg3.N) : (dats W O R c).after 0 t = iblk W c 0 t := by dsimp only [dats]
theorem after0_1 (c : Dev nD) (t : Fin cfg3.N) : (dats W O R c).after 1 t = iblk W c 1 t := by dsimp only [dats]
theorem after0_2 (c : Dev nD) (t : Fin cfg3.N) : (dats W O R c).after 2 t = iblk W c 2 t := by dsimp only [dats]
theorem after0_3 (c : Dev nD) (t : Fin cfg3.N) : (dats W O R c).after 3 t = iblk W c 3 t := by dsimp only [dats]
theorem after0_4 (c : Dev nD) (t : Fin cfg3.N) : (dats W O R c).after 4 t = iblk W c 4 t := by dsimp only [dats]
theorem after0_5 (c : Dev nD) (t : Fin cfg3.N) : (dats W O R c).after 5 t = iblk W c 5 t := by dsimp only [dats]
theorem after0_6 (c : Dev nD) (t : Fin cfg3.N) : (dats W O R c).after 6 t = out0_6 (iblk W c 0 t) (iblk W c 1 t) (iblk W c 2 t) (iblk W c 3 t) (iblk W c 4 t) (iblk W c 5 t) := by dsimp only [dats]
theorem after0_7 (c : Dev nD) (t : Fin cfg3.N) : (dats W O R c).after 7 t = out0_7 (iblk W c 0 t) (iblk W c 1 t) (iblk W c 2 t) (iblk W c 3 t) (iblk W c 4 t) (iblk W c 5 t) := by dsimp only [dats]

theorem before0_0 (c : Dev nD) (t : Fin cfg3.N) (d) : (dats W O R c).before 0 t d = iblk W c 0 t :=
  before0_0_of W (dats W O R c) (A_eq W O R c 0) (after0_0 W O R c) t d
theorem before0_1 (c : Dev nD) (t : Fin cfg3.N) (d) : (dats W O R c).before 1 t d = iblk W c 1 t :=
  before0_1_of W (dats W O R c) (A_eq W O R c 1) (after0_1 W O R c) t d
theorem before0_2 (c : Dev nD) (t : Fin cfg3.N) (d) : (dats W O R c).before 2 t d = iblk W c 2 t :=
  before0_2_of W (dats W O R c) (A_eq W O R c 2) (after0_2 W O R c) t d
theorem before0_3 (c : Dev nD) (t : Fin cfg3.N) (d) : (dats W O R c).before 3 t d = iblk W c 3 t :=
  before0_3_of W (dats W O R c) (A_eq W O R c 3) (after0_3 W O R c) t d
theorem before0_4 (c : Dev nD) (t : Fin cfg3.N) (d) : (dats W O R c).before 4 t d = iblk W c 4 t :=
  before0_4_of W (dats W O R c) (A_eq W O R c 4) (after0_4 W O R c) t d
theorem before0_5 (c : Dev nD) (t : Fin cfg3.N) (d) : (dats W O R c).before 5 t d = iblk W c 5 t :=
  before0_5_of W (dats W O R c) (A_eq W O R c 5) (after0_5 W O R c) t d

/-- What the body is called with at point `t`, -/
def bodyPre (c : Dev nD) (t : Fin cfg3.N) : sProp 𝕄 :=
  iprop((dats W O R c).Φ t.castSucc ∗ (dats W O R c).owesAt none t.castSucc
    ∗ (∃ d, owns (c : Thread nD τ) (st3_0 t) fullShare ((dats W O R c).before 0 t d))
    ∗ (∃ d, owns (c : Thread nD τ) (st3_1 t) fullShare ((dats W O R c).before 1 t d))
    ∗ (∃ d, owns (c : Thread nD τ) (st3_2 t) fullShare ((dats W O R c).before 2 t d))
    ∗ (∃ d, owns (c : Thread nD τ) (st3_3 t) fullShare ((dats W O R c).before 3 t d))
    ∗ (∃ d, owns (c : Thread nD τ) (st3_4 t) fullShare ((dats W O R c).before 4 t d))
    ∗ (∃ d, owns (c : Thread nD τ) (st3_5 t) fullShare ((dats W O R c).before 5 t d))
    ∗ (∃ d, owns (c : Thread nD τ) (st3_6 t) fullShare ((dats W O R c).before 6 t d))
    ∗ (∃ d, owns (c : Thread nD τ) (st3_7 t) fullShare ((dats W O R c).before 7 t d)))

/-- and what it returns. -/
def bodyPost (c : Dev nD) (t : Fin cfg3.N) : sProp 𝕄 :=
  iprop((dats W O R c).Φ t.succ ∗ (dats W O R c).owesAt none t.succ
    ∗ owns (c : Thread nD τ) (st3_0 t) fullShare ((dats W O R c).after 0 t)
    ∗ owns (c : Thread nD τ) (st3_1 t) fullShare ((dats W O R c).after 1 t)
    ∗ owns (c : Thread nD τ) (st3_2 t) fullShare ((dats W O R c).after 2 t)
    ∗ owns (c : Thread nD τ) (st3_3 t) fullShare ((dats W O R c).after 3 t)
    ∗ owns (c : Thread nD τ) (st3_4 t) fullShare ((dats W O R c).after 4 t)
    ∗ owns (c : Thread nD τ) (st3_5 t) fullShare ((dats W O R c).after 5 t)
    ∗ owns (c : Thread nD τ) (st3_6 t) fullShare ((dats W O R c).after 6 t)
    ∗ owns (c : Thread nD τ) (st3_7 t) fullShare ((dats W O R c).after 7 t))

theorem sound_body (c : Dev nD) (t : Fin cfg3.N) :
    bodyPre W O R c t ⊢ wp frame (wpE (defs₀ (F := F)) 𝒱₀ c none) Set.univ (bodyAt3 t) (fun _ => bodyPost W O R c t) := by
  unfold bodyPre bodyPost bodyAt3
  simp only [before0_0, before0_1, before0_2, before0_3, before0_4, before0_5]
  rw [show (dats W O R c).Φ t.succ = (dats W O R c).Φ t.castSucc from rfl,
    show (dats W O R c).owesAt none t.succ = (dats W O R c).owesAt none t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid3.coords t) _ _ _ _ _ _ _ _ _ _ _ _ _ _ _ _ (iblk W c 0 t) (iblk W c 1 t) (iblk W c 2 t) (iblk W c 3 t) (iblk W c 4 t) (iblk W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg3.N) :
    defs₀ (F := F) .tc cfg3.body (cfg3.bodyArgs t (cfg3.slots t)) = bodyAt3 t := by
  rfl

/-- The pipeline library's body obligation, at every point. -/
theorem body_obligation (c : Dev nD) : BodyObligation (dats W O R c) (defs₀ (F := F)) 𝒱₀ none Set.univ := fun t => by
  rw [bigSep_W3, bigSep_W3, defs₀_row]
  exact triple_restated (sound_body W O R c t) rfl .rfl fun _ => .rfl

end Cert.Proof.Region3

end
-- ==== Proof.Region4.lean ====
/-
  The denominators' TensorCore call: the segments' sums spread over a table.
-/
module

public import proofs.«01_k».proof.Proof.Setup
public import Idealize.ShloMosaic.Lib.Pipeline.FrameBody
public import proofs.«01_k».proof.Proof.Gen.KernelIdeal.Points

@[expose] public section

set_option maxRecDepth 16384

noncomputable section

namespace Cert.Proof.Region4

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

theorem before0_0_of {c : Dev nD} (dat : Dat τ (Elt F) (HIx 2) ℕ UU ℕ cfg4 c) (hA : dat.A 0 = W c (Proc.devRef .tc (Pipeline.arrRef spec4 0)))
    (hafter : ∀ t, dat.after 0 t = iblk W c 0 t) (t : Fin cfg4.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 2) ℕ UU ℕ cfg4 c) (hA : dat.A 1 = W c (Proc.devRef .tc (Pipeline.arrRef spec4 1)))
    (hafter : ∀ t, dat.after 1 t = iblk W c 1 t) (t : Fin cfg4.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S2x16384x16 := Rect.unit (s := S2x16384x16) ![0, 0, 0] S1x16384x1.size inb_S2x16384x16_S1x16384x1_0_0_0
abbrev r0_1 : Rect S2x16384x16 := Rect.unit (s := S2x16384x16) ![1, 0, 0] S1x16384x1.size inb_S2x16384x16_S1x16384x1_1_0_0
abbrev r0_2 : Rect S16384x1 := Rect.unit (s := S16384x1) ![0, 0] S16384x1.size inb_S16384x1_S16384x1_0_0
abbrev r0_3 : Rect S16384x128 := Rect.unit (s := S16384x128) ![0, 0] S16384x128.size inb_S16384x128_S16384x128_0_0

/-- Output window 2's buffer after the body, from the input blocks. -/
def out0_2 (x0 : Vec F S2x16384x16 .f32) (x1 : Vec F S16384x1 .f32) : Vec F S16384x128 .f32 :=
  View.canon [⟨r0_3, k4_pay2 (View.ld x0 r0_0) (View.ld x0 r0_1) (View.ld x1 r0_2)⟩]

theorem cover0_2 (p0 : Vec F S16384x128 .f32) (y : S16384x128.Idx) :
    ∃ pc ∈ ([⟨r0_3, p0⟩] : List (View.Piece (Elt F) S16384x128 .f32)), y ∈ pc.1.set :=
  View.cover_of_tiled [⟨r0_3, p0⟩] S16384x128.size (by rfl) y

/-- Output window 3's buffer after the body, from the input blocks. -/
def out0_3 (x0 : Vec F S2x16384x16 .f32) (x1 : Vec F S16384x1 .f32) : Vec F S16384x1 .f32 :=
  View.canon [⟨r0_2, k4_pay3 (View.ld x0 r0_0) (View.ld x0 r0_1) (View.ld x1 r0_2) (View.ld x1 r0_2)⟩]

theorem cover0_3 (p0 : Vec F S16384x1 .f32) (y : S16384x1.Idx) :
    ∃ pc ∈ ([⟨r0_2, p0⟩] : List (View.Piece (Elt F) S16384x1 .f32)), y ∈ pc.1.set :=
  View.cover_of_tiled [⟨r0_2, p0⟩] S16384x1.size (by rfl) y

set_option maxHeartbeats 1000000 in
/-- The body on whole staging buffers, the inputs at `xW`: it leaves the inputs and fills each output with `out0_W` of them. -/
theorem sound_kernel (c : Dev nD) (E : Set ℕ) (arg0 : Memref sig .tc .vmem S2x16384x16 .f32) (harg0 : arg0.IsWhole) (arg1 : Memref sig .tc .vmem S16384x1 .f32) (harg1 : arg1.IsWhole) (arg2 : Memref sig .tc .vmem S16384x128 .f32) (harg2 : arg2.IsWhole) (arg3 : Memref sig .tc .vmem S16384x1 .f32) (harg3 : arg3.IsWhole)
    (x0 : Vec F S2x16384x16 .f32) (x1 : Vec F S16384x1 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1)) -∗ K ⟨⟩))
      ⊢ wp frame (wpE (defs₀ (F := F)) 𝒱₀ c none) E (cc4__tcd_body arg0 harg0 arg1 harg1 arg2 harg2 arg3 harg3) K := by
  simp only [cc4__tcd_body_eq_skeleton]; unfold cc4__tcd_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data: the arrays as found; after point `t` each input buffer at its block and each output at `out0_W` of the blocks; the scoped rest untouched; what is owed and recorded constant. -/
def dats (c : Dev nD) : Dat τ (Elt F) (HIx 2) ℕ UU ℕ cfg4 c where
  A w := W c (Proc.devRef .tc (Pipeline.arrRef spec4 w))
  after w t := match w with
    | ⟨0, _⟩ => iblk W c 0 t
    | ⟨1, _⟩ => iblk W c 1 t
    | ⟨2, _⟩ => out0_2 (iblk W c 0 t) (iblk W c 1 t)
    | ⟨3, _⟩ => out0_3 (iblk W c 0 t) (iblk W c 1 t)
  Φ _ := Pipeline.scopedRest spec4 c
  q _ := fullShare
  owed _ := O c
  recorded _ := R c

theorem A_eq (c : Dev nD) (w : Fin cfg4.W) : (dats W O R c).A w = W c (Proc.devRef .tc (Pipeline.arrRef spec4 w)) := by
  dsimp only [dats]

theorem after0_0 (c : Dev nD) (t : Fin cfg4.N) : (dats W O R c).after 0 t = iblk W c 0 t := by dsimp only [dats]
theorem after0_1 (c : Dev nD) (t : Fin cfg4.N) : (dats W O R c).after 1 t = iblk W c 1 t := by dsimp only [dats]
theorem after0_2 (c : Dev nD) (t : Fin cfg4.N) : (dats W O R c).after 2 t = out0_2 (iblk W c 0 t) (iblk W c 1 t) := by dsimp only [dats]
theorem after0_3 (c : Dev nD) (t : Fin cfg4.N) : (dats W O R c).after 3 t = out0_3 (iblk W c 0 t) (iblk W c 1 t) := by dsimp only [dats]

theorem before0_0 (c : Dev nD) (t : Fin cfg4.N) (d) : (dats W O R c).before 0 t d = iblk W c 0 t :=
  before0_0_of W (dats W O R c) (A_eq W O R c 0) (after0_0 W O R c) t d
theorem before0_1 (c : Dev nD) (t : Fin cfg4.N) (d) : (dats W O R c).before 1 t d = iblk W c 1 t :=
  before0_1_of W (dats W O R c) (A_eq W O R c 1) (after0_1 W O R c) t d

/-- What the body is called with at point `t`, -/
def bodyPre (c : Dev nD) (t : Fin cfg4.N) : sProp 𝕄 :=
  iprop((dats W O R c).Φ t.castSucc ∗ (dats W O R c).owesAt none t.castSucc
    ∗ (∃ d, owns (c : Thread nD τ) (st4_0 t) fullShare ((dats W O R c).before 0 t d))
    ∗ (∃ d, owns (c : Thread nD τ) (st4_1 t) fullShare ((dats W O R c).before 1 t d))
    ∗ (∃ d, owns (c : Thread nD τ) (st4_2 t) fullShare ((dats W O R c).before 2 t d))
    ∗ (∃ d, owns (c : Thread nD τ) (st4_3 t) fullShare ((dats W O R c).before 3 t d)))

/-- and what it returns. -/
def bodyPost (c : Dev nD) (t : Fin cfg4.N) : sProp 𝕄 :=
  iprop((dats W O R c).Φ t.succ ∗ (dats W O R c).owesAt none t.succ
    ∗ owns (c : Thread nD τ) (st4_0 t) fullShare ((dats W O R c).after 0 t)
    ∗ owns (c : Thread nD τ) (st4_1 t) fullShare ((dats W O R c).after 1 t)
    ∗ owns (c : Thread nD τ) (st4_2 t) fullShare ((dats W O R c).after 2 t)
    ∗ owns (c : Thread nD τ) (st4_3 t) fullShare ((dats W O R c).after 3 t))

theorem sound_body (c : Dev nD) (t : Fin cfg4.N) :
    bodyPre W O R c t ⊢ wp frame (wpE (defs₀ (F := F)) 𝒱₀ c none) Set.univ (bodyAt4 t) (fun _ => bodyPost W O R c t) := by
  unfold bodyPre bodyPost bodyAt4
  simp only [before0_0, before0_1]
  rw [show (dats W O R c).Φ t.succ = (dats W O R c).Φ t.castSucc from rfl,
    show (dats W O R c).owesAt none t.succ = (dats W O R c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ (iblk W c 0 t) (iblk W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg4.N) :
    defs₀ (F := F) .tc cfg4.body (cfg4.bodyArgs t (cfg4.slots t)) = bodyAt4 t := by
  rfl

/-- The pipeline library's body obligation, at every point. -/
theorem body_obligation (c : Dev nD) : BodyObligation (dats W O R c) (defs₀ (F := F)) 𝒱₀ none Set.univ := fun t => by
  rw [bigSep_W4, bigSep_W4, defs₀_row]
  exact triple_restated (sound_body W O R c t) rfl .rfl fun _ => .rfl

end Cert.Proof.Region4

end
-- ==== Proof.Region6.lean ====
/-
  The normalising TensorCore call: the exponentials by their denominators, block by block.
-/
module

public import proofs.«01_k».proof.Proof.Setup
public import Idealize.ShloMosaic.Lib.Pipeline.FrameBody
public import proofs.«01_k».proof.Proof.Gen.KernelIdeal.Points

@[expose] public section

set_option maxRecDepth 16384

noncomputable section

namespace Cert.Proof.Region6

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (W c (Proc.devRef .tc (Pipeline.arrRef spec6 w)))

theorem before0_0_of {c : Dev nD} (dat : Dat τ (Elt F) (HIx 2) ℕ UU ℕ cfg6 c) (hA : dat.A 0 = W c (Proc.devRef .tc (Pipeline.arrRef spec6 0)))
    (hafter : ∀ t, dat.after 0 t = iblk W c 0 t) (t : Fin cfg6.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 2) ℕ UU ℕ cfg6 c) (hA : dat.A 1 = W c (Proc.devRef .tc (Pipeline.arrRef spec6 1)))
    (hafter : ∀ t, dat.after 1 t = iblk W c 1 t) (t : Fin cfg6.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S2048x68 := Rect.unit (s := S2048x68) ![0, 0] S2048x68.size inb_S2048x68_S2048x68_0_0
abbrev r0_1 : Rect S2048x128 := Rect.unit (s := S2048x128) ![0, 0] S2048x1.size inb_S2048x128_S2048x1_0_0
abbrev r0_2 : Rect S2048x4 := Rect.unit (s := S2048x4) ![0, 0] S2048x4.size inb_S2048x4_S2048x4_0_0
abbrev r0_3 : Rect S2048x64 := Rect.unit (s := S2048x64) ![0, 0] S2048x64.size inb_S2048x64_S2048x64_0_0

/-- Output window 2's buffer after the body, from the input blocks. -/
def out0_2 (x0 : Vec F S2048x68 .f32) (x1 : Vec F S2048x128 .f32) : Vec F S2048x4 .f32 :=
  View.canon [⟨r0_2, k6_pay2 (View.ld x0 r0_0) (View.ld x1 r0_1)⟩]

theorem cover0_2 (p0 : Vec F S2048x4 .f32) (y : S2048x4.Idx) :
    ∃ pc ∈ ([⟨r0_2, p0⟩] : List (View.Piece (Elt F) S2048x4 .f32)), y ∈ pc.1.set :=
  View.cover_of_tiled [⟨r0_2, p0⟩] S2048x4.size (by rfl) y

/-- Output window 3's buffer after the body, from the input blocks. -/
def out0_3 (x0 : Vec F S2048x68 .f32) (x1 : Vec F S2048x128 .f32) : Vec F S2048x64 .f32 :=
  View.canon [⟨r0_3, k6_pay3 (View.ld x0 r0_0) (View.ld x1 r0_1)⟩]

theorem cover0_3 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

set_option maxHeartbeats 1000000 in
/-- The body on whole staging buffers, the inputs at `xW`: it leaves the inputs and fills each output with `out0_W` of them. -/
theorem sound_kernel (c : Dev nD) (E : Set ℕ) (i : grid6.Coords) (arg1 : Memref sig .tc .vmem S2048x68 .f32) (harg1 : arg1.IsWhole) (arg2 : Memref sig .tc .vmem S2048x128 .f32) (harg2 : arg2.IsWhole) (arg3 : Memref sig .tc .vmem S2048x4 .f32) (harg3 : arg3.IsWhole) (arg4 : Memref sig .tc .vmem S2048x64 .f32) (harg4 : arg4.IsWhole)
    (x0 : Vec F S2048x68 .f32) (x1 : Vec F S2048x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) 𝒱₀ c none) E (cc6__tce_body i arg1 harg1 arg2 harg2 arg3 harg3 arg4 harg4) K := by
  simp only [cc6__tce_body_eq_skeleton]; unfold cc6__tce_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data: the arrays as found; after point `t` each input buffer at its block and each output at `out0_W` of the blocks; the scoped rest untouched; what is owed and recorded constant. -/
def dats (c : Dev nD) : Dat τ (Elt F) (HIx 2) ℕ UU ℕ cfg6 c where
  A w := W c (Proc.devRef .tc (Pipeline.arrRef spec6 w))
  after w t := match w with
    | ⟨0, _⟩ => iblk W c 0 t
    | ⟨1, _⟩ => iblk W c 1 t
    | ⟨2, _⟩ => out0_2 (iblk W c 0 t) (iblk W c 1 t)
    | ⟨3, _⟩ => out0_3 (iblk W c 0 t) (iblk W c 1 t)
  Φ _ := Pipeline.scopedRest spec6 c
  q _ := fullShare
  owed _ := O c
  recorded _ := R c

theorem A_eq (c : Dev nD) (w : Fin cfg6.W) : (dats W O R c).A w = W c (Proc.devRef .tc (Pipeline.arrRef spec6 w)) := by
  dsimp only [dats]

theorem after0_0 (c : Dev nD) (t : Fin cfg6.N) : (dats W O R c).after 0 t = iblk W c 0 t := by dsimp only [dats]
theorem after0_1 (c : Dev nD) (t : Fin cfg6.N) : (dats W O R c).after 1 t = iblk W c 1 t := by dsimp only [dats]
theorem after0_2 (c : Dev nD) (t : Fin cfg6.N) : (dats W O R c).after 2 t = out0_2 (iblk W c 0 t) (iblk W c 1 t) := by dsimp only [dats]
theorem after0_3 (c : Dev nD) (t : Fin cfg6.N) : (dats W O R c).after 3 t = out0_3 (iblk W c 0 t) (iblk W c 1 t) := by dsimp only [dats]

theorem before0_0 (c : Dev nD) (t : Fin cfg6.N) (d) : (dats W O R c).before 0 t d = iblk W c 0 t :=
  before0_0_of W (dats W O R c) (A_eq W O R c 0) (after0_0 W O R c) t d
theorem before0_1 (c : Dev nD) (t : Fin cfg6.N) (d) : (dats W O R c).before 1 t d = iblk W c 1 t :=
  before0_1_of W (dats W O R c) (A_eq W O R c 1) (after0_1 W O R c) t d

/-- What the body is called with at point `t`, -/
def bodyPre (c : Dev nD) (t : Fin cfg6.N) : sProp 𝕄 :=
  iprop((dats W O R c).Φ t.castSucc ∗ (dats W O R c).owesAt none t.castSucc
    ∗ (∃ d, owns (c : Thread nD τ) (st6_0 t) fullShare ((dats W O R c).before 0 t d))
    ∗ (∃ d, owns (c : Thread nD τ) (st6_1 t) fullShare ((dats W O R c).before 1 t d))
    ∗ (∃ d, owns (c : Thread nD τ) (st6_2 t) fullShare ((dats W O R c).before 2 t d))
    ∗ (∃ d, owns (c : Thread nD τ) (st6_3 t) fullShare ((dats W O R c).before 3 t d)))

/-- and what it returns. -/
def bodyPost (c : Dev nD) (t : Fin cfg6.N) : sProp 𝕄 :=
  iprop((dats W O R c).Φ t.succ ∗ (dats W O R c).owesAt none t.succ
    ∗ owns (c : Thread nD τ) (st6_0 t) fullShare ((dats W O R c).after 0 t)
    ∗ owns (c : Thread nD τ) (st6_1 t) fullShare ((dats W O R c).after 1 t)
    ∗ owns (c : Thread nD τ) (st6_2 t) fullShare ((dats W O R c).after 2 t)
    ∗ owns (c : Thread nD τ) (st6_3 t) fullShare ((dats W O R c).after 3 t))

theorem sound_body (c : Dev nD) (t : Fin cfg6.N) :
    bodyPre W O R c t ⊢ wp frame (wpE (defs₀ (F := F)) 𝒱₀ c none) Set.univ (bodyAt6 t) (fun _ => bodyPost W O R c t) := by
  unfold bodyPre bodyPost bodyAt6
  simp only [before0_0, before0_1]
  rw [show (dats W O R c).Φ t.succ = (dats W O R c).Φ t.castSucc from rfl,
    show (dats W O R c).owesAt none t.succ = (dats W O R c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid6.coords t) _ _ _ _ _ _ _ _ (iblk W c 0 t) (iblk W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg6.N) :
    defs₀ (F := F) .tc cfg6.body (cfg6.bodyArgs t (cfg6.slots t)) = bodyAt6 t := by
  rfl

/-- The pipeline library's body obligation, at every point. -/
theorem body_obligation (c : Dev nD) : BodyObligation (dats W O R c) (defs₀ (F := F)) 𝒱₀ none Set.univ := fun t => by
  rw [bigSep_W6, bigSep_W6, defs₀_row]
  exact triple_restated (sound_body W O R c t) rfl .rfl fun _ => .rfl

end Cert.Proof.Region6

end
-- ==== Proof.Regions.lean ====
/-
  The pipelined calls' records: each takes the core's unscoped buffers from a valuation to the same one with the call's
  output arrays rewritten.
-/
module

public import proofs.«01_k».proof.Proof.Steps
public import proofs.«01_k».proof.Proof.RegionFin
public import proofs.«01_k».proof.Proof.Region3
public import proofs.«01_k».proof.Proof.Region4
public import proofs.«01_k».proof.Proof.Region6

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F] [∀ e, Nonempty (Elt F e)]

local notation "𝕄" => MT nD τ sig (HIx 2) (Elt F) ℕ UU ℕ

theorem of_eq {P Q : sProp 𝕄} (h : P = Q) : P ⊢ Q := by rw [h]

/-- A core buffer as a device buffer. -/
abbrev tcr (b : Ref sig .tc) : DevRef τ sig := Proc.devRef .tc b

/-- The proof data of the pipelined calls, all from one valuation. -/
def rdats (W : Dev nD → Valuation τ sig (Elt F)) (n : ℕ) :
    (q : Fin 5) → (c : Dev nD) → Pipeline.RDat τ (Elt F) (HIx 2) ℕ UU ℕ (Pipeline.pin (pcfgs (F := F)) adm q) c
  | 0 => fun c => Region0.rdats W (Oc (F := F) n) (recd (F := F) n) c
  | 1 => fun c => Region1.rdats W (Oc (F := F) n) (recd (F := F) n) c
  | 2 => fun c => (Region3.dats W (Oc (F := F) n) (recd (F := F) n) c).toR
  | 3 => fun c => (Region4.dats W (Oc (F := F) n) (recd (F := F) n) c).toR
  | 4 => fun c => (Region6.dats W (Oc (F := F) n) (recd (F := F) n) c).toR

/-! ## The first two calls -/

/-- The buffers after the squares' call. -/
def upd0 (W : Dev nD → Valuation τ sig (Elt F)) (n : ℕ) (c : Dev nD) : Valuation τ sig (Elt F) :=
  Function.update (W c) (tcr main_v22) (Region0.sumQ W c 160)

theorem upd0_of_ne (W : Dev nD → Valuation τ sig (Elt F)) (n : ℕ) (c : Dev nD) {b : DevRef τ sig} (h0 : b ≠ tcr main_v22) : upd0 W n c b = W c b := by
  unfold upd0
  rw [Function.update_of_ne h0]

theorem finalA (W : Dev nD → Valuation τ sig (Elt F)) (n : ℕ) (c : Dev nD) (A : (w : Fin cfg0.W) → Buf (Elt F) ((cfg0.win w).arr.view.loc (c.tc : Thread nD τ)))
    (hA : ∀ w, (Region0.rdats W (Oc (F := F) n) (recd (F := F) n) c).ArrAt w cfg0.N (A w)) (w : Fin 3) :
    A w = upd0 W n c (tcr (Pipeline.arrRef spec0 w)) := by
  match w with
  | 0 =>
    have h := hA 0
    rw [(Region0.rdats W (Oc (F := F) n) (recd (F := F) n) c).ArrAt_in 0 rfl] at h
    refine h.trans ?_
    rw [upd0_of_ne W n c (by decide)]
    exact Region0.A_eq W _ _ c _
  | 1 =>
    have h := hA 1
    rw [(Region0.rdats W (Oc (F := F) n) (recd (F := F) n) c).ArrAt_in 1 rfl] at h
    refine h.trans ?_
    rw [upd0_of_ne W n c (by decide)]
    exact Region0.A_eq W _ _ c _
  | 2 =>
    refine (Region0.fin2 W _ _ c _ (hA 2)).trans ?_
    show _ = upd0 W n c (tcr main_v22)
    unfold upd0
    rw [Function.update_self]

/-- The buffers after the tables' call. -/
def upd1 (W : Dev nD → Valuation τ sig (Elt F)) (n : ℕ) (c : Dev nD) : Valuation τ sig (Elt F) :=
  Function.update (Function.update (Function.update (W c) (tcr main_v36_0) (Region1.F13 W c)) (tcr main_v36_1) (Region1.F14 W c)) (tcr main_v36_2) (Region1.O15 W c)

theorem upd1_of_ne (W : Dev nD → Valuation τ sig (Elt F)) (n : ℕ) (c : Dev nD) {b : DevRef τ sig} (h0 : b ≠ tcr main_v36_0) (h1 : b ≠ tcr main_v36_1) (h2 : b ≠ tcr main_v36_2) :
    upd1 W n c b = W c b := by
  unfold upd1
  rw [Function.update_of_ne h2, Function.update_of_ne h1, Function.update_of_ne h0]
theorem upd1_0 (W : Dev nD → Valuation τ sig (Elt F)) (n : ℕ) (c : Dev nD) : upd1 W n c (tcr main_v36_0) = Region1.F13 W c := by
  unfold upd1
  rw [Function.update_of_ne (show tcr main_v36_0 ≠ tcr main_v36_2 by decide), Function.update_of_ne (show tcr main_v36_0 ≠ tcr main_v36_1 by decide), Function.update_self]
theorem upd1_1 (W : Dev nD → Valuation τ sig (Elt F)) (n : ℕ) (c : Dev nD) : upd1 W n c (tcr main_v36_1) = Region1.F14 W c := by
  unfold upd1
  rw [Function.update_of_ne (show tcr main_v36_1 ≠ tcr main_v36_2 by decide), Function.update_self]
theorem upd1_2 (W : Dev nD → Valuation τ sig (Elt F)) (n : ℕ) (c : Dev nD) : upd1 W n c (tcr main_v36_2) = Region1.O15 W c := by
  unfold upd1
  rw [Function.update_self]

theorem forall16 {p : Fin 16 → Prop} (h0 : p 0) (h1 : p 1) (h2 : p 2) (h3 : p 3) (h4 : p 4) (h5 : p 5) (h6 : p 6) (h7 : p 7) (h8 : p 8) (h9 : p 9) (h10 : p 10) (h11 : p 11) (h12 : p 12) (h13 : p 13) (h14 : p 14) (h15 : p 15) (w : Fin 16) : p w := by
  fin_cases w <;> assumption
theorem finalB0 (W : Dev nD → Valuation τ sig (Elt F)) (n : ℕ) (c : Dev nD) (G) (h : (Region1.rdats W (Oc (F := F) n) (recd (F := F) n) c).ArrAt 0 cfg1.N G) :
    G = upd1 W n c (tcr (Pipeline.arrRef spec1 0)) := by
  rw [(Region1.rdats W (Oc (F := F) n) (recd (F := F) n) c).ArrAt_in 0 rfl] at h
  refine h.trans ?_
  rw [upd1_of_ne W n c (by decide) (by decide) (by decide)]
  exact Region1.A_eq W _ _ c _
theorem finalB1 (W : Dev nD → Valuation τ sig (Elt F)) (n : ℕ) (c : Dev nD) (G) (h : (Region1.rdats W (Oc (F := F) n) (recd (F := F) n) c).ArrAt 1 cfg1.N G) :
    G = upd1 W n c (tcr (Pipeline.arrRef spec1 1)) := by
  rw [(Region1.rdats W (Oc (F := F) n) (recd (F := F) n) c).ArrAt_in 1 rfl] at h
  refine h.trans ?_
  rw [upd1_of_ne W n c (by decide) (by decide) (by decide)]
  exact Region1.A_eq W _ _ c _
theorem finalB2 (W : Dev nD → Valuation τ sig (Elt F)) (n : ℕ) (c : Dev nD) (G) (h : (Region1.rdats W (Oc (F := F) n) (recd (F := F) n) c).ArrAt 2 cfg1.N G) :
    G = upd1 W n c (tcr (Pipeline.arrRef spec1 2)) := by
  rw [(Region1.rdats W (Oc (F := F) n) (recd (F := F) n) c).ArrAt_in 2 rfl] at h
  refine h.trans ?_
  rw [upd1_of_ne W n c (by decide) (by decide) (by decide)]
  exact Region1.A_eq W _ _ c _
theorem finalB3 (W : Dev nD → Valuation τ sig (Elt F)) (n : ℕ) (c : Dev nD) (G) (h : (Region1.rdats W (Oc (F := F) n) (recd (F := F) n) c).ArrAt 3 cfg1.N G) :
    G = upd1 W n c (tcr (Pipeline.arrRef spec1 3)) := by
  rw [(Region1.rdats W (Oc (F := F) n) (recd (F := F) n) c).ArrAt_in 3 rfl] at h
  refine h.trans ?_
  rw [upd1_of_ne W n c (by decide) (by decide) (by decide)]
  exact Region1.A_eq W _ _ c _
theorem finalB4 (W : Dev nD → Valuation τ sig (Elt F)) (n : ℕ) (c : Dev nD) (G) (h : (Region1.rdats W (Oc (F := F) n) (recd (F := F) n) c).ArrAt 4 cfg1.N G) :
    G = upd1 W n c (tcr (Pipeline.arrRef spec1 4)) := by
  rw [(Region1.rdats W (Oc (F := F) n) (recd (F := F) n) c).ArrAt_in 4 rfl] at h
  refine h.trans ?_
  rw [upd1_of_ne W n c (by decide) (by decide) (by decide)]
  exact Region1.A_eq W _ _ c _
theorem finalB5 (W : Dev nD → Valuation τ sig (Elt F)) (n : ℕ) (c : Dev nD) (G) (h : (Region1.rdats W (Oc (F := F) n) (recd (F := F) n) c).ArrAt 5 cfg1.N G) :
    G = upd1 W n c (tcr (Pipeline.arrRef spec1 5)) := by
  rw [(Region1.rdats W (Oc (F := F) n) (recd (F := F) n) c).ArrAt_in 5 rfl] at h
  refine h.trans ?_
  rw [upd1_of_ne W n c (by decide) (by decide) (by decide)]
  exact Region1.A_eq W _ _ c _
theorem finalB6 (W : Dev nD → Valuation τ sig (Elt F)) (n : ℕ) (c : Dev nD) (G) (h : (Region1.rdats W (Oc (F := F) n) (recd (F := F) n) c).ArrAt 6 cfg1.N G) :
    G = upd1 W n c (tcr (Pipeline.arrRef spec1 6)) := by
  rw [(Region1.rdats W (Oc (F := F) n) (recd (F := F) n) c).ArrAt_in 6 rfl] at h
  refine h.trans ?_
  rw [upd1_of_ne W n c (by decide) (by decide) (by decide)]
  exact Region1.A_eq W _ _ c _
theorem finalB7 (W : Dev nD → Valuation τ sig (Elt F)) (n : ℕ) (c : Dev nD) (G) (h : (Region1.rdats W (Oc (F := F) n) (recd (F := F) n) c).ArrAt 7 cfg1.N G) :
    G = upd1 W n c (tcr (Pipeline.arrRef spec1 7)) := by
  rw [(Region1.rdats W (Oc (F := F) n) (recd (F := F) n) c).ArrAt_in 7 rfl] at h
  refine h.trans ?_
  rw [upd1_of_ne W n c (by decide) (by decide) (by decide)]
  exact Region1.A_eq W _ _ c _
theorem finalB8 (W : Dev nD → Valuation τ sig (Elt F)) (n : ℕ) (c : Dev nD) (G) (h : (Region1.rdats W (Oc (F := F) n) (recd (F := F) n) c).ArrAt 8 cfg1.N G) :
    G = upd1 W n c (tcr (Pipeline.arrRef spec1 8)) := by
  rw [(Region1.rdats W (Oc (F := F) n) (recd (F := F) n) c).ArrAt_in 8 rfl] at h
  refine h.trans ?_
  rw [upd1_of_ne W n c (by decide) (by decide) (by decide)]
  exact Region1.A_eq W _ _ c _
theorem finalB9 (W : Dev nD → Valuation τ sig (Elt F)) (n : ℕ) (c : Dev nD) (G) (h : (Region1.rdats W (Oc (F := F) n) (recd (F := F) n) c).ArrAt 9 cfg1.N G) :
    G = upd1 W n c (tcr (Pipeline.arrRef spec1 9)) := by
  rw [(Region1.rdats W (Oc (F := F) n) (recd (F := F) n) c).ArrAt_in 9 rfl] at h
  refine h.trans ?_
  rw [upd1_of_ne W n c (by decide) (by decide) (by decide)]
  exact Region1.A_eq W _ _ c _
theorem finalB10 (W : Dev nD → Valuation τ sig (Elt F)) (n : ℕ) (c : Dev nD) (G) (h : (Region1.rdats W (Oc (F := F) n) (recd (F := F) n) c).ArrAt 10 cfg1.N G) :
    G = upd1 W n c (tcr (Pipeline.arrRef spec1 10)) := by
  rw [(Region1.rdats W (Oc (F := F) n) (recd (F := F) n) c).ArrAt_in 10 rfl] at h
  refine h.trans ?_
  rw [upd1_of_ne W n c (by decide) (by decide) (by decide)]
  exact Region1.A_eq W _ _ c _
theorem finalB11 (W : Dev nD → Valuation τ sig (Elt F)) (n : ℕ) (c : Dev nD) (G) (h : (Region1.rdats W (Oc (F := F) n) (recd (F := F) n) c).ArrAt 11 cfg1.N G) :
    G = upd1 W n c (tcr (Pipeline.arrRef spec1 11)) := by
  rw [(Region1.rdats W (Oc (F := F) n) (recd (F := F) n) c).ArrAt_in 11 rfl] at h
  refine h.trans ?_
  rw [upd1_of_ne W n c (by decide) (by decide) (by decide)]
  exact Region1.A_eq W _ _ c _
theorem finalB12 (W : Dev nD → Valuation τ sig (Elt F)) (n : ℕ) (c : Dev nD) (G) (h : (Region1.rdats W (Oc (F := F) n) (recd (F := F) n) c).ArrAt 12 cfg1.N G) :
    G = upd1 W n c (tcr (Pipeline.arrRef spec1 12)) := by
  rw [(Region1.rdats W (Oc (F := F) n) (recd (F := F) n) c).ArrAt_in 12 rfl] at h
  refine h.trans ?_
  rw [upd1_of_ne W n c (by decide) (by decide) (by decide)]
  exact Region1.A_eq W _ _ c _
theorem finalB13 (W : Dev nD → Valuation τ sig (Elt F)) (n : ℕ) (c : Dev nD) (G) (h : (Region1.rdats W (Oc (F := F) n) (recd (F := F) n) c).ArrAt 13 cfg1.N G) :
    G = upd1 W n c (tcr (Pipeline.arrRef spec1 13)) := (Region1.fin13 W _ _ c _ h).trans (upd1_0 W n c).symm
theorem finalB14 (W : Dev nD → Valuation τ sig (Elt F)) (n : ℕ) (c : Dev nD) (G) (h : (Region1.rdats W (Oc (F := F) n) (recd (F := F) n) c).ArrAt 14 cfg1.N G) :
    G = upd1 W n c (tcr (Pipeline.arrRef spec1 14)) := (Region1.fin14 W _ _ c _ h).trans (upd1_1 W n c).symm
theorem finalB15 (W : Dev nD → Valuation τ sig (Elt F)) (n : ℕ) (c : Dev nD) (G) (h : (Region1.rdats W (Oc (F := F) n) (recd (F := F) n) c).ArrAt 15 cfg1.N G) :
    G = upd1 W n c (tcr (Pipeline.arrRef spec1 15)) := (Region1.fin15 W _ _ c _ h).trans (upd1_2 W n c).symm

set_option maxHeartbeats 2000000 in
theorem finalB (W : Dev nD → Valuation τ sig (Elt F)) (n : ℕ) (c : Dev nD) (A : (w : Fin cfg1.W) → Buf (Elt F) ((cfg1.win w).arr.view.loc (c.tc : Thread nD τ)))
    (hA : ∀ w, (Region1.rdats W (Oc (F := F) n) (recd (F := F) n) c).ArrAt w cfg1.N (A w)) : ∀ w : Fin cfg1.W, A w = upd1 W n c (tcr (Pipeline.arrRef spec1 w)) :=
  forall16 (p := fun w : Fin 16 => A w = upd1 W n c (tcr (Pipeline.arrRef spec1 w)))
    (finalB0 W n c _ (hA 0))
    (finalB1 W n c _ (hA 1))
    (finalB2 W n c _ (hA 2))
    (finalB3 W n c _ (hA 3))
    (finalB4 W n c _ (hA 4))
    (finalB5 W n c _ (hA 5))
    (finalB6 W n c _ (hA 6))
    (finalB7 W n c _ (hA 7))
    (finalB8 W n c _ (hA 8))
    (finalB9 W n c _ (hA 9))
    (finalB10 W n c _ (hA 10))
    (finalB11 W n c _ (hA 11))
    (finalB12 W n c _ (hA 12))
    (finalB13 W n c _ (hA 13))
    (finalB14 W n c _ (hA 14))
    (finalB15 W n c _ (hA 15))

theorem mem0_v22 : tcr main_v22 ∈ Pipeline.arrRefs (τ := τ) spec0 := by decide
theorem mem1_v36_0 : tcr main_v36_0 ∈ Pipeline.arrRefs (τ := τ) spec1 := by decide
theorem mem1_v36_1 : tcr main_v36_1 ∈ Pipeline.arrRefs (τ := τ) spec1 := by decide
theorem mem1_v36_2 : tcr main_v36_2 ∈ Pipeline.arrRefs (τ := τ) spec1 := by decide

theorem share_full0 (W : Dev nD → Valuation τ sig (Elt F)) (n : ℕ) (c : Dev nD) (w : Fin (Pipeline.pin (pcfgs (F := F)) adm 0).W) : (rdats W n 0 c).share w = fullShare := by
  unfold Pipeline.RDat.share
  split_ifs <;> rfl

theorem share_full1 (W : Dev nD → Valuation τ sig (Elt F)) (n : ℕ) (c : Dev nD) (w : Fin (Pipeline.pin (pcfgs (F := F)) adm 1).W) : (rdats W n 1 c).share w = fullShare := by
  unfold Pipeline.RDat.share
  split_ifs <;> rfl

theorem phi0_0 (W : Dev nD → Valuation τ sig (Elt F)) (n : ℕ) (c : Dev nD) : (rdats W n 0 c).Φ 0 = (Pipeline.scopedRest (pcfgs (F := F) 0).spec c : sProp 𝕄) := rfl
theorem phiN_0 (W : Dev nD → Valuation τ sig (Elt F)) (n : ℕ) (c : Dev nD) :
    (rdats W n 0 c).Φ (Fin.last (Pipeline.pin (pcfgs (F := F)) adm 0).N) ⊢ (Pipeline.scopedRest (pcfgs (F := F) 0).spec c : sProp 𝕄) := of_eq rfl

section
attribute [local irreducible] Region1.Phi Pipeline.scopedRest
set_option maxHeartbeats 1000000 in
/-- The record. -/
def record0 (W : Dev nD → Valuation τ sig (Elt F)) (n : ℕ) :
    Pipeline.RDat.RegionSeg (pcfgs (F := F)) adm (rdats W n) none (defs₀ (F := F)) 𝒱₀ (K (F := F)).L (K (F := F)).lev 0 :=
  regionR (pcfgs (F := F)) adm (rdats W n) none (defs₀ (F := F)) 𝒱₀ (K (F := F)).L (K (F := F)).lev 0
    (Oc (F := F) n) (recd (F := F) n) (Pipeline.ucRefs τ sig) (Pipeline.arrRefs_sub_ucRefs spec0 winFacts0.arr_unscoped)
    launch0.toP rfl
    (fun c => Region0.body_obligation W (Oc (F := F) n) (recd (F := F) n) c)
    (fun _ _ => rfl) (fun _ _ => rfl) (fun c w => share_full0 W n c w)
    (fun _ => 0) (fun _ _ _ => Finset.mem_univ _) (fun _ _ _ => Nat.zero_le _)
    (fun c g i h => Otc_pos n c g i h) W (upd0 W n)
    (fun c w => Region0.A_eq W (Oc (F := F) n) (recd (F := F) n) c w)
    (fun c A hA w => finalA W n c A hA w)
    (fun c b hb => (upd0_of_ne W n c (fun e => (Finset.mem_sdiff.mp hb).2 (by rw [e]; exact mem0_v22))).symm)
    (fun c => of_eq (phi0_0 W n c).symm) (phiN_0 W n)
end

theorem phi0_1 (W : Dev nD → Valuation τ sig (Elt F)) (n : ℕ) (c : Dev nD) : (rdats W n 1 c).Φ 0 = (Pipeline.scopedRest (pcfgs (F := F) 1).spec c : sProp 𝕄) := by
  show Region1.Phi W c 0 = _
  unfold Region1.Phi; rw [if_pos rfl]; rfl
theorem phiN_1 (W : Dev nD → Valuation τ sig (Elt F)) (n : ℕ) (c : Dev nD) :
    (rdats W n 1 c).Φ (Fin.last (Pipeline.pin (pcfgs (F := F)) adm 1).N) ⊢ (Pipeline.scopedRest (pcfgs (F := F) 1).spec c : sProp 𝕄) := by
  show Region1.Phi W c 32 ⊢ Pipeline.scopedRest spec1 c
  unfold Region1.Phi
  rw [if_neg (by decide), scopedRest1_split]
  iintro ⟨Hs, Hr⟩
  isplitl [Hs]
  · iapply (Region1.scr_out c _); iexact Hs
  iexact Hr

section
attribute [local irreducible] Region1.Phi Pipeline.scopedRest
set_option maxHeartbeats 1000000 in
/-- The record. -/
def record1 (W : Dev nD → Valuation τ sig (Elt F)) (n : ℕ) :
    Pipeline.RDat.RegionSeg (pcfgs (F := F)) adm (rdats W n) none (defs₀ (F := F)) 𝒱₀ (K (F := F)).L (K (F := F)).lev 1 :=
  regionR (pcfgs (F := F)) adm (rdats W n) none (defs₀ (F := F)) 𝒱₀ (K (F := F)).L (K (F := F)).lev 1
    (Oc (F := F) n) (recd (F := F) n) (Pipeline.ucRefs τ sig) (Pipeline.arrRefs_sub_ucRefs spec1 winFacts1.arr_unscoped)
    launch1.toP rfl
    (fun c => Region1.body_obligation W (Oc (F := F) n) (recd (F := F) n) c)
    (fun _ _ => rfl) (fun _ _ => rfl) (fun c w => share_full1 W n c w)
    (fun _ => 0) (fun _ _ _ => Finset.mem_univ _) (fun _ _ _ => Nat.zero_le _)
    (fun c g i h => Otc_pos n c g i h) W (upd1 W n)
    (fun c w => Region1.A_eq W (Oc (F := F) n) (recd (F := F) n) c w)
    (fun c A hA w => finalB W n c A hA w)
    (fun c b hb => (upd1_of_ne W n c (fun e => (Finset.mem_sdiff.mp hb).2 (by rw [e]; exact mem1_v36_0)) (fun e => (Finset.mem_sdiff.mp hb).2 (by rw [e]; exact mem1_v36_1)) (fun e => (Finset.mem_sdiff.mp hb).2 (by rw [e]; exact mem1_v36_2))).symm)
    (fun c => of_eq (phi0_1 W n c).symm) (phiN_1 W n)
end

/-! ## Call 1 -/

/-- The buffers after call 1. -/
def upd3 (W : Dev nD → Valuation τ sig (Elt F)) (n : ℕ) (c : Dev nD) : Valuation τ sig (Elt F) :=
  Function.update (Function.update (W c) (tcr main_v42_0) ((Region3.dats W (Oc (F := F) n) (recd (F := F) n) c).arrAt 6 cfg3.N)) (tcr main_v42_1) ((Region3.dats W (Oc (F := F) n) (recd (F := F) n) c).arrAt 7 cfg3.N)

theorem upd3_of_ne (W : Dev nD → Valuation τ sig (Elt F)) (n : ℕ) (c : Dev nD) {b : DevRef τ sig} (h0 : b ≠ tcr main_v42_0) (h1 : b ≠ tcr main_v42_1) :
    upd3 W n c b = W c b := by
  unfold upd3
  rw [Function.update_of_ne h1, Function.update_of_ne h0]

theorem final1 (W : Dev nD → Valuation τ sig (Elt F)) (n : ℕ) (c : Dev nD) (w : Fin 8) :
    (Region3.dats W (Oc (F := F) n) (recd (F := F) n) c).arrAt w cfg3.N = upd3 W n c (tcr (Pipeline.arrRef spec3 w)) := by
  match w with
  | 0 =>
    refine ((Region3.dats W (Oc (F := F) n) (recd (F := F) n) c).arrAt_in 0 rfl _).trans ?_
    rw [upd3_of_ne W n c (by decide) (by decide)]
    exact Region3.A_eq W _ _ c _
  | 1 =>
    refine ((Region3.dats W (Oc (F := F) n) (recd (F := F) n) c).arrAt_in 1 rfl _).trans ?_
    rw [upd3_of_ne W n c (by decide) (by decide)]
    exact Region3.A_eq W _ _ c _
  | 2 =>
    refine ((Region3.dats W (Oc (F := F) n) (recd (F := F) n) c).arrAt_in 2 rfl _).trans ?_
    rw [upd3_of_ne W n c (by decide) (by decide)]
    exact Region3.A_eq W _ _ c _
  | 3 =>
    refine ((Region3.dats W (Oc (F := F) n) (recd (F := F) n) c).arrAt_in 3 rfl _).trans ?_
    rw [upd3_of_ne W n c (by decide) (by decide)]
    exact Region3.A_eq W _ _ c _
  | 4 =>
    refine ((Region3.dats W (Oc (F := F) n) (recd (F := F) n) c).arrAt_in 4 rfl _).trans ?_
    rw [upd3_of_ne W n c (by decide) (by decide)]
    exact Region3.A_eq W _ _ c _
  | 5 =>
    refine ((Region3.dats W (Oc (F := F) n) (recd (F := F) n) c).arrAt_in 5 rfl _).trans ?_
    rw [upd3_of_ne W n c (by decide) (by decide)]
    exact Region3.A_eq W _ _ c _
  | 6 =>
    show _ = upd3 W n c (tcr main_v42_0)
    unfold upd3
    rw [Function.update_of_ne (show tcr main_v42_0 ≠ tcr main_v42_1 by decide), Function.update_self]
  | 7 =>
    show _ = upd3 W n c (tcr main_v42_1)
    unfold upd3
    rw [Function.update_self]

theorem mem3_main_v42_0 : tcr main_v42_0 ∈ Pipeline.arrRefs (τ := τ) spec3 := by decide

theorem mem3_main_v42_1 : tcr main_v42_1 ∈ Pipeline.arrRefs (τ := τ) spec3 := by decide

theorem spec_eq3 : (pcfgs (F := F) 2).spec = spec3 := rfl

theorem phi_dat3 (W : Dev nD → Valuation τ sig (Elt F)) (n : ℕ) (c : Dev nD) (t : Fin (cfg3.N + 1)) :
    (Region3.dats W (Oc (F := F) n) (recd (F := F) n) c).Φ t = (Pipeline.scopedRest spec3 c : sProp 𝕄) := rfl

theorem phi_toR3 (W : Dev nD → Valuation τ sig (Elt F)) (n : ℕ) (c : Dev nD) (t : Fin (cfg3.N + 1)) :
    (Region3.dats W (Oc (F := F) n) (recd (F := F) n) c).toR.Φ t = (Pipeline.scopedRest spec3 c : sProp 𝕄) := phi_dat3 W n c t

theorem phi3 (W : Dev nD → Valuation τ sig (Elt F)) (n : ℕ) (c : Dev nD) (t : Fin ((Pipeline.pin (pcfgs (F := F)) adm 2).N + 1)) :
    (rdats W n 2 c).Φ t = (Pipeline.scopedRest (pcfgs (F := F) 2).spec c : sProp 𝕄) := by
  rw [spec_eq3]
  exact phi_toR3 W n c t

set_option maxHeartbeats 1000000 in
/-- Call 1's record. -/
def record3 (W : Dev nD → Valuation τ sig (Elt F)) (n : ℕ) :
    Pipeline.RDat.RegionSeg (pcfgs (F := F)) adm (rdats W n) none (defs₀ (F := F)) 𝒱₀ (K (F := F)).L (K (F := F)).lev 2 :=
  regionR₀ (pcfgs (F := F)) adm (rdats W n) none (defs₀ (F := F)) 𝒱₀ (K (F := F)).L (K (F := F)).lev 2
    (Oc (F := F) n) (recd (F := F) n) (Pipeline.ucRefs τ sig) (Pipeline.arrRefs_sub_ucRefs spec3 winFacts3.arr_unscoped)
    launch3.toP rfl
    (fun c => ((Region3.body_obligation W (Oc (F := F) n) (recd (F := F) n) c).loose).toR)
    (fun _ _ => rfl) (fun _ _ => rfl) (fun c w => (Region3.dats W (Oc (F := F) n) (recd (F := F) n) c).share_full (fun _ => rfl) w)
    (fun _ => 0) (fun _ _ _ => Finset.mem_univ _) (fun _ _ _ => Nat.zero_le _)
    (fun c g i h => Otc_pos n c g i h) W (upd3 W n)
    (fun c w => Region3.A_eq W (Oc (F := F) n) (recd (F := F) n) c w)
    (fun c A hA w => ((Region3.dats W (Oc (F := F) n) (recd (F := F) n) c).toR_arrAt w _ (A w) (hA w)).trans (final1 W n c w))
    (fun c b hb => (upd3_of_ne W n c (fun e => (Finset.mem_sdiff.mp hb).2 (by rw [e]; exact mem3_main_v42_0)) (fun e => (Finset.mem_sdiff.mp hb).2 (by rw [e]; exact mem3_main_v42_1))).symm)
    (phi3 W n)

/-! ## Call 2 -/

/-- The buffers after call 2. -/
def upd4 (W : Dev nD → Valuation τ sig (Elt F)) (n : ℕ) (c : Dev nD) : Valuation τ sig (Elt F) :=
  Function.update (Function.update (W c) (tcr main_v54_0) ((Region4.dats W (Oc (F := F) n) (recd (F := F) n) c).arrAt 2 cfg4.N)) (tcr main_v54_1) ((Region4.dats W (Oc (F := F) n) (recd (F := F) n) c).arrAt 3 cfg4.N)

theorem upd4_of_ne (W : Dev nD → Valuation τ sig (Elt F)) (n : ℕ) (c : Dev nD) {b : DevRef τ sig} (h0 : b ≠ tcr main_v54_0) (h1 : b ≠ tcr main_v54_1) :
    upd4 W n c b = W c b := by
  unfold upd4
  rw [Function.update_of_ne h1, Function.update_of_ne h0]

theorem final2 (W : Dev nD → Valuation τ sig (Elt F)) (n : ℕ) (c : Dev nD) (w : Fin 4) :
    (Region4.dats W (Oc (F := F) n) (recd (F := F) n) c).arrAt w cfg4.N = upd4 W n c (tcr (Pipeline.arrRef spec4 w)) := by
  match w with
  | 0 =>
    refine ((Region4.dats W (Oc (F := F) n) (recd (F := F) n) c).arrAt_in 0 rfl _).trans ?_
    rw [upd4_of_ne W n c (by decide) (by decide)]
    exact Region4.A_eq W _ _ c _
  | 1 =>
    refine ((Region4.dats W (Oc (F := F) n) (recd (F := F) n) c).arrAt_in 1 rfl _).trans ?_
    rw [upd4_of_ne W n c (by decide) (by decide)]
    exact Region4.A_eq W _ _ c _
  | 2 =>
    show _ = upd4 W n c (tcr main_v54_0)
    unfold upd4
    rw [Function.update_of_ne (show tcr main_v54_0 ≠ tcr main_v54_1 by decide), Function.update_self]
  | 3 =>
    show _ = upd4 W n c (tcr main_v54_1)
    unfold upd4
    rw [Function.update_self]

theorem mem4_main_v54_0 : tcr main_v54_0 ∈ Pipeline.arrRefs (τ := τ) spec4 := by decide

theorem mem4_main_v54_1 : tcr main_v54_1 ∈ Pipeline.arrRefs (τ := τ) spec4 := by decide

theorem spec_eq4 : (pcfgs (F := F) 3).spec = spec4 := rfl

theorem phi_dat4 (W : Dev nD → Valuation τ sig (Elt F)) (n : ℕ) (c : Dev nD) (t : Fin (cfg4.N + 1)) :
    (Region4.dats W (Oc (F := F) n) (recd (F := F) n) c).Φ t = (Pipeline.scopedRest spec4 c : sProp 𝕄) := rfl

theorem phi_toR4 (W : Dev nD → Valuation τ sig (Elt F)) (n : ℕ) (c : Dev nD) (t : Fin (cfg4.N + 1)) :
    (Region4.dats W (Oc (F := F) n) (recd (F := F) n) c).toR.Φ t = (Pipeline.scopedRest spec4 c : sProp 𝕄) := phi_dat4 W n c t

theorem phi4 (W : Dev nD → Valuation τ sig (Elt F)) (n : ℕ) (c : Dev nD) (t : Fin ((Pipeline.pin (pcfgs (F := F)) adm 3).N + 1)) :
    (rdats W n 3 c).Φ t = (Pipeline.scopedRest (pcfgs (F := F) 3).spec c : sProp 𝕄) := by
  rw [spec_eq4]
  exact phi_toR4 W n c t

set_option maxHeartbeats 1000000 in
/-- Call 2's record. -/
def record4 (W : Dev nD → Valuation τ sig (Elt F)) (n : ℕ) :
    Pipeline.RDat.RegionSeg (pcfgs (F := F)) adm (rdats W n) none (defs₀ (F := F)) 𝒱₀ (K (F := F)).L (K (F := F)).lev 3 :=
  regionR₀ (pcfgs (F := F)) adm (rdats W n) none (defs₀ (F := F)) 𝒱₀ (K (F := F)).L (K (F := F)).lev 3
    (Oc (F := F) n) (recd (F := F) n) (Pipeline.ucRefs τ sig) (Pipeline.arrRefs_sub_ucRefs spec4 winFacts4.arr_unscoped)
    launch4.toP rfl
    (fun c => ((Region4.body_obligation W (Oc (F := F) n) (recd (F := F) n) c).loose).toR)
    (fun _ _ => rfl) (fun _ _ => rfl) (fun c w => (Region4.dats W (Oc (F := F) n) (recd (F := F) n) c).share_full (fun _ => rfl) w)
    (fun _ => 0) (fun _ _ _ => Finset.mem_univ _) (fun _ _ _ => Nat.zero_le _)
    (fun c g i h => Otc_pos n c g i h) W (upd4 W n)
    (fun c w => Region4.A_eq W (Oc (F := F) n) (recd (F := F) n) c w)
    (fun c A hA w => ((Region4.dats W (Oc (F := F) n) (recd (F := F) n) c).toR_arrAt w _ (A w) (hA w)).trans (final2 W n c w))
    (fun c b hb => (upd4_of_ne W n c (fun e => (Finset.mem_sdiff.mp hb).2 (by rw [e]; exact mem4_main_v54_0)) (fun e => (Finset.mem_sdiff.mp hb).2 (by rw [e]; exact mem4_main_v54_1))).symm)
    (phi4 W n)

/-! ## Call 4 -/

/-- The buffers after call 4. -/
def upd6 (W : Dev nD → Valuation τ sig (Elt F)) (n : ℕ) (c : Dev nD) : Valuation τ sig (Elt F) :=
  Function.update (Function.update (W c) (tcr main_v56_0) ((Region6.dats W (Oc (F := F) n) (recd (F := F) n) c).arrAt 2 cfg6.N)) (tcr main_v56_1) ((Region6.dats W (Oc (F := F) n) (recd (F := F) n) c).arrAt 3 cfg6.N)

theorem upd6_of_ne (W : Dev nD → Valuation τ sig (Elt F)) (n : ℕ) (c : Dev nD) {b : DevRef τ sig} (h0 : b ≠ tcr main_v56_0) (h1 : b ≠ tcr main_v56_1) :
    upd6 W n c b = W c b := by
  unfold upd6
  rw [Function.update_of_ne h1, Function.update_of_ne h0]

theorem final4 (W : Dev nD → Valuation τ sig (Elt F)) (n : ℕ) (c : Dev nD) (w : Fin 4) :
    (Region6.dats W (Oc (F := F) n) (recd (F := F) n) c).arrAt w cfg6.N = upd6 W n c (tcr (Pipeline.arrRef spec6 w)) := by
  match w with
  | 0 =>
    refine ((Region6.dats W (Oc (F := F) n) (recd (F := F) n) c).arrAt_in 0 rfl _).trans ?_
    rw [upd6_of_ne W n c (by decide) (by decide)]
    exact Region6.A_eq W _ _ c _
  | 1 =>
    refine ((Region6.dats W (Oc (F := F) n) (recd (F := F) n) c).arrAt_in 1 rfl _).trans ?_
    rw [upd6_of_ne W n c (by decide) (by decide)]
    exact Region6.A_eq W _ _ c _
  | 2 =>
    show _ = upd6 W n c (tcr main_v56_0)
    unfold upd6
    rw [Function.update_of_ne (show tcr main_v56_0 ≠ tcr main_v56_1 by decide), Function.update_self]
  | 3 =>
    show _ = upd6 W n c (tcr main_v56_1)
    unfold upd6
    rw [Function.update_self]

theorem mem6_main_v56_0 : tcr main_v56_0 ∈ Pipeline.arrRefs (τ := τ) spec6 := by decide

theorem mem6_main_v56_1 : tcr main_v56_1 ∈ Pipeline.arrRefs (τ := τ) spec6 := by decide

theorem spec_eq6 : (pcfgs (F := F) 4).spec = spec6 := rfl

theorem phi_dat6 (W : Dev nD → Valuation τ sig (Elt F)) (n : ℕ) (c : Dev nD) (t : Fin (cfg6.N + 1)) :
    (Region6.dats W (Oc (F := F) n) (recd (F := F) n) c).Φ t = (Pipeline.scopedRest spec6 c : sProp 𝕄) := rfl

theorem phi_toR6 (W : Dev nD → Valuation τ sig (Elt F)) (n : ℕ) (c : Dev nD) (t : Fin (cfg6.N + 1)) :
    (Region6.dats W (Oc (F := F) n) (recd (F := F) n) c).toR.Φ t = (Pipeline.scopedRest spec6 c : sProp 𝕄) := phi_dat6 W n c t

theorem phi6 (W : Dev nD → Valuation τ sig (Elt F)) (n : ℕ) (c : Dev nD) (t : Fin ((Pipeline.pin (pcfgs (F := F)) adm 4).N + 1)) :
    (rdats W n 4 c).Φ t = (Pipeline.scopedRest (pcfgs (F := F) 4).spec c : sProp 𝕄) := by
  rw [spec_eq6]
  exact phi_toR6 W n c t

set_option maxHeartbeats 1000000 in
/-- Call 4's record. -/
def record6 (W : Dev nD → Valuation τ sig (Elt F)) (n : ℕ) :
    Pipeline.RDat.RegionSeg (pcfgs (F := F)) adm (rdats W n) none (defs₀ (F := F)) 𝒱₀ (K (F := F)).L (K (F := F)).lev 4 :=
  regionR₀ (pcfgs (F := F)) adm (rdats W n) none (defs₀ (F := F)) 𝒱₀ (K (F := F)).L (K (F := F)).lev 4
    (Oc (F := F) n) (recd (F := F) n) (Pipeline.ucRefs τ sig) (Pipeline.arrRefs_sub_ucRefs spec6 winFacts6.arr_unscoped)
    launch6.toP rfl
    (fun c => ((Region6.body_obligation W (Oc (F := F) n) (recd (F := F) n) c).loose).toR)
    (fun _ _ => rfl) (fun _ _ => rfl) (fun c w => (Region6.dats W (Oc (F := F) n) (recd (F := F) n) c).share_full (fun _ => rfl) w)
    (fun _ => 0) (fun _ _ _ => Finset.mem_univ _) (fun _ _ _ => Nat.zero_le _)
    (fun c g i h => Otc_pos n c g i h) W (upd6 W n)
    (fun c w => Region6.A_eq W (Oc (F := F) n) (recd (F := F) n) c w)
    (fun c A hA w => ((Region6.dats W (Oc (F := F) n) (recd (F := F) n) c).toR_arrAt w _ (A w) (hA w)).trans (final4 W n c w))
    (fun c b hb => (upd6_of_ne W n c (fun e => (Finset.mem_sdiff.mp hb).2 (by rw [e]; exact mem6_main_v56_0)) (fun e => (Finset.mem_sdiff.mp hb).2 (by rw [e]; exact mem6_main_v56_1))).symm)
    (phi6 W n)

end Cert.Proof

end
-- ==== Proof.Chain.lean ====
/-
  The host operations of `@main`, and what the core's buffers hold after each of its steps.
-/
module

public import proofs.«01_k».proof.Proof.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

variable [FloatOps F]

/-- The host operations before the first pipelined call. -/
def opsP : List (HloOp τ sig (Elt F)) :=
  [StableHlo.nullary main_cst (constant S_ .f32 0x00000000#32),
   StableHlo.unary main_cst main_v0 (broadcastInDim S128x64 ![] bcast_S_S128x64 : (⟨S_, .f32⟩ : BufTy).Contents (Elt F) → (⟨S128x64, .f32⟩ : BufTy).Contents (Elt F)),
   StableHlo.nullary main_cst_0 (constant S_ .f32 0x00000000#32),
   StableHlo.unary main_cst_0 main_v1 (broadcastInDim S128x16 ![] bcast_S_S128x16 : (⟨S_, .f32⟩ : BufTy).Contents (Elt F) → (⟨S128x16, .f32⟩ : BufTy).Contents (Elt F)),
   StableHlo.nullary main_cst_1 (constant S_ .f32 0x3F800000#32),
   StableHlo.unary main_cst_1 main_v2 (broadcastInDim S128x16 ![] bcast_S_S128x16 : (⟨S_, .f32⟩ : BufTy).Contents (Elt F) → (⟨S128x16, .f32⟩ : BufTy).Contents (Elt F)),
   StableHlo.nullary main_cst_2 (constant S_ .f32 0x00000000#32),
   StableHlo.unary main_cst_2 main_v3 (broadcastInDim S16384x64 ![] bcast_S_S16384x64 : (⟨S_, .f32⟩ : BufTy).Contents (Elt F) → (⟨S16384x64, .f32⟩ : BufTy).Contents (Elt F)),
   StableHlo.unary main_arg2 main_v4 (broadcastInDim S327680x1 ![0] bcast_S327680_S327680x1_0 : (⟨S327680, .i32⟩ : BufTy).Contents (Elt F) → (⟨S327680x1, .i32⟩ : BufTy).Contents (Elt F)),
   StableHlo.ternary main_v3 main_v4 main_arg0 main_v5 ((fun x i u => Host.scatterAdd scatter_S16384x64_S327680x1_S327680x64_1_0_0_1 x i u) : (⟨S16384x64, .f32⟩ : BufTy).Contents (Elt F) → (⟨S327680x1, .i32⟩ : BufTy).Contents (Elt F) → (⟨S327680x64, .f32⟩ : BufTy).Contents (Elt F) → (⟨S16384x64, .f32⟩ : BufTy).Contents (Elt F)),
   StableHlo.nullary main_cst_3 (constant S_ .f32 0x3F800000#32),
   StableHlo.unary main_cst_3 main_v6 (broadcastInDim S327680 ![] bcast_S_S327680 : (⟨S_, .f32⟩ : BufTy).Contents (Elt F) → (⟨S327680, .f32⟩ : BufTy).Contents (Elt F)),
   StableHlo.nullary main_cst_4 (constant S_ .f32 0x00000000#32),
   StableHlo.unary main_cst_4 main_v7 (broadcastInDim S16384 ![] bcast_S_S16384 : (⟨S_, .f32⟩ : BufTy).Contents (Elt F) → (⟨S16384, .f32⟩ : BufTy).Contents (Elt F)),
   StableHlo.unary main_arg2 main_v8 (broadcastInDim S327680x1 ![0] bcast_S327680_S327680x1_0 : (⟨S327680, .i32⟩ : BufTy).Contents (Elt F) → (⟨S327680x1, .i32⟩ : BufTy).Contents (Elt F)),
   StableHlo.ternary main_v7 main_v8 main_v6 main_v9 ((fun x i u => Host.scatterAdd scatter_S16384_S327680x1_S327680_n_0_0_1 x i u) : (⟨S16384, .f32⟩ : BufTy).Contents (Elt F) → (⟨S327680x1, .i32⟩ : BufTy).Contents (Elt F) → (⟨S327680, .f32⟩ : BufTy).Contents (Elt F) → (⟨S16384, .f32⟩ : BufTy).Contents (Elt F)),
   StableHlo.nullary main_cst_5 (constant S_ .f32 0x00000000#32),
   StableHlo.unary main_cst_5 main_v10 (broadcastInDim S16384x64 ![] bcast_S_S16384x64 : (⟨S_, .f32⟩ : BufTy).Contents (Elt F) → (⟨S16384x64, .f32⟩ : BufTy).Contents (Elt F)),
   StableHlo.unary main_v5 main_v11 (broadcastInDim S1x16384x64 ![1, 2] bcast_S16384x64_S1x16384x64_1_2 : (⟨S16384x64, .f32⟩ : BufTy).Contents (Elt F) → (⟨S1x16384x64, .f32⟩ : BufTy).Contents (Elt F)),
   StableHlo.unary main_v10 main_v12 (broadcastInDim S1x16384x64 ![1, 2] bcast_S16384x64_S1x16384x64_1_2 : (⟨S16384x64, .f32⟩ : BufTy).Contents (Elt F) → (⟨S1x16384x64, .f32⟩ : BufTy).Contents (Elt F)),
   StableHlo.binary main_v11 main_v12 main_v13 ((fun a b => concatenate S2x16384x64 0 [⟨S1x16384x64, a⟩, ⟨S1x16384x64, b⟩] concatenates_S1x16384x64_S1x16384x64_S2x16384x64_d0) : (⟨S1x16384x64, .f32⟩ : BufTy).Contents (Elt F) → (⟨S1x16384x64, .f32⟩ : BufTy).Contents (Elt F) → (⟨S2x16384x64, .f32⟩ : BufTy).Contents (Elt F)),
   StableHlo.nullary main_cst_6 (constant S_ .f32 0x00000000#32),
   StableHlo.unary main_cst_6 main_v14 (broadcastInDim S16384 ![] bcast_S_S16384 : (⟨S_, .f32⟩ : BufTy).Contents (Elt F) → (⟨S16384, .f32⟩ : BufTy).Contents (Elt F)),
   StableHlo.unary main_v9 main_v15 (broadcastInDim S1x16384 ![1] bcast_S16384_S1x16384_1 : (⟨S16384, .f32⟩ : BufTy).Contents (Elt F) → (⟨S1x16384, .f32⟩ : BufTy).Contents (Elt F)),
   StableHlo.unary main_v14 main_v16 (broadcastInDim S1x16384 ![1] bcast_S16384_S1x16384_1 : (⟨S16384, .f32⟩ : BufTy).Contents (Elt F) → (⟨S1x16384, .f32⟩ : BufTy).Contents (Elt F)),
   StableHlo.binary main_v15 main_v16 main_v17 ((fun a b => concatenate S2x16384 0 [⟨S1x16384, a⟩, ⟨S1x16384, b⟩] concatenates_S1x16384_S1x16384_S2x16384_d0) : (⟨S1x16384, .f32⟩ : BufTy).Contents (Elt F) → (⟨S1x16384, .f32⟩ : BufTy).Contents (Elt F) → (⟨S2x16384, .f32⟩ : BufTy).Contents (Elt F)),
   StableHlo.unary main_v17 main_v18 (broadcastInDim S2x16384x1 ![0, 1] bcast_S2x16384_S2x16384x1_0_1 : (⟨S2x16384, .f32⟩ : BufTy).Contents (Elt F) → (⟨S2x16384x1, .f32⟩ : BufTy).Contents (Elt F)),
   StableHlo.unary main_v18 main_v19 (broadcastInDim S2x16384x16 ![0, 1, 2] bcast_S2x16384x1_S2x16384x16_0_1_2 : (⟨S2x16384x1, .f32⟩ : BufTy).Contents (Elt F) → (⟨S2x16384x16, .f32⟩ : BufTy).Contents (Elt F)),
   StableHlo.unary main_arg3 main_v20 ((extractStridedSlice S64x64 ![0, 0] · slices_S64x128_S64x64_0_0) : (⟨S64x128, .f32⟩ : BufTy).Contents (Elt F) → (⟨S64x64, .f32⟩ : BufTy).Contents (Elt F)),
   StableHlo.unary main_v20 main_v21 ((transpose S64x64 [1, 0] · transposes_S64x64_S64x64_1_0) : (⟨S64x64, .f32⟩ : BufTy).Contents (Elt F) → (⟨S64x64, .f32⟩ : BufTy).Contents (Elt F))]

/-- The host operations between the first and the second pipelined calls. -/
def opsQ : List (HloOp τ sig (Elt F)) :=
  [StableHlo.unary main_arg1 main_v23 (sitofp .f32 : (⟨S16384, .i32⟩ : BufTy).Contents (Elt F) → (⟨S16384, .f32⟩ : BufTy).Contents (Elt F)),
   StableHlo.reshape main_v23 main_v24 (rfl : (.f32 : EltTy) = .f32) shapeCasts_S16384_S16384x1,
   StableHlo.unary main_arg3 main_v25 ((extractStridedSlice S64x64 ![0, 0] · slices_S64x128_S64x64_0_0) : (⟨S64x128, .f32⟩ : BufTy).Contents (Elt F) → (⟨S64x64, .f32⟩ : BufTy).Contents (Elt F)),
   StableHlo.unary main_v25 main_v26 ((transpose S64x64 [1, 0] · transposes_S64x64_S64x64_1_0) : (⟨S64x64, .f32⟩ : BufTy).Contents (Elt F) → (⟨S64x64, .f32⟩ : BufTy).Contents (Elt F)),
   StableHlo.unary main_arg3 main_v27 ((extractStridedSlice S64x64 ![0, 64] · slices_S64x128_S64x64_0_64) : (⟨S64x128, .f32⟩ : BufTy).Contents (Elt F) → (⟨S64x64, .f32⟩ : BufTy).Contents (Elt F)),
   StableHlo.unary main_v27 main_v28 ((transpose S64x64 [1, 0] · transposes_S64x64_S64x64_1_0) : (⟨S64x64, .f32⟩ : BufTy).Contents (Elt F) → (⟨S64x64, .f32⟩ : BufTy).Contents (Elt F)),
   StableHlo.unary main_arg6 main_v29 ((transpose S64x64 [1, 0] · transposes_S64x64_S64x64_1_0) : (⟨S64x64, .f32⟩ : BufTy).Contents (Elt F) → (⟨S64x64, .f32⟩ : BufTy).Contents (Elt F)),
   StableHlo.reshape main_arg4 main_v30 (rfl : (.f32 : EltTy) = .f32) shapeCasts_S64_S1x64,
   StableHlo.reshape main_arg5 main_v31 (rfl : (.f32 : EltTy) = .f32) shapeCasts_S64_S1x64,
   StableHlo.reshape main_arg7 main_v32 (rfl : (.f32 : EltTy) = .f32) shapeCasts_S64_S1x64,
   StableHlo.reshape main_arg8 main_v33 (rfl : (.f32 : EltTy) = .f32) shapeCasts_S64_S1x64,
   StableHlo.unary main_arg11 main_v34 ((transpose S64x1 [1, 0] · transposes_S1x64_S64x1_1_0) : (⟨S1x64, .f32⟩ : BufTy).Contents (Elt F) → (⟨S64x1, .f32⟩ : BufTy).Contents (Elt F)),
   StableHlo.reshape main_arg12 main_v35 (rfl : (.f32 : EltTy) = .f32) shapeCasts_S1_S1x1]

/-- The host operations between the first gather and the third pipelined call. -/
def opsA : List (HloOp τ sig (Elt F)) :=
  [StableHlo.unary main_arg3 main_v38 ((extractStridedSlice S64x64 ![0, 0] · slices_S64x128_S64x64_0_0) : (⟨S64x128, .f32⟩ : BufTy).Contents (Elt F) → (⟨S64x64, .f32⟩ : BufTy).Contents (Elt F)),
   StableHlo.unary main_v38 main_v39 ((transpose S64x64 [1, 0] · transposes_S64x64_S64x64_1_0) : (⟨S64x64, .f32⟩ : BufTy).Contents (Elt F) → (⟨S64x64, .f32⟩ : BufTy).Contents (Elt F)),
   StableHlo.unary main_arg9 main_v40 ((transpose S64x68 [1, 0] · transposes_S68x64_S64x68_1_0) : (⟨S68x64, .f32⟩ : BufTy).Contents (Elt F) → (⟨S64x68, .f32⟩ : BufTy).Contents (Elt F)),
   StableHlo.reshape main_arg10 main_v41 (rfl : (.f32 : EltTy) = .f32) shapeCasts_S68_S1x68]

/-- The host operations between the third and the fourth pipelined calls. -/
def opsB : List (HloOp τ sig (Elt F)) :=
  [StableHlo.unary main_v42_1 main_v43 ((extractStridedSlice S327680x1 ![0, 0] · slices_S327680x16_S327680x1_0_0) : (⟨S327680x16, .f32⟩ : BufTy).Contents (Elt F) → (⟨S327680x1, .f32⟩ : BufTy).Contents (Elt F)),
   StableHlo.reshape main_v43 main_v44 (rfl : (.f32 : EltTy) = .f32) shapeCasts_S327680x1_S327680,
   StableHlo.nullary main_cst_7 (constant S_ .f32 0x00000000#32),
   StableHlo.unary main_cst_7 main_v45 (broadcastInDim S16384 ![] bcast_S_S16384 : (⟨S_, .f32⟩ : BufTy).Contents (Elt F) → (⟨S16384, .f32⟩ : BufTy).Contents (Elt F)),
   StableHlo.unary main_arg2 main_v46 (broadcastInDim S327680x1 ![0] bcast_S327680_S327680x1_0 : (⟨S327680, .i32⟩ : BufTy).Contents (Elt F) → (⟨S327680x1, .i32⟩ : BufTy).Contents (Elt F)),
   StableHlo.ternary main_v45 main_v46 main_v44 main_v47 ((fun x i u => Host.scatterAdd scatter_S16384_S327680x1_S327680_n_0_0_1 x i u) : (⟨S16384, .f32⟩ : BufTy).Contents (Elt F) → (⟨S327680x1, .i32⟩ : BufTy).Contents (Elt F) → (⟨S327680, .f32⟩ : BufTy).Contents (Elt F) → (⟨S16384, .f32⟩ : BufTy).Contents (Elt F)),
   StableHlo.nullary main_cst_8 (constant S_ .f32 0x00000000#32),
   StableHlo.unary main_cst_8 main_v48 (broadcastInDim S16384 ![] bcast_S_S16384 : (⟨S_, .f32⟩ : BufTy).Contents (Elt F) → (⟨S16384, .f32⟩ : BufTy).Contents (Elt F)),
   StableHlo.unary main_v47 main_v49 (broadcastInDim S1x16384 ![1] bcast_S16384_S1x16384_1 : (⟨S16384, .f32⟩ : BufTy).Contents (Elt F) → (⟨S1x16384, .f32⟩ : BufTy).Contents (Elt F)),
   StableHlo.unary main_v48 main_v50 (broadcastInDim S1x16384 ![1] bcast_S16384_S1x16384_1 : (⟨S16384, .f32⟩ : BufTy).Contents (Elt F) → (⟨S1x16384, .f32⟩ : BufTy).Contents (Elt F)),
   StableHlo.binary main_v49 main_v50 main_v51 ((fun a b => concatenate S2x16384 0 [⟨S1x16384, a⟩, ⟨S1x16384, b⟩] concatenates_S1x16384_S1x16384_S2x16384_d0) : (⟨S1x16384, .f32⟩ : BufTy).Contents (Elt F) → (⟨S1x16384, .f32⟩ : BufTy).Contents (Elt F) → (⟨S2x16384, .f32⟩ : BufTy).Contents (Elt F)),
   StableHlo.unary main_v51 main_v52 (broadcastInDim S2x16384x1 ![0, 1] bcast_S2x16384_S2x16384x1_0_1 : (⟨S2x16384, .f32⟩ : BufTy).Contents (Elt F) → (⟨S2x16384x1, .f32⟩ : BufTy).Contents (Elt F)),
   StableHlo.unary main_v52 main_v53 (broadcastInDim S2x16384x16 ![0, 1, 2] bcast_S2x16384x1_S2x16384x16_0_1_2 : (⟨S2x16384x1, .f32⟩ : BufTy).Contents (Elt F) → (⟨S2x16384x16, .f32⟩ : BufTy).Contents (Elt F))]

/-- The host operations after the last pipelined call. -/
def opsC : List (HloOp τ sig (Elt F)) :=
  [StableHlo.reshape main_v56_1 main_v57 (rfl : (.f32 : EltTy) = .f32) shapeCasts_S327680x64_S327680x16x4,
   StableHlo.reshape main_v54_1 main_v58 (rfl : (.f32 : EltTy) = .f32) shapeCasts_S16384x1_S16384]

/-! ## The buffers after each step -/

variable (m : (ℓ : Loc nD τ sig) → Buf (Elt F) ℓ)

def U0 (d : Dev nD) : Valuation τ sig (Elt F) := StableHlo.launchContents m d
def U1 (d : Dev nD) : Valuation τ sig (Elt F) := StableHlo.after opsP (U0 m d)
def U2 (d : Dev nD) : Valuation τ sig (Elt F) := upd0 (U1 m) 0 d
def U3 (d : Dev nD) : Valuation τ sig (Elt F) := StableHlo.after opsQ (U2 m d)
def V0 (d : Dev nD) : Valuation τ sig (Elt F) := upd1 (U3 m) 0 d
def V1 (d : Dev nD) : Valuation τ sig (Elt F) :=
  Function.update (V0 m d) (tcr main_v37) (gathered (F := F) (V0 m d (tcr main_v36_0)) (V0 m d (tcr main_arg2)))
def V2 (d : Dev nD) : Valuation τ sig (Elt F) := StableHlo.after opsA (V1 m d)
def V3 (d : Dev nD) : Valuation τ sig (Elt F) := upd3 (V2 m) 1 d
def V4 (d : Dev nD) : Valuation τ sig (Elt F) := StableHlo.after opsB (V3 m d)
def V5 (d : Dev nD) : Valuation τ sig (Elt F) := upd4 (V4 m) 1 d
def V6 (d : Dev nD) : Valuation τ sig (Elt F) :=
  Function.update (V5 m d) (tcr main_v55) (gathered (F := F) (V5 m d (tcr main_v54_0)) (V5 m d (tcr main_arg2)))
def V7 (d : Dev nD) : Valuation τ sig (Elt F) := upd6 (V6 m) 2 d
def V8 (d : Dev nD) : Valuation τ sig (Elt F) := StableHlo.after opsC (V7 m d)

/-! ## What no step writes -/

/-- The buffers the program writes. -/
abbrev written : List (Ref sig .tc) :=
  [main_v37, main_v38, main_v39, main_v40, main_v41, main_v42_0, main_v42_1, main_v43, main_v44, main_cst_7, main_v45, main_v46, main_v47,
   main_cst_8, main_v48, main_v49, main_v50, main_v51, main_v52, main_v53, main_v54_0, main_v54_1, main_v55, main_v56_0, main_v56_1,
   main_v57, main_v58]

theorem ne_of_notin {r b : Ref sig .tc} (hr : r ∉ written) (hb : b ∈ written) : tcr r ≠ tcr b := fun e =>
  hr (by rw [Proc.devRef_injective _ e]; exact hb)

theorem opsA_writes : (opsA (F := F)).Forall fun op => op.writes ⊆ (written.map (Proc.devRef (τ := τ) .tc)).toFinset :=
  ⟨Finset.singleton_subset_iff.mpr (by decide), Finset.singleton_subset_iff.mpr (by decide), Finset.singleton_subset_iff.mpr (by decide), Finset.singleton_subset_iff.mpr (by decide)⟩
theorem opsB_writes : (opsB (F := F)).Forall fun op => op.writes ⊆ (written.map (Proc.devRef (τ := τ) .tc)).toFinset :=
  ⟨Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide)⟩
theorem opsC_writes : (opsC (F := F)).Forall fun op => op.writes ⊆ (written.map (Proc.devRef (τ := τ) .tc)).toFinset :=
  ⟨Finset.singleton_subset_iff.mpr (by decide), Finset.singleton_subset_iff.mpr (by decide)⟩

/-- The buffers written before the first gather. -/
abbrev writtenP : List (Ref sig .tc) :=
  [main_cst, main_v0, main_cst_0, main_v1, main_cst_1, main_v2, main_cst_2, main_v3, main_v4, main_v5, main_cst_3, main_v6, main_cst_4, main_v7, main_v8, main_v9, main_cst_5, main_v10, main_v11, main_v12, main_v13, main_cst_6, main_v14, main_v15, main_v16, main_v17, main_v18, main_v19, main_v20, main_v21, main_v22, main_v23, main_v24, main_v25, main_v26, main_v27, main_v28, main_v29, main_v30, main_v31, main_v32, main_v33, main_v34, main_v35, main_v36_0, main_v36_1, main_v36_2]

theorem ne_of_notinP {r b : Ref sig .tc} (hr : r ∉ writtenP) (hb : b ∈ writtenP) : tcr r ≠ tcr b := fun e =>
  hr (by rw [Proc.devRef_injective _ e]; exact hb)

theorem opsP_writes : (opsP (F := F)).Forall fun op => op.writes ⊆ (writtenP.map (Proc.devRef (τ := τ) .tc)).toFinset :=
  ⟨Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide)⟩
theorem opsQ_writes : (opsQ (F := F)).Forall fun op => op.writes ⊆ (writtenP.map (Proc.devRef (τ := τ) .tc)).toFinset :=
  ⟨Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide), Finset.singleton_subset_iff.mpr (by decide)⟩
theorem U1_kept (d : Dev nD) {r : Ref sig .tc} (hr : r ∉ writtenP) : U1 m d (tcr r) = m ((d.tc : Thread nD τ).loc r) :=
  StableHlo.after_of_writes_sub (W := writtenP) opsP (U0 m d) opsP_writes hr
theorem U2_kept (d : Dev nD) {r : Ref sig .tc} (hr : r ∉ writtenP) : U2 m d (tcr r) = m ((d.tc : Thread nD τ).loc r) :=
  (upd0_of_ne _ _ _ (ne_of_notinP hr (by decide))).trans (U1_kept m d hr)
theorem U3_kept (d : Dev nD) {r : Ref sig .tc} (hr : r ∉ writtenP) : U3 m d (tcr r) = m ((d.tc : Thread nD τ).loc r) :=
  (StableHlo.after_of_writes_sub (W := writtenP) opsQ (U2 m d) opsQ_writes hr).trans (U2_kept m d hr)
theorem V0_kept (d : Dev nD) {r : Ref sig .tc} (hr : r ∉ writtenP) : V0 m d (tcr r) = m ((d.tc : Thread nD τ).loc r) :=
  (upd1_of_ne _ _ _ (ne_of_notinP hr (by decide)) (ne_of_notinP hr (by decide)) (ne_of_notinP hr (by decide))).trans (U3_kept m d hr)

theorem V1_kept (d : Dev nD) {r : Ref sig .tc} (hr : r ∉ written) : V1 m d (tcr r) = V0 m d (tcr r) := by
  unfold V1; rw [Function.update_of_ne (ne_of_notin hr (by decide))]
theorem V2_kept (d : Dev nD) {r : Ref sig .tc} (hr : r ∉ written) : V2 m d (tcr r) = V0 m d (tcr r) :=
  (StableHlo.after_of_writes_sub (W := written) opsA (V1 m d) opsA_writes hr).trans (V1_kept m d hr)
theorem V3_kept (d : Dev nD) {r : Ref sig .tc} (hr : r ∉ written) : V3 m d (tcr r) = V0 m d (tcr r) :=
  (upd3_of_ne _ _ _ (ne_of_notin hr (by decide)) (ne_of_notin hr (by decide))).trans (V2_kept m d hr)
theorem V4_kept (d : Dev nD) {r : Ref sig .tc} (hr : r ∉ written) : V4 m d (tcr r) = V0 m d (tcr r) :=
  (StableHlo.after_of_writes_sub (W := written) opsB (V3 m d) opsB_writes hr).trans (V3_kept m d hr)
theorem V5_kept (d : Dev nD) {r : Ref sig .tc} (hr : r ∉ written) : V5 m d (tcr r) = V0 m d (tcr r) :=
  (upd4_of_ne _ _ _ (ne_of_notin hr (by decide)) (ne_of_notin hr (by decide))).trans (V4_kept m d hr)
theorem V6_kept (d : Dev nD) {r : Ref sig .tc} (hr : r ∉ written) : V6 m d (tcr r) = V0 m d (tcr r) := by
  unfold V6; rw [Function.update_of_ne (ne_of_notin hr (by decide))]; exact V5_kept m d hr
theorem V7_kept (d : Dev nD) {r : Ref sig .tc} (hr : r ∉ written) : V7 m d (tcr r) = V0 m d (tcr r) :=
  (upd6_of_ne _ _ _ (ne_of_notin hr (by decide)) (ne_of_notin hr (by decide))).trans (V6_kept m d hr)
theorem V8_kept (d : Dev nD) {r : Ref sig .tc} (hr : r ∉ written) : V8 m d (tcr r) = V0 m d (tcr r) :=
  (StableHlo.after_of_writes_sub (W := written) opsC (V7 m d) opsC_writes hr).trans (V7_kept m d hr)

end Cert.Proof

end
-- ==== Proof.Tile2.lean ====
/-
  One vector subcore's task of a row gather: forty chunks of 256 row numbers, each fetched into the index
  scratch, its rows of the table streamed into the row scratch, and those written to the task's rows of the result.
  The invariant carries the value: after `k` chunks, the first `256 k` of the task's rows are the table's rows that
  the list names. Then a SparseCore's operands among its tasks, and the TensorCore's among the SparseCores.
-/
module

public import proofs.«01_k».proof.Proof.Setup

@[expose] public section

noncomputable section

namespace Cert.Proof.Gather2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The task's number, from its coordinates. -/
abbrev wid (L : grid2.Coords) : ℕ := 2 * (L 1).val + (L 0).val

abbrev cV (L : grid2.Coords) : Fin τ.nSC := (L 0).castLE hcore2
abbrev jV (L : grid2.Coords) : Fin τ.nSub := (L 1).castLE hsub2

section Views

variable (tb : Memref sig .scVector .hbm S16384x128 .f32) (ib : Memref sig .scVector .hbm S327680 .i32)
  (ob : Memref sig .scVector .hbm S327680x128 .f32)

abbrev idsRect (L : grid2.Coords) (k : Fin k2_t1_loop.trips) : Rect S327680 := Rect.unit (s := S327680) (k2_off1 L k) S256.size (k2_off1_inb L k)
abbrev outRect (L : grid2.Coords) (k : Fin k2_t1_loop.trips) : Rect S327680x128 := Rect.unit (s := S327680x128) (k2_off2 L k) S256x128.size (k2_off2_inb L k)
abbrev allRect : Rect S16384x128 := Rect.unit (s := S16384x128) ![0, 0] S16384x128.size inb_S16384x128_S16384x128_0_0

theorem trips_le : k2_t1_loop.trips ≤ 40 := k2_t1_abs.2.1
theorem trips_eq : k2_t1_loop.trips = 40 := by decide

/-- A chunk's rows are among its task's. -/
theorem outRect_set (L : grid2.Coords) (k : Fin k2_t1_loop.trips) {y : S327680x128.Idx} :
    y ∈ (outRect L k).set ↔ (y 0).val / 10240 = wid L ∧ 256 * k.val ≤ (y 0).val % 10240 ∧ (y 0).val % 10240 < 256 * k.val + 256 := by
  have hk : k.val < 40 := lt_of_lt_of_le k.isLt trips_le
  have h0 : (L 0).val < 2 := (L 0).isLt
  have h1 : (L 1).val < 16 := (L 1).isLt
  have hy1 : (y 1).val < 128 := (y 1).isLt
  rw [Rect.mem_set_unit, Fin.forall_fin_two, k2_off2_eq]
  show (20480 * (L 1).val + 10240 * (L 0).val + 256 * k.val ≤ (y 0).val ∧ (y 0).val < 20480 * (L 1).val + 10240 * (L 0).val + 256 * k.val + 256)
    ∧ (0 ≤ (y 1).val ∧ (y 1).val < 0 + 128) ↔ _
  unfold wid
  omega

variable (c : Thread nD τ)

variable [FloatOps F]

/-- What the task holds at its rows of the result: after `k` chunks, the first `256 k` rows are done. -/
def Done (L : grid2.Coords) (T : S16384x128.Idx → Elt F .f32) (I : S327680.Idx → BitVec 32) (k : ℕ) (g : S327680x128.Idx → Elt F .f32) : Prop :=
  ∀ y : S327680x128.Idx, (y 0).val / 10240 = wid L → (y 0).val % 10240 < 256 * k → g y = gathered T I y

/-- What a chunk writes: row `x` of the chunk's payload is the table's row that the chunk's entry `x` names. -/
theorem payload_eq (L : grid2.Coords) (k : Fin k2_t1_loop.trips) (T : S16384x128.Idx → Elt F .f32) (I : S327680.Idx → BitVec 32)
    (hn : S256.numel = S256x128.size gathers_S16384x128_S256x128.axis')
    (hin : ∀ x : S256.Idx, (I ((idsRect L k).emb x)).toNat < S16384x128.size gathers_S16384x128_S256x128.axis) (x : S256x128.Idx) :
    SparseCore.gatherPayload gathers_S16384x128_S256x128 (fun y => T (allRect.emb y))
        (SparseCore.rows (F := F) (si := S256) (fun x => I ((idsRect L k).emb x)) hn hin) x
      = gathered T I ((outRect L k).emb x) := by
  have hk : k.val < 40 := lt_of_lt_of_le k.isLt trips_le
  unfold SparseCore.gatherPayload gathered
  have hin' : ∀ x : S256.Idx, (I ((idsRect L k).emb x)).toNat < 16384 := hin
  have ez : ∀ y : S16384x128.Idx, allRect.emb y = y := fun y => funext fun a => Fin.ext (by
    match a with
    | 0 => show 0 + 1 * (y 0).val = _; omega
    | 1 => show 0 + 1 * (y 1).val = _; omega)
  show T (allRect.emb _) = _
  rw [ez]
  congr 1
  funext a
  match a with
  | 0 =>
    refine (Shape.Gathers.idx_axis gathers_S16384x128_S256x128 _ x).trans (Fin.ext ?_)
    show (I _).toNat = (I _).toNat % 16384
    have e : ∀ y : S256.Idx, (S256.rowMajor y : ℕ) = (y 0).val := rowMajor_val
    have ey : (((S256.rowMajor.symm ((x 0 : Fin 256).cast hn.symm) : S256.Idx) 0 : Fin 256) : ℕ) = (x 0).val := by
      rw [← e, Equiv.apply_symm_apply]; rfl
    have ei : (idsRect L k).emb (S256.rowMajor.symm ((x 0 : Fin 256).cast hn.symm)) = listIx ((outRect L k).emb x 0) := funext fun a => Fin.ext (by
      match a with
      | 0 =>
        show k2_off1 L k 0 + 1 * (((S256.rowMajor.symm ((x 0 : Fin 256).cast hn.symm) : S256.Idx) 0 : Fin 256) : ℕ) = k2_off2 L k 0 + 1 * (x 0).val
        rw [ey, k2_off1_eq, k2_off2_eq]; rfl)
    rw [← ei, Nat.mod_eq_of_lt (hin' _)]
    rfl
  | 1 =>
    refine Fin.ext ((Shape.Gathers.idx_of_ne gathers_S16384x128_S256x128 _ x 1 (by decide)).trans ?_)
    show (x 1).val = k2_off2 L k 1 + 1 * (x 1).val
    rw [k2_off2_eq]; show _ = 0 + 1 * _; omega

/-! ## The task -/

theorem numel_rows : 0 < S256x128.numel := by decide
theorem numel_list : 0 < S256.numel := by decide

variable (d : Dev nD) (L : grid2.Coords)
  (sb : Memref sig .scVector .vmem S256 .i32) (rb : Memref sig .scVector .vmem S256x128 .f32)
  (se s0 s1 : DmaSems sig S_)
  (T : S16384x128.Idx → Elt F .f32) (I : S327680.Idx → BitVec 32)

abbrev tile (d : Dev nD) (L : grid2.Coords) : Thread nD τ := V d (cV L) (jV L)

/-- The loop's invariant after `k` chunks. -/
def inv (qt qi : PosShare TreeShare) (ft : Buf (Elt F) (tb.view.loc (tile d L))) (fi : Buf (Elt F) (ib.view.loc (tile d L)))
    (O : CellTallies nD τ sig (HIx 2)) (W : Waits sig (HIx 2)) (k : ℕ) (_ : PUnit.{1}) : sProp 𝕄 :=
  iprop(Transfers.MayWaits (tile d L) (default : HIx 2) O
    ∗ (tb.view.loc (tile d L) ↦{qt} ft)
    ∗ (ib.view.loc (tile d L) ↦{qi} fi)
    ∗ (∃ fo, ⌜Done L (tb.view.read (Elt F) ft) (ib.view.read (Elt F) fi) k (ob.view.read (Elt F) fo)⌝
        ∗ ob.view.loc (tile d L) ↦[(taskRows (wid L)).map ob.view.emb]{fullShare} fo)
    ∗ (∃ f, sb.view.loc (tile d L) ↦[sb.view.set]{fullShare} f)
    ∗ (∃ f, rb.view.loc (tile d L) ↦[rb.view.set]{fullShare} f)
    ∗ semVal (tile d L, SemLoc.dma se.sem) 0 ∗ semVal (tile d L, SemLoc.dma s0.sem) 0 ∗ semVal (tile d L, SemLoc.dma s1.sem) 0
    ∗ ∃ W', ⌜∀ p ∈ W', p ∈ W ∨ p.2 = none⌝ ∗ owes (tile d L) O W')

set_option maxHeartbeats 4000000 in
set_option maxRecDepth 16384 in
/-- One task: from shares of the table and of the list, every entry of the list a row of the table, its rows of the
    result end as the table's rows that the list names. -/
theorem task (htb : tb.IsWhole) (hib : ib.IsWhole) (hob : ob.IsWhole) (hsb : sb.IsWhole) (hrb : rb.IsWhole)
    (qt qi : PosShare TreeShare) (ft : Buf (Elt F) (tb.view.loc (tile d L))) (fi : Buf (Elt F) (ib.view.loc (tile d L)))
    (hN : ∀ h : S16384x128.Gathers 0 S256x128, ∑ j, (rb.slice (S256x128.rowRect h.axis' j) (S256x128.stride_rowRect h.axis' j)).view.dmaCredit
        = rb.view.dmaCredit)
    (hin : ∀ j, (ib.view.read (Elt F) fi j : BitVec 32).toNat < 16384)
    (O : CellTallies nD τ sig (HIx 2)) (W : Waits sig (HIx 2)) :
    inv tb ib ob d L sb rb se s0 s1 qt qi ft fi O W 0 ⟨⟩
      ⊢ wp frame (wpE (defs₀ (F := F)) 𝒱₀ (tile d L) none) Set.univ
          (cc2_gather L tb htb ib hib ob hob sb hsb rb hrb se s0 s1)
          fun _ => inv tb ib ob d L sb rb se s0 s1 qt qi ft fi O W 40 ⟨⟩ := by
  simp only [cc2_gather_eq_skeleton]; unfold cc2_gather_skel
  iintro HI
  sl_exec
  sl_for (inv tb ib ob d L sb rb se s0 s1 qt qi ft fi O W) $$ [HI]
  case region =>
    intro k _
    unfold inv
    iintro ⟨#Hmw, Ht, Hi, ⟨%fo, %hdone, Ho⟩, ⟨%fs, Hs⟩, ⟨%fr, Hr⟩, Hse, Hs0, Hs1, %W', %hW', HO⟩
    sl_exec (disch := exact View.amount_pos _ _ (numel_list))
    have hsr : sb.view.read (Elt F) (sb.view.writes (Elt F) sb.view.junk [⟨Rect.whole S256, task.sl.dma0 ib d L fi k⟩])
        = fun x => ib.view.read (Elt F) fi ((idsRect L k).emb x) :=
      funext fun x => (View.read_writes_cons_hit sb.view sb.view.junk (Rect.whole S256) (task.sl.dma0 ib d L fi k) [] x x (by exact Rect.emb_whole_apply S256 x)).trans rfl
    have hinb : ∀ x, (sb.view.read (Elt F) (sb.view.writes (Elt F) sb.view.junk [⟨Rect.whole S256, task.sl.dma0 ib d L fi k⟩]) x : BitVec 32).toNat
        < S16384x128.size gathers_S16384x128_S256x128.axis := fun x => by rw [hsr]; exact hin _
    ihave Hxs := (pointsTo_split_subset (q := qt) (f := ft) (S := Finset.univ)
      (Finset.subset_univ (tb.slice allRect (fun _ => rfl)).view.set)).1 $$ Ht
    icases Hxs with ⟨Hxs, Hxr⟩
    iapply (SparseCore.wp_indirectGatherLocal countersEmb 𝒱₀ (tile d L) none (hg := gathers_S16384x128_S256x128) (default : HIx 2)
      rb.view.dmaCredit (hN _) (by decide) hinb) $$ [Hxs Hr Hs Hse]
    · isplitl [Hxs]; · iexact Hxs
      isplitl [Hr]; · iexact Hr
      isplitl [Hs]; · iexact Hs
      iexact Hse
    iintro Hfl
    sl_exec
    iapply (Transfers.wp_waitLocalO countersEmb 𝒱₀ (tile d L) none (default : HIx 2) (rfl : rb.view.dmaCredit = _)) $$ [Hfl HO]
    · isplitl [Hfl]; · iexact Hfl
      isplitl [HO]; · iexact HO
      iapply (Transfers.MayWaits.elim (SemLoc.dma se.sem)) $$ Hmw
    iintro ⟨⟨Hr, Hxs, Hs⟩, Hse, HO⟩
    ihave Ht := (pointsTo_split_subset (q := qt) (f := ft) (S := Finset.univ)
      (Finset.subset_univ (tb.slice allRect (fun _ => rfl)).view.set)).2 $$ [Hxs Hxr]
    · isplitl [Hxs] <;> iassumption
    simp only [Prog.lift, wp_bind, wp_ret, pure_bind]
    imodintro
    have hsub : (ob.slice (outRect L k) (fun _ => rfl)).view.set ⊆ (taskRows (wid L)).map ob.view.emb := by
      show (ob.view.slice (outRect L k)).set ⊆ _
      rw [View.set_slice]
      refine Finset.map_subset_map.mpr fun y hy => ?_
      simp only [Finset.mem_filter, Finset.mem_univ, true_and]
      exact ((outRect_set L k).mp hy).1
    ihave Hos := (pointsTo_split_subset (q := fullShare) (f := fo) hsub).1 $$ Ho
    icases Hos with ⟨Hoc, Hor⟩
    ihave Hoc := (Entails.of_eq (show ((ob.view.loc (tile d L) ↦[(ob.slice (outRect L k) (fun _ => rfl)).view.set]{fullShare} fo : sProp 𝕄))
      = ((ob.slice (outRect L k) (fun _ => rfl)).view.loc (tile d L) ↦[(ob.slice (outRect L k) (fun _ => rfl)).view.set]{fullShare} fo) from rfl)) $$ Hoc
    iapply (Transfers.wp_dmaLocal countersEmb 𝒱₀ (tile d L) none (default : HIx 2)
      ((ob.slice (outRect L k) (fun _ => rfl)).view.amount (SemLoc.dma s1.sem)) rfl (View.amount_pos _ _ numel_rows) subset_rfl) $$ [Hr Hoc Hs1]
    · isplitl [Hr]; · iexact Hr
      isplitl [Hoc]; · iexact Hoc
      iexact Hs1
    iintro Hfl
    simp only [wp_ret]
    imodintro
    iapply (Transfers.wp_waitLocalO countersEmb 𝒱₀ (tile d L) none (default : HIx 2)
      (rfl : (ob.slice (outRect L k) (fun _ => rfl)).view.dmaCredit = _)) $$ [Hfl HO]
    · isplitl [Hfl]; · iexact Hfl
      isplitl [HO]; · iexact HO
      iapply (Transfers.MayWaits.elim (SemLoc.dma s1.sem)) $$ Hmw
    iintro ⟨⟨Hoc, Hr⟩, Hs1, HO⟩
    simp only [wp_ret]
    imodintro
    -- the chunk's rows written, the others of the task's kept
    obtain ⟨pay, hpay⟩ : ∃ pay : S256x128.Idx → Elt F .f32, pay = rb.view.read (Elt F) (rb.view.write (Elt F) fr
        (SparseCore.gatherPayload gathers_S16384x128_S256x128 (fun y => tb.view.read (Elt F) ft (allRect.emb y))
          (SparseCore.rows (F := F) (si := S256) _ rfl hinb)) Finset.univ) := ⟨_, rfl⟩
    have hval : pay = fun x => gathered (tb.view.read (Elt F) ft) (ib.view.read (Elt F) fi) ((outRect L k).emb x) := by
      rw [hpay, View.read_write_univ]
      have hin2 : ∀ x : S256.Idx, (ib.view.read (Elt F) fi ((idsRect L k).emb x) : BitVec 32).toNat < S16384x128.size gathers_S16384x128_S256x128.axis :=
        fun x => hin _
      have h2 : (SparseCore.rows (F := F) (si := S256) _ rfl hinb : Fin 256 → Fin 16384)
          = SparseCore.rows (F := F) (si := S256) (fun x => ib.view.read (Elt F) fi ((idsRect L k).emb x)) rfl hin2 :=
        by
          refine funext fun j => Fin.ext ?_
          have h := congrArg (fun b : BitVec 32 => b.toNat) (congrFun hsr (S256.rowMajor.symm (Fin.cast (by decide) j)))
          exact h
      funext x
      exact (congrArg (fun r => SparseCore.gatherPayload gathers_S16384x128_S256x128
        (fun y => tb.view.read (Elt F) ft (allRect.emb y)) r x) h2).trans
        (payload_eq L k (tb.view.read (Elt F) ft) (ib.view.read (Elt F) fi) rfl hin2 x)
    obtain ⟨g, hg⟩ : ∃ g : Buf (Elt F) (ob.view.loc (tile d L)), g = (ob.view.slice (outRect L k)).write (Elt F) fo pay Finset.univ := ⟨_, rfl⟩
    have hkeep : ∀ y, y ∉ (outRect L k).set → g (ob.view.emb y) = fo (ob.view.emb y) := fun y hy => by
      rw [hg]
      refine View.write_of_not_mem _ _ _ fun hx => hy ?_
      have hx' : ob.view.emb y ∈ (ob.view.slice (outRect L k)).set := hx
      rw [View.set_slice] at hx'
      exact (Finset.mem_map' ob.view.emb).mp hx'
    have hdone' : Done L (tb.view.read (Elt F) ft) (ib.view.read (Elt F) fi) (k.val + 1) (ob.view.read (Elt F) g) := by
      intro y hw hlt
      by_cases hy : y ∈ (outRect L k).set
      · rw [← Rect.map_emb_univ] at hy
        obtain ⟨x, -, rfl⟩ := Finset.mem_map.mp hy
        have e1 : ob.view.read (Elt F) g ((outRect L k).emb x) = (ob.slice (outRect L k) (fun _ => rfl)).view.read (Elt F) g x := rfl
        rw [e1, hg]
        refine (congrFun (View.read_write_univ (v := ob.view.slice (outRect L k)) fo pay) x).trans ?_
        exact congrFun hval x
      · have e2 : ob.view.read (Elt F) g y = ob.view.read (Elt F) fo y := congrArg _ (hkeep y hy)
        rw [e2]
        refine hdone y hw ?_
        rw [outRect_set] at hy
        omega
    ihave Hoc := (Entails.of_eq (show (((ob.slice (outRect L k) (fun _ => rfl)).view.loc (tile d L) ↦[(ob.slice (outRect L k) (fun _ => rfl)).view.set]{fullShare} _ : sProp 𝕄))
      = (ob.view.loc (tile d L) ↦[(ob.slice (outRect L k) (fun _ => rfl)).view.set]{fullShare} g) from by subst hg; subst hpay; rfl)) $$ Hoc
    ihave Hor := (Entails.of_eq (pointsTo_congr (q := fullShare) (f := fo) (g := g) (I := (taskRows (wid L)).map ob.view.emb \ (ob.slice (outRect L k) (fun _ => rfl)).view.set)
      fun i hi => by
        obtain ⟨h1, h2⟩ := Finset.mem_sdiff.mp hi
        obtain ⟨y, -, rfl⟩ := Finset.mem_map.mp h1
        refine (hkeep y fun hy => h2 ?_).symm
        show _ ∈ (ob.view.slice (outRect L k)).set
        rw [View.set_slice]; exact Finset.mem_map_of_mem _ hy)) $$ Hor
    ihave Ho := (pointsTo_split_subset (q := fullShare) (f := g) hsub).2 $$ [Hoc Hor]
    · isplitl [Hoc] <;> iassumption
    sl_step
    isplitr; · iexact Hmw
    isplitl [Ht]; · iexact Ht
    isplitl [Hi]; · iexact Hi
    isplitl [Ho]
    · iexists g; isplitr
      · ipureintro; exact hdone'
      · iexact Ho
    isplitl [Hs]; · iexists _; iexact Hs
    isplitl [Hr]; · iexists _; iexact Hr
    isplitl [Hse]; · iexact Hse
    isplitl [Hs0]; · iexact Hs0
    isplitl [Hs1]; · iexact Hs1
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · iexact HI
  iintro %_ HI
  sl_exec
  sl_step
  irw [show (40 : ℕ) = Scf.trips k2_t1_loop.lb k2_t1_loop.ub k2_t1_loop.st from trips_eq.symm]
  iexact HI

end Views

theorem nSub_zero : (K (F := F)).nSub 0 = 16 := rfl
theorem nCore_zero : (K (F := F)).nCore 0 = 2 := rfl

/-! ## The buffers -/

abbrev tLoc (d : Dev nD) : Loc nD τ sig := (SparseCore.T d).loc main_v36_0
abbrev iLoc (d : Dev nD) : Loc nD τ sig := (SparseCore.T d).loc main_arg2
abbrev oLoc (d : Dev nD) : Loc nD τ sig := (SparseCore.T d).loc main_v37

local notation "tV" => (Memref.whole Cert.KernelIdeal.main_v36_0_scv : Memref Cert.KernelIdeal.sig Kind.scVector Space.hbm Cert.KernelIdeal.S16384x128 EltTy.f32)
local notation "iV" => (Memref.whole Cert.KernelIdeal.main_arg2_scv : Memref Cert.KernelIdeal.sig Kind.scVector Space.hbm Cert.KernelIdeal.S327680 EltTy.i32)
local notation "oV" => (Memref.whole Cert.KernelIdeal.main_v37_scv : Memref Cert.KernelIdeal.sig Kind.scVector Space.hbm Cert.KernelIdeal.S327680x128 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256x128 EltTy.f32)

/-! ## What the handshakes carry -/

variable (Tb : (d : Dev nD) → Buf (Elt F) (tLoc d)) (Ib : (d : Dev nD) → Buf (Elt F) (iLoc d))

/-- The gathered rows. -/
def G (d : Dev nD) : Buf (Elt F) (oLoc d) := gathered (F := F) (Tb d) (Ib d)

abbrev stPts (d : Dev nD) (c : Fin 2) : sProp 𝕄 :=
  iprop((tLoc d ↦{cq c} Tb d) ∗ (iLoc d ↦{cq c} Ib d) ∗ ∃ f, oLoc d ↦[coreRows c]{fullShare} f)
abbrev dnPts (d : Dev nD) (c : Fin 2) : sProp 𝕄 :=
  iprop((tLoc d ↦{cq c} Tb d) ∗ (iLoc d ↦{cq c} Ib d) ∗ oLoc d ↦[coreRows c]{fullShare} G Tb Ib d)
abbrev goPts (d : Dev nD) (c : Fin 2) (i : Fin 16) : sProp 𝕄 :=
  iprop((tLoc d ↦{tq c i} Tb d) ∗ (iLoc d ↦{tq c i} Ib d) ∗ ∃ f, oLoc d ↦[taskRows (2 * i.val + c.val)]{fullShare} f)
abbrev tdPts (d : Dev nD) (c : Fin 2) (i : Fin 16) : sProp 𝕄 :=
  iprop((tLoc d ↦{tq c i} Tb d) ∗ (iLoc d ↦{tq c i} Ib d) ∗ oLoc d ↦[taskRows (2 * i.val + c.val)]{fullShare} G Tb Ib d)

/-- What the proof asks of the list: every entry names a row of the table. -/
def ListOK : Prop := ∀ (d : Dev nD) (j : S327680.Idx), (Ib d j : BitVec 32).toNat < 16384

variable [FloatOps F]

/-! ## The task in the launch's terms -/

section Tile

variable (d : Dev nD) (L : grid2.Coords)

theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

abbrev cA (d : Dev nD) (L : grid2.Coords) : GSem nD τ sig := (tile d L, .dma cc2_scratch2.sem)
abbrev cB (d : Dev nD) (L : grid2.Coords) : GSem nD τ sig := (tile d L, .dma cc2_scoped0.sem)
abbrev cC (d : Dev nD) (L : grid2.Coords) : GSem nD τ sig := (tile d L, .dma cc2_scoped1.sem)

theorem ownSems0_tile :
    (ownSems0 (tile d L) : sProp 𝕄)
      = iprop(semVal (cA d L) 0 ∗ semVal (cB d L) 0 ∗ semVal (cC d L) 0
          ∗ bigSep ((((ownCells (tile d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc2_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc2_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc2_scoped1.sem : SemLoc sig).isScoped .scVector = true; decide⟩⟩⟩)]

theorem ownBufs_tile :
    (ownBufs (tile d L) : sProp 𝕄)
      = iprop((∃ f, (tile d L).loc cc2_scratch0 ↦{fullShare} f) ∗ (∃ f, (tile d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem out_map : (taskRows (wid L)).map (oV).view.emb = taskRows (2 * (iL L).val + (cL L).val) := by
  show (taskRows (wid L)).map (View.whole (main_v37_scv : Ref sig .scVector)).emb = _
  exact Finset.map_refl

theorem credit : ∀ h : S16384x128.Gathers 0 S256x128, ∑ j, ((rV).slice (S256x128.rowRect h.axis' j) (S256x128.stride_rowRect h.axis' j)).view.dmaCredit
      = (rV).view.dmaCredit := by decide

set_option maxHeartbeats 1000000 in
theorem tile_body (hF : (K (F := F)).Facts) (hok : ListOK Ib) (O : CellTallies nD τ sig (HIx 2)) (W : Waits sig (HIx 2)) (hO : ∀ g, O g none = 0) :
    iprop(levAts (K (F := F)).L (K (F := F)).lev ∗ emp
        ∗ goPts Tb Ib d (cL L) (iL L)
        ∗ scopedBufs (tile d L) ∗ scopedSems0 (tile d L) ∗ owes (tile d L) O W)
      ⊢ wp frame (wpE (defs₀ (F := F)) 𝒱₀ (tile d L) none) Set.univ
          (cc2_gather L tV (Memref.isWhole_whole _) iV (Memref.isWhole_whole _) oV (Memref.isWhole_whole _)
            sV (Memref.isWhole_whole _) rV (Memref.isWhole_whole _) cc2_scratch2 cc2_scoped0 cc2_scoped1)
          fun _ => iprop(tdPts Tb Ib d (cL L) (iL L)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_tile, ownBufs_tile]
  have hrs : (rV).view.set = Finset.univ := View.set_whole _
  have hss : (sV).view.set = Finset.univ := View.set_whole _
  have hin : ∀ j, ((iV).view.read (Elt F) (Ib d) j : BitVec 32).toNat < 16384 := fun j => hok d j
  iintro ⟨#Hlv, -, ⟨Ht, Hi, ⟨%fo, Ho⟩⟩, ⟨⟨%fs, Hs⟩, ⟨%fr, Hr⟩, Hbufs⟩, ⟨HsA, HsB, HsC, Hsems⟩, HO⟩
  ihave #Hmw := (show levAts (K (F := F)).L (K (F := F)).lev ⊢ Transfers.MayWaits (tile d L) (default : HIx 2) O from
    (K (F := F)).mayWaits_none (thr := tile d L) hO) $$ Hlv
  ihave Hwp := (task tV iV oV d L sV rV cc2_scratch2 cc2_scoped0 cc2_scoped1 (Memref.isWhole_whole _) (Memref.isWhole_whole _)
      (Memref.isWhole_whole _) (Memref.isWhole_whole _) (Memref.isWhole_whole _) (tq (cL L) (iL L)) (tq (cL L) (iL L)) (Tb d) (Ib d) credit hin O W)
    $$ [Ht Hi Ho Hs Hr HsA HsB HsC HO]
  · unfold inv
    isplitr; · iexact Hmw
    isplitl [Ht]; · iexact Ht
    isplitl [Hi]; · iexact Hi
    isplitl [Ho]
    · iexists fo; isplitr
      · ipureintro; intro y _ hlt; omega
      · rw [out_map]; iexact Ho
    isplitl [Hs]
    · iexists fs; rw [hss]; iexact Hs
    isplitl [Hr]
    · iexists fr; rw [hrs]; iexact Hr
    isplitl [HsA]; · iexact HsA
    isplitl [HsB]; · iexact HsB
    isplitl [HsC]; · iexact HsC
    iexists W; isplitr
    · ipureintro; exact fun p hp => .inl hp
    · iexact HO
  iapply (wp_wand frame _ _) $$ Hwp
  iintro %_ H
  unfold inv
  icases H with ⟨-, Ht, Hi, ⟨%g, %hdone, Ho⟩, ⟨%fs', Hs⟩, ⟨%fr', Hr⟩, HsA, HsB, HsC, HO⟩
  have hg : ∀ y ∈ taskRows (2 * (iL L).val + (cL L).val), g y = G Tb Ib d y := fun y hy =>
    hdone y (Finset.mem_filter.mp hy).2 (Nat.mod_lt _ (by decide))
  isplitl [Ht Hi Ho]
  · isplitl [Ht]; · iexact Ht
    isplitl [Hi]; · iexact Hi
    rw [out_map]
    ihave Ho' := (Entails.of_eq (pointsTo_congr (ℓ := oLoc d) (q := fullShare) (f := g) (g := G Tb Ib d) hg)) $$ Ho
    iexact Ho'
  isplitl [Hs Hr Hbufs]
  · isplitl [Hs]
    · iexists fs'; rw [hss]; iexact Hs
    isplitl [Hr]
    · iexists fr'; rw [hrs]; iexact Hr
    iexact Hbufs
  isplitl [HsA HsB HsC Hsems]
  · isplitl [HsA]; · iexact HsA
    isplitl [HsB]; · iexact HsB
    isplitl [HsC]; · iexact HsC
    iexact Hsems
  iexact HO

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

/-! ## A SparseCore's operands among its tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem rows_split (d : Dev nD) (c : Fin 2) (f : Buf (Elt F) (oLoc d)) :
    (oLoc d ↦[coreRows c]{fullShare} f : sProp 𝕄)
      = bigSep Finset.univ fun i : Fin 16 => oLoc d ↦[taskRows (2 * i.val + c.val)]{fullShare} f := by
  rw [← pointsTo_biUnion Finset.univ (ℓ := oLoc d) (fun i : Fin 16 => taskRows (2 * i.val + c.val)) (taskRows_disjoint c), taskRows_cover]

theorem rows_some (d : Dev nD) (c : Fin 2) (f : Buf (Elt F) (oLoc d)) :
    (bigSep Finset.univ fun i : Fin 16 => oLoc d ↦[taskRows (2 * i.val + c.val)]{fullShare} f : sProp 𝕄)
      ⊢ bigSep Finset.univ fun i : Fin 16 => iprop(∃ f, oLoc d ↦[taskRows (2 * i.val + c.val)]{fullShare} f) :=
  bigSep_mono fun i _ => by
    show (oLoc d ↦[taskRows (2 * i.val + c.val)]{fullShare} f : sProp 𝕄) ⊢ iprop(∃ f, oLoc d ↦[taskRows (2 * i.val + c.val)]{fullShare} f)
    iintro H; iexists f; iexact H

theorem vecSplit (d : Dev nD) (c : Fin ((K (F := F)).nCore 0)) :
    stPts Tb Ib d (Fin.cast nCore_zero c) ⊢ |={Set.univ}=> iprop(
      (bigSep Finset.univ fun i : Fin ((K (F := F)).nSub 0) => goPts Tb Ib d (Fin.cast nCore_zero c) (Fin.cast nSub_zero i))
      ∗ ((bigSep Finset.univ fun i : Fin ((K (F := F)).nSub 0) => tdPts Tb Ib d (Fin.cast nCore_zero c) (Fin.cast nSub_zero i))
          -∗ dnPts Tb Ib d (Fin.cast nCore_zero c))) := by
  generalize (Fin.cast nCore_zero c : Fin 2) = c
  rw [bigSep_tasks (F := F) (fun i => goPts Tb Ib d c i), bigSep_tasks (F := F) (fun i => tdPts Tb Ib d c i),
    bigSep_sep', bigSep_sep', bigSep_sep', bigSep_sep']
  unfold stPts dnPts
  rw [pointsTo_piecesOf Finset.univ (Tb d) (by decide : 0 < 16) (cq c), pointsTo_piecesOf Finset.univ (Ib d) (by decide : 0 < 16) (cq c)]
  iintro ⟨Ht, Hi, %f, Ho⟩; imodintro
  isplitl [Ht Hi Ho]
  · isplitl [Ht]; · iexact Ht
    isplitl [Hi]; · iexact Hi
    rw [rows_split]
    exact rows_some d c f
  iintro ⟨Ht, Hi, Ho⟩
  isplitl [Ht]; · iexact Ht
  isplitl [Hi]; · iexact Hi
  rw [rows_split]; iexact Ho

theorem cores_split (d : Dev nD) (f : Buf (Elt F) (oLoc d)) :
    (oLoc d ↦{fullShare} f : sProp 𝕄) = bigSep Finset.univ fun c : Fin 2 => oLoc d ↦[coreRows c]{fullShare} f := by
  rw [← pointsTo_biUnion Finset.univ (ℓ := oLoc d) coreRows coreRows_disjoint, coreRows_cover]

theorem cores_some (d : Dev nD) (f : Buf (Elt F) (oLoc d)) :
    (bigSep Finset.univ fun c : Fin 2 => oLoc d ↦[coreRows c]{fullShare} f : sProp 𝕄)
      ⊢ bigSep Finset.univ fun c : Fin 2 => iprop(∃ f, oLoc d ↦[coreRows c]{fullShare} f) :=
  bigSep_mono fun c _ => by
    show (oLoc d ↦[coreRows c]{fullShare} f : sProp 𝕄) ⊢ iprop(∃ f, oLoc d ↦[coreRows c]{fullShare} f)
    iintro H; iexists f; iexact H

theorem st_intro (d : Dev nD) (f : Buf (Elt F) (oLoc d)) :
    iprop((tLoc d ↦{fullShare} Tb d) ∗ (iLoc d ↦{fullShare} Ib d) ∗ oLoc d ↦{fullShare} f)
      ⊢ (bigSep Finset.univ fun c : Fin ((K (F := F)).nCore 0) => stPts Tb Ib d (Fin.cast nCore_zero c) : sProp 𝕄) := by
  rw [show (bigSep Finset.univ fun c : Fin ((K (F := F)).nCore 0) => stPts Tb Ib d (Fin.cast nCore_zero c) : sProp 𝕄) = bigSep Finset.univ fun c : Fin 2 => stPts Tb Ib d c from
    bigSep_cores (F := F) (fun c => stPts Tb Ib d c), bigSep_sep', bigSep_sep',
    pointsTo_piecesOf Finset.univ (Tb d) (by decide : 0 < 2) fullShare, pointsTo_piecesOf Finset.univ (Ib d) (by decide : 0 < 2) fullShare, cores_split]
  iintro ⟨Ht, Hi, Ho⟩
  isplitl [Ht]; · iexact Ht
  isplitl [Hi]; · iexact Hi
  ihave Ho := (cores_some d f) $$ Ho
  iexact Ho

theorem dn_elim (d : Dev nD) :
    (bigSep Finset.univ fun c : Fin ((K (F := F)).nCore 0) => dnPts Tb Ib d (Fin.cast nCore_zero c) : sProp 𝕄)
      ⊢ iprop((tLoc d ↦{fullShare} Tb d) ∗ (iLoc d ↦{fullShare} Ib d) ∗ oLoc d ↦{fullShare} G Tb Ib d) := by
  rw [show (bigSep Finset.univ fun c : Fin ((K (F := F)).nCore 0) => dnPts Tb Ib d (Fin.cast nCore_zero c) : sProp 𝕄) = bigSep Finset.univ fun c : Fin 2 => dnPts Tb Ib d c from
    bigSep_cores (F := F) (fun c => dnPts Tb Ib d c), bigSep_sep', bigSep_sep',
    pointsTo_piecesOf Finset.univ (Tb d) (by decide : 0 < 2) fullShare, pointsTo_piecesOf Finset.univ (Ib d) (by decide : 0 < 2) fullShare, cores_split]

end Cert.Proof.Gather2

end
-- ==== Proof.Tile5.lean ====
/-
  One vector subcore's task of a row gather: forty chunks of 256 row numbers, each fetched into the index
  scratch, its rows of the table streamed into the row scratch, and those written to the task's rows of the result.
  The invariant carries the value: after `k` chunks, the first `256 k` of the task's rows are the table's rows that
  the list names. Then a SparseCore's operands among its tasks, and the TensorCore's among the SparseCores.
-/
module

public import proofs.«01_k».proof.Proof.Setup

@[expose] public section

noncomputable section

namespace Cert.Proof.Gather5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The task's number, from its coordinates. -/
abbrev wid (L : grid5.Coords) : ℕ := 2 * (L 1).val + (L 0).val

abbrev cV (L : grid5.Coords) : Fin τ.nSC := (L 0).castLE hcore5
abbrev jV (L : grid5.Coords) : Fin τ.nSub := (L 1).castLE hsub5

section Views

variable (tb : Memref sig .scVector .hbm S16384x128 .f32) (ib : Memref sig .scVector .hbm S327680 .i32)
  (ob : Memref sig .scVector .hbm S327680x128 .f32)

abbrev idsRect (L : grid5.Coords) (k : Fin k5_t1_loop.trips) : Rect S327680 := Rect.unit (s := S327680) (k5_off1 L k) S256.size (k5_off1_inb L k)
abbrev outRect (L : grid5.Coords) (k : Fin k5_t1_loop.trips) : Rect S327680x128 := Rect.unit (s := S327680x128) (k5_off2 L k) S256x128.size (k5_off2_inb L k)
abbrev allRect : Rect S16384x128 := Rect.unit (s := S16384x128) ![0, 0] S16384x128.size inb_S16384x128_S16384x128_0_0

theorem trips_le : k5_t1_loop.trips ≤ 40 := k5_t1_abs.2.1
theorem trips_eq : k5_t1_loop.trips = 40 := by decide

/-- A chunk's rows are among its task's. -/
theorem outRect_set (L : grid5.Coords) (k : Fin k5_t1_loop.trips) {y : S327680x128.Idx} :
    y ∈ (outRect L k).set ↔ (y 0).val / 10240 = wid L ∧ 256 * k.val ≤ (y 0).val % 10240 ∧ (y 0).val % 10240 < 256 * k.val + 256 := by
  have hk : k.val < 40 := lt_of_lt_of_le k.isLt trips_le
  have h0 : (L 0).val < 2 := (L 0).isLt
  have h1 : (L 1).val < 16 := (L 1).isLt
  have hy1 : (y 1).val < 128 := (y 1).isLt
  rw [Rect.mem_set_unit, Fin.forall_fin_two, k5_off2_eq]
  show (20480 * (L 1).val + 10240 * (L 0).val + 256 * k.val ≤ (y 0).val ∧ (y 0).val < 20480 * (L 1).val + 10240 * (L 0).val + 256 * k.val + 256)
    ∧ (0 ≤ (y 1).val ∧ (y 1).val < 0 + 128) ↔ _
  unfold wid
  omega

variable (c : Thread nD τ)

variable [FloatOps F]

/-- What the task holds at its rows of the result: after `k` chunks, the first `256 k` rows are done. -/
def Done (L : grid5.Coords) (T : S16384x128.Idx → Elt F .f32) (I : S327680.Idx → BitVec 32) (k : ℕ) (g : S327680x128.Idx → Elt F .f32) : Prop :=
  ∀ y : S327680x128.Idx, (y 0).val / 10240 = wid L → (y 0).val % 10240 < 256 * k → g y = gathered T I y

/-- What a chunk writes: row `x` of the chunk's payload is the table's row that the chunk's entry `x` names. -/
theorem payload_eq (L : grid5.Coords) (k : Fin k5_t1_loop.trips) (T : S16384x128.Idx → Elt F .f32) (I : S327680.Idx → BitVec 32)
    (hn : S256.numel = S256x128.size gathers_S16384x128_S256x128.axis')
    (hin : ∀ x : S256.Idx, (I ((idsRect L k).emb x)).toNat < S16384x128.size gathers_S16384x128_S256x128.axis) (x : S256x128.Idx) :
    SparseCore.gatherPayload gathers_S16384x128_S256x128 (fun y => T (allRect.emb y))
        (SparseCore.rows (F := F) (si := S256) (fun x => I ((idsRect L k).emb x)) hn hin) x
      = gathered T I ((outRect L k).emb x) := by
  have hk : k.val < 40 := lt_of_lt_of_le k.isLt trips_le
  unfold SparseCore.gatherPayload gathered
  have hin' : ∀ x : S256.Idx, (I ((idsRect L k).emb x)).toNat < 16384 := hin
  have ez : ∀ y : S16384x128.Idx, allRect.emb y = y := fun y => funext fun a => Fin.ext (by
    match a with
    | 0 => show 0 + 1 * (y 0).val = _; omega
    | 1 => show 0 + 1 * (y 1).val = _; omega)
  show T (allRect.emb _) = _
  rw [ez]
  congr 1
  funext a
  match a with
  | 0 =>
    refine (Shape.Gathers.idx_axis gathers_S16384x128_S256x128 _ x).trans (Fin.ext ?_)
    show (I _).toNat = (I _).toNat % 16384
    have e : ∀ y : S256.Idx, (S256.rowMajor y : ℕ) = (y 0).val := rowMajor_val
    have ey : (((S256.rowMajor.symm ((x 0 : Fin 256).cast hn.symm) : S256.Idx) 0 : Fin 256) : ℕ) = (x 0).val := by
      rw [← e, Equiv.apply_symm_apply]; rfl
    have ei : (idsRect L k).emb (S256.rowMajor.symm ((x 0 : Fin 256).cast hn.symm)) = listIx ((outRect L k).emb x 0) := funext fun a => Fin.ext (by
      match a with
      | 0 =>
        show k5_off1 L k 0 + 1 * (((S256.rowMajor.symm ((x 0 : Fin 256).cast hn.symm) : S256.Idx) 0 : Fin 256) : ℕ) = k5_off2 L k 0 + 1 * (x 0).val
        rw [ey, k5_off1_eq, k5_off2_eq]; rfl)
    rw [← ei, Nat.mod_eq_of_lt (hin' _)]
    rfl
  | 1 =>
    refine Fin.ext ((Shape.Gathers.idx_of_ne gathers_S16384x128_S256x128 _ x 1 (by decide)).trans ?_)
    show (x 1).val = k5_off2 L k 1 + 1 * (x 1).val
    rw [k5_off2_eq]; show _ = 0 + 1 * _; omega

/-! ## The task -/

theorem numel_rows : 0 < S256x128.numel := by decide
theorem numel_list : 0 < S256.numel := by decide

variable (d : Dev nD) (L : grid5.Coords)
  (sb : Memref sig .scVector .vmem S256 .i32) (rb : Memref sig .scVector .vmem S256x128 .f32)
  (se s0 s1 : DmaSems sig S_)
  (T : S16384x128.Idx → Elt F .f32) (I : S327680.Idx → BitVec 32)

abbrev tile (d : Dev nD) (L : grid5.Coords) : Thread nD τ := V d (cV L) (jV L)

/-- The loop's invariant after `k` chunks. -/
def inv (qt qi : PosShare TreeShare) (ft : Buf (Elt F) (tb.view.loc (tile d L))) (fi : Buf (Elt F) (ib.view.loc (tile d L)))
    (O : CellTallies nD τ sig (HIx 2)) (W : Waits sig (HIx 2)) (k : ℕ) (_ : PUnit.{1}) : sProp 𝕄 :=
  iprop(Transfers.MayWaits (tile d L) (default : HIx 2) O
    ∗ (tb.view.loc (tile d L) ↦{qt} ft)
    ∗ (ib.view.loc (tile d L) ↦{qi} fi)
    ∗ (∃ fo, ⌜Done L (tb.view.read (Elt F) ft) (ib.view.read (Elt F) fi) k (ob.view.read (Elt F) fo)⌝
        ∗ ob.view.loc (tile d L) ↦[(taskRows (wid L)).map ob.view.emb]{fullShare} fo)
    ∗ (∃ f, sb.view.loc (tile d L) ↦[sb.view.set]{fullShare} f)
    ∗ (∃ f, rb.view.loc (tile d L) ↦[rb.view.set]{fullShare} f)
    ∗ semVal (tile d L, SemLoc.dma se.sem) 0 ∗ semVal (tile d L, SemLoc.dma s0.sem) 0 ∗ semVal (tile d L, SemLoc.dma s1.sem) 0
    ∗ ∃ W', ⌜∀ p ∈ W', p ∈ W ∨ p.2 = none⌝ ∗ owes (tile d L) O W')

set_option maxHeartbeats 4000000 in
set_option maxRecDepth 16384 in
/-- One task: from shares of the table and of the list, every entry of the list a row of the table, its rows of the
    result end as the table's rows that the list names. -/
theorem task (htb : tb.IsWhole) (hib : ib.IsWhole) (hob : ob.IsWhole) (hsb : sb.IsWhole) (hrb : rb.IsWhole)
    (qt qi : PosShare TreeShare) (ft : Buf (Elt F) (tb.view.loc (tile d L))) (fi : Buf (Elt F) (ib.view.loc (tile d L)))
    (hN : ∀ h : S16384x128.Gathers 0 S256x128, ∑ j, (rb.slice (S256x128.rowRect h.axis' j) (S256x128.stride_rowRect h.axis' j)).view.dmaCredit
        = rb.view.dmaCredit)
    (hin : ∀ j, (ib.view.read (Elt F) fi j : BitVec 32).toNat < 16384)
    (O : CellTallies nD τ sig (HIx 2)) (W : Waits sig (HIx 2)) :
    inv tb ib ob d L sb rb se s0 s1 qt qi ft fi O W 0 ⟨⟩
      ⊢ wp frame (wpE (defs₀ (F := F)) 𝒱₀ (tile d L) none) Set.univ
          (cc5_gather L tb htb ib hib ob hob sb hsb rb hrb se s0 s1)
          fun _ => inv tb ib ob d L sb rb se s0 s1 qt qi ft fi O W 40 ⟨⟩ := by
  simp only [cc5_gather_eq_skeleton]; unfold cc5_gather_skel
  iintro HI
  sl_exec
  sl_for (inv tb ib ob d L sb rb se s0 s1 qt qi ft fi O W) $$ [HI]
  case region =>
    intro k _
    unfold inv
    iintro ⟨#Hmw, Ht, Hi, ⟨%fo, %hdone, Ho⟩, ⟨%fs, Hs⟩, ⟨%fr, Hr⟩, Hse, Hs0, Hs1, %W', %hW', HO⟩
    sl_exec (disch := exact View.amount_pos _ _ (numel_list))
    have hsr : sb.view.read (Elt F) (sb.view.writes (Elt F) sb.view.junk [⟨Rect.whole S256, task.sl.dma0 ib d L fi k⟩])
        = fun x => ib.view.read (Elt F) fi ((idsRect L k).emb x) :=
      funext fun x => (View.read_writes_cons_hit sb.view sb.view.junk (Rect.whole S256) (task.sl.dma0 ib d L fi k) [] x x (by exact Rect.emb_whole_apply S256 x)).trans rfl
    have hinb : ∀ x, (sb.view.read (Elt F) (sb.view.writes (Elt F) sb.view.junk [⟨Rect.whole S256, task.sl.dma0 ib d L fi k⟩]) x : BitVec 32).toNat
        < S16384x128.size gathers_S16384x128_S256x128.axis := fun x => by rw [hsr]; exact hin _
    ihave Hxs := (pointsTo_split_subset (q := qt) (f := ft) (S := Finset.univ)
      (Finset.subset_univ (tb.slice allRect (fun _ => rfl)).view.set)).1 $$ Ht
    icases Hxs with ⟨Hxs, Hxr⟩
    iapply (SparseCore.wp_indirectGatherLocal countersEmb 𝒱₀ (tile d L) none (hg := gathers_S16384x128_S256x128) (default : HIx 2)
      rb.view.dmaCredit (hN _) (by decide) hinb) $$ [Hxs Hr Hs Hse]
    · isplitl [Hxs]; · iexact Hxs
      isplitl [Hr]; · iexact Hr
      isplitl [Hs]; · iexact Hs
      iexact Hse
    iintro Hfl
    sl_exec
    iapply (Transfers.wp_waitLocalO countersEmb 𝒱₀ (tile d L) none (default : HIx 2) (rfl : rb.view.dmaCredit = _)) $$ [Hfl HO]
    · isplitl [Hfl]; · iexact Hfl
      isplitl [HO]; · iexact HO
      iapply (Transfers.MayWaits.elim (SemLoc.dma se.sem)) $$ Hmw
    iintro ⟨⟨Hr, Hxs, Hs⟩, Hse, HO⟩
    ihave Ht := (pointsTo_split_subset (q := qt) (f := ft) (S := Finset.univ)
      (Finset.subset_univ (tb.slice allRect (fun _ => rfl)).view.set)).2 $$ [Hxs Hxr]
    · isplitl [Hxs] <;> iassumption
    simp only [Prog.lift, wp_bind, wp_ret, pure_bind]
    imodintro
    have hsub : (ob.slice (outRect L k) (fun _ => rfl)).view.set ⊆ (taskRows (wid L)).map ob.view.emb := by
      show (ob.view.slice (outRect L k)).set ⊆ _
      rw [View.set_slice]
      refine Finset.map_subset_map.mpr fun y hy => ?_
      simp only [Finset.mem_filter, Finset.mem_univ, true_and]
      exact ((outRect_set L k).mp hy).1
    ihave Hos := (pointsTo_split_subset (q := fullShare) (f := fo) hsub).1 $$ Ho
    icases Hos with ⟨Hoc, Hor⟩
    ihave Hoc := (Entails.of_eq (show ((ob.view.loc (tile d L) ↦[(ob.slice (outRect L k) (fun _ => rfl)).view.set]{fullShare} fo : sProp 𝕄))
      = ((ob.slice (outRect L k) (fun _ => rfl)).view.loc (tile d L) ↦[(ob.slice (outRect L k) (fun _ => rfl)).view.set]{fullShare} fo) from rfl)) $$ Hoc
    iapply (Transfers.wp_dmaLocal countersEmb 𝒱₀ (tile d L) none (default : HIx 2)
      ((ob.slice (outRect L k) (fun _ => rfl)).view.amount (SemLoc.dma s1.sem)) rfl (View.amount_pos _ _ numel_rows) subset_rfl) $$ [Hr Hoc Hs1]
    · isplitl [Hr]; · iexact Hr
      isplitl [Hoc]; · iexact Hoc
      iexact Hs1
    iintro Hfl
    simp only [wp_ret]
    imodintro
    iapply (Transfers.wp_waitLocalO countersEmb 𝒱₀ (tile d L) none (default : HIx 2)
      (rfl : (ob.slice (outRect L k) (fun _ => rfl)).view.dmaCredit = _)) $$ [Hfl HO]
    · isplitl [Hfl]; · iexact Hfl
      isplitl [HO]; · iexact HO
      iapply (Transfers.MayWaits.elim (SemLoc.dma s1.sem)) $$ Hmw
    iintro ⟨⟨Hoc, Hr⟩, Hs1, HO⟩
    simp only [wp_ret]
    imodintro
    -- the chunk's rows written, the others of the task's kept
    obtain ⟨pay, hpay⟩ : ∃ pay : S256x128.Idx → Elt F .f32, pay = rb.view.read (Elt F) (rb.view.write (Elt F) fr
        (SparseCore.gatherPayload gathers_S16384x128_S256x128 (fun y => tb.view.read (Elt F) ft (allRect.emb y))
          (SparseCore.rows (F := F) (si := S256) _ rfl hinb)) Finset.univ) := ⟨_, rfl⟩
    have hval : pay = fun x => gathered (tb.view.read (Elt F) ft) (ib.view.read (Elt F) fi) ((outRect L k).emb x) := by
      rw [hpay, View.read_write_univ]
      have hin2 : ∀ x : S256.Idx, (ib.view.read (Elt F) fi ((idsRect L k).emb x) : BitVec 32).toNat < S16384x128.size gathers_S16384x128_S256x128.axis :=
        fun x => hin _
      have h2 : (SparseCore.rows (F := F) (si := S256) _ rfl hinb : Fin 256 → Fin 16384)
          = SparseCore.rows (F := F) (si := S256) (fun x => ib.view.read (Elt F) fi ((idsRect L k).emb x)) rfl hin2 :=
        by
          refine funext fun j => Fin.ext ?_
          have h := congrArg (fun b : BitVec 32 => b.toNat) (congrFun hsr (S256.rowMajor.symm (Fin.cast (by decide) j)))
          exact h
      funext x
      exact (congrArg (fun r => SparseCore.gatherPayload gathers_S16384x128_S256x128
        (fun y => tb.view.read (Elt F) ft (allRect.emb y)) r x) h2).trans
        (payload_eq L k (tb.view.read (Elt F) ft) (ib.view.read (Elt F) fi) rfl hin2 x)
    obtain ⟨g, hg⟩ : ∃ g : Buf (Elt F) (ob.view.loc (tile d L)), g = (ob.view.slice (outRect L k)).write (Elt F) fo pay Finset.univ := ⟨_, rfl⟩
    have hkeep : ∀ y, y ∉ (outRect L k).set → g (ob.view.emb y) = fo (ob.view.emb y) := fun y hy => by
      rw [hg]
      refine View.write_of_not_mem _ _ _ fun hx => hy ?_
      have hx' : ob.view.emb y ∈ (ob.view.slice (outRect L k)).set := hx
      rw [View.set_slice] at hx'
      exact (Finset.mem_map' ob.view.emb).mp hx'
    have hdone' : Done L (tb.view.read (Elt F) ft) (ib.view.read (Elt F) fi) (k.val + 1) (ob.view.read (Elt F) g) := by
      intro y hw hlt
      by_cases hy : y ∈ (outRect L k).set
      · rw [← Rect.map_emb_univ] at hy
        obtain ⟨x, -, rfl⟩ := Finset.mem_map.mp hy
        have e1 : ob.view.read (Elt F) g ((outRect L k).emb x) = (ob.slice (outRect L k) (fun _ => rfl)).view.read (Elt F) g x := rfl
        rw [e1, hg]
        refine (congrFun (View.read_write_univ (v := ob.view.slice (outRect L k)) fo pay) x).trans ?_
        exact congrFun hval x
      · have e2 : ob.view.read (Elt F) g y = ob.view.read (Elt F) fo y := congrArg _ (hkeep y hy)
        rw [e2]
        refine hdone y hw ?_
        rw [outRect_set] at hy
        omega
    ihave Hoc := (Entails.of_eq (show (((ob.slice (outRect L k) (fun _ => rfl)).view.loc (tile d L) ↦[(ob.slice (outRect L k) (fun _ => rfl)).view.set]{fullShare} _ : sProp 𝕄))
      = (ob.view.loc (tile d L) ↦[(ob.slice (outRect L k) (fun _ => rfl)).view.set]{fullShare} g) from by subst hg; subst hpay; rfl)) $$ Hoc
    ihave Hor := (Entails.of_eq (pointsTo_congr (q := fullShare) (f := fo) (g := g) (I := (taskRows (wid L)).map ob.view.emb \ (ob.slice (outRect L k) (fun _ => rfl)).view.set)
      fun i hi => by
        obtain ⟨h1, h2⟩ := Finset.mem_sdiff.mp hi
        obtain ⟨y, -, rfl⟩ := Finset.mem_map.mp h1
        refine (hkeep y fun hy => h2 ?_).symm
        show _ ∈ (ob.view.slice (outRect L k)).set
        rw [View.set_slice]; exact Finset.mem_map_of_mem _ hy)) $$ Hor
    ihave Ho := (pointsTo_split_subset (q := fullShare) (f := g) hsub).2 $$ [Hoc Hor]
    · isplitl [Hoc] <;> iassumption
    sl_step
    isplitr; · iexact Hmw
    isplitl [Ht]; · iexact Ht
    isplitl [Hi]; · iexact Hi
    isplitl [Ho]
    · iexists g; isplitr
      · ipureintro; exact hdone'
      · iexact Ho
    isplitl [Hs]; · iexists _; iexact Hs
    isplitl [Hr]; · iexists _; iexact Hr
    isplitl [Hse]; · iexact Hse
    isplitl [Hs0]; · iexact Hs0
    isplitl [Hs1]; · iexact Hs1
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · iexact HI
  iintro %_ HI
  sl_exec
  sl_step
  irw [show (40 : ℕ) = Scf.trips k5_t1_loop.lb k5_t1_loop.ub k5_t1_loop.st from trips_eq.symm]
  iexact HI

end Views

theorem nSub_zero : (K (F := F)).nSub 1 = 16 := rfl
theorem nCore_zero : (K (F := F)).nCore 1 = 2 := rfl

/-! ## The buffers -/

abbrev tLoc (d : Dev nD) : Loc nD τ sig := (SparseCore.T d).loc main_v54_0
abbrev iLoc (d : Dev nD) : Loc nD τ sig := (SparseCore.T d).loc main_arg2
abbrev oLoc (d : Dev nD) : Loc nD τ sig := (SparseCore.T d).loc main_v55

local notation "tV" => (Memref.whole Cert.KernelIdeal.main_v54_0_scv : Memref Cert.KernelIdeal.sig Kind.scVector Space.hbm Cert.KernelIdeal.S16384x128 EltTy.f32)
local notation "iV" => (Memref.whole Cert.KernelIdeal.main_arg2_scv : Memref Cert.KernelIdeal.sig Kind.scVector Space.hbm Cert.KernelIdeal.S327680 EltTy.i32)
local notation "oV" => (Memref.whole Cert.KernelIdeal.main_v55_scv : Memref Cert.KernelIdeal.sig Kind.scVector Space.hbm Cert.KernelIdeal.S327680x128 EltTy.f32)
local notation "sV" => (Memref.whole Cert.KernelIdeal.cc5_scratch0 : Memref Cert.KernelIdeal.sig Kind.scVector Space.vmem Cert.KernelIdeal.S256 EltTy.i32)
local notation "rV" => (Memref.whole Cert.KernelIdeal.cc5_scratch1 : Memref Cert.KernelIdeal.sig Kind.scVector Space.vmem Cert.KernelIdeal.S256x128 EltTy.f32)

/-! ## What the handshakes carry -/

variable (Tb : (d : Dev nD) → Buf (Elt F) (tLoc d)) (Ib : (d : Dev nD) → Buf (Elt F) (iLoc d))

/-- The gathered rows. -/
def G (d : Dev nD) : Buf (Elt F) (oLoc d) := gathered (F := F) (Tb d) (Ib d)

abbrev stPts (d : Dev nD) (c : Fin 2) : sProp 𝕄 :=
  iprop((tLoc d ↦{cq c} Tb d) ∗ (iLoc d ↦{cq c} Ib d) ∗ ∃ f, oLoc d ↦[coreRows c]{fullShare} f)
abbrev dnPts (d : Dev nD) (c : Fin 2) : sProp 𝕄 :=
  iprop((tLoc d ↦{cq c} Tb d) ∗ (iLoc d ↦{cq c} Ib d) ∗ oLoc d ↦[coreRows c]{fullShare} G Tb Ib d)
abbrev goPts (d : Dev nD) (c : Fin 2) (i : Fin 16) : sProp 𝕄 :=
  iprop((tLoc d ↦{tq c i} Tb d) ∗ (iLoc d ↦{tq c i} Ib d) ∗ ∃ f, oLoc d ↦[taskRows (2 * i.val + c.val)]{fullShare} f)
abbrev tdPts (d : Dev nD) (c : Fin 2) (i : Fin 16) : sProp 𝕄 :=
  iprop((tLoc d ↦{tq c i} Tb d) ∗ (iLoc d ↦{tq c i} Ib d) ∗ oLoc d ↦[taskRows (2 * i.val + c.val)]{fullShare} G Tb Ib d)

/-- What the proof asks of the list: every entry names a row of the table. -/
def ListOK : Prop := ∀ (d : Dev nD) (j : S327680.Idx), (Ib d j : BitVec 32).toNat < 16384

variable [FloatOps F]

/-! ## The task in the launch's terms -/

section Tile

variable (d : Dev nD) (L : grid5.Coords)

theorem bound_zero : grid5.bound 0 = 2 := rfl
theorem bound_one : grid5.bound 1 = 16 := rfl
abbrev cL (L : grid5.Coords) : Fin 2 := Fin.cast bound_zero (L 0)
abbrev iL (L : grid5.Coords) : Fin 16 := Fin.cast bound_one (L 1)

abbrev cA (d : Dev nD) (L : grid5.Coords) : GSem nD τ sig := (tile d L, .dma cc5_scratch2.sem)
abbrev cB (d : Dev nD) (L : grid5.Coords) : GSem nD τ sig := (tile d L, .dma cc5_scoped0.sem)
abbrev cC (d : Dev nD) (L : grid5.Coords) : GSem nD τ sig := (tile d L, .dma cc5_scoped1.sem)

theorem ownSems0_tile :
    (ownSems0 (tile d L) : sProp 𝕄)
      = iprop(semVal (cA d L) 0 ∗ semVal (cB d L) 0 ∗ semVal (cC d L) 0
          ∗ bigSep ((((ownCells (tile d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc5_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc5_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc5_scoped1.sem : SemLoc sig).isScoped .scVector = true; decide⟩⟩⟩)]

theorem ownBufs_tile :
    (ownBufs (tile d L) : sProp 𝕄)
      = iprop((∃ f, (tile d L).loc cc5_scratch0 ↦{fullShare} f) ∗ (∃ f, (tile d L).loc cc5_scratch1 ↦{fullShare} f)
          ∗ bigSep (((ownRefs (τ := τ) (.scVector (cV L) (jV L))).erase ((Proc.scVector (cV L) (jV L)).devRef cc5_scratch0)).erase
              ((Proc.scVector (cV L) (jV L)).devRef cc5_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc5_scratch0) rfl)).trans ?_
  rw [SparseCore.bigSep_erase' (Finset.mem_erase.mpr ⟨fun e => absurd (Proc.devRef_injective _ e) (show (cc5_scratch1 : Ref sig .scVector) ≠ cc5_scratch0 by decide),
    SparseCore.Cfg.mem_ownRefs_of_owner (p := Proc.scVector (cV L) (jV L)) (b := (Proc.scVector (cV L) (jV L)).devRef cc5_scratch1) rfl⟩)]

theorem out_map : (taskRows (wid L)).map (oV).view.emb = taskRows (2 * (iL L).val + (cL L).val) := by
  show (taskRows (wid L)).map (View.whole (main_v55_scv : Ref sig .scVector)).emb = _
  exact Finset.map_refl

theorem credit : ∀ h : S16384x128.Gathers 0 S256x128, ∑ j, ((rV).slice (S256x128.rowRect h.axis' j) (S256x128.stride_rowRect h.axis' j)).view.dmaCredit
      = (rV).view.dmaCredit := by decide

set_option maxHeartbeats 1000000 in
theorem tile_body (hF : (K (F := F)).Facts) (hok : ListOK Ib) (O : CellTallies nD τ sig (HIx 2)) (W : Waits sig (HIx 2)) (hO : ∀ g, O g none = 0) :
    iprop(levAts (K (F := F)).L (K (F := F)).lev ∗ emp
        ∗ goPts Tb Ib d (cL L) (iL L)
        ∗ scopedBufs (tile d L) ∗ scopedSems0 (tile d L) ∗ owes (tile d L) O W)
      ⊢ wp frame (wpE (defs₀ (F := F)) 𝒱₀ (tile d L) none) Set.univ
          (cc5_gather L tV (Memref.isWhole_whole _) iV (Memref.isWhole_whole _) oV (Memref.isWhole_whole _)
            sV (Memref.isWhole_whole _) rV (Memref.isWhole_whole _) cc5_scratch2 cc5_scoped0 cc5_scoped1)
          fun _ => iprop(tdPts Tb Ib d (cL L) (iL L)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_tile, ownBufs_tile]
  have hrs : (rV).view.set = Finset.univ := View.set_whole _
  have hss : (sV).view.set = Finset.univ := View.set_whole _
  have hin : ∀ j, ((iV).view.read (Elt F) (Ib d) j : BitVec 32).toNat < 16384 := fun j => hok d j
  iintro ⟨#Hlv, -, ⟨Ht, Hi, ⟨%fo, Ho⟩⟩, ⟨⟨%fs, Hs⟩, ⟨%fr, Hr⟩, Hbufs⟩, ⟨HsA, HsB, HsC, Hsems⟩, HO⟩
  ihave #Hmw := (show levAts (K (F := F)).L (K (F := F)).lev ⊢ Transfers.MayWaits (tile d L) (default : HIx 2) O from
    (K (F := F)).mayWaits_none (thr := tile d L) hO) $$ Hlv
  ihave Hwp := (task tV iV oV d L sV rV cc5_scratch2 cc5_scoped0 cc5_scoped1 (Memref.isWhole_whole _) (Memref.isWhole_whole _)
      (Memref.isWhole_whole _) (Memref.isWhole_whole _) (Memref.isWhole_whole _) (tq (cL L) (iL L)) (tq (cL L) (iL L)) (Tb d) (Ib d) credit hin O W)
    $$ [Ht Hi Ho Hs Hr HsA HsB HsC HO]
  · unfold inv
    isplitr; · iexact Hmw
    isplitl [Ht]; · iexact Ht
    isplitl [Hi]; · iexact Hi
    isplitl [Ho]
    · iexists fo; isplitr
      · ipureintro; intro y _ hlt; omega
      · rw [out_map]; iexact Ho
    isplitl [Hs]
    · iexists fs; rw [hss]; iexact Hs
    isplitl [Hr]
    · iexists fr; rw [hrs]; iexact Hr
    isplitl [HsA]; · iexact HsA
    isplitl [HsB]; · iexact HsB
    isplitl [HsC]; · iexact HsC
    iexists W; isplitr
    · ipureintro; exact fun p hp => .inl hp
    · iexact HO
  iapply (wp_wand frame _ _) $$ Hwp
  iintro %_ H
  unfold inv
  icases H with ⟨-, Ht, Hi, ⟨%g, %hdone, Ho⟩, ⟨%fs', Hs⟩, ⟨%fr', Hr⟩, HsA, HsB, HsC, HO⟩
  have hg : ∀ y ∈ taskRows (2 * (iL L).val + (cL L).val), g y = G Tb Ib d y := fun y hy =>
    hdone y (Finset.mem_filter.mp hy).2 (Nat.mod_lt _ (by decide))
  isplitl [Ht Hi Ho]
  · isplitl [Ht]; · iexact Ht
    isplitl [Hi]; · iexact Hi
    rw [out_map]
    ihave Ho' := (Entails.of_eq (pointsTo_congr (ℓ := oLoc d) (q := fullShare) (f := g) (g := G Tb Ib d) hg)) $$ Ho
    iexact Ho'
  isplitl [Hs Hr Hbufs]
  · isplitl [Hs]
    · iexists fs'; rw [hss]; iexact Hs
    isplitl [Hr]
    · iexists fr'; rw [hrs]; iexact Hr
    iexact Hbufs
  isplitl [HsA HsB HsC Hsems]
  · isplitl [HsA]; · iexact HsA
    isplitl [HsB]; · iexact HsB
    isplitl [HsC]; · iexact HsC
    iexact Hsems
  iexact HO

def coordsV (c : Fin (grid5.bound 0)) (s : Fin (grid5.bound 1)) : grid5.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 5 ()
      = SparseCore.onTile hcore5 hsub5 (fun c s => cc5_gather (coordsV c s)
          tV (Memref.isWhole_whole _) iV (Memref.isWhole_whole _) oV (Memref.isWhole_whole _)
          sV (Memref.isWhole_whole _) rV (Memref.isWhole_whole _) cc5_scratch2 cc5_scoped0 cc5_scoped1) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

/-! ## A SparseCore's operands among its tasks -/

theorem bigSep_tasks (Φ : Fin 16 → sProp 𝕄) :
    (bigSep Finset.univ fun i : Fin ((K (F := F)).nSub 1) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 1) => Φ (Fin.cast nCore_zero c)) = bigSep Finset.univ Φ :=
  bigSep_congr fun _ _ => congrArg Φ (Fin.ext rfl)

theorem rows_split (d : Dev nD) (c : Fin 2) (f : Buf (Elt F) (oLoc d)) :
    (oLoc d ↦[coreRows c]{fullShare} f : sProp 𝕄)
      = bigSep Finset.univ fun i : Fin 16 => oLoc d ↦[taskRows (2 * i.val + c.val)]{fullShare} f := by
  rw [← pointsTo_biUnion Finset.univ (ℓ := oLoc d) (fun i : Fin 16 => taskRows (2 * i.val + c.val)) (taskRows_disjoint c), taskRows_cover]

theorem rows_some (d : Dev nD) (c : Fin 2) (f : Buf (Elt F) (oLoc d)) :
    (bigSep Finset.univ fun i : Fin 16 => oLoc d ↦[taskRows (2 * i.val + c.val)]{fullShare} f : sProp 𝕄)
      ⊢ bigSep Finset.univ fun i : Fin 16 => iprop(∃ f, oLoc d ↦[taskRows (2 * i.val + c.val)]{fullShare} f) :=
  bigSep_mono fun i _ => by
    show (oLoc d ↦[taskRows (2 * i.val + c.val)]{fullShare} f : sProp 𝕄) ⊢ iprop(∃ f, oLoc d ↦[taskRows (2 * i.val + c.val)]{fullShare} f)
    iintro H; iexists f; iexact H

theorem vecSplit (d : Dev nD) (c : Fin ((K (F := F)).nCore 1)) :
    stPts Tb Ib d (Fin.cast nCore_zero c) ⊢ |={Set.univ}=> iprop(
      (bigSep Finset.univ fun i : Fin ((K (F := F)).nSub 1) => goPts Tb Ib d (Fin.cast nCore_zero c) (Fin.cast nSub_zero i))
      ∗ ((bigSep Finset.univ fun i : Fin ((K (F := F)).nSub 1) => tdPts Tb Ib d (Fin.cast nCore_zero c) (Fin.cast nSub_zero i))
          -∗ dnPts Tb Ib d (Fin.cast nCore_zero c))) := by
  generalize (Fin.cast nCore_zero c : Fin 2) = c
  rw [bigSep_tasks (F := F) (fun i => goPts Tb Ib d c i), bigSep_tasks (F := F) (fun i => tdPts Tb Ib d c i),
    bigSep_sep', bigSep_sep', bigSep_sep', bigSep_sep']
  unfold stPts dnPts
  rw [pointsTo_piecesOf Finset.univ (Tb d) (by decide : 0 < 16) (cq c), pointsTo_piecesOf Finset.univ (Ib d) (by decide : 0 < 16) (cq c)]
  iintro ⟨Ht, Hi, %f, Ho⟩; imodintro
  isplitl [Ht Hi Ho]
  · isplitl [Ht]; · iexact Ht
    isplitl [Hi]; · iexact Hi
    rw [rows_split]
    exact rows_some d c f
  iintro ⟨Ht, Hi, Ho⟩
  isplitl [Ht]; · iexact Ht
  isplitl [Hi]; · iexact Hi
  rw [rows_split]; iexact Ho

theorem cores_split (d : Dev nD) (f : Buf (Elt F) (oLoc d)) :
    (oLoc d ↦{fullShare} f : sProp 𝕄) = bigSep Finset.univ fun c : Fin 2 => oLoc d ↦[coreRows c]{fullShare} f := by
  rw [← pointsTo_biUnion Finset.univ (ℓ := oLoc d) coreRows coreRows_disjoint, coreRows_cover]

theorem cores_some (d : Dev nD) (f : Buf (Elt F) (oLoc d)) :
    (bigSep Finset.univ fun c : Fin 2 => oLoc d ↦[coreRows c]{fullShare} f : sProp 𝕄)
      ⊢ bigSep Finset.univ fun c : Fin 2 => iprop(∃ f, oLoc d ↦[coreRows c]{fullShare} f) :=
  bigSep_mono fun c _ => by
    show (oLoc d ↦[coreRows c]{fullShare} f : sProp 𝕄) ⊢ iprop(∃ f, oLoc d ↦[coreRows c]{fullShare} f)
    iintro H; iexists f; iexact H

theorem st_intro (d : Dev nD) (f : Buf (Elt F) (oLoc d)) :
    iprop((tLoc d ↦{fullShare} Tb d) ∗ (iLoc d ↦{fullShare} Ib d) ∗ oLoc d ↦{fullShare} f)
      ⊢ (bigSep Finset.univ fun c : Fin ((K (F := F)).nCore 1) => stPts Tb Ib d (Fin.cast nCore_zero c) : sProp 𝕄) := by
  rw [show (bigSep Finset.univ fun c : Fin ((K (F := F)).nCore 1) => stPts Tb Ib d (Fin.cast nCore_zero c) : sProp 𝕄) = bigSep Finset.univ fun c : Fin 2 => stPts Tb Ib d c from
    bigSep_cores (F := F) (fun c => stPts Tb Ib d c), bigSep_sep', bigSep_sep',
    pointsTo_piecesOf Finset.univ (Tb d) (by decide : 0 < 2) fullShare, pointsTo_piecesOf Finset.univ (Ib d) (by decide : 0 < 2) fullShare, cores_split]
  iintro ⟨Ht, Hi, Ho⟩
  isplitl [Ht]; · iexact Ht
  isplitl [Hi]; · iexact Hi
  ihave Ho := (cores_some d f) $$ Ho
  iexact Ho

theorem dn_elim (d : Dev nD) :
    (bigSep Finset.univ fun c : Fin ((K (F := F)).nCore 1) => dnPts Tb Ib d (Fin.cast nCore_zero c) : sProp 𝕄)
      ⊢ iprop((tLoc d ↦{fullShare} Tb d) ∗ (iLoc d ↦{fullShare} Ib d) ∗ oLoc d ↦{fullShare} G Tb Ib d) := by
  rw [show (bigSep Finset.univ fun c : Fin ((K (F := F)).nCore 1) => dnPts Tb Ib d (Fin.cast nCore_zero c) : sProp 𝕄) = bigSep Finset.univ fun c : Fin 2 => dnPts Tb Ib d c from
    bigSep_cores (F := F) (fun c => dnPts Tb Ib d c), bigSep_sep', bigSep_sep',
    pointsTo_piecesOf Finset.univ (Tb d) (by decide : 0 < 2) fullShare, pointsTo_piecesOf Finset.univ (Ib d) (by decide : 0 < 2) fullShare, cores_split]

end Cert.Proof.Gather5

end
-- ==== Proof.Launch.lean ====
/-
  The run of the whole program: what the two SparseCore calls' handshakes carry, the tasks' obligations, the launch's
  ghost state, `@main` on the TensorCore, and the final state: the core's unscoped buffers as the chain of steps leaves
  them, every semaphore zero.
-/
module

public import proofs.«01_k».proof.Proof.Chain
public import proofs.«01_k».proof.Proof.Tile2
public import proofs.«01_k».proof.Proof.Tile5

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 2) (Elt F) ℕ UU ℕ

variable [FloatOps F]

/-! ## What the handshakes carry -/

section Pay

variable (Ta : (d : Dev nD) → Buf (Elt F) (Gather2.tLoc d)) (Ia : (d : Dev nD) → Buf (Elt F) (Gather2.iLoc d))
  (Tc : (d : Dev nD) → Buf (Elt F) (Gather5.tLoc d)) (Ic : (d : Dev nD) → Buf (Elt F) (Gather5.iLoc d))

def P : (K (F := F)).Pay (nD := nD) (Val := Elt F) (Name := ℕ) (U := UU) where
  st := fun q d c => match q with
    | 0 => Gather2.stPts Ta Ia d (Fin.cast Gather2.nCore_zero c)
    | 1 => Gather5.stPts Tc Ic d (Fin.cast Gather5.nCore_zero c)
  dn := fun q d c => match q with
    | 0 => Gather2.dnPts Ta Ia d (Fin.cast Gather2.nCore_zero c)
    | 1 => Gather5.dnPts Tc Ic d (Fin.cast Gather5.nCore_zero c)
  go := fun q d c i => match q with
    | 0 => Gather2.goPts Ta Ia d (Fin.cast Gather2.nCore_zero c) (Fin.cast Gather2.nSub_zero i)
    | 1 => Gather5.goPts Tc Ic d (Fin.cast Gather5.nCore_zero c) (Fin.cast Gather5.nSub_zero i)
  td := fun q d c i => match q with
    | 0 => Gather2.tdPts Ta Ia d (Fin.cast Gather2.nCore_zero c) (Fin.cast Gather2.nSub_zero i)
    | 1 => Gather5.tdPts Tc Ic d (Fin.cast Gather5.nCore_zero c) (Fin.cast Gather5.nSub_zero i)
  x := fun _ _ => iprop(emp)

instance P_storable : (P (F := F) Ta Ia Tc Ic).IsStorable where
  st q d c := match q with
    | 0 => (inferInstance : BI.Storable (upEmb : UEmb _ 𝕄) (Gather2.stPts Ta Ia d (Fin.cast Gather2.nCore_zero c)))
    | 1 => (inferInstance : BI.Storable (upEmb : UEmb _ 𝕄) (Gather5.stPts Tc Ic d (Fin.cast Gather5.nCore_zero c)))
  dn q d c := match q with
    | 0 => (inferInstance : BI.Storable (upEmb : UEmb _ 𝕄) (Gather2.dnPts Ta Ia d (Fin.cast Gather2.nCore_zero c)))
    | 1 => (inferInstance : BI.Storable (upEmb : UEmb _ 𝕄) (Gather5.dnPts Tc Ic d (Fin.cast Gather5.nCore_zero c)))
  go q d c i := match q with
    | 0 => (inferInstance : BI.Storable (upEmb : UEmb _ 𝕄) (Gather2.goPts Ta Ia d (Fin.cast Gather2.nCore_zero c) (Fin.cast Gather2.nSub_zero i)))
    | 1 => (inferInstance : BI.Storable (upEmb : UEmb _ 𝕄) (Gather5.goPts Tc Ic d (Fin.cast Gather5.nCore_zero c) (Fin.cast Gather5.nSub_zero i)))
  td q d c i := match q with
    | 0 => (inferInstance : BI.Storable (upEmb : UEmb _ 𝕄) (Gather2.tdPts Ta Ia d (Fin.cast Gather2.nCore_zero c) (Fin.cast Gather2.nSub_zero i)))
    | 1 => (inferInstance : BI.Storable (upEmb : UEmb _ 𝕄) (Gather5.tdPts Tc Ic d (Fin.cast Gather5.nCore_zero c) (Fin.cast Gather5.nSub_zero i)))

set_option maxRecDepth 16384 in
/-- The obligation of the tasks of gather 0. -/
theorem tileObl2 (hok : Gather2.ListOK Ia) : (K (F := F)).TileObl (D (F := F)) 𝒱 (P Ta Ia Tc Ic) v₀ 0 := by
  intro d c i O W hO _ _
  simp only [show (P Ta Ia Tc Ic).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [Gather2.defs₀_vector]; simp only [SparseCore.onTile, hci, and_self, ↓reduceDIte]
  exact (Gather2.tile_body Ta Ia d (Gather2.coordsV ⟨_, hci.1⟩ ⟨_, hci.2⟩) facts hok O W hO).trans (wp_mono frame _ _ fun _ => Gather2.obl_post)

theorem vecSplit2 : (K (F := F)).VecSplit' (P Ta Ia Tc Ic) 0 := fun d c => Gather2.vecSplit Ta Ia d c

set_option maxRecDepth 16384 in
/-- The obligation of the tasks of gather 1. -/
theorem tileObl5 (hok : Gather5.ListOK Ic) : (K (F := F)).TileObl (D (F := F)) 𝒱 (P Ta Ia Tc Ic) v₀ 1 := by
  intro d c i O W hO _ _
  simp only [show (P Ta Ia Tc Ic).ox = fun _ _ => 0 from rfl, add_zero]
  have hci : ((K (F := F)).core 1 c).val < grid5.bound 0 ∧ ((K (F := F)).sub 1 i).val < grid5.bound 1 := ⟨c.isLt, i.isLt⟩
  change _ ⊢ wp _ _ _ (Pipeline.liftProg (defs₀ (F := F) (.scVector ((K (F := F)).core 1 c) ((K (F := F)).sub 1 i)) 5 ())) _
  refine BI.Entails.trans ?_ (Pipeline.wp_liftProg (D (F := F)) (Pipeline.defs_kernel pcfgs defs₀) 𝒱₀ _ Set.univ none _ _)
  rw [Gather5.defs₀_vector]; simp only [SparseCore.onTile, hci, and_self, ↓reduceDIte]
  exact (Gather5.tile_body Tc Ic d (Gather5.coordsV ⟨_, hci.1⟩ ⟨_, hci.2⟩) facts hok O W hO).trans (wp_mono frame _ _ fun _ => Gather5.obl_post)

theorem vecSplit5 : (K (F := F)).VecSplit' (P Ta Ia Tc Ic) 1 := fun d c => Gather5.vecSplit Tc Ic d c

/-! ## The launch's ghost state -/

abbrev pcells : Finset (GSem nD τ sig) := Pipeline.cells (Pipeline.pin (pcfgs (F := F)) adm) phinj
abbrev ptoks : Finset (GSem nD τ sig × ℕ × Unit) := Pipeline.launchToks (Pipeline.pin (pcfgs (F := F)) adm) phinj

def u₀ : UU := (initOf (K (F := F)).hsCells (K (F := F)).hsToks, (initOf (pcells (F := F)) (ptoks (F := F)), 1))

/-- Every pipeline's ghost state on core `d`. -/
abbrev ghosts (d : Dev nD) : sProp 𝕄 := iprop(ghost 0 d ∗ ghost 1 d ∗ ghost 2 d ∗ ghost 3 d ∗ ghost 4 d)

theorem bigSep_emp' {I : Type} (s : Finset I) : (bigSep s fun _ => iprop(emp)) = (iprop(emp) : sProp 𝕄) := bigSep_emp_const s

theorem fund : (BI.own (EP (F := F) (initOf (pcells (F := F)) (ptoks (F := F)))) : sProp 𝕄) ⊢ |==> bigSep Finset.univ fun d : Dev nD => ghosts (F := F) d := by
  refine (Pipeline.fund_ghost (Pipeline.pin (pcfgs (F := F)) adm) EP phinj).trans (BI.bupd_mono ?_)
  rw [← bigSep_sep']
  refine bigSep_mono fun d _ => ?_
  rw [← bigSep_sep', bigSep_univ_eq_bigSepL [(0 : Fin 5), 1, 2, 3, 4] (by decide) (by decide)]
  show iprop(ghost 0 d ∗ ghost 1 d ∗ ghost 2 d ∗ ghost 3 d ∗ ghost 4 d) ⊢ (ghosts d : sProp 𝕄)
  iintro H; iexact H

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 2 => (P Ta Ia Tc Ic).x q thr) := by
  unfold u₀
  iintro Hu
  ihave H := (ownU_pair (initOf (K (F := F)).hsCells (K (F := F)).hsToks) ((initOf (pcells (F := F)) (ptoks (F := F)), 1) : UP × Counters)) $$ Hu
  icases H with ⟨HH, HR⟩
  ihave HR := (own_pair_emb embR (initOf (pcells (F := F)) (ptoks (F := F))) (1 : Counters)) $$ HR
  icases HR with ⟨HP, -⟩
  ihave HG := (show (BI.own (((Emb.inl : Emb UP (UP × Counters)).trans embR) (initOf (pcells (F := F)) (ptoks (F := F)))) : sProp 𝕄)
      ⊢ |==> bigSep Finset.univ fun d : Dev nD => ghosts (F := F) d from fund (F := F)) $$ HP
  imod HG
  imodintro
  isplitl [HH]; · iexact HH
  isplitl [HG]; · iexact HG
  rw [show (bigSep Finset.univ fun thr : Thread nD τ => bigSep Finset.univ fun q : Fin 2 => (P (F := F) Ta Ia Tc Ic).x q thr) = bigSep Finset.univ fun _ => iprop(emp) from
    bigSep_congr fun _ _ => bigSep_emp' _, bigSep_emp']
  iempintro

end Pay

/-! ## `@main` on the TensorCore -/

variable (m : (ℓ : Loc nD τ sig) → Buf (Elt F) ℓ) (ρ : Dev nD → PrngReg)

abbrev Ta (d : Dev nD) : Buf (Elt F) (Gather2.tLoc d) := V0 m d (tcr main_v36_0)
abbrev Ia (d : Dev nD) : Buf (Elt F) (Gather2.iLoc d) := V0 m d (tcr main_arg2)
abbrev Tc (d : Dev nD) : Buf (Elt F) (Gather5.tLoc d) := V5 m d (tcr main_v54_0)
abbrev Ic (d : Dev nD) : Buf (Elt F) (Gather5.iLoc d) := V5 m d (tcr main_arg2)
abbrev Pm : (K (F := F)).Pay (nD := nD) (Val := Elt F) (Name := ℕ) (U := UU) := P (Ta m) (Ia m) (Tc m) (Ic m)

theorem main_eq (d : Dev nD) : main (F := F) d = (StableHlo.seq opsP >>= fun _ =>
    Prog.lift (.customCall (SparseCore.inner (Pipeline.entry 0)) ()) >>= fun _ => StableHlo.seq opsQ >>= fun _ =>
    Prog.lift (.customCall (SparseCore.inner (Pipeline.entry 1)) ()) >>= fun _ => (sc (F := F)).run d 0 >>= fun _ => StableHlo.seq opsA >>= fun _ =>
    Prog.lift (.customCall (SparseCore.inner (Pipeline.entry 2)) ()) >>= fun _ => StableHlo.seq opsB >>= fun _ =>
    Prog.lift (.customCall (SparseCore.inner (Pipeline.entry 3)) ()) >>= fun _ => (sc (F := F)).run d 1 >>= fun _ =>
    Prog.lift (.customCall (SparseCore.inner (Pipeline.entry 4)) ()) >>= fun _ => StableHlo.seq opsC >>= fun _ => pure ⟨⟩) := by
  simp only [main, main_part0, main_part1, opsP, opsQ, opsA, opsB, opsC, StableHlo.seq, bind_assoc, pure_bind]

theorem mem_uc {b : Ref sig .tc} (hb : b.isScoped = false) : tcr b ∈ Pipeline.ucRefs τ sig := Pipeline.devRef_mem_ucRefs hb

theorem opsP_sub : ∀ op ∈ opsP (F := F), op.bufs ⊆ Pipeline.ucRefs τ sig := fun op h => Pipeline.sub_ucRefs op
  (List.forall_iff_forall_mem.mp (show (opsP (F := F)).Forall fun op => op.bufs ⊆ StableHlo.tcRefs τ sig by
    simp [opsP, List.Forall]) op h)
theorem opsP_fresh : ∀ op ∈ opsP (F := F), op.fresh = ∅ := List.forall_iff_forall_mem.mp (by
  simp only [opsP, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem opsQ_sub : ∀ op ∈ opsQ (F := F), op.bufs ⊆ Pipeline.ucRefs τ sig := fun op h => Pipeline.sub_ucRefs op
  (List.forall_iff_forall_mem.mp (show (opsQ (F := F)).Forall fun op => op.bufs ⊆ StableHlo.tcRefs τ sig by
    simp [opsQ, List.Forall]) op h)
theorem opsQ_fresh : ∀ op ∈ opsQ (F := F), op.fresh = ∅ := List.forall_iff_forall_mem.mp (by
  simp only [opsQ, List.Forall]; exact ⟨rfl, rfl, rfl, rfl, rfl, rfl, rfl, rfl, rfl, rfl, rfl, rfl, rfl⟩)
theorem opsA_sub : ∀ op ∈ opsA (F := F), op.bufs ⊆ Pipeline.ucRefs τ sig := fun op h => Pipeline.sub_ucRefs op
  (List.forall_iff_forall_mem.mp (show (opsA (F := F)).Forall fun op => op.bufs ⊆ StableHlo.tcRefs τ sig by
    simp [opsA, List.Forall]) op h)
theorem opsB_sub : ∀ op ∈ opsB (F := F), op.bufs ⊆ Pipeline.ucRefs τ sig := fun op h => Pipeline.sub_ucRefs op
  (List.forall_iff_forall_mem.mp (show (opsB (F := F)).Forall fun op => op.bufs ⊆ StableHlo.tcRefs τ sig by
    simp [opsB, List.Forall]) op h)
theorem opsC_sub : ∀ op ∈ opsC (F := F), op.bufs ⊆ Pipeline.ucRefs τ sig := fun op h => Pipeline.sub_ucRefs op
  (List.forall_iff_forall_mem.mp (show (opsC (F := F)).Forall fun op => op.bufs ⊆ StableHlo.tcRefs τ sig by
    simp [opsC, List.Forall]) op h)
theorem opsA_fresh : ∀ op ∈ opsA (F := F), op.fresh = ∅ := List.forall_iff_forall_mem.mp (by simp only [opsA, List.Forall]; exact ⟨rfl, rfl, rfl, rfl⟩)
theorem opsB_fresh : ∀ op ∈ opsB (F := F), op.fresh = ∅ := List.forall_iff_forall_mem.mp (by
  simp only [opsB, List.Forall]; exact ⟨rfl, rfl, rfl, rfl, rfl, rfl, rfl, rfl, rfl, rfl, rfl, rfl, rfl⟩)
theorem opsC_fresh : ∀ op ∈ opsC (F := F), op.fresh = ∅ := List.forall_iff_forall_mem.mp (by simp only [opsC, List.Forall]; exact ⟨rfl, rfl⟩)

/-- The core's unscoped buffers at the end. -/
abbrev FIN (d : Dev nD) : sProp 𝕄 := held (d.tc : Thread nD τ) (Pipeline.ucRefs τ sig) (V8 m d)

/-- Gather 0 between handshakes. -/
theorem gather_step2 (κ : GSem nD τ sig → ℕ) (d : Dev nD) (Φ : PUnit → sProp 𝕄) :
    iprop((K (F := F)).ctx EH (Pm m) κ ∗ (K (F := F)).tcSt EH d 0 ∗ boundary (d.tc : Thread nD τ) ∗ held (d.tc : Thread nD τ) (Pipeline.ucRefs τ sig) (V0 m d)
        ∗ (((K (F := F)).tcSt EH d 1 ∗ boundary (d.tc : Thread nD τ) ∗ held (d.tc : Thread nD τ) (Pipeline.ucRefs τ sig) (V1 m d)) -∗ Φ ⟨⟩))
      ⊢ wp frame (wpE ((K (F := F)).defs (D (F := F))) 𝒱 (T d) none) Set.univ ((K (F := F)).run d 0) Φ := by
  rw [held_three (d.tc : Thread nD τ) (Pipeline.ucRefs τ sig) (V0 m d) (a := tcr main_v36_0) (b := tcr main_arg2) (o := tcr main_v37)
    (by decide) (by decide) (by decide) (by
      intro x hx
      simp only [Finset.mem_insert, Finset.mem_singleton] at hx
      rcases hx with rfl | rfl | rfl <;> exact mem_uc rfl)]
  iintro ⟨#Hctx, Hst, Hb, ⟨Ht, Hi, Ho, Hr⟩, Hk⟩
  iapply ((K (F := F)).wp_run (D (F := F)) 𝒱 (EH := EH) (P := Pm m) κ d 0)
  isplitr; · iexact Hctx
  isplitl [Hst]; · iexact Hst
  isplitl [Ht Hi Ho]
  · iapply (show iprop((Gather2.tLoc d ↦{fullShare} Ta m d) ∗ (Gather2.iLoc d ↦{fullShare} Ia m d) ∗ Gather2.oLoc d ↦{fullShare} V0 m d (tcr main_v37))
        ⊢ (bigSep Finset.univ fun c : Fin ((K (F := F)).nCore 0) => (Pm m).st 0 d c : sProp 𝕄) from Gather2.st_intro (Ta m) (Ia m) d _)
    isplitl [Ht]; · iexact Ht
    isplitl [Hi]; · iexact Hi
    iexact Ho
  iintro ⟨Hst, Hdn⟩
  ihave Hdn := (show (bigSep Finset.univ fun c : Fin ((K (F := F)).nCore 0) => (Pm m).dn 0 d c : sProp 𝕄)
      ⊢ iprop((Gather2.tLoc d ↦{fullShare} Ta m d) ∗ (Gather2.iLoc d ↦{fullShare} Ia m d) ∗ Gather2.oLoc d ↦{fullShare} Gather2.G (Ta m) (Ia m) d)
      from Gather2.dn_elim (Ta m) (Ia m) d) $$ Hdn
  icases Hdn with ⟨Ht, Hi, Ho⟩
  iapply Hk
  isplitl [Hst]; · iexact Hst
  isplitl [Hb]; · iexact Hb
  iapply (show iprop(((d, tcr main_v36_0) ↦{fullShare} V0 m d (tcr main_v36_0)) ∗ ((d, tcr main_arg2) ↦{fullShare} V0 m d (tcr main_arg2))
        ∗ ((d, tcr main_v37) ↦{fullShare} gathered (F := F) (V0 m d (tcr main_v36_0)) (V0 m d (tcr main_arg2)))
        ∗ held (d.tc : Thread nD τ) (Pipeline.ucRefs τ sig \ {tcr main_v36_0, tcr main_arg2, tcr main_v37}) (V0 m d))
      ⊢ (held (d.tc : Thread nD τ) (Pipeline.ucRefs τ sig) (V1 m d) : sProp 𝕄) from
    held_put (d.tc : Thread nD τ) (Pipeline.ucRefs τ sig) (V0 m d) _ (by decide) (by decide) (by decide) (by
      intro x hx
      simp only [Finset.mem_insert, Finset.mem_singleton] at hx
      rcases hx with rfl | rfl | rfl <;> exact mem_uc rfl))
  isplitl [Ht]; · iexact Ht
  isplitl [Hi]; · iexact Hi
  isplitl [Ho]; · iexact Ho
  iexact Hr

/-- Gather 1 between handshakes. -/
theorem gather_step5 (κ : GSem nD τ sig → ℕ) (d : Dev nD) (Φ : PUnit → sProp 𝕄) :
    iprop((K (F := F)).ctx EH (Pm m) κ ∗ (K (F := F)).tcSt EH d 1 ∗ boundary (d.tc : Thread nD τ) ∗ held (d.tc : Thread nD τ) (Pipeline.ucRefs τ sig) (V5 m d)
        ∗ (((K (F := F)).tcSt EH d 2 ∗ boundary (d.tc : Thread nD τ) ∗ held (d.tc : Thread nD τ) (Pipeline.ucRefs τ sig) (V6 m d)) -∗ Φ ⟨⟩))
      ⊢ wp frame (wpE ((K (F := F)).defs (D (F := F))) 𝒱 (T d) none) Set.univ ((K (F := F)).run d 1) Φ := by
  rw [held_three (d.tc : Thread nD τ) (Pipeline.ucRefs τ sig) (V5 m d) (a := tcr main_v54_0) (b := tcr main_arg2) (o := tcr main_v55)
    (by decide) (by decide) (by decide) (by
      intro x hx
      simp only [Finset.mem_insert, Finset.mem_singleton] at hx
      rcases hx with rfl | rfl | rfl <;> exact mem_uc rfl)]
  iintro ⟨#Hctx, Hst, Hb, ⟨Ht, Hi, Ho, Hr⟩, Hk⟩
  iapply ((K (F := F)).wp_run (D (F := F)) 𝒱 (EH := EH) (P := Pm m) κ d 1)
  isplitr; · iexact Hctx
  isplitl [Hst]; · iexact Hst
  isplitl [Ht Hi Ho]
  · iapply (show iprop((Gather5.tLoc d ↦{fullShare} Tc m d) ∗ (Gather5.iLoc d ↦{fullShare} Ic m d) ∗ Gather5.oLoc d ↦{fullShare} V5 m d (tcr main_v55))
        ⊢ (bigSep Finset.univ fun c : Fin ((K (F := F)).nCore 1) => (Pm m).st 1 d c : sProp 𝕄) from Gather5.st_intro (Tc m) (Ic m) d _)
    isplitl [Ht]; · iexact Ht
    isplitl [Hi]; · iexact Hi
    iexact Ho
  iintro ⟨Hst, Hdn⟩
  ihave Hdn := (show (bigSep Finset.univ fun c : Fin ((K (F := F)).nCore 1) => (Pm m).dn 1 d c : sProp 𝕄)
      ⊢ iprop((Gather5.tLoc d ↦{fullShare} Tc m d) ∗ (Gather5.iLoc d ↦{fullShare} Ic m d) ∗ Gather5.oLoc d ↦{fullShare} Gather5.G (Tc m) (Ic m) d)
      from Gather5.dn_elim (Tc m) (Ic m) d) $$ Hdn
  icases Hdn with ⟨Ht, Hi, Ho⟩
  iapply Hk
  isplitl [Hst]; · iexact Hst
  isplitl [Hb]; · iexact Hb
  iapply (show iprop(((d, tcr main_v54_0) ↦{fullShare} V5 m d (tcr main_v54_0)) ∗ ((d, tcr main_arg2) ↦{fullShare} V5 m d (tcr main_arg2))
        ∗ ((d, tcr main_v55) ↦{fullShare} gathered (F := F) (V5 m d (tcr main_v54_0)) (V5 m d (tcr main_arg2)))
        ∗ held (d.tc : Thread nD τ) (Pipeline.ucRefs τ sig \ {tcr main_v54_0, tcr main_arg2, tcr main_v55}) (V5 m d))
      ⊢ (held (d.tc : Thread nD τ) (Pipeline.ucRefs τ sig) (V6 m d) : sProp 𝕄) from
    held_put (d.tc : Thread nD τ) (Pipeline.ucRefs τ sig) (V5 m d) _ (by decide) (by decide) (by decide) (by
      intro x hx
      simp only [Finset.mem_insert, Finset.mem_singleton] at hx
      rcases hx with rfl | rfl | rfl <;> exact mem_uc rfl))
  isplitl [Ht]; · iexact Ht
  isplitl [Hi]; · iexact Hi
  isplitl [Ho]; · iexact Ho
  iexact Hr

variable [∀ e, Nonempty (Elt F e)]

set_option backward.isDefEq.respectTransparency.types false in
theorem hmain (κ : GSem nD τ sig → ℕ) (d : Dev nD) :
    iprop((K (F := F)).ctx EH (Pm m) κ ∗ (K (F := F)).tcSt EH d 0 ∗ (K (F := F)).tcRes m ρ d ∗ ghosts d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (U0 m d) from
    Pipeline.unscopedBufs_held d (U0 m d), main_eq]
  iintro ⟨#Hctx, Hst, ⟨Hb, Hm, Hts, -⟩, ⟨HgP, HgQ, Hg0, Hg1, Hg2⟩⟩
  iapply (StableHlo.wp_seq 𝒱 none Set.univ d _ _ opsP opsP_sub opsP_fresh (U0 m d)) $$ [Hb Hm]
  · isplitl [Hb] <;> iassumption
  iintro ⟨Hb, Hm⟩
  rw [wp_bind]
  iapply (region_step κ 0 (record0 (U1 m) 0) d (U1 m d) (U2 m d) rfl rfl)
  isplitr; · iexact Hctx
  isplitl [Hst]; · iexact Hst
  isplitl [Hb]; · iexact Hb
  isplitl [Hm]; · iexact Hm
  isplitl [HgP]; · iexact HgP
  iintro ⟨Hst, Hb, Hm⟩
  iapply (StableHlo.wp_seq 𝒱 none Set.univ d _ _ opsQ opsQ_sub opsQ_fresh (U2 m d)) $$ [Hb Hm]
  · isplitl [Hb] <;> iassumption
  iintro ⟨Hb, Hm⟩
  rw [wp_bind]
  iapply (region_step κ 0 (record1 (U3 m) 0) d (U3 m d) (V0 m d) rfl rfl)
  isplitr; · iexact Hctx
  isplitl [Hst]; · iexact Hst
  isplitl [Hb]; · iexact Hb
  isplitl [Hm]; · iexact Hm
  isplitl [HgQ]; · iexact HgQ
  iintro ⟨Hst, Hb, Hm⟩
  rw [wp_bind]
  iapply (gather_step2 m κ d)
  isplitr; · iexact Hctx
  isplitl [Hst]; · iexact Hst
  isplitl [Hb]; · iexact Hb
  isplitl [Hm]; · iexact Hm
  iintro ⟨Hst, Hb, Hm⟩
  iapply (StableHlo.wp_seq 𝒱 none Set.univ d _ _ opsA opsA_sub opsA_fresh (V1 m d)) $$ [Hb Hm]
  · isplitl [Hb] <;> iassumption
  iintro ⟨Hb, Hm⟩
  rw [wp_bind]
  iapply (region_step κ 1 (record3 (V2 m) 1) d (V2 m d) (V3 m d) rfl rfl)
  isplitr; · iexact Hctx
  isplitl [Hst]; · iexact Hst
  isplitl [Hb]; · iexact Hb
  isplitl [Hm]; · iexact Hm
  isplitl [Hg0]; · iexact Hg0
  iintro ⟨Hst, Hb, Hm⟩
  iapply (StableHlo.wp_seq 𝒱 none Set.univ d _ _ opsB opsB_sub opsB_fresh (V3 m d)) $$ [Hb Hm]
  · isplitl [Hb] <;> iassumption
  iintro ⟨Hb, Hm⟩
  rw [wp_bind]
  iapply (region_step κ 1 (record4 (V4 m) 1) d (V4 m d) (V5 m d) rfl rfl)
  isplitr; · iexact Hctx
  isplitl [Hst]; · iexact Hst
  isplitl [Hb]; · iexact Hb
  isplitl [Hm]; · iexact Hm
  isplitl [Hg1]; · iexact Hg1
  iintro ⟨Hst, Hb, Hm⟩
  rw [wp_bind]
  iapply (gather_step5 m κ d)
  isplitr; · iexact Hctx
  isplitl [Hst]; · iexact Hst
  isplitl [Hb]; · iexact Hb
  isplitl [Hm]; · iexact Hm
  iintro ⟨Hst, Hb, Hm⟩
  rw [wp_bind]
  iapply (region_step κ 2 (record6 (V6 m) 2) d (V6 m d) (V7 m d) rfl rfl)
  isplitr; · iexact Hctx
  isplitl [Hst]; · iexact Hst
  isplitl [Hb]; · iexact Hb
  isplitl [Hm]; · iexact Hm
  isplitl [Hg2]; · iexact Hg2
  iintro ⟨Hst, Hb, Hm⟩
  iapply (StableHlo.wp_seq 𝒱 none Set.univ d _ _ opsC opsC_sub opsC_fresh (V7 m d)) $$ [Hb Hm]
  · isplitl [Hb] <;> iassumption
  iintro ⟨Hb, Hm⟩
  rw [wp_pure]; imodintro
  isplitl [Hst]; · iexact Hst
  isplitl [Hm]; · iexact Hm
  isplitl [Hb] <;> iassumption

def fq (d : Dev nD) (s' : Phys nD τ sig (Elt F)) : Prop := ∀ b ∈ Pipeline.ucRefs τ sig, s'.mem.mem (d, b) = V8 m d b

theorem hfin (d : Dev nD) (s' : Phys nD τ sig (Elt F)) : iprop(FIN m d ∗ SI s') ⊢ (⌜fq m d s'⌝ : sProp 𝕄) := by
  refine (pointsTo_read_all (Pipeline.ucRefs τ sig) (fun b => ((d, b) : Loc nD τ sig)) (fun b => V8 m d b) s').trans ?_
  iintro ⟨%h, -⟩
  ipureintro; exact h

/-- The final state: every unscoped core buffer as the chain of steps leaves it, every semaphore zero. -/
def QC : PUnit × MemSt nD τ sig (Elt F) → Prop := fun r =>
  (∀ (c : Dev nD), ∀ b ∈ Pipeline.ucRefs τ sig, r.2.mem (c, b) = V8 m c b) ∧ r.2.sem = fun _ => 0

/-- What the proof asks of the list: every entry names a row of the table. -/
def ListOK : Prop := ∀ (d : Dev nD) (j : S327680.Idx), (m ((SparseCore.T d).loc main_arg2) j : BitVec 32).toNat < 16384

theorem run_main (hok : ListOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq | 1 => nomatch hq)
    (fun q _ => match q with
      | 0 => tileObl2 (Ta m) (Ia m) (Tc m) (Ic m) (fun d j => by
          show (V0 m d (tcr main_arg2) j : BitVec 32).toNat < 16384
          rw [V0_kept m d (by decide)]; exact hok d j)
      | 1 => tileObl5 (Ta m) (Ia m) (Tc m) (Ic m) (fun d j => by
          show (V5 m d (tcr main_arg2) j : BitVec 32).toNat < 16384
          rw [V5_kept m d (by decide), V0_kept m d (by decide)]; exact hok d j))
    (fun q _ => match q with
      | 0 => SparseCore.Cfg.VecSplit.of_plain (vecSplit2 (Ta m) (Ia m) (Tc m) (Ic m))
      | 1 => SparseCore.Cfg.VecSplit.of_plain (vecSplit5 (Ta m) (Ia m) (Tc m) (Ic m)))
    m ρ main (fun d => ghosts d) (FIN m) (u₀ (F := F)) (sep_elim_left.trans (hu₀ (Ta m) (Ia m) (Tc m) (Ic m))) (hmain m ρ) (fq m) (hfin m) (QC m) (fun _ h hz => ⟨h, hz⟩)

end Cert.Proof

end
-- ==== Proof.Norm.lean ====
/-
  The batch norm's sums, over the reals: what the kernel accumulates segment by segment is what the reference sums row by
  row, and the mean of the squares less the mean's square is the mean of the squared deviations.
-/
module

public import Mathlib.Data.EReal.Inv
public import Mathlib.Tactic.FieldSimp
public import Idealize.ShloMosaic.PureOps.Ideal

@[expose] public section

noncomputable section

namespace Cert.Proof.Norm

open Idealize.ShloMosaic

variable {ι σ φ : Type} [Fintype ι] [Fintype σ] [Fintype φ] [DecidableEq σ]

theorem sum_seg (seg : ι → σ) (u : ι → ℝ) (b : σ → ℝ) :
    ∑ s, (∑ i, if seg i = s then u i else 0) * b s = ∑ i, u i * b (seg i) := by
  simp only [Finset.sum_mul, ite_mul, zero_mul]
  rw [Finset.sum_comm]
  refine Finset.sum_congr rfl fun i _ => ?_
  rw [Finset.sum_ite_eq]; simp

theorem sum_segs (seg : ι → σ) (u : ι → ℝ) : ∑ s, (∑ i, if seg i = s then u i else 0) = ∑ i, u i := by
  have h := sum_seg seg u fun _ => 1
  simpa using h

theorem mean_eq (seg : ι → σ) (x : ι → φ → ℝ) (w : φ → ℝ) (b : σ → ℝ) :
    ((∑ f, (∑ s, ∑ i, if seg i = s then x i f else 0) * w f) + ∑ s, (∑ i, if seg i = s then (1 : ℝ) else 0) * b s)
      = ∑ i, ((∑ f, x i f * w f) + b (seg i)) := by
  rw [Finset.sum_add_distrib, sum_seg seg (fun _ => 1) b]
  congr 1
  · simp only [sum_segs seg fun i => x i _]
    rw [Finset.sum_comm]
    exact Finset.sum_congr rfl fun f _ => Finset.sum_mul _ _ _
  · simp

theorem seg_lin (seg : ι → σ) (x : ι → φ → ℝ) (w : φ → ℝ) (s : σ) :
    (∑ f, (∑ i, if seg i = s then x i f else 0) * w f) = ∑ i, if seg i = s then (∑ f, x i f * w f) else 0 := by
  simp only [Finset.sum_mul, ite_mul, zero_mul]
  rw [Finset.sum_comm]
  refine Finset.sum_congr rfl fun i _ => ?_
  split <;> simp

theorem sq_eq (seg : ι → σ) (x : ι → φ → ℝ) (w : φ → ℝ) (b : σ → ℝ) :
    (∑ i, (∑ f, x i f * w f) * (∑ f, x i f * w f)) + 2 * (∑ s, (∑ f, (∑ i, if seg i = s then x i f else 0) * w f) * b s)
        + (∑ s, (∑ i, if seg i = s then (1 : ℝ) else 0) * b s * b s)
      = ∑ i, ((∑ f, x i f * w f) + b (seg i)) * ((∑ f, x i f * w f) + b (seg i)) := by
  have h1 : ∑ s, (∑ i, if seg i = s then (1 : ℝ) else 0) * b s * b s = ∑ i, b (seg i) * b (seg i) := by
    have h := sum_seg seg (fun _ => 1) fun s => b s * b s
    simpa [mul_assoc] using h
  simp only [seg_lin]
  rw [h1, sum_seg seg, Finset.mul_sum, ← Finset.sum_add_distrib, ← Finset.sum_add_distrib]
  exact Finset.sum_congr rfl fun i _ => by ring

theorem var_eq (y : ι → ℝ) (N : ℝ) (hN : N ≠ 0) (hc : (Fintype.card ι : ℝ) = N) :
    (∑ i, y i * y i) / N - (∑ i, y i) / N * ((∑ i, y i) / N)
      = (∑ i, (y i - (∑ i, y i) / N) * (y i - (∑ i, y i) / N)) / N := by
  generalize hm : (∑ i, y i) / N = m
  have hs : ∑ i, y i = m * N := by rw [← hm]; field_simp
  have h : ∑ i, (y i - m) * (y i - m) = (∑ i, y i * y i) - m * m * N := by
    have e : ∀ i, (y i - m) * (y i - m) = y i * y i - 2 * m * y i + m * m := fun i => by ring
    simp only [e]
    rw [Finset.sum_add_distrib, Finset.sum_sub_distrib, ← Finset.mul_sum, hs, Finset.sum_const, Finset.card_univ, nsmul_eq_mul, hc]
    ring
  rw [h]; field_simp

theorem var_nonneg (y : ι → ℝ) (m N : ℝ) (hN : 0 < N) : 0 ≤ (∑ i, (y i - m) * (y i - m)) / N :=
  div_nonneg (Finset.sum_nonneg fun i _ => mul_self_nonneg _) hN.le

/-! Finite values stay finite. -/

theorem coe_sum {α : Type} (s : Finset α) (f : α → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_div {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem coe_one_div {b : ℝ} (hb : b ≠ 0) : Ideal.div 1 (b : EReal) = ((1 / b : ℝ) : EReal) := by
  have h := coe_div (a := 1) hb
  rwa [EReal.coe_one] at h

theorem coe_rsqrt {r : ℝ} (h : 0 < r) : Ideal.rsqrt (r : EReal) = (((Real.sqrt r)⁻¹ : ℝ) : EReal) := by
  rw [Ideal.rsqrt_coe, if_neg h.not_gt, if_neg h.ne']

theorem coe_sqrt {r : ℝ} (h : 0 < r) : Ideal.sqrt (r : EReal) = ((Real.sqrt r : ℝ) : EReal) := by
  show (if r < 0 then _ else _) = _
  rw [if_neg h.not_gt]

theorem coe_ite {p : Prop} [Decidable p] (a b : ℝ) : ((if p then a else b : ℝ) : EReal) = if p then (a : EReal) else (b : EReal) := by
  split <;> rfl

/-- Scaling and shifting by the folded factors is normalising. -/
theorem fold (A B m g b r : ℝ) : A * (g * r⁻¹) + (B * (g * r⁻¹) + (b - m * (g * r⁻¹))) = (A + B - m) / r * g + b := by
  rw [div_eq_mul_inv]; ring

theorem fold' (C m g b r : ℝ) : C * (g * r⁻¹) + (b - m * (g * r⁻¹)) = (C - m) / r * g + b := by
  rw [div_eq_mul_inv]; ring

end Cert.Proof.Norm

end
-- ==== Proof.NormE.lean ====
/-
  The batch norm of finite values over the extended reals: the kernel's folded scale and shift are the reference's
  normalisation, the shift being any extended real.
-/
module

public import proofs.«01_k».proof.Proof.Norm

@[expose] public section

noncomputable section

namespace Cert.Proof.Norm

open Idealize.ShloMosaic

variable {ι σ φ : Type} [Fintype ι] [Fintype σ] [Fintype φ] [DecidableEq σ]

/-- A segment's sum of one feature. -/
def rS (x : ι → φ → ℝ) (seg : ι → σ) (s : σ) (f : φ) : ℝ := ∑ i, if seg i = s then x i f else 0

/-- A segment's number of rows. -/
def rC (seg : ι → σ) (s : σ) : ℝ := ∑ i, if seg i = s then (1 : ℝ) else 0

/-- A segment's mean row's product with a column of weights. -/
def rB (x : ι → φ → ℝ) (seg : ι → σ) (n : σ → ℝ) (w : φ → ℝ) (s : σ) : ℝ := ∑ f, rS x seg s f * (1 / n s) * w f

/-- A row's product with a column of weights. -/
def rL (x : ι → φ → ℝ) (w : φ → ℝ) (i : ι) : ℝ := ∑ f, x i f * w f

/-- A mean. -/
def rM (y : ι → ℝ) (N : ℝ) : ℝ := (∑ i, y i) / N

/-- A variance. -/
def rV (y : ι → ℝ) (N : ℝ) : ℝ := (∑ i, (y i - rM y N) * (y i - rM y N)) / N

theorem rV_nonneg (y : ι → ℝ) (N : ℝ) (hN : 0 < N) : 0 ≤ rV y N := var_nonneg y _ N hN

section

variable (x : ι → φ → ℝ) (seg : ι → σ) (n : σ → ℝ) (hn : ∀ s, n s ≠ 0)

theorem seg_sum (p : ι → Prop) [DecidablePred p] (s : σ) (hp : ∀ i, p i ↔ seg i = s) (f : φ) (X : ι → EReal) (hX : ∀ i, X i = (x i f : EReal)) :
    (∑ i, if p i then X i else 0) = ((rS x seg s f : ℝ) : EReal) := by
  unfold rS
  rw [coe_sum]
  refine Finset.sum_congr rfl fun i _ => ?_
  rw [hX]
  by_cases h : seg i = s
  · rw [if_pos ((hp i).2 h), if_pos h]
  · rw [if_neg (fun q => h ((hp i).1 q)), if_neg h]; rfl

theorem seg_count (p : ι → Prop) [DecidablePred p] (s : σ) (hp : ∀ i, p i ↔ seg i = s) :
    (∑ i, if p i then (1 : EReal) else 0) = ((rC seg s : ℝ) : EReal) := by
  unfold rC
  rw [coe_sum]
  refine Finset.sum_congr rfl fun i _ => ?_
  by_cases h : seg i = s
  · rw [if_pos ((hp i).2 h), if_pos h]; rfl
  · rw [if_neg (fun q => h ((hp i).1 q)), if_neg h]; rfl

include hn in
theorem kB (s : σ) (S : φ → EReal) (hS : ∀ f, S f = ((rS x seg s f : ℝ) : EReal)) (c : EReal) (hc : c = (n s : EReal)) (w : φ → ℝ) (W : φ → EReal) (hW : ∀ f, W f = (w f : EReal)) :
    ∑ f, S f * Ideal.div 1 c * W f = ((rB x seg n w s : ℝ) : EReal) := by
  unfold rB
  rw [coe_sum]
  refine Finset.sum_congr rfl fun f _ => ?_
  rw [hS, hc, hW, coe_one_div (hn s), EReal.coe_mul, EReal.coe_mul]

include hn in
/-- The reference divides the segment's sum first. -/
theorem qB (s : σ) (E : φ → EReal) (hE : ∀ f, E f = ((rS x seg s f / n s : ℝ) : EReal)) (w : φ → ℝ) (W : φ → EReal) (hW : ∀ f, W f = (w f : EReal)) :
    ∑ f, E f * W f = ((rB x seg n w s : ℝ) : EReal) := by
  unfold rB
  rw [coe_sum]
  refine Finset.sum_congr rfl fun f _ => ?_
  rw [hE, hW, ← EReal.coe_mul, div_eq_mul_one_div]

theorem qL (i : ι) (X : φ → EReal) (hX : ∀ f, X f = (x i f : EReal)) (w : φ → ℝ) (W : φ → EReal) (hW : ∀ f, W f = (w f : EReal)) :
    ∑ f, X f * W f = ((rL x w i : ℝ) : EReal) := by
  unfold rL
  rw [coe_sum]
  refine Finset.sum_congr rfl fun f _ => ?_
  rw [hX, hW, EReal.coe_mul]

variable (N e : ℝ) (hN : 0 < N) (he : 0 < e)

include hN in
theorem qM (y : ι → ℝ) (Y : ι → EReal) (hY : ∀ i, Y i = (y i : EReal)) : Ideal.div (∑ i, Y i) (N : EReal) = ((rM y N : ℝ) : EReal) := by
  have h : (∑ i, Y i) = ((∑ i, y i : ℝ) : EReal) := by
    rw [coe_sum]
    exact Finset.sum_congr rfl fun i _ => hY i
  rw [h, coe_div hN.ne']
  rfl

include hN in
theorem qV (y : ι → ℝ) (Y : ι → EReal) (hY : ∀ i, Y i = (y i : EReal)) (M : EReal) (hM : M = ((rM y N : ℝ) : EReal)) :
    Ideal.div (∑ i, (Y i - M) * (Y i - M)) (N : EReal) = ((rV y N : ℝ) : EReal) := by
  have h : (∑ i, (Y i - M) * (Y i - M)) = ((∑ i, (y i - rM y N) * (y i - rM y N) : ℝ) : EReal) := by
    rw [coe_sum]
    refine Finset.sum_congr rfl fun i _ => ?_
    rw [hY, hM, ← EReal.coe_sub, ← EReal.coe_mul]
  rw [h, coe_div hN.ne']
  rfl

include hN he in
theorem qS (hc : (Fintype.card ι : ℝ) = N) (y : ι → ℝ) (Y : ι → EReal) (hY : ∀ i, Y i = (y i : EReal)) (M : EReal) (hM : M = ((rM y N : ℝ) : EReal)) (G : EReal) (g : ℝ) (hG : G = (g : EReal)) :
    G * Ideal.rsqrt (Ideal.div (∑ i, Y i * Y i) (N : EReal) - M * M + (e : EReal)) = ((g * (Real.sqrt (rV y N + e))⁻¹ : ℝ) : EReal) := by
  have h : (∑ i, Y i * Y i) = ((∑ i, y i * y i : ℝ) : EReal) := by
    rw [coe_sum]
    refine Finset.sum_congr rfl fun i _ => ?_
    rw [hY, ← EReal.coe_mul]
  have hv : (∑ i, y i * y i) / N - rM y N * rM y N = rV y N := var_eq y N hN.ne' hc
  rw [h, hG, hM, coe_div hN.ne', ← EReal.coe_mul, ← EReal.coe_sub, ← EReal.coe_add, hv, coe_rsqrt (by have := rV_nonneg y N hN; linarith), ← EReal.coe_mul]

section Kernel

variable (S : σ → φ → EReal) (hS : ∀ s f, S s f = ((rS x seg s f : ℝ) : EReal)) (C : σ → EReal) (hC : ∀ s, C s = ((rC seg s : ℝ) : EReal))
  (w1 : φ → ℝ) (W1 : φ → EReal) (hW : ∀ f, W1 f = (w1 f : EReal)) (b : σ → ℝ) (B : σ → EReal) (hB : ∀ s, B s = (b s : EReal))

include hS hC hW hB hN in
theorem kM : Ideal.div ((∑ f, (∑ s, S s f) * W1 f) + ∑ s, C s * B s) (N : EReal) = ((rM (fun i => rL x w1 i + b (seg i)) N : ℝ) : EReal) := by
  have h1 : (∑ f, (∑ s, S s f) * W1 f) = ((∑ f, (∑ s, rS x seg s f) * w1 f : ℝ) : EReal) := by
    rw [coe_sum]
    refine Finset.sum_congr rfl fun f _ => ?_
    rw [EReal.coe_mul, coe_sum, hW]
    exact congrArg (fun z : EReal => z * (w1 f : EReal)) (Finset.sum_congr rfl fun s _ => hS s f)
  have h2 : (∑ s, C s * B s) = ((∑ s, rC seg s * b s : ℝ) : EReal) := by
    rw [coe_sum]
    refine Finset.sum_congr rfl fun s _ => ?_
    rw [hC, hB, EReal.coe_mul]
  rw [h1, h2, ← EReal.coe_add, coe_div hN.ne']
  exact congrArg (fun z : ℝ => ((z / N : ℝ) : EReal)) (mean_eq seg x w1 b)

include hS hC hW hB hN he in
theorem kS (hc : (Fintype.card ι : ℝ) = N) (M : EReal) (hM : M = ((rM (fun i => rL x w1 i + b (seg i)) N : ℝ) : EReal)) (Q : EReal) (hQ : Q = ((∑ i, rL x w1 i * rL x w1 i : ℝ) : EReal))
    (T : EReal) (hT : T = ((2 : ℝ) : EReal)) (G : EReal) (g : ℝ) (hG : G = (g : EReal)) :
    G * Ideal.rsqrt (Ideal.div (Q + T * (∑ s, (∑ f, S s f * W1 f) * B s) + ∑ s, C s * B s * B s) (N : EReal) - M * M + (e : EReal))
      = ((g * (Real.sqrt (rV (fun i => rL x w1 i + b (seg i)) N + e))⁻¹ : ℝ) : EReal) := by
  have h1 : (∑ s, (∑ f, S s f * W1 f) * B s) = ((∑ s, (∑ f, rS x seg s f * w1 f) * b s : ℝ) : EReal) := by
    rw [coe_sum]
    refine Finset.sum_congr rfl fun s _ => ?_
    rw [hB, EReal.coe_mul, coe_sum]
    refine congrArg (fun z : EReal => z * (b s : EReal)) (Finset.sum_congr rfl fun f _ => ?_)
    rw [hS, hW, EReal.coe_mul]
  have h2 : (∑ s, C s * B s * B s) = ((∑ s, rC seg s * b s * b s : ℝ) : EReal) := by
    rw [coe_sum]
    refine Finset.sum_congr rfl fun s _ => ?_
    rw [hC, hB, EReal.coe_mul, EReal.coe_mul]
  have hv : ((∑ i, rL x w1 i * rL x w1 i) + 2 * (∑ s, (∑ f, rS x seg s f * w1 f) * b s) + ∑ s, rC seg s * b s * b s) / N
      - rM (fun i => rL x w1 i + b (seg i)) N * rM (fun i => rL x w1 i + b (seg i)) N = rV (fun i => rL x w1 i + b (seg i)) N :=
    (congrArg (fun z : ℝ => z / N - rM (fun i => rL x w1 i + b (seg i)) N * rM (fun i => rL x w1 i + b (seg i)) N) (sq_eq seg x w1 b)).trans
      (var_eq (fun i => rL x w1 i + b (seg i)) N hN.ne' hc)
  rw [h1, h2, hQ, hT, hG, hM, ← EReal.coe_mul, ← EReal.coe_add, ← EReal.coe_add, coe_div hN.ne', ← EReal.coe_mul, ← EReal.coe_sub, ← EReal.coe_add, hv,
    coe_rsqrt (by have := rV_nonneg (fun i => rL x w1 i + b (seg i)) N hN; linarith), ← EReal.coe_mul]

end Kernel

end

/-- The folded affine map is the normalisation. -/
theorem fold_row (l b m g r : ℝ) (hr : 0 < r) (β : EReal) :
    (l : EReal) * ((g * (Real.sqrt r)⁻¹ : ℝ) : EReal) + ((b : EReal) * ((g * (Real.sqrt r)⁻¹ : ℝ) : EReal) + (β - (m : EReal) * ((g * (Real.sqrt r)⁻¹ : ℝ) : EReal)))
      = Ideal.div (((l + b : ℝ) : EReal) - (m : EReal)) (Ideal.sqrt (r : EReal)) * (g : EReal) + β := by
  rw [coe_sqrt hr, ← EReal.coe_sub, coe_div (Real.sqrt_pos.2 hr).ne', ← EReal.coe_mul, ← EReal.coe_mul, ← EReal.coe_mul, ← EReal.coe_mul]
  induction β with
  | bot => simp
  | top => rw [EReal.top_sub_coe]; simp [-EReal.coe_mul, ← EReal.coe_mul]
  | coe β => exact_mod_cast fold l b m g β (Real.sqrt r)

theorem fold_end (c m g r : ℝ) (hr : 0 < r) (β : EReal) :
    (c : EReal) * ((g * (Real.sqrt r)⁻¹ : ℝ) : EReal) + (β - (m : EReal) * ((g * (Real.sqrt r)⁻¹ : ℝ) : EReal))
      = Ideal.div ((c : EReal) - (m : EReal)) (Ideal.sqrt (r : EReal)) * (g : EReal) + β := by
  rw [coe_sqrt hr, ← EReal.coe_sub, coe_div (Real.sqrt_pos.2 hr).ne', ← EReal.coe_mul, ← EReal.coe_mul, ← EReal.coe_mul]
  induction β with
  | bot => simp
  | top => rw [EReal.top_sub_coe]; simp [-EReal.coe_mul, ← EReal.coe_mul]
  | coe β => exact_mod_cast fold' c m g β (Real.sqrt r)

end Cert.Proof.Norm

end
-- ==== Proof.RowK.lean ====
/-
  One entry of what a point of the main TensorCore call computes, over the reals: the exponential of an affine
  function of a rectified row.
-/
module

public import proofs.«01_k».proof.Proof.Gen.KernelIdeal
public import proofs.«01_k».proof.Proof.Gen.KernelIdeal.Skeleton
public import Idealize.ShloMosaic.Lib.Pointwise

@[expose] public section

noncomputable section

namespace Cert.Proof

open Cert.KernelIdeal Cert.KernelIdeal.Gen
open Idealize.ShloMosaic

/-- One entry of the table of exponentials: from a row of features `x`, the transposed weights `Wt`, the column scales `s`, the
    row of offsets `b`, a column `v` of the second weights and its bias `c`. -/
def zval (x : Fin 64 → EReal) (Wt : Fin 64 → Fin 64 → EReal) (s b : Fin 64 → EReal) (v : Fin 64 → EReal) (c : EReal) : EReal :=
  Ideal.exp ((∑ h : Fin 64, max ((∑ f : Fin 64, x f * Wt f h) * s h + b h) 0 * v h) + c)

theorem pay1_apply (P0 : Vec Ideal S2048x64 .f32) (P1 : Vec Ideal S64x64 .f32) (P2 : Vec Ideal S1x64 .f32) (P3 : Vec Ideal S2048x64 .f32)
    (P4 : Vec Ideal S64x68 .f32) (P5 : Vec Ideal S1x68 .f32) (y : Fin 2048) (l : Fin 68) :
    k3_pay1 P0 P1 P2 P3 P4 P5 (ix2 y l)
      = zval (fun f => P0 (ix2 y f)) (fun f h => P1 (ix2 f h)) (fun h => P2 (ix2 0 h)) (fun h => P3 (ix2 y h)) (fun h => P4 (ix2 h l)) (P5 (ix2 0 l)) := by
  unfold k3_pay1 zval
  pointwise

end Cert.Proof

end
-- ==== Proof.NormR.lean ====
/-
  The reference's batch norms, entry by entry over the reals: each column's mean and variance, and the normalised rows.
-/
module

public import proofs.«01_k».proof.Proof.RowK
public import proofs.«01_k».proof.Proof.Gen.ReferenceIdeal

@[expose] public section

noncomputable section

namespace Cert.Proof.Ref

open Cert.ReferenceIdeal Cert.ReferenceIdeal.Gen
open Idealize.ShloMosaic Idealize.ShloMosaic.Tactic

theorem zero_val : Ideal.ofBits .f32 0x00000000#32 = (0 : EReal) := by
  simp [Ideal.ofBits, Ideal.ieee]

theorem cN_val : Ideal.ofBits .f32 0x48A00000#32 = ((327680 : ℝ) : EReal) := by
  simp [Ideal.ofBits, Ideal.ieee, -EReal.coe_mul]; norm_num

theorem cS_val : Ideal.ofBits .f32 0x46800000#32 = ((16384 : ℝ) : EReal) := by
  simp [Ideal.ofBits, Ideal.ieee, -EReal.coe_mul]; norm_num

section

variable (Y : Vec Ideal S327680x64 .f32) (g b : Vec Ideal S64 .f32)

/-- The columns' sums over 327680 rows. -/
abbrev sumN : Vec Ideal S64 .f32 := Host.reduceAdd (F := Ideal) (φ := .f32) Y (constant (F := Ideal) S_ .f32 0x00000000#32) reducesTo_S327680x64_S64_d0 h_S_

/-- The columns' means. -/
abbrev meanN : Vec Ideal S64 .f32 := Host.divf (F := Ideal) (φ := .f32) (sumN Y) (broadcastInDim S64 ![] bcast_S_S64 (constant (F := Ideal) S_ .f32 0x48A00000#32))

/-- The rows' differences from the means, as the variance takes them. -/
abbrev devN : Vec Ideal S327680x64 .f32 :=
  subf (F := Ideal) (φ := .f32) Y (broadcastInDim S327680x64 ![0, 1] bcast_S1x64_S327680x64_0_1 (Host.divf (F := Ideal) (φ := .f32) (broadcastInDim S1x64 ![1] bcast_S64_S1x64_1 (sumN Y)) (broadcastInDim S1x64 ![] bcast_S_S1x64 (constant (F := Ideal) S_ .f32 0x48A00000#32))))

/-- The number of rows less the degrees of freedom, which are none. -/
abbrev cntN : Vec Ideal S_ .f32 := subf (F := Ideal) (φ := .f32) (constant (F := Ideal) S_ .f32 0x48A00000#32) (sitofp (F := Ideal) .f32 (constantI S_ 32 0#32))

/-- The columns' variances. -/
abbrev varN : Vec Ideal S64 .f32 :=
  select (broadcastInDim S64 ![] bcast_S_S64 (cmpf (F := Ideal) (φ := .f32) .ogt cntN (constant (F := Ideal) S_ .f32 0x00000000#32)))
    (Host.divf (F := Ideal) (φ := .f32) (sumN (mulf (F := Ideal) (φ := .f32) (devN Y) (devN Y))) (broadcastInDim S64 ![] bcast_S_S64 cntN))
    (broadcastInDim S64 ![] bcast_S_S64 (id (constant (F := Ideal) S_ .f32 0x7FC00000#32)))

/-- The normalised rows, scaled, shifted and cut off at zero. -/
abbrev normN : Vec Ideal S327680x64 .f32 :=
  maximumf (F := Ideal) (φ := .f32) (addf (F := Ideal) (φ := .f32) (mulf (F := Ideal) (φ := .f32) (Host.divf (F := Ideal) (φ := .f32) (subf (F := Ideal) (φ := .f32) Y (broadcastInDim S327680x64 ![0, 1] bcast_S1x64_S327680x64_0_1 (broadcastInDim S1x64 ![1] bcast_S64_S1x64_1 (meanN Y))))
        (broadcastInDim S327680x64 ![0, 1] bcast_S1x64_S327680x64_0_1 (broadcastInDim S1x64 ![1] bcast_S64_S1x64_1 (Host.sqrt (F := Ideal) (φ := .f32) (addf (F := Ideal) (φ := .f32) (varN Y) (broadcastInDim S64 ![] bcast_S_S64 (constant (F := Ideal) S_ .f32 0x3727C5AC#32)))))))
      (broadcastInDim S327680x64 ![0, 1] bcast_S1x64_S327680x64_0_1 (broadcastInDim S1x64 ![1] bcast_S64_S1x64_1 g)))
    (broadcastInDim S327680x64 ![0, 1] bcast_S1x64_S327680x64_0_1 (broadcastInDim S1x64 ![1] bcast_S64_S1x64_1 b)))
  (broadcastInDim S327680x64 ![] bcast_S_S327680x64 (constant (F := Ideal) S_ .f32 0x00000000#32))

/-- A column's mean. -/
def mN (h : Fin 64) : EReal := Ideal.div (∑ i : Fin 327680, (Y (ix2 i h) : EReal)) (Ideal.ofBits .f32 0x48A00000#32)

/-- A column's variance. -/
def vN (h : Fin 64) : EReal :=
  Ideal.div (∑ i : Fin 327680, ((Y (ix2 i h) : EReal) - mN Y h) * ((Y (ix2 i h) : EReal) - mN Y h)) (Ideal.ofBits .f32 0x48A00000#32)

theorem sumN_apply (h : Fin 64) : sumN Y (ix1 h) = (∑ i : Fin 327680, Y (ix2 i h) : EReal) := by
  pointwise

theorem meanN_apply (h : Fin 64) : meanN Y (ix1 h) = mN Y h := by
  have e : ∀ s : Vec Ideal S64 .f32, Host.divf (F := Ideal) (φ := .f32) s (broadcastInDim S64 ![] bcast_S_S64 (constant (F := Ideal) S_ .f32 0x48A00000#32)) (ix1 h) = Ideal.div (s (ix1 h)) (Ideal.ofBits .f32 0x48A00000#32) := by
    intro s
    pointwise
  exact (e _).trans (congrArg (fun z : EReal => Ideal.div z (Ideal.ofBits .f32 0x48A00000#32)) (sumN_apply Y h))

theorem devN_apply (i : Fin 327680) (h : Fin 64) : devN Y (ix2 i h) = ((Y (ix2 i h) : EReal) - mN Y h) := by
  have e : ∀ s : Vec Ideal S64 .f32, subf (F := Ideal) (φ := .f32) Y (broadcastInDim S327680x64 ![0, 1] bcast_S1x64_S327680x64_0_1 (Host.divf (F := Ideal) (φ := .f32) (broadcastInDim S1x64 ![1] bcast_S64_S1x64_1 s) (broadcastInDim S1x64 ![] bcast_S_S1x64 (constant (F := Ideal) S_ .f32 0x48A00000#32)))) (ix2 i h)
      = ((Y (ix2 i h) : EReal) - Ideal.div (s (ix1 h)) (Ideal.ofBits .f32 0x48A00000#32)) := by
    intro s
    pointwise
  exact (e _).trans (congrArg (fun z : EReal => (Y (ix2 i h) : EReal) - Ideal.div z (Ideal.ofBits .f32 0x48A00000#32)) (sumN_apply Y h))

theorem cntN_apply (z : S_.Idx) : cntN z = Ideal.ofBits .f32 0x48A00000#32 := by
  show (Ideal.ofBits .f32 0x48A00000#32 : EReal) - (((0#32 : BitVec 32).toInt : ℝ) : EReal) = _
  rw [show (0#32 : BitVec 32).toInt = 0 from rfl]
  simp

theorem guardN (z : S_.Idx) : cmpf (F := Ideal) (φ := .f32) .ogt cntN (constant (F := Ideal) S_ .f32 0x00000000#32) z = 1#1 := by
  show Ideal.cmp .ogt (cntN z) (Ideal.ofBits .f32 0x00000000#32) = 1#1
  rw [cntN_apply, cN_val, zero_val]
  unfold Ideal.cmp
  simp

theorem sqN_apply (h : Fin 64) : sumN (mulf (F := Ideal) (φ := .f32) (devN Y) (devN Y)) (ix1 h)
    = (∑ i : Fin 327680, ((Y (ix2 i h) : EReal) - mN Y h) * ((Y (ix2 i h) : EReal) - mN Y h) : EReal) := by
  refine (sumN_apply _ h).trans (Finset.sum_congr rfl fun i _ => ?_)
  exact congrArg₂ (fun x y : EReal => x * y) (devN_apply Y i h) (devN_apply Y i h)

theorem varN_apply (h : Fin 64) : varN Y (ix1 h) = vN Y h := by
  have e : ∀ (p : IVec S_ 1) (s t : Vec Ideal S64 .f32) (n : Vec Ideal S_ .f32), (∀ z, p z = 1#1) → (∀ z, n z = Ideal.ofBits .f32 0x48A00000#32) →
      select (broadcastInDim S64 ![] bcast_S_S64 p) (Host.divf (F := Ideal) (φ := .f32) s (broadcastInDim S64 ![] bcast_S_S64 n)) t (ix1 h)
        = Ideal.div (s (ix1 h)) (Ideal.ofBits .f32 0x48A00000#32) := by
    intro p s t n hp hn
    simp only [select, broadcastInDim, hp]
    show Ideal.div (s (ix1 h)) (n _) = _
    rw [hn]
  refine (e _ _ _ _ guardN cntN_apply).trans ?_
  exact congrArg (fun z : EReal => Ideal.div z (Ideal.ofBits .f32 0x48A00000#32)) (sqN_apply Y h)

theorem normN_apply (i : Fin 327680) (h : Fin 64) : normN Y g b (ix2 i h)
    = max (Ideal.div ((Y (ix2 i h) : EReal) - mN Y h) (Ideal.sqrt (vN Y h + Ideal.ofBits .f32 0x3727C5AC#32)) * g (ix1 h) + b (ix1 h)) 0 := by
  have e : ∀ s t : Vec Ideal S64 .f32, (maximumf (F := Ideal) (φ := .f32) (addf (F := Ideal) (φ := .f32) (mulf (F := Ideal) (φ := .f32) (Host.divf (F := Ideal) (φ := .f32) (subf (F := Ideal) (φ := .f32) Y (broadcastInDim S327680x64 ![0, 1] bcast_S1x64_S327680x64_0_1 (broadcastInDim S1x64 ![1] bcast_S64_S1x64_1 s)))
        (broadcastInDim S327680x64 ![0, 1] bcast_S1x64_S327680x64_0_1 (broadcastInDim S1x64 ![1] bcast_S64_S1x64_1 (Host.sqrt (F := Ideal) (φ := .f32) (addf (F := Ideal) (φ := .f32) t (broadcastInDim S64 ![] bcast_S_S64 (constant (F := Ideal) S_ .f32 0x3727C5AC#32)))))))
      (broadcastInDim S327680x64 ![0, 1] bcast_S1x64_S327680x64_0_1 (broadcastInDim S1x64 ![1] bcast_S64_S1x64_1 g)))
    (broadcastInDim S327680x64 ![0, 1] bcast_S1x64_S327680x64_0_1 (broadcastInDim S1x64 ![1] bcast_S64_S1x64_1 b)))
  (broadcastInDim S327680x64 ![] bcast_S_S327680x64 (constant (F := Ideal) S_ .f32 0x00000000#32)) : Vec Ideal S327680x64 .f32) (ix2 i h)
      = max (Ideal.div ((Y (ix2 i h) : EReal) - s (ix1 h)) (Ideal.sqrt ((t (ix1 h) : EReal) + Ideal.ofBits .f32 0x3727C5AC#32)) * g (ix1 h) + b (ix1 h)) 0 := by
    intro s t
    pointwise
  exact (e _ _).trans (congrArg₂ (fun x y : EReal => max (Ideal.div ((Y (ix2 i h) : EReal) - x) (Ideal.sqrt (y + Ideal.ofBits .f32 0x3727C5AC#32)) * g (ix1 h) + b (ix1 h)) 0) (meanN_apply Y h) (varN_apply Y h))

end

section

variable (Y : Vec Ideal S16384x64 .f32) (g b : Vec Ideal S64 .f32)

/-- The columns' sums over 16384 rows. -/
abbrev sumS : Vec Ideal S64 .f32 := Host.reduceAdd (F := Ideal) (φ := .f32) Y (constant (F := Ideal) S_ .f32 0x00000000#32) reducesTo_S16384x64_S64_d0 h_S_

/-- The columns' means. -/
abbrev meanS : Vec Ideal S64 .f32 := Host.divf (F := Ideal) (φ := .f32) (sumS Y) (broadcastInDim S64 ![] bcast_S_S64 (constant (F := Ideal) S_ .f32 0x46800000#32))

/-- The rows' differences from the means, as the variance takes them. -/
abbrev devS : Vec Ideal S16384x64 .f32 :=
  subf (F := Ideal) (φ := .f32) Y (broadcastInDim S16384x64 ![0, 1] bcast_S1x64_S16384x64_0_1 (Host.divf (F := Ideal) (φ := .f32) (broadcastInDim S1x64 ![1] bcast_S64_S1x64_1 (sumS Y)) (broadcastInDim S1x64 ![] bcast_S_S1x64 (constant (F := Ideal) S_ .f32 0x46800000#32))))

/-- The number of rows less the degrees of freedom, which are none. -/
abbrev cntS : Vec Ideal S_ .f32 := subf (F := Ideal) (φ := .f32) (constant (F := Ideal) S_ .f32 0x46800000#32) (sitofp (F := Ideal) .f32 (constantI S_ 32 0#32))

/-- The columns' variances. -/
abbrev varS : Vec Ideal S64 .f32 :=
  select (broadcastInDim S64 ![] bcast_S_S64 (cmpf (F := Ideal) (φ := .f32) .ogt cntS (constant (F := Ideal) S_ .f32 0x00000000#32)))
    (Host.divf (F := Ideal) (φ := .f32) (sumS (mulf (F := Ideal) (φ := .f32) (devS Y) (devS Y))) (broadcastInDim S64 ![] bcast_S_S64 cntS))
    (broadcastInDim S64 ![] bcast_S_S64 (id (constant (F := Ideal) S_ .f32 0x7FC00000#32)))

/-- The normalised rows, scaled, shifted and cut off at zero. -/
abbrev normS : Vec Ideal S16384x64 .f32 :=
  maximumf (F := Ideal) (φ := .f32) (addf (F := Ideal) (φ := .f32) (mulf (F := Ideal) (φ := .f32) (Host.divf (F := Ideal) (φ := .f32) (subf (F := Ideal) (φ := .f32) Y (broadcastInDim S16384x64 ![0, 1] bcast_S1x64_S16384x64_0_1 (broadcastInDim S1x64 ![1] bcast_S64_S1x64_1 (meanS Y))))
        (broadcastInDim S16384x64 ![0, 1] bcast_S1x64_S16384x64_0_1 (broadcastInDim S1x64 ![1] bcast_S64_S1x64_1 (Host.sqrt (F := Ideal) (φ := .f32) (addf (F := Ideal) (φ := .f32) (varS Y) (broadcastInDim S64 ![] bcast_S_S64 (constant (F := Ideal) S_ .f32 0x3727C5AC#32)))))))
      (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 b)))
  (broadcastInDim S16384x64 ![] bcast_S_S16384x64 (constant (F := Ideal) S_ .f32 0x00000000#32))

/-- A column's mean. -/
def mS (h : Fin 64) : EReal := Ideal.div (∑ i : Fin 16384, (Y (ix2 i h) : EReal)) (Ideal.ofBits .f32 0x46800000#32)

/-- A column's variance. -/
def vS (h : Fin 64) : EReal :=
  Ideal.div (∑ i : Fin 16384, ((Y (ix2 i h) : EReal) - mS Y h) * ((Y (ix2 i h) : EReal) - mS Y h)) (Ideal.ofBits .f32 0x46800000#32)

theorem sumS_apply (h : Fin 64) : sumS Y (ix1 h) = (∑ i : Fin 16384, Y (ix2 i h) : EReal) := by
  pointwise

theorem meanS_apply (h : Fin 64) : meanS Y (ix1 h) = mS Y h := by
  have e : ∀ s : Vec Ideal S64 .f32, Host.divf (F := Ideal) (φ := .f32) s (broadcastInDim S64 ![] bcast_S_S64 (constant (F := Ideal) S_ .f32 0x46800000#32)) (ix1 h) = Ideal.div (s (ix1 h)) (Ideal.ofBits .f32 0x46800000#32) := by
    intro s
    pointwise
  exact (e _).trans (congrArg (fun z : EReal => Ideal.div z (Ideal.ofBits .f32 0x46800000#32)) (sumS_apply Y h))

theorem devS_apply (i : Fin 16384) (h : Fin 64) : devS Y (ix2 i h) = ((Y (ix2 i h) : EReal) - mS Y h) := by
  have e : ∀ s : Vec Ideal S64 .f32, subf (F := Ideal) (φ := .f32) Y (broadcastInDim S16384x64 ![0, 1] bcast_S1x64_S16384x64_0_1 (Host.divf (F := Ideal) (φ := .f32) (broadcastInDim S1x64 ![1] bcast_S64_S1x64_1 s) (broadcastInDim S1x64 ![] bcast_S_S1x64 (constant (F := Ideal) S_ .f32 0x46800000#32)))) (ix2 i h)
      = ((Y (ix2 i h) : EReal) - Ideal.div (s (ix1 h)) (Ideal.ofBits .f32 0x46800000#32)) := by
    intro s
    pointwise
  exact (e _).trans (congrArg (fun z : EReal => (Y (ix2 i h) : EReal) - Ideal.div z (Ideal.ofBits .f32 0x46800000#32)) (sumS_apply Y h))

theorem cntS_apply (z : S_.Idx) : cntS z = Ideal.ofBits .f32 0x46800000#32 := by
  show (Ideal.ofBits .f32 0x46800000#32 : EReal) - (((0#32 : BitVec 32).toInt : ℝ) : EReal) = _
  rw [show (0#32 : BitVec 32).toInt = 0 from rfl]
  simp

theorem guardS (z : S_.Idx) : cmpf (F := Ideal) (φ := .f32) .ogt cntS (constant (F := Ideal) S_ .f32 0x00000000#32) z = 1#1 := by
  show Ideal.cmp .ogt (cntS z) (Ideal.ofBits .f32 0x00000000#32) = 1#1
  rw [cntS_apply, cS_val, zero_val]
  unfold Ideal.cmp
  simp

theorem sqS_apply (h : Fin 64) : sumS (mulf (F := Ideal) (φ := .f32) (devS Y) (devS Y)) (ix1 h)
    = (∑ i : Fin 16384, ((Y (ix2 i h) : EReal) - mS Y h) * ((Y (ix2 i h) : EReal) - mS Y h) : EReal) := by
  refine (sumS_apply _ h).trans (Finset.sum_congr rfl fun i _ => ?_)
  exact congrArg₂ (fun x y : EReal => x * y) (devS_apply Y i h) (devS_apply Y i h)

theorem varS_apply (h : Fin 64) : varS Y (ix1 h) = vS Y h := by
  have e : ∀ (p : IVec S_ 1) (s t : Vec Ideal S64 .f32) (n : Vec Ideal S_ .f32), (∀ z, p z = 1#1) → (∀ z, n z = Ideal.ofBits .f32 0x46800000#32) →
      select (broadcastInDim S64 ![] bcast_S_S64 p) (Host.divf (F := Ideal) (φ := .f32) s (broadcastInDim S64 ![] bcast_S_S64 n)) t (ix1 h)
        = Ideal.div (s (ix1 h)) (Ideal.ofBits .f32 0x46800000#32) := by
    intro p s t n hp hn
    simp only [select, broadcastInDim, hp]
    show Ideal.div (s (ix1 h)) (n _) = _
    rw [hn]
  refine (e _ _ _ _ guardS cntS_apply).trans ?_
  exact congrArg (fun z : EReal => Ideal.div z (Ideal.ofBits .f32 0x46800000#32)) (sqS_apply Y h)

theorem normS_apply (i : Fin 16384) (h : Fin 64) : normS Y g b (ix2 i h)
    = max (Ideal.div ((Y (ix2 i h) : EReal) - mS Y h) (Ideal.sqrt (vS Y h + Ideal.ofBits .f32 0x3727C5AC#32)) * g (ix1 h) + b (ix1 h)) 0 := by
  have e : ∀ s t : Vec Ideal S64 .f32, (maximumf (F := Ideal) (φ := .f32) (addf (F := Ideal) (φ := .f32) (mulf (F := Ideal) (φ := .f32) (Host.divf (F := Ideal) (φ := .f32) (subf (F := Ideal) (φ := .f32) Y (broadcastInDim S16384x64 ![0, 1] bcast_S1x64_S16384x64_0_1 (broadcastInDim S1x64 ![1] bcast_S64_S1x64_1 s)))
        (broadcastInDim S16384x64 ![0, 1] bcast_S1x64_S16384x64_0_1 (broadcastInDim S1x64 ![1] bcast_S64_S1x64_1 (Host.sqrt (F := Ideal) (φ := .f32) (addf (F := Ideal) (φ := .f32) t (broadcastInDim S64 ![] bcast_S_S64 (constant (F := Ideal) S_ .f32 0x3727C5AC#32)))))))
      (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 b)))
  (broadcastInDim S16384x64 ![] bcast_S_S16384x64 (constant (F := Ideal) S_ .f32 0x00000000#32)) : Vec Ideal S16384x64 .f32) (ix2 i h)
      = max (Ideal.div ((Y (ix2 i h) : EReal) - s (ix1 h)) (Ideal.sqrt ((t (ix1 h) : EReal) + Ideal.ofBits .f32 0x3727C5AC#32)) * g (ix1 h) + b (ix1 h)) 0 := by
    intro s t
    pointwise
  exact (e _ _).trans (congrArg₂ (fun x y : EReal => max (Ideal.div ((Y (ix2 i h) : EReal) - x) (Ideal.sqrt (y + Ideal.ofBits .f32 0x3727C5AC#32)) * g (ix1 h) + b (ix1 h)) 0) (meanS_apply Y h) (varS_apply Y h))

end

end Cert.Proof.Ref

end
-- ==== Proof.TabPay.lean ====
/-
  The tables' call, statement by statement over the reals: each stored row as a sum over the block's rows.
-/
module

public import proofs.«01_k».proof.Proof.Gen.KernelIdeal
public import proofs.«01_k».proof.Proof.Gen.KernelIdeal.Skeleton
public import Idealize.ShloMosaic.Lib.Pointwise

@[expose] public section

noncomputable section

namespace Cert.Proof

open Cert.KernelIdeal Cert.KernelIdeal.Gen
open Idealize.ShloMosaic

/-- The variance's small term, and the two row counts, as the programs write them. -/
abbrev cE : EReal := Ideal.ofBits .f32 0x3727C5AC#32
abbrev cN : EReal := Ideal.ofBits .f32 0x48A00000#32
abbrev cS : EReal := Ideal.ofBits .f32 0x46800000#32
abbrev c2 : EReal := Ideal.ofBits .f32 0x40000000#32

theorem p12 (a b : Vec Ideal S1x1024x64 .f32) (r : Fin 1024) (f : Fin 64) :
    k1_pay12 a b (ix2 r f) = (a (ix3 0 r f) + b (ix3 0 r f) : EReal) := by
  unfold k1_pay12; pointwise

theorem p13 (a b : Vec Ideal S1x1024x64 .f32) (n : Vec Ideal S1024x1 .f32) (r : Fin 1024) (f : Fin 64) :
    k1_pay13 a b n (ix2 r f) = ((a (ix3 0 r f) + b (ix3 0 r f)) * Ideal.div 1 (n (ix2 r 0)) : EReal) := by
  unfold k1_pay13 k1_pay12; pointwise

theorem p14 (a b : Vec Ideal S1x1024x64 .f32) (n : Vec Ideal S1024x1 .f32) (w : Vec Ideal S64x64 .f32) (r : Fin 1024) (h : Fin 64) :
    k1_pay14 a b n w (ix2 r h) = (∑ f : Fin 64, (a (ix3 0 r f) + b (ix3 0 r f)) * Ideal.div 1 (n (ix2 r 0)) * w (ix2 f h) : EReal) := by
  unfold k1_pay14 k1_pay13 k1_pay12; pointwise

theorem p15 (a b : Vec Ideal S1x1024x64 .f32) (n : Vec Ideal S1024x1 .f32) (w : Vec Ideal S64x64 .f32) (r : Fin 1024) (h : Fin 64) :
    k1_pay15 a b n w (ix2 r h) = (∑ f : Fin 64, (a (ix3 0 r f) + b (ix3 0 r f)) * Ideal.div 1 (n (ix2 r 0)) * w (ix2 f h) : EReal) := by
  unfold k1_pay15 k1_pay13 k1_pay12; pointwise

theorem p3 (a b : Vec Ideal S1x1024x1 .f32) (r : Fin 1024) : k1_pay3 a b (ix2 r 0) = (a (ix3 0 r 0) + b (ix3 0 r 0) : EReal) := by
  unfold k1_pay3; pointwise

theorem p4 (s : FVec Ideal S1024x64 .f32) (a : Vec Ideal S1x64 .f32) (h : Fin 64) :
    k1_pay4 s a (ix2 0 h) = (a (ix2 0 h) + ∑ r : Fin 1024, s (ix2 r h) : EReal) := by
  unfold k1_pay4; pointwise

theorem p5 (B : FVec Ideal S1024x64 .f32) (c c' : Vec Ideal S1x1024x1 .f32) (a : Vec Ideal S1x64 .f32) (h : Fin 64) :
    k1_pay5 B c c' a (ix2 0 h) = (a (ix2 0 h) + ∑ r : Fin 1024, (c (ix3 0 r 0) + c' (ix3 0 r 0)) * B (ix2 r h) : EReal) := by
  unfold k1_pay5 k1_pay3; pointwise

theorem p6 (s B : FVec Ideal S1024x64 .f32) (w : Vec Ideal S64x64 .f32) (a : Vec Ideal S1x64 .f32) (h : Fin 64) :
    k1_pay6 s B w a (ix2 0 h) = (a (ix2 0 h) + ∑ r : Fin 1024, (∑ f : Fin 64, s (ix2 r f) * w (ix2 f h)) * B (ix2 r h) : EReal) := by
  unfold k1_pay6; pointwise

/-- The three sums' rows whose body computes the table itself. -/
theorem p16 (a b : Vec Ideal S1x1024x64 .f32) (n : Vec Ideal S1024x1 .f32) (w : Vec Ideal S64x64 .f32) (c : FVec Ideal S1024x1 .f32) (x : Vec Ideal S1x64 .f32) (h : Fin 64) :
    k1_pay16 a b n w c x (ix2 0 h) = (x (ix2 0 h) + ∑ r : Fin 1024, c (ix2 r 0) * k1_pay14 a b n w (ix2 r h) * k1_pay14 a b n w (ix2 r h) : EReal) := by
  unfold k1_pay16; generalize k1_pay14 a b n w = B; pointwise

theorem p17 (a b : Vec Ideal S1x1024x64 .f32) (n : Vec Ideal S1024x1 .f32) (w : Vec Ideal S64x64 .f32) (x : Vec Ideal S1x64 .f32) (h : Fin 64) :
    k1_pay17 a b n w x (ix2 0 h) = (x (ix2 0 h) + ∑ r : Fin 1024, k1_pay15 a b n w (ix2 r h) : EReal) := by
  unfold k1_pay17; generalize k1_pay15 a b n w = B; pointwise

theorem p18 (a b : Vec Ideal S1x1024x64 .f32) (n : Vec Ideal S1024x1 .f32) (w : Vec Ideal S64x64 .f32) (x : Vec Ideal S1x64 .f32) (h : Fin 64) :
    k1_pay18 a b n w x (ix2 0 h) = (x (ix2 0 h) + ∑ r : Fin 1024, k1_pay15 a b n w (ix2 r h) * k1_pay15 a b n w (ix2 r h) : EReal) := by
  unfold k1_pay18; generalize k1_pay15 a b n w = B; pointwise

/-! The second pass's first statements: mean, variance, scale, shift. -/

theorem p7 (a0 : Vec Ideal S1x64 .f32) (w : Vec Ideal S64x64 .f32) (a1 : Vec Ideal S1x64 .f32) (h : Fin 64) :
    k1_pay7 a0 w a1 (ix2 0 h) = Ideal.div ((∑ f : Fin 64, a0 (ix2 0 f) * w (ix2 f h) : EReal) + a1 (ix2 0 h)) cN := by
  unfold k1_pay7; pointwise

theorem p8 (a0 : Vec Ideal S1x64 .f32) (w : Vec Ideal S64x64 .f32) (a1 q a2 a3 g : Vec Ideal S1x64 .f32) (h : Fin 64) :
    k1_pay8 a0 w a1 q a2 a3 g (ix2 0 h) = (g (ix2 0 h) * Ideal.rsqrt (Ideal.div (q (ix2 0 h) + c2 * a2 (ix2 0 h) + a3 (ix2 0 h) : EReal) cN
      - k1_pay7 a0 w a1 (ix2 0 h) * k1_pay7 a0 w a1 (ix2 0 h) + cE) : EReal) := by
  unfold k1_pay8; generalize k1_pay7 a0 w a1 = M; pointwise

theorem p9 (a0 : Vec Ideal S1x64 .f32) (w : Vec Ideal S64x64 .f32) (a1 q a2 a3 g b : Vec Ideal S1x64 .f32) (h : Fin 64) :
    k1_pay9 a0 w a1 q a2 a3 g b (ix2 0 h) = (b (ix2 0 h) - k1_pay7 a0 w a1 (ix2 0 h) * k1_pay8 a0 w a1 q a2 a3 g (ix2 0 h) : EReal) := by
  unfold k1_pay9; generalize k1_pay7 a0 w a1 = M; generalize k1_pay8 a0 w a1 q a2 a3 g = L; pointwise

theorem p10 (a : Vec Ideal S1x64 .f32) (h : Fin 64) : k1_pay10 a (ix2 0 h) = Ideal.div (a (ix2 0 h)) cS := by
  unfold k1_pay10; pointwise

theorem p19 (M : FVec Ideal S1x64 .f32) (a g : Vec Ideal S1x64 .f32) (h : Fin 64) :
    k1_pay19 M a g (ix2 0 h) = (g (ix2 0 h) * Ideal.rsqrt (Ideal.div (a (ix2 0 h)) cS - M (ix2 0 h) * M (ix2 0 h) + cE) : EReal) := by
  unfold k1_pay19; pointwise

theorem p20 (v : FVec Ideal S1x64 .f32) (h : Fin 64) : k1_pay20 v (ix2 0 h) = v (ix2 0 h) := by
  unfold k1_pay20; pointwise

theorem p21 (v : FVec Ideal S1x64 .f32) (h : Fin 64) : k1_pay21 v (ix2 0 h) = v (ix2 0 h) := by
  unfold k1_pay21; pointwise

theorem p22 (M : FVec Ideal S1x64 .f32) (a g : Vec Ideal S1x64 .f32) (h : Fin 64) : k1_pay22 M a g (ix2 0 h) = k1_pay19 M a g (ix2 0 h) := by
  unfold k1_pay22; generalize k1_pay19 M a g = L; pointwise

theorem p23 (M : FVec Ideal S1x64 .f32) (a g b : Vec Ideal S1x64 .f32) (h : Fin 64) :
    k1_pay23 M a g b (ix2 0 h) = (b (ix2 0 h) - M (ix2 0 h) * k1_pay19 M a g (ix2 0 h) : EReal) := by
  unfold k1_pay23; generalize k1_pay19 M a g = L; pointwise

theorem p24 (v : FVec Ideal S1x64 .f32) (k : Fin 8) (h : Fin 64) : k1_pay24 v (ix2 k h) = v (ix2 0 h) := by
  unfold k1_pay24; pointwise

/-! The second pass's two tables. -/

theorem p1 (B : FVec Ideal S1024x64 .f32) (s b : Vec Ideal S1x64 .f32) (r : Fin 1024) (h : Fin 64) :
    k1_pay1 B s b (ix2 r (⟨h.val, by omega⟩ : Fin 128)) = (B (ix2 r h) * s (ix2 0 h) + b (ix2 0 h) : EReal) := by
  unfold k1_pay1; pointwise

theorem p2 (C : FVec Ideal S1024x64 .f32) (s b : Vec Ideal S1x64 .f32) (v : Vec Ideal S64x1 .f32) (c : Vec Ideal S1x1 .f32) (r : Fin 1024) :
    k1_pay2 C s b v c (ix2 r 0) = Ideal.exp ((∑ h : Fin 64, max (C (ix2 r h) * s (ix2 0 h) + b (ix2 0 h)) 0 * v (ix2 h 0) : EReal) + c (ix2 0 0)) := by
  unfold k1_pay2; pointwise

/-- The squares' call: the row grows by the block's squares. -/
theorem p0 (x : Vec Ideal S2048x64 .f32) (w : Vec Ideal S64x64 .f32) (a : Vec Ideal S1x64 .f32) (h : Fin 64) :
    k0_pay2 x w a (ix2 0 h) = (a (ix2 0 h) + ∑ r : Fin 2048, (∑ f : Fin 64, x (ix2 r f) * w (ix2 f h)) * (∑ f : Fin 64, x (ix2 r f) * w (ix2 f h)) : EReal) := by
  unfold k0_pay2; pointwise

end Cert.Proof

end
-- ==== Proof.Sums.lean ====
/-
  What the tables' call leaves in its three arrays, entry by entry over the reals: the accumulated sums over all the
  segments, the scales and shifts from them, and the two tables.
-/
module

public import proofs.«01_k».proof.Proof.RegionFin
public import proofs.«01_k».proof.Proof.TabPay

@[expose] public section

set_option maxRecDepth 16384

noncomputable section

namespace Cert.Proof.Region1

open Cert.KernelIdeal Cert.KernelIdeal.Gen
open Idealize.ShloMosaic Idealize.ShloMosaic.TcCoe Idealize.ShloMosaic.Tactic
open Idealize.SL.Sem
open Idealize.ShloMosaic.Pipeline (Cfg Window)

/-- A sum grown block by block is the sum over all. -/
theorem sum_blocks {N : ℕ} (K L : ℕ) (hN : N = K * L) (G : Fin N → EReal) (f : ℕ → EReal) (h0 : f 0 = 0)
    (hs : ∀ (n : ℕ) (hn : n < K), f (n + 1) = f n + ∑ r : Fin L, G ⟨n * L + r.val, by
      have := r.isLt; have h : (n + 1) * L ≤ K * L := Nat.mul_le_mul_right _ hn
      rw [Nat.add_mul] at h; omega⟩) : f K = ∑ s : Fin N, G s := by
  have key : ∀ n, n ≤ K → f n = ∑ m ∈ Finset.range (n * L), if h : m < N then G ⟨m, h⟩ else 0 := by
    intro n
    induction n with
    | zero => intro _; rw [h0, Nat.zero_mul]; rfl
    | succ n ih =>
      intro hn
      rw [hs n hn, ih (by omega), Nat.add_mul, Nat.one_mul, Finset.sum_range_add]
      refine congrArg _ ?_
      rw [Finset.sum_range]
      refine Finset.sum_congr rfl fun r _ => ?_
      have hlt : n * L + r.val < N := by
        have := r.isLt; have h : (n + 1) * L ≤ K * L := Nat.mul_le_mul_right _ hn
        rw [Nat.add_mul] at h; omega
      rw [dif_pos hlt]
  rw [key K le_rfl, ← hN, Finset.sum_range]
  exact Finset.sum_congr rfl fun s _ => by rw [dif_pos s.isLt]

/-! ## Rows of the accumulator -/

theorem miss (k : ℕ) (inb) (j : Fin 8) (h : Fin 64) (hj : j.val ≠ k) : (ix2 j h : S8x64.Idx) ∉ (Rect.unit (s := S8x64) ![k, 0] S1x64.size inb).set := by
  intro hy
  obtain ⟨x, hx⟩ : ∃ x, (Rect.unit (s := S8x64) ![k, 0] S1x64.size inb).emb x = ix2 j h := (Rect.unit (s := S8x64) ![k, 0] S1x64.size inb).exists_idx_of_mem hy
  have h0 : k + 1 * (x 0).val = j.val := congrArg Fin.val (congrFun hx 0)
  have h1 : (x 0).val < 1 := (x 0).isLt
  omega

theorem hit (k : Fin 8) (inb) (h : Fin 64) : (Rect.unit (s := S8x64) ![k.val, 0] S1x64.size inb).emb (ix2 0 h) = (ix2 k h : S8x64.Idx) := by
  funext a
  match a with
  | ⟨0, _⟩ => exact Fin.ext (by show k.val + 1 * 0 = k.val; omega)
  | ⟨1, _⟩ => exact Fin.ext (by show 0 + 1 * h.val = h.val; omega)

section

theorem canon_hit (k : Fin 8) (inb) (w : Vec Ideal S1x64 .f32) (L : List (View.Piece (Elt Ideal) S8x64 .f32)) (h : Fin 64) :
    View.canon (⟨Rect.unit (s := S8x64) ![k.val, 0] S1x64.size inb, w⟩ :: L) (ix2 k h) = w (ix2 0 h) := by
  rw [← hit k inb h]
  exact View.canon_cons_emb _ _ _ _

theorem canon_miss (k : ℕ) (inb) (w : Vec Ideal S1x64 .f32) (L : List (View.Piece (Elt Ideal) S8x64 .f32)) (j : Fin 8) (h : Fin 64) (hj : j.val ≠ k) :
    View.canon (⟨Rect.unit (s := S8x64) ![k, 0] S1x64.size inb, w⟩ :: L) (ix2 j h) = View.canon L (ix2 j h) :=
  View.canon_cons_of_not_mem _ _ (miss k inb j h hj)
end

/-! ## The parts a body reads -/

theorem ld0a (x : Vec Ideal S2x1024x64 .f32) (r : Fin 1024) (f : Fin 64) : (View.ld x q0a : Vec Ideal S1x1024x64 .f32) (ix3 0 r f) = x (ix3 0 r f) :=
  congrArg x (funext fun a => match a with
    | ⟨0, _⟩ => Fin.ext (by show 0 + 1 * 0 = 0; omega)
    | ⟨1, _⟩ => Fin.ext (by show 0 + 1 * r.val = r.val; omega)
    | ⟨2, _⟩ => Fin.ext (by show 0 + 1 * f.val = f.val; omega))
theorem ld0b (x : Vec Ideal S2x1024x64 .f32) (r : Fin 1024) (f : Fin 64) : (View.ld x q0b : Vec Ideal S1x1024x64 .f32) (ix3 0 r f) = x (ix3 1 r f) :=
  congrArg x (funext fun a => match a with
    | ⟨0, _⟩ => Fin.ext (by show 1 + 1 * 0 = 1; omega)
    | ⟨1, _⟩ => Fin.ext (by show 0 + 1 * r.val = r.val; omega)
    | ⟨2, _⟩ => Fin.ext (by show 0 + 1 * f.val = f.val; omega))
theorem ld1a (x : Vec Ideal S2x1024x16 .f32) (r : Fin 1024) : (View.ld x q1a : Vec Ideal S1x1024x1 .f32) (ix3 0 r 0) = x (ix3 0 r 0) :=
  congrArg x (funext fun a => match a with
    | ⟨0, _⟩ => Fin.ext (by show 0 + 1 * 0 = 0; omega)
    | ⟨1, _⟩ => Fin.ext (by show 0 + 1 * r.val = r.val; omega)
    | ⟨2, _⟩ => Fin.ext (by show 0 + 1 * 0 = 0; omega))
theorem ld1b (x : Vec Ideal S2x1024x16 .f32) (r : Fin 1024) : (View.ld x q1b : Vec Ideal S1x1024x1 .f32) (ix3 0 r 0) = x (ix3 1 r 0) :=
  congrArg x (funext fun a => match a with
    | ⟨0, _⟩ => Fin.ext (by show 1 + 1 * 0 = 1; omega)
    | ⟨1, _⟩ => Fin.ext (by show 0 + 1 * r.val = r.val; omega)
    | ⟨2, _⟩ => Fin.ext (by show 0 + 1 * 0 = 0; omega))
theorem ld2 (x : Vec Ideal S1024x1 .f32) (r : Fin 1024) : (View.ld x q2 : Vec Ideal S1024x1 .f32) (ix2 r 0) = x (ix2 r 0) :=
  congrArg x (funext fun a => match a with
    | ⟨0, _⟩ => Fin.ext (by show 0 + 1 * r.val = r.val; omega)
    | ⟨1, _⟩ => Fin.ext (by show 0 + 1 * 0 = 0; omega))
theorem ld3 (x : Vec Ideal S64x64 .f32) (f h : Fin 64) : (View.ld x q3 : Vec Ideal S64x64 .f32) (ix2 f h) = x (ix2 f h) :=
  congrArg x (funext fun a => match a with
    | ⟨0, _⟩ => Fin.ext (by show 0 + 1 * f.val = f.val; omega)
    | ⟨1, _⟩ => Fin.ext (by show 0 + 1 * h.val = h.val; omega))
theorem ld6 (x : Vec Ideal S1x64 .f32) (h : Fin 64) : (View.ld x q6 : Vec Ideal S1x64 .f32) (ix2 0 h) = x (ix2 0 h) :=
  congrArg x (funext fun a => match a with
    | ⟨0, _⟩ => Fin.ext (by show 0 + 1 * 0 = 0; omega)
    | ⟨1, _⟩ => Fin.ext (by show 0 + 1 * h.val = h.val; omega))
theorem ld10 (x : Vec Ideal S64x1 .f32) (h : Fin 64) : (View.ld x q10 : Vec Ideal S64x1 .f32) (ix2 h 0) = x (ix2 h 0) :=
  congrArg x (funext fun a => match a with
    | ⟨0, _⟩ => Fin.ext (by show 0 + 1 * h.val = h.val; omega)
    | ⟨1, _⟩ => Fin.ext (by show 0 + 1 * 0 = 0; omega))
theorem ld11 (x : Vec Ideal S1x1 .f32)  : (View.ld x q11 : Vec Ideal S1x1 .f32) (ix2 0 0) = x (ix2 0 0) :=
  congrArg x (funext fun a => match a with
    | ⟨0, _⟩ => Fin.ext (by show 0 + 1 * 0 = 0; omega)
    | ⟨1, _⟩ => Fin.ext (by show 0 + 1 * 0 = 0; omega))
theorem ldr0 (x : Vec Ideal S8x64 .f32) (h : Fin 64) : (View.ld x rw0 : Vec Ideal S1x64 .f32) (ix2 0 h) = x (ix2 0 h) :=
  congrArg x (funext fun a => match a with
    | ⟨0, _⟩ => Fin.ext (by show 0 + 1 * 0 = 0; omega)
    | ⟨1, _⟩ => Fin.ext (by show 0 + 1 * h.val = h.val; omega))
theorem ldr1 (x : Vec Ideal S8x64 .f32) (h : Fin 64) : (View.ld x rw1 : Vec Ideal S1x64 .f32) (ix2 0 h) = x (ix2 1 h) :=
  congrArg x (funext fun a => match a with
    | ⟨0, _⟩ => Fin.ext (by show 1 + 1 * 0 = 1; omega)
    | ⟨1, _⟩ => Fin.ext (by show 0 + 1 * h.val = h.val; omega))
theorem ldr2 (x : Vec Ideal S8x64 .f32) (h : Fin 64) : (View.ld x rw2 : Vec Ideal S1x64 .f32) (ix2 0 h) = x (ix2 2 h) :=
  congrArg x (funext fun a => match a with
    | ⟨0, _⟩ => Fin.ext (by show 2 + 1 * 0 = 2; omega)
    | ⟨1, _⟩ => Fin.ext (by show 0 + 1 * h.val = h.val; omega))
theorem ldr3 (x : Vec Ideal S8x64 .f32) (h : Fin 64) : (View.ld x rw3 : Vec Ideal S1x64 .f32) (ix2 0 h) = x (ix2 3 h) :=
  congrArg x (funext fun a => match a with
    | ⟨0, _⟩ => Fin.ext (by show 3 + 1 * 0 = 3; omega)
    | ⟨1, _⟩ => Fin.ext (by show 0 + 1 * h.val = h.val; omega))
theorem ldr4 (x : Vec Ideal S8x64 .f32) (h : Fin 64) : (View.ld x rw4 : Vec Ideal S1x64 .f32) (ix2 0 h) = x (ix2 4 h) :=
  congrArg x (funext fun a => match a with
    | ⟨0, _⟩ => Fin.ext (by show 4 + 1 * 0 = 4; omega)
    | ⟨1, _⟩ => Fin.ext (by show 0 + 1 * h.val = h.val; omega))
theorem ldr5 (x : Vec Ideal S8x64 .f32) (h : Fin 64) : (View.ld x rw5 : Vec Ideal S1x64 .f32) (ix2 0 h) = x (ix2 5 h) :=
  congrArg x (funext fun a => match a with
    | ⟨0, _⟩ => Fin.ext (by show 5 + 1 * 0 = 5; omega)
    | ⟨1, _⟩ => Fin.ext (by show 0 + 1 * h.val = h.val; omega))

/-! ## The accumulator's rows after a block -/

section
variable (x0 : Vec Ideal S2x1024x64 .f32) (x1 : Vec Ideal S2x1024x16 .f32) (x2 : Vec Ideal S1024x1 .f32) (x3 x4 x5 : Vec Ideal S64x64 .f32) (a : Vec Ideal S8x64 .f32)

/-- A block's segment sums, counts, and the product of the ends with a weight matrix. -/
abbrev bS (r : Fin 1024) (f : Fin 64) : EReal := x0 (ix3 0 r f) + x0 (ix3 1 r f)
abbrev bc (r : Fin 1024) : EReal := x1 (ix3 0 r 0) + x1 (ix3 1 r 0)
abbrev bB (w : Vec Ideal S64x64 .f32) (r : Fin 1024) (h : Fin 64) : EReal := ∑ f : Fin 64, bS x0 r f * Ideal.div 1 (x2 (ix2 r 0)) * w (ix2 f h)

theorem payB_apply (r : Fin 1024) (h : Fin 64) : payB x0 x2 x4 (ix2 r h) = bB x0 x2 x4 r h := by
  unfold payB
  refine (p14 _ _ _ _ r h).trans (Finset.sum_congr rfl fun f _ => ?_)
  exact congrArg₂ (fun u v : EReal => u * v) (congrArg₂ (fun u v : EReal => u * Ideal.div 1 v) (congrArg₂ (fun u v : EReal => u + v) (ld0a x0 r f) (ld0b x0 r f)) (ld2 x2 r)) (ld3 x4 f h)
theorem payC_apply (r : Fin 1024) (h : Fin 64) : payC x0 x2 x5 (ix2 r h) = bB x0 x2 x5 r h := by
  unfold payC
  refine (p15 _ _ _ _ r h).trans (Finset.sum_congr rfl fun f _ => ?_)
  exact congrArg₂ (fun u v : EReal => u * v) (congrArg₂ (fun u v : EReal => u * Ideal.div 1 v) (congrArg₂ (fun u v : EReal => u + v) (ld0a x0 r f) (ld0b x0 r f)) (ld2 x2 r)) (ld3 x5 f h)
theorem payS_apply (r : Fin 1024) (f : Fin 64) : payS x0 (ix2 r f) = bS x0 r f := by
  unfold payS
  exact (p12 _ _ r f).trans (congrArg₂ (fun u v : EReal => u + v) (ld0a x0 r f) (ld0b x0 r f))

theorem accP_0 (h : Fin 64) : accP x0 x1 x2 x3 x4 x5 a (ix2 0 h) = (a (ix2 0 h) + ∑ r : Fin 1024, bS x0 r h : EReal) := by
  unfold accP
  refine (canon_miss 5 _ _ _ 0 h (by decide)).trans ((canon_miss 4 _ _ _ 0 h (by decide)).trans ((canon_miss 3 _ _ _ 0 h (by decide)).trans ((canon_miss 2 _ _ _ 0 h (by decide)).trans ((canon_miss 1 _ _ _ 0 h (by decide)).trans ((canon_hit 0 _ _ _ h).trans ((p4 _ _ h).trans ?_))))))
  refine congrArg₂ (fun x y : EReal => x + y) (ldr0 a h) (Finset.sum_congr rfl fun r _ => ?_)
  exact payS_apply x0 r h
theorem accP_1 (h : Fin 64) : accP x0 x1 x2 x3 x4 x5 a (ix2 1 h) = (a (ix2 1 h) + ∑ r : Fin 1024, bc x1 r * bB x0 x2 x4 r h : EReal) := by
  unfold accP
  refine (canon_miss 5 _ _ _ 1 h (by decide)).trans ((canon_miss 4 _ _ _ 1 h (by decide)).trans ((canon_miss 3 _ _ _ 1 h (by decide)).trans ((canon_miss 2 _ _ _ 1 h (by decide)).trans ((canon_hit 1 _ _ _ h).trans ((p5 _ _ _ _ h).trans ?_)))))
  refine congrArg₂ (fun x y : EReal => x + y) (ldr1 a h) (Finset.sum_congr rfl fun r _ => ?_)
  rw [payB_apply, ld1a, ld1b]
theorem accP_2 (h : Fin 64) : accP x0 x1 x2 x3 x4 x5 a (ix2 2 h) = (a (ix2 2 h) + ∑ r : Fin 1024, (∑ f : Fin 64, bS x0 r f * x3 (ix2 f h)) * bB x0 x2 x4 r h : EReal) := by
  unfold accP
  refine (canon_miss 5 _ _ _ 2 h (by decide)).trans ((canon_miss 4 _ _ _ 2 h (by decide)).trans ((canon_miss 3 _ _ _ 2 h (by decide)).trans ((canon_hit 2 _ _ _ h).trans ((p6 _ _ _ _ h).trans ?_))))
  refine congrArg₂ (fun x y : EReal => x + y) (ldr2 a h) (Finset.sum_congr rfl fun r _ => ?_)
  exact congrArg₂ (fun u v : EReal => u * v) (Finset.sum_congr rfl fun f _ => congrArg₂ (fun u v : EReal => u * v) (payS_apply x0 r f) (ld3 x3 f h)) (payB_apply x0 x2 x4 r h)
theorem accP_3 (h : Fin 64) : accP x0 x1 x2 x3 x4 x5 a (ix2 3 h) = (a (ix2 3 h) + ∑ r : Fin 1024, bc x1 r * bB x0 x2 x4 r h * bB x0 x2 x4 r h : EReal) := by
  unfold accP
  refine (canon_miss 5 _ _ _ 3 h (by decide)).trans ((canon_miss 4 _ _ _ 3 h (by decide)).trans ((canon_hit 3 _ _ _ h).trans ((p16 _ _ _ _ _ _ h).trans ?_)))
  refine congrArg₂ (fun x y : EReal => x + y) (ldr3 a h) (Finset.sum_congr rfl fun r _ => ?_)
  rw [p3, ld1a, ld1b, show k1_pay14 (View.ld x0 q0a) (View.ld x0 q0b) (View.ld x2 q2) (View.ld x4 q3) (ix2 r h) = bB x0 x2 x4 r h from payB_apply x0 x2 x4 r h]
theorem accP_4 (h : Fin 64) : accP x0 x1 x2 x3 x4 x5 a (ix2 4 h) = (a (ix2 4 h) + ∑ r : Fin 1024, bB x0 x2 x5 r h : EReal) := by
  unfold accP
  refine (canon_miss 5 _ _ _ 4 h (by decide)).trans ((canon_hit 4 _ _ _ h).trans ((p17 _ _ _ _ _ h).trans ?_))
  refine congrArg₂ (fun x y : EReal => x + y) (ldr4 a h) (Finset.sum_congr rfl fun r _ => ?_)
  exact payC_apply x0 x2 x5 r h
theorem accP_5 (h : Fin 64) : accP x0 x1 x2 x3 x4 x5 a (ix2 5 h) = (a (ix2 5 h) + ∑ r : Fin 1024, bB x0 x2 x5 r h * bB x0 x2 x5 r h : EReal) := by
  unfold accP
  refine (canon_hit 5 _ _ _ h).trans ((p18 _ _ _ _ _ h).trans ?_)
  refine congrArg₂ (fun x y : EReal => x + y) (ldr5 a h) (Finset.sum_congr rfl fun r _ => ?_)
  rw [show k1_pay15 (View.ld x0 q0a) (View.ld x0 q0b) (View.ld x2 q2) (View.ld x5 q3) (ix2 r h) = bB x0 x2 x5 r h from payC_apply x0 x2 x5 r h]

theorem pay11_apply (k : Fin 8) (h : Fin 64) : k1_pay11 (F := Ideal) (ix2 k h) = (0 : EReal) := by
  unfold k1_pay11; pointwise
end

/-! ## The blocks -/

variable (W : Dev nD → Valuation τ sig (Elt Ideal)) (c : Dev nD)

abbrev A0 : Vec Ideal S2x16384x64 .f32 := W c (Proc.devRef .tc main_v13)
abbrev A1 : Vec Ideal S2x16384x16 .f32 := W c (Proc.devRef .tc main_v19)
abbrev A2 : Vec Ideal S16384x1 .f32 := W c (Proc.devRef .tc main_v24)
abbrev A3 : Vec Ideal S64x64 .f32 := W c (Proc.devRef .tc main_v26)
abbrev A4 : Vec Ideal S64x64 .f32 := W c (Proc.devRef .tc main_v28)
abbrev A5 : Vec Ideal S64x64 .f32 := W c (Proc.devRef .tc main_v29)
abbrev A6 : Vec Ideal S1x64 .f32 := W c (Proc.devRef .tc main_v30)
abbrev A7 : Vec Ideal S1x64 .f32 := W c (Proc.devRef .tc main_v31)
abbrev A8 : Vec Ideal S1x64 .f32 := W c (Proc.devRef .tc main_v32)
abbrev A9 : Vec Ideal S1x64 .f32 := W c (Proc.devRef .tc main_v33)
abbrev A10 : Vec Ideal S64x1 .f32 := W c (Proc.devRef .tc main_v34)
abbrev A11 : Vec Ideal S1x1 .f32 := W c (Proc.devRef .tc main_v35)
abbrev A12 : Vec Ideal S8x64 .f32 := W c (Proc.devRef .tc main_v22)

theorem index012 : ∀ t : Fin cfg1.N, win1_0.index t = ![0, t.val % 16, 0] ∧ win1_1.index t = ![0, t.val % 16, 0] ∧ win1_2.index t = ![t.val % 16, 0] :=
  (by decide +kernel : ∀ t : Fin grid1.N, win1_0.index t = ![0, t.val % 16, 0] ∧ win1_1.index t = ![0, t.val % 16, 0] ∧ win1_2.index t = ![t.val % 16, 0])
theorem indexZ : ∀ t : Fin cfg1.N, win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] :=
  (by decide +kernel : ∀ t : Fin grid1.N, win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0])

/-- The segment of a block's row. -/
abbrev sg (t : Fin cfg1.N) (r : Fin 1024) : Fin 16384 := ⟨t.val % 16 * 1024 + r.val, by omega⟩

theorem b0 (t : Fin cfg1.N) (p : Fin 2) (r : Fin 1024) (f : Fin 64) : iblk W c 0 t (ix3 p r f) = A0 W c (ix3 p (sg t r) f) := by
  have e : (cfg1.win 0).index t = ![0, t.val % 16, 0] := (index012 t).1
  refine congrArg (A0 W c) (show ((cfg1.win 0).blk t).view.emb (ix3 p r f) = _ from ?_)
  blk_ext [e]
theorem b1 (t : Fin cfg1.N) (p : Fin 2) (r : Fin 1024) (f : Fin 16) : iblk W c 1 t (ix3 p r f) = A1 W c (ix3 p (sg t r) f) := by
  have e : (cfg1.win 1).index t = ![0, t.val % 16, 0] := (index012 t).2.1
  refine congrArg (A1 W c) (show ((cfg1.win 1).blk t).view.emb (ix3 p r f) = _ from ?_)
  blk_ext [e]
theorem b2 (t : Fin cfg1.N) (r : Fin 1024) : iblk W c 2 t (ix2 r 0) = A2 W c (ix2 (sg t r) 0) := by
  have e : (cfg1.win 2).index t = ![t.val % 16, 0] := (index012 t).2.2
  refine congrArg (A2 W c) (show ((cfg1.win 2).blk t).view.emb (ix2 r 0) = _ from ?_)
  blk_ext [e]
theorem b3 (t : Fin cfg1.N) (a : Fin 64) (b : Fin 64) : iblk W c 3 t (ix2 a b) = A3 W c (ix2 a b) := by
  have e : (cfg1.win 3).index t = ![0, 0] := (indexZ t).1
  refine congrArg (A3 W c) (show ((cfg1.win 3).blk t).view.emb (ix2 a b) = _ from ?_)
  blk_ext [e]
theorem b4 (t : Fin cfg1.N) (a : Fin 64) (b : Fin 64) : iblk W c 4 t (ix2 a b) = A4 W c (ix2 a b) := by
  have e : (cfg1.win 4).index t = ![0, 0] := (indexZ t).2.1
  refine congrArg (A4 W c) (show ((cfg1.win 4).blk t).view.emb (ix2 a b) = _ from ?_)
  blk_ext [e]
theorem b5 (t : Fin cfg1.N) (a : Fin 64) (b : Fin 64) : iblk W c 5 t (ix2 a b) = A5 W c (ix2 a b) := by
  have e : (cfg1.win 5).index t = ![0, 0] := (indexZ t).2.2.1
  refine congrArg (A5 W c) (show ((cfg1.win 5).blk t).view.emb (ix2 a b) = _ from ?_)
  blk_ext [e]
theorem b6 (t : Fin cfg1.N) (a : Fin 1) (b : Fin 64) : iblk W c 6 t (ix2 a b) = A6 W c (ix2 a b) := by
  have e : (cfg1.win 6).index t = ![0, 0] := (indexZ t).2.2.2.1
  refine congrArg (A6 W c) (show ((cfg1.win 6).blk t).view.emb (ix2 a b) = _ from ?_)
  blk_ext [e]
theorem b7 (t : Fin cfg1.N) (a : Fin 1) (b : Fin 64) : iblk W c 7 t (ix2 a b) = A7 W c (ix2 a b) := by
  have e : (cfg1.win 7).index t = ![0, 0] := (indexZ t).2.2.2.2.1
  refine congrArg (A7 W c) (show ((cfg1.win 7).blk t).view.emb (ix2 a b) = _ from ?_)
  blk_ext [e]
theorem b8 (t : Fin cfg1.N) (a : Fin 1) (b : Fin 64) : iblk W c 8 t (ix2 a b) = A8 W c (ix2 a b) := by
  have e : (cfg1.win 8).index t = ![0, 0] := (indexZ t).2.2.2.2.2.1
  refine congrArg (A8 W c) (show ((cfg1.win 8).blk t).view.emb (ix2 a b) = _ from ?_)
  blk_ext [e]
theorem b9 (t : Fin cfg1.N) (a : Fin 1) (b : Fin 64) : iblk W c 9 t (ix2 a b) = A9 W c (ix2 a b) := by
  have e : (cfg1.win 9).index t = ![0, 0] := (indexZ t).2.2.2.2.2.2.1
  refine congrArg (A9 W c) (show ((cfg1.win 9).blk t).view.emb (ix2 a b) = _ from ?_)
  blk_ext [e]
theorem b10 (t : Fin cfg1.N) (a : Fin 64) (b : Fin 1) : iblk W c 10 t (ix2 a b) = A10 W c (ix2 a b) := by
  have e : (cfg1.win 10).index t = ![0, 0] := (indexZ t).2.2.2.2.2.2.2.1
  refine congrArg (A10 W c) (show ((cfg1.win 10).blk t).view.emb (ix2 a b) = _ from ?_)
  blk_ext [e]
theorem b11 (t : Fin cfg1.N) (a : Fin 1) (b : Fin 1) : iblk W c 11 t (ix2 a b) = A11 W c (ix2 a b) := by
  have e : (cfg1.win 11).index t = ![0, 0] := (indexZ t).2.2.2.2.2.2.2.2.1
  refine congrArg (A11 W c) (show ((cfg1.win 11).blk t).view.emb (ix2 a b) = _ from ?_)
  blk_ext [e]
theorem b12 (t : Fin cfg1.N) (a : Fin 8) (b : Fin 64) : iblk W c 12 t (ix2 a b) = A12 W c (ix2 a b) := by
  have e : (cfg1.win 12).index t = ![0, 0] := (indexZ t).2.2.2.2.2.2.2.2.2
  refine congrArg (A12 W c) (show ((cfg1.win 12).blk t).view.emb (ix2 a b) = _ from ?_)
  blk_ext [e]

/-! ## The sums over all the segments -/

/-- The segment sums and counts, and the ends through a weight matrix. -/
abbrev tS (s : Fin 16384) (f : Fin 64) : EReal := A0 W c (ix3 0 s f) + A0 W c (ix3 1 s f)
abbrev tc (s : Fin 16384) : EReal := A1 W c (ix3 0 s 0) + A1 W c (ix3 1 s 0)
abbrev tB (w : Vec Ideal S64x64 .f32) (s : Fin 16384) (h : Fin 64) : EReal := ∑ f : Fin 64, tS W c s f * Ideal.div 1 (A2 W c (ix2 s 0)) * w (ix2 f h)

theorem bS_blk (t : Fin cfg1.N) (r : Fin 1024) (f : Fin 64) : bS (iblk W c 0 t) r f = tS W c (sg t r) f := by
  unfold bS tS; rw [b0, b0]
theorem bc_blk (t : Fin cfg1.N) (r : Fin 1024) : bc (iblk W c 1 t) r = tc W c (sg t r) := by
  unfold bc tc; rw [b1, b1]
theorem bB4_blk (t : Fin cfg1.N) (r : Fin 1024) (h : Fin 64) : bB (iblk W c 0 t) (iblk W c 2 t) (iblk W c 4 t) r h = tB W c (A4 W c) (sg t r) h := by
  unfold bB tB
  refine Finset.sum_congr rfl fun f _ => ?_
  rw [bS_blk, b2, b4]
theorem bB5_blk (t : Fin cfg1.N) (r : Fin 1024) (h : Fin 64) : bB (iblk W c 0 t) (iblk W c 2 t) (iblk W c 5 t) r h = tB W c (A5 W c) (sg t r) h := by
  unfold bB tB
  refine Finset.sum_congr rfl fun f _ => ?_
  rw [bS_blk, b2, b5]

theorem accSum_succ' (n : ℕ) (hn : n < 16) : accSum W c (n + 1) = accP (iblk W c 0 ⟨n, show n < 32 by omega⟩) (iblk W c 1 ⟨n, show n < 32 by omega⟩) (iblk W c 2 ⟨n, show n < 32 by omega⟩)
    (iblk W c 3 ⟨n, show n < 32 by omega⟩) (iblk W c 4 ⟨n, show n < 32 by omega⟩) (iblk W c 5 ⟨n, show n < 32 by omega⟩) (accSum W c n) := by
  rw [accSum, dif_pos (show n < 32 by omega)]

theorem sg_lt (n : ℕ) (hn : n < 16) (r : Fin 1024) (hlt : n * 1024 + r.val < 16384) : sg ⟨n, show n < 32 by omega⟩ r = ⟨n * 1024 + r.val, hlt⟩ :=
  Fin.ext (by show n % 16 * 1024 + r.val = _; rw [Nat.mod_eq_of_lt hn])

theorem acc_0 (h : Fin 64) : accSum W c 16 (ix2 0 h) = (∑ s : Fin 16384, tS W c s h : EReal) := by
  refine sum_blocks 16 1024 rfl (fun s => tS W c s h) (fun n => accSum W c n (ix2 0 h)) (pay11_apply 0 h) fun n hn => ?_
  show accSum W c (n + 1) (ix2 0 h) = _
  rw [accSum_succ' W c n hn, accP_0]
  refine congrArg (_ + ·) (Finset.sum_congr rfl fun r _ => ?_)
  rw [bS_blk, sg_lt n hn r]
theorem acc_1 (h : Fin 64) : accSum W c 16 (ix2 1 h) = (∑ s : Fin 16384, tc W c s * tB W c (A4 W c) s h : EReal) := by
  refine sum_blocks 16 1024 rfl (fun s => tc W c s * tB W c (A4 W c) s h) (fun n => accSum W c n (ix2 1 h)) (pay11_apply 1 h) fun n hn => ?_
  show accSum W c (n + 1) (ix2 1 h) = _
  rw [accSum_succ' W c n hn, accP_1]
  refine congrArg (_ + ·) (Finset.sum_congr rfl fun r _ => ?_)
  rw [bc_blk, bB4_blk, sg_lt n hn r]
theorem acc_2 (h : Fin 64) : accSum W c 16 (ix2 2 h) = (∑ s : Fin 16384, (∑ f : Fin 64, tS W c s f * A3 W c (ix2 f h)) * tB W c (A4 W c) s h : EReal) := by
  refine sum_blocks 16 1024 rfl (fun s => (∑ f : Fin 64, tS W c s f * A3 W c (ix2 f h)) * tB W c (A4 W c) s h) (fun n => accSum W c n (ix2 2 h)) (pay11_apply 2 h) fun n hn => ?_
  show accSum W c (n + 1) (ix2 2 h) = _
  rw [accSum_succ' W c n hn, accP_2]
  refine congrArg (_ + ·) (Finset.sum_congr rfl fun r _ => ?_)
  rw [bB4_blk, sg_lt n hn r]
  refine congrArg (· * _) (Finset.sum_congr rfl fun f _ => ?_)
  rw [bS_blk, b3, sg_lt n hn r]
theorem acc_3 (h : Fin 64) : accSum W c 16 (ix2 3 h) = (∑ s : Fin 16384, tc W c s * tB W c (A4 W c) s h * tB W c (A4 W c) s h : EReal) := by
  refine sum_blocks 16 1024 rfl (fun s => tc W c s * tB W c (A4 W c) s h * tB W c (A4 W c) s h) (fun n => accSum W c n (ix2 3 h)) (pay11_apply 3 h) fun n hn => ?_
  show accSum W c (n + 1) (ix2 3 h) = _
  rw [accSum_succ' W c n hn, accP_3]
  refine congrArg (_ + ·) (Finset.sum_congr rfl fun r _ => ?_)
  rw [bc_blk, bB4_blk, sg_lt n hn r]
theorem acc_4 (h : Fin 64) : accSum W c 16 (ix2 4 h) = (∑ s : Fin 16384, tB W c (A5 W c) s h : EReal) := by
  refine sum_blocks 16 1024 rfl (fun s => tB W c (A5 W c) s h) (fun n => accSum W c n (ix2 4 h)) (pay11_apply 4 h) fun n hn => ?_
  show accSum W c (n + 1) (ix2 4 h) = _
  rw [accSum_succ' W c n hn, accP_4]
  refine congrArg (_ + ·) (Finset.sum_congr rfl fun r _ => ?_)
  rw [bB5_blk, sg_lt n hn r]
theorem acc_5 (h : Fin 64) : accSum W c 16 (ix2 5 h) = (∑ s : Fin 16384, tB W c (A5 W c) s h * tB W c (A5 W c) s h : EReal) := by
  refine sum_blocks 16 1024 rfl (fun s => tB W c (A5 W c) s h * tB W c (A5 W c) s h) (fun n => accSum W c n (ix2 5 h)) (pay11_apply 5 h) fun n hn => ?_
  show accSum W c (n + 1) (ix2 5 h) = _
  rw [accSum_succ' W c n hn, accP_5]
  refine congrArg (_ + ·) (Finset.sum_congr rfl fun r _ => ?_)
  rw [bB5_blk, sg_lt n hn r]

/-! ## Scales and shifts -/

/-- The mean, the scale and the shift, of the rows' hidden values and of the ends'. -/
def mK (h : Fin 64) : EReal := Ideal.div ((∑ f : Fin 64, (∑ s : Fin 16384, tS W c s f) * A3 W c (ix2 f h)) + ∑ s : Fin 16384, tc W c s * tB W c (A4 W c) s h) cN
def sK (h : Fin 64) : EReal := A6 W c (ix2 0 h) * Ideal.rsqrt (Ideal.div (A12 W c (ix2 0 h)
    + c2 * (∑ s : Fin 16384, (∑ f : Fin 64, tS W c s f * A3 W c (ix2 f h)) * tB W c (A4 W c) s h)
    + ∑ s : Fin 16384, tc W c s * tB W c (A4 W c) s h * tB W c (A4 W c) s h) cN - mK W c h * mK W c h + cE)
def mT (h : Fin 64) : EReal := Ideal.div (∑ s : Fin 16384, tB W c (A5 W c) s h) cS
def sT (h : Fin 64) : EReal := A8 W c (ix2 0 h) * Ideal.rsqrt (Ideal.div (∑ s : Fin 16384, tB W c (A5 W c) s h * tB W c (A5 W c) s h) cS - mT W c h * mT W c h + cE)

section
variable (x3 : Vec Ideal S64x64 .f32) (x6 x7 x8 x9 : Vec Ideal S1x64 .f32) (x12 a : Vec Ideal S8x64 .f32)

/-- The means and scales from the accumulated rows. -/
def gm (h : Fin 64) : EReal := Ideal.div ((∑ f : Fin 64, a (ix2 0 f) * x3 (ix2 f h)) + a (ix2 1 h)) cN
def gs (h : Fin 64) : EReal := x6 (ix2 0 h) * Ideal.rsqrt (Ideal.div (x12 (ix2 0 h) + c2 * a (ix2 2 h) + a (ix2 3 h)) cN - gm x3 a h * gm x3 a h + cE)
def gmt (h : Fin 64) : EReal := Ideal.div (a (ix2 4 h)) cS
def gst (h : Fin 64) : EReal := x8 (ix2 0 h) * Ideal.rsqrt (Ideal.div (a (ix2 5 h)) cS - gmt a h * gmt a h + cE)

theorem pay7_gen (h : Fin 64) : k1_pay7 (View.ld a rw0) (View.ld x3 q3) (View.ld a rw1) (ix2 0 h) = gm x3 a h := by
  refine (p7 _ _ _ h).trans ?_
  unfold gm
  exact congrArg (fun x => Ideal.div x cN) (congrArg₂ (fun x y : EReal => x + y) (Finset.sum_congr rfl fun f _ =>
    congrArg₂ (fun x y : EReal => x * y) (ldr0 a f) (ld3 x3 f h)) (ldr1 a h))

theorem pay8_gen (h : Fin 64) : pay8 x3 x6 x12 a (ix2 0 h) = gs x3 x6 x12 a h := by
  refine (p8 _ _ _ _ _ _ _ h).trans ?_
  unfold gs
  rw [pay7_gen, ldr0, ldr2, ldr3, ld6]

theorem pay10_gen (h : Fin 64) : k1_pay10 (View.ld a rw4) (ix2 0 h) = gmt a h := by
  refine (p10 _ h).trans ?_
  rw [ldr4]; rfl

theorem pay19_gen (h : Fin 64) : k1_pay19 (k1_pay10 (View.ld a rw4)) (View.ld a rw5) (View.ld x8 q6) (ix2 0 h) = gst x8 a h := by
  refine (p19 _ _ _ h).trans ?_
  rw [pay10_gen, ldr5, ld6]; rfl

theorem accN_0 (h : Fin 64) : accN x3 x6 x7 x8 x9 x12 a (ix2 0 h) = gs x3 x6 x12 a h := by
  unfold accN
  refine (canon_miss 3 _ _ _ 0 h (by decide)).trans ((canon_miss 2 _ _ _ 0 h (by decide)).trans ((canon_miss 1 _ _ _ 0 h (by decide)).trans ((canon_hit 0 _ _ _ h).trans ?_)))
  exact (p20 _ h).trans (pay8_gen x3 x6 x12 a h)
theorem accN_1 (h : Fin 64) : accN x3 x6 x7 x8 x9 x12 a (ix2 1 h) = (x7 (ix2 0 h) - gm x3 a h * gs x3 x6 x12 a h : EReal) := by
  unfold accN
  refine (canon_miss 3 _ _ _ 1 h (by decide)).trans ((canon_miss 2 _ _ _ 1 h (by decide)).trans ((canon_hit 1 _ _ _ h).trans ((p21 _ h).trans ((p9 _ _ _ _ _ _ _ _ h).trans ?_))))
  exact congrArg₂ (fun x y : EReal => x - y) (ld6 x7 h) (congrArg₂ (fun x y : EReal => x * y) (pay7_gen x3 a h) (pay8_gen x3 x6 x12 a h))
theorem accN_2 (h : Fin 64) : accN x3 x6 x7 x8 x9 x12 a (ix2 2 h) = gst x8 a h := by
  unfold accN
  refine (canon_miss 3 _ _ _ 2 h (by decide)).trans ((canon_hit 2 _ _ _ h).trans ?_)
  exact (p22 _ _ _ h).trans (pay19_gen x8 a h)
theorem accN_3 (h : Fin 64) : accN x3 x6 x7 x8 x9 x12 a (ix2 3 h) = (x9 (ix2 0 h) - gmt a h * gst x8 a h : EReal) := by
  unfold accN
  refine (canon_hit 3 _ _ _ h).trans ((p23 _ _ _ _ h).trans ?_)
  exact congrArg₂ (fun x y : EReal => x - y) (ld6 x9 h) (congrArg₂ (fun x y : EReal => x * y) (pay10_gen a h) (pay19_gen x8 a h))
end

theorem gm_acc (h : Fin 64) : gm (iblk W c 3 t16) (accSum W c 16) h = mK W c h := by
  unfold gm mK
  rw [acc_1]
  simp only [acc_0, b3]
theorem gs_acc (h : Fin 64) : gs (iblk W c 3 t16) (iblk W c 6 t16) (iblk W c 12 t16) (accSum W c 16) h = sK W c h := by
  unfold gs sK
  rw [gm_acc, acc_2, acc_3, b6, b12]
theorem gmt_acc (h : Fin 64) : gmt (accSum W c 16) h = mT W c h := by
  unfold gmt mT
  rw [acc_4]
theorem gst_acc (h : Fin 64) : gst (iblk W c 8 t16) (accSum W c 16) h = sT W c h := by
  unfold gst sT
  rw [gmt_acc, acc_5, b8]

theorem norm_0 (h : Fin 64) : accNorm W c (ix2 0 h) = sK W c h := by
  unfold accNorm; exact (accN_0 _ _ _ _ _ _ _ h).trans (gs_acc W c h)
theorem norm_1 (h : Fin 64) : accNorm W c (ix2 1 h) = (A7 W c (ix2 0 h) - mK W c h * sK W c h : EReal) := by
  unfold accNorm
  refine (accN_1 _ _ _ _ _ _ _ h).trans ?_
  rw [gm_acc, gs_acc, b7]
theorem norm_2 (h : Fin 64) : accNorm W c (ix2 2 h) = sT W c h := by
  unfold accNorm; exact (accN_2 _ _ _ _ _ _ _ h).trans (gst_acc W c h)
theorem norm_3 (h : Fin 64) : accNorm W c (ix2 3 h) = (A9 W c (ix2 0 h) - mT W c h * sT W c h : EReal) := by
  unfold accNorm
  refine (accN_3 _ _ _ _ _ _ _ h).trans ?_
  rw [gmt_acc, gst_acc, b9]

/-! ## The three arrays -/

theorem whole13 (w : Vec Ideal S1024x128 .f32) (r : Fin 1024) (h : Fin 128) : View.canon [⟨q13, w⟩] (ix2 r h) = w (ix2 r h) := by
  have e : q13.emb (ix2 r h) = ix2 r h := funext fun a => match a with
    | ⟨0, _⟩ => Fin.ext (by show 0 + 1 * r.val = r.val; omega)
    | ⟨1, _⟩ => Fin.ext (by show 0 + 1 * h.val = h.val; omega)
  conv_lhs => rw [← e]
  exact View.canon_cons_emb _ _ _ _
theorem whole14 (w : Vec Ideal S1024x1 .f32) (r : Fin 1024) : View.canon [⟨q2, w⟩] (ix2 r 0) = w (ix2 r 0) := by
  have e : q2.emb (ix2 r 0) = ix2 r 0 := funext fun a => match a with
    | ⟨0, _⟩ => Fin.ext (by show 0 + 1 * r.val = r.val; omega)
    | ⟨1, _⟩ => Fin.ext (by show 0 + 1 * 0 = 0; omega)
  conv_lhs => rw [← e]
  exact View.canon_cons_emb _ _ _ _

theorem O15_apply (k : Fin 8) (h : Fin 64) : O15 W c (ix2 k h) = sK W c h := by
  unfold O15 out15
  refine (congrFun (canonA _) _).trans ?_
  exact (p24 _ k h).trans ((pay8_gen _ _ _ _ h).trans (gs_acc W c h))

theorem sg_back (s : Fin 16384) (hlt : 16 + s.val / 1024 < 32) (hr : s.val % 1024 < 1024) : sg ⟨16 + s.val / 1024, hlt⟩ ⟨s.val % 1024, hr⟩ = s :=
  Fin.ext (by show (16 + s.val / 1024) % 16 * 1024 + s.val % 1024 = s.val; omega)

theorem F13_apply (s : Fin 16384) (h : Fin 64) : F13 W c (ix2 s (⟨h.val, by omega⟩ : Fin 128))
    = (tB W c (A4 W c) s h * sK W c h + (A7 W c (ix2 0 h) - mK W c h * sK W c h) : EReal) := by
  have hlt : 16 + s.val / 1024 < 32 := by omega
  have hr : s.val % 1024 < 1024 := Nat.mod_lt _ (by decide)
  show O13 W c ⟨16 + s.val / 1024, hlt⟩ (ix2 ⟨s.val % 1024, hr⟩ (⟨h.val, by omega⟩ : Fin 128)) = _
  unfold O13 out13
  rw [whole13, p1, payB_apply, bB4_blk, ldr0, ldr1, norm_0, norm_1, sg_back]

theorem F14_apply (s : Fin 16384) : F14 W c (ix2 s 0)
    = Ideal.exp ((∑ h : Fin 64, max (tB W c (A5 W c) s h * sT W c h + (A9 W c (ix2 0 h) - mT W c h * sT W c h)) 0 * A10 W c (ix2 h 0) : EReal) + A11 W c (ix2 0 0)) := by
  have hlt : 16 + s.val / 1024 < 32 := by omega
  have hr : s.val % 1024 < 1024 := Nat.mod_lt _ (by decide)
  show O14 W c ⟨16 + s.val / 1024, hlt⟩ (ix2 ⟨s.val % 1024, hr⟩ 0) = _
  unfold O14 out14
  rw [whole14, p2, ld11, b11]
  refine congrArg (fun x : EReal => Ideal.exp (x + _)) (Finset.sum_congr rfl fun h _ => ?_)
  rw [payC_apply, bB5_blk, ldr2, ldr3, norm_2, norm_3, ld10, b10, sg_back]

end Cert.Proof.Region1

end
-- ==== Proof.Region3Value.lean ====
/-
  What the main TensorCore call leaves in its arrays.
-/
module

public import proofs.«01_k».proof.Proof.Region3
public import Idealize.ShloMosaic.Lib.Pipeline.Value

@[expose] public section

set_option maxRecDepth 16384

noncomputable section

namespace Cert.Proof.Region3

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

theorem flushed6 (c : Dev nD) (t : Fin cfg3.N) :
    (dats W O R c).flushed 6 t = (cfg3.win 6).cut (grid3.coords t) (out0_6 (iblk W c 0 t) (iblk W c 1 t) (iblk W c 2 t) (iblk W c 3 t) (iblk W c 4 t) (iblk W c 5 t)) := by
  show (cfg3.win 6).cut (grid3.coords t) ((dats W O R c).after 6 t) = _
  rw [after0_6]

theorem idx_inj6 : ∀ t t' : Fin cfg3.N, win3_6.index t = win3_6.index t' → t = t' :=
  (by decide +kernel : ∀ t t' : Fin grid3.N, win3_6.index t = win3_6.index t' → t = t')

theorem disjoint6 : ∀ t t' : Fin cfg3.N, (cfg3.win 6).flush t = true → (cfg3.win 6).flush t' = true → t ≠ t' →
    Disjoint ((cfg3.win 6).blk t).view.set ((cfg3.win 6).blk t').view.set :=
  fun t t' _ _ hne => (cfg3.win 6).disjoint_blk fun h => hne (idx_inj6 t t' h)

theorem blocks6 (c : Dev nD) (t : Fin cfg3.N) (hf : (cfg3.win 6).flush t = true) :
    ((cfg3.win 6).blk t).view.read (Elt F) ((dats W O R c).arrAt 6 cfg3.N) = (dats W O R c).flushed 6 t :=
  (dats W O R c).read_blk_arrAt_eq_flushed 6 disjoint6 cfg3.N t t.isLt hf

theorem entry6 (c : Dev nD) (i : S327680x68.Idx) (h : ∀ t : Fin cfg3.N, (cfg3.win 6).flush t = true → i ∉ ((cfg3.win 6).blk t).view.set) :
    (dats W O R c).arrAt 6 cfg3.N i = W c (Proc.devRef .tc (Pipeline.arrRef spec3 6)) i := by
  rw [(dats W O R c).arrAt_apply_of_forall_not_mem 6 cfg3.N i (fun t _ hf => h t hf), A_eq]

theorem flushed7 (c : Dev nD) (t : Fin cfg3.N) :
    (dats W O R c).flushed 7 t = (cfg3.win 7).cut (grid3.coords t) (out0_7 (iblk W c 0 t) (iblk W c 1 t) (iblk W c 2 t) (iblk W c 3 t) (iblk W c 4 t) (iblk W c 5 t)) := by
  show (cfg3.win 7).cut (grid3.coords t) ((dats W O R c).after 7 t) = _
  rw [after0_7]

theorem idx_inj7 : ∀ t t' : Fin cfg3.N, win3_7.index t = win3_7.index t' → t = t' :=
  (by decide +kernel : ∀ t t' : Fin grid3.N, win3_7.index t = win3_7.index t' → t = t')

theorem disjoint7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx_inj7 t t' h)

theorem blocks7 (c : Dev nD) (t : Fin cfg3.N) (hf : (cfg3.win 7).flush t = true) :
    ((cfg3.win 7).blk t).view.read (Elt F) ((dats W O R c).arrAt 7 cfg3.N) = (dats W O R c).flushed 7 t :=
  (dats W O R c).read_blk_arrAt_eq_flushed 7 disjoint7 cfg3.N t t.isLt hf

theorem entry7 (c : Dev nD) (i : S327680x16.Idx) (h : ∀ t : Fin cfg3.N, (cfg3.win 7).flush t = true → i ∉ ((cfg3.win 7).blk t).view.set) :
    (dats W O R c).arrAt 7 cfg3.N i = W c (Proc.devRef .tc (Pipeline.arrRef spec3 7)) i := by
  rw [(dats W O R c).arrAt_apply_of_forall_not_mem 7 cfg3.N i (fun t _ hf => h t hf), A_eq]

set_option backward.proofsInPublic true in
abbrev ix7_0 (y : S2048x16.Idx) : S2048.Idx := fun a => match a with | ⟨0, _⟩ => ⟨(y 0).val, by have hy0 : (y 0).val < 2048 := (y 0).isLt; have hy1 : (y 1).val < 16 := (y 1).isLt; show (y 0).val < 2048; omega⟩

abbrev E7 (P0 : Vec F S2048x64 .f32) (P1 : Vec F S64x64 .f32) (P2 : Vec F S1x64 .f32) (P3 : Vec F S2048x64 .f32) (P4 : Vec F S64x68 .f32) (P5 : Vec F S1x68 .f32) : Vec F S2048x16 .f32 := fun y => ((multiReduction .add [1] S2048 (k3_pay1 P0 P1 P2 P3 P4 P5) 0x00000000#32 reduces_S2048x68_S2048 (.inl rfl) rfl) (ix7_0 y))

theorem lay7_0_eq (P0 : Vec F S2048x64 .f32) (P1 : Vec F S64x64 .f32) (P2 : Vec F S1x64 .f32) (P3 : Vec F S2048x64 .f32) (P4 : Vec F S64x68 .f32) (P5 : Vec F S1x68 .f32) : k3_pay2 P0 P1 P2 P3 P4 P5 = broadcastTo S2048x16 (shapeCast S2048x1 (shapeCast S2048x1 (multiReduction .add [1] S2048 (k3_pay1 P0 P1 P2 P3 P4 P5) 0x00000000#32 reduces_S2048x68_S2048 (.inl rfl) rfl) shapeCasts_S2048_S2048x1) shapeCasts_S2048x1_S2048x1) broadcasts_S2048x1_S2048x16 := rfl

theorem piece7_0 (P0 : Vec F S2048x64 .f32) (P1 : Vec F S64x64 .f32) (P2 : Vec F S1x64 .f32) (P3 : Vec F S2048x64 .f32) (P4 : Vec F S64x68 .f32) (P5 : Vec F S1x68 .f32) (x : S2048x16.Idx) : (k3_pay2 P0 P1 P2 P3 P4 P5) x = E7 P0 P1 P2 P3 P4 P5 (r0_7.idx x) := by
  have hx0 : (x 0).val < 2048 := (x 0).isLt
  have hx1 : (x 1).val < 16 := (x 1).isLt
  rw [lay7_0_eq P0 P1 P2 P3 P4 P5]
  show (broadcastTo S2048x16 (shapeCast S2048x1 (shapeCast S2048x1 (multiReduction .add [1] S2048 (k3_pay1 P0 P1 P2 P3 P4 P5) 0x00000000#32 reduces_S2048x68_S2048 (.inl rfl) rfl) shapeCasts_S2048_S2048x1) shapeCasts_S2048x1_S2048x1) broadcasts_S2048x1_S2048x16) x = ((multiReduction .add [1] S2048 (k3_pay1 P0 P1 P2 P3 P4 P5) 0x00000000#32 reduces_S2048x68_S2048 (.inl rfl) rfl) (ix7_0 (r0_7.idx x)))
  refine (broadcastTo_apply _ _ x (fun a => match a with | ⟨0, _⟩ => ⟨(x 0).val, by show (x 0).val < 2048; omega⟩ | ⟨1, _⟩ => ⟨0, by show 0 < 1; omega⟩ : S2048x1.Idx) (fun a => match a with | ⟨0, _⟩ => by show (x 0).val = (if (2048 : Nat) = 1 then 0 else (x 0).val); rw [if_neg (by decide)] | ⟨1, _⟩ => by show 0 = (if (1 : Nat) = 1 then 0 else (x 1).val); rw [if_pos rfl])).trans ?_
  refine (shapeCast_apply _ _ (fun a => match a with | ⟨0, _⟩ => ⟨(x 0).val, by show (x 0).val < 2048; omega⟩ | ⟨1, _⟩ => ⟨0, by show 0 < 1; omega⟩ : S2048x1.Idx) (fun a => match a with | ⟨0, _⟩ => ⟨(x 0).val, by show (x 0).val < 2048; omega⟩ | ⟨1, _⟩ => ⟨0, by show 0 < 1; omega⟩ : S2048x1.Idx) rfl).trans ?_
  refine (shapeCast_apply _ _ (fun a => match a with | ⟨0, _⟩ => ⟨(x 0).val, by show (x 0).val < 2048; omega⟩ | ⟨1, _⟩ => ⟨0, by show 0 < 1; omega⟩ : S2048x1.Idx) (fun a => match a with | ⟨0, _⟩ => ⟨(x 0).val, by show (x 0).val < 2048; omega⟩ : S2048.Idx) (by rw [Shape.rowMajor_val_one, Shape.rowMajor_val_two]; show (x 0).val = (x 0).val * 1 + 0; omega)).trans ?_
  refine congrArg _ (funext fun a => Fin.ext ?_)
  match a with | ⟨0, _⟩ => show (x 0).val = (0 + 1 * (x 0).val); omega

theorem canon7_eq (P0 : Vec F S2048x64 .f32) (P1 : Vec F S64x64 .f32) (P2 : Vec F S1x64 .f32) (P3 : Vec F S2048x64 .f32) (P4 : Vec F S64x68 .f32) (P5 : Vec F S1x68 .f32) (y : S2048x16.Idx) :
    View.canon [⟨r0_7, k3_pay2 P0 P1 P2 P3 P4 P5⟩] y = E7 P0 P1 P2 P3 P4 P5 y := by
  refine View.canon_apply_of_pieces (E7 P0 P1 P2 P3 P4 P5) _ ?_ y (cover0_7 _ y)
  intro pc hpc
  rcases List.mem_cons.mp hpc with rfl | hpc  -- piece 0, through `r0_7`
  · exact fun x => piece7_0 P0 P1 P2 P3 P4 P5 x
  nomatch hpc

end Cert.Proof.Region3

end
-- ==== Proof.Arr3.lean ====
/-
  The arrays the main TensorCore call writes, entry by entry, over the reals.
-/
module

public import proofs.«01_k».proof.Proof.Region3Value
public import proofs.«01_k».proof.Proof.RowK
public import Idealize.ShloMosaic.Lib.Pipeline.ValueKit

@[expose] public section

set_option maxRecDepth 16384

noncomputable section

namespace Cert.Proof.Region3

open Cert.KernelIdeal Cert.KernelIdeal.Gen Cert.Proof
open Idealize.ShloMosaic Idealize.ShloMosaic.TcCoe Idealize.ShloMosaic.Tactic
open Idealize.ShloMosaic.SparseCore.Cfg (HIx)
open Idealize.ShloMosaic.Pipeline (Dat Cfg Window)

variable (W : Dev nD → Valuation τ sig (Elt Ideal)) (O : Dev nD → CellTallies nD τ sig (HIx 2)) (R : Dev nD → Set (SemLoc sig × HIx 2))

/-- The index maps. -/
theorem index1 : ∀ t : Fin cfg3.N, win3_0.index t = ![t.val, 0] ∧ win3_1.index t = ![t.val, 0] ∧ win3_2.index t = ![0, 0] ∧ win3_3.index t = ![0, 0]
    ∧ win3_4.index t = ![0, 0] ∧ win3_5.index t = ![0, 0] ∧ win3_6.index t = ![t.val, 0] ∧ win3_7.index t = ![t.val, 0] :=
  (by decide +kernel : ∀ t : Fin grid3.N, win3_0.index t = ![t.val, 0] ∧ win3_1.index t = ![t.val, 0] ∧ win3_2.index t = ![0, 0] ∧ win3_3.index t = ![0, 0]
    ∧ win3_4.index t = ![0, 0] ∧ win3_5.index t = ![0, 0] ∧ win3_6.index t = ![t.val, 0] ∧ win3_7.index t = ![t.val, 0])

/-- The table of exponentials at row `i`, column `l`. -/
def zent (c : Dev nD) (i : Fin 327680) (l : Fin 68) : EReal :=
  zval (fun f => (W c (Proc.devRef .tc main_arg0) : S327680x64.Idx → EReal) (ix2 i f)) (fun f h => (W c (Proc.devRef .tc main_v39) : S64x64.Idx → EReal) (ix2 f h))
    (fun h => (W c (Proc.devRef .tc main_v36_2) : S8x64.Idx → EReal) (ix2 0 h)) (fun h => (W c (Proc.devRef .tc main_v37) : S327680x128.Idx → EReal) (ix2 i ⟨h.val, by omega⟩))
    (fun h => (W c (Proc.devRef .tc main_v40) : S64x68.Idx → EReal) (ix2 h l)) ((W c (Proc.devRef .tc main_v41) : S1x68.Idx → EReal) (ix2 0 l))

theorem r0_0_idx (a : Fin 2048) (b : Fin 64) : r0_0.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_1_idx (a : Fin 64) (b : Fin 64) : r0_1.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_2_idx (a : Fin 1) (b : Fin 64) : r0_2.idx (ix2 a b) = ix2 ⟨a.val, by omega⟩ b := by
  funext x
  match x with
  | ⟨0, _⟩ => exact Fin.ext (by show 0 + 1 * a.val = a.val; omega)
  | ⟨1, _⟩ => exact Fin.ext (by show 0 + 1 * b.val = b.val; omega)

theorem r0_3_idx (a : Fin 2048) (b : Fin 64) : r0_3.idx (ix2 a b) = ix2 a ⟨b.val, by omega⟩ := by
  funext x
  match x with
  | ⟨0, _⟩ => exact Fin.ext (by show 0 + 1 * a.val = a.val; omega)
  | ⟨1, _⟩ => exact Fin.ext (by show 0 + 1 * b.val = b.val; omega)

theorem r0_4_idx (a : Fin 64) (b : Fin 68) : r0_4.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_5_idx (a : Fin 1) (b : Fin 68) : r0_5.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_6_idx (a : Fin 2048) (b : Fin 68) : r0_6.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_7_idx (a : Fin 2048) (b : Fin 16) : r0_7.idx (ix2 a b) = ix2 a b := by
  funext x
  match x with
  | ⟨0, _⟩ => exact Fin.ext (by show 0 + 1 * a.val = a.val; omega)
  | ⟨1, _⟩ => exact Fin.ext (by show 0 + 1 * b.val = b.val; omega)

set_option maxHeartbeats 800000 in
theorem pay1_iblk (c : Dev nD) (t : Fin cfg3.N) (y : Fin 2048) (l : Fin 68) :
    k3_pay1 (View.ld (iblk W c 0 t) r0_0) (View.ld (iblk W c 2 t) r0_1) (View.ld (iblk W c 3 t) r0_2) (View.ld (iblk W c 1 t) r0_3) (View.ld (iblk W c 4 t) r0_4)
        (View.ld (iblk W c 5 t) r0_5) (ix2 y l)
      = zent W c ⟨t.val * 2048 + y.val, by have := t.isLt; have e : cfg3.N = 160 := rfl; omega⟩ l := by
  obtain ⟨e0, e1, e2, e3, e4, e5, -, -⟩ := index1 t
  rw [pay1_apply]
  unfold zent
  congr 1
  · funext f; refine congrArg (W c (Proc.devRef .tc main_arg0)) (show ((cfg3.win 0).blk t).view.emb (r0_0.idx (ix2 y f)) = _ from ?_); rw [r0_0_idx]; blk_ext [e0]
  · funext f h; refine congrArg (W c (Proc.devRef .tc main_v39)) (show ((cfg3.win 2).blk t).view.emb (r0_1.idx (ix2 f h)) = _ from ?_); rw [r0_1_idx]; blk_ext [e2]
  · funext h; refine congrArg (W c (Proc.devRef .tc main_v36_2)) (show ((cfg3.win 3).blk t).view.emb (r0_2.idx (ix2 (0 : Fin 1) h)) = _ from ?_); rw [r0_2_idx]; blk_ext [e3]
  · funext h; refine congrArg (W c (Proc.devRef .tc main_v37)) (show ((cfg3.win 1).blk t).view.emb (r0_3.idx (ix2 y h)) = _ from ?_); rw [r0_3_idx]; blk_ext [e1]
  · funext h; refine congrArg (W c (Proc.devRef .tc main_v40)) (show ((cfg3.win 4).blk t).view.emb (r0_4.idx (ix2 h l)) = _ from ?_); rw [r0_4_idx]; blk_ext [e4]
  · refine congrArg (W c (Proc.devRef .tc main_v41)) (show ((cfg3.win 5).blk t).view.emb (r0_5.idx (ix2 (0 : Fin 1) l)) = _ from ?_); rw [r0_5_idx]; blk_ext [e5]

theorem place6 (t : Fin cfg3.N) (a : Fin 2048) (b : Fin 68) :
    ((cfg3.win 6).blk t).view.emb (ix2 a b) = (ix2 ⟨t.val * 2048 + a.val, by have := t.isLt; have e : cfg3.N = 160 := rfl; omega⟩ b : S327680x68.Idx) := by
  obtain ⟨-, -, -, -, -, -, e6, -⟩ := index1 t
  blk_ext [e6]

theorem place7 (t : Fin cfg3.N) (a : Fin 2048) (b : Fin 16) :
    ((cfg3.win 7).blk t).view.emb (ix2 a b) = (ix2 ⟨t.val * 2048 + a.val, by have := t.isLt; have e : cfg3.N = 160 := rfl; omega⟩ b : S327680x16.Idx) := by
  obtain ⟨-, -, -, -, -, -, -, e7⟩ := index1 t
  blk_ext [e7]

theorem out6_apply (c : Dev nD) (t : Fin cfg3.N) (a : Fin 2048) (b : Fin 68) :
    out0_6 (iblk W c 0 t) (iblk W c 1 t) (iblk W c 2 t) (iblk W c 3 t) (iblk W c 4 t) (iblk W c 5 t) (ix2 a b)
      = zent W c ⟨t.val * 2048 + a.val, by have := t.isLt; have e : cfg3.N = 160 := rfl; omega⟩ b := by
  unfold out0_6
  rw [View.canon_cons_unit_lit _ _ _ (fun a => by match a with | ⟨0, _⟩ => rfl | ⟨1, _⟩ => rfl)]
  exact pay1_iblk W c t a b

theorem sum_row (v : FVec Ideal S2048x68 .f32) (j : S2048.Idx) :
    (multiReduction .add [1] S2048 v 0x00000000#32 reduces_S2048x68_S2048 (.inl rfl) rfl : FVec Ideal S2048 .f32) j = ∑ l : Fin 68, v (ix2 (j 0) l) := by
  pointwise

theorem E7_apply (P0 : Vec Ideal S2048x64 .f32) (P1 : Vec Ideal S64x64 .f32) (P2 : Vec Ideal S1x64 .f32) (P3 : Vec Ideal S2048x64 .f32) (P4 : Vec Ideal S64x68 .f32)
    (P5 : Vec Ideal S1x68 .f32) (a : Fin 2048) (b : Fin 16) : E7 P0 P1 P2 P3 P4 P5 (ix2 a b) = ∑ l : Fin 68, k3_pay1 P0 P1 P2 P3 P4 P5 (ix2 a l) :=
  sum_row (k3_pay1 P0 P1 P2 P3 P4 P5) (ix7_0 (ix2 a b))

theorem out7_apply (c : Dev nD) (t : Fin cfg3.N) (a : Fin 2048) (b : Fin 16) :
    out0_7 (iblk W c 0 t) (iblk W c 1 t) (iblk W c 2 t) (iblk W c 3 t) (iblk W c 4 t) (iblk W c 5 t) (ix2 a b)
      = ∑ l : Fin 68, zent W c ⟨t.val * 2048 + a.val, by have := t.isLt; have e : cfg3.N = 160 := rfl; omega⟩ l := by
  unfold out0_7
  refine (canon7_eq _ _ _ _ _ _ (ix2 a b)).trans ?_
  rw [E7_apply]
  exact Finset.sum_congr rfl fun l _ => pay1_iblk W c t a l

theorem covers6 : (cfg3.win 6).Covers := by decide +kernel
theorem covers7 : (cfg3.win 7).Covers := by decide +kernel

/-- The table of exponentials. -/
def Z6 (c : Dev nD) : S327680x68.Idx → EReal := fun i => zent W c (i 0) (i 1)
/-- Each row's sum, along sixteen lanes. -/
def Z7 (c : Dev nD) : S327680x16.Idx → EReal := fun i => ∑ l : Fin 68, zent W c (i 0) l

theorem after6 (c : Dev nD) (t : Fin cfg3.N) (y : ((cfg3.win 6).xblock (cfg3.grid.coords t)).Idx) :
    _root_.cast (congrArg (Elt Ideal) ((cfg3.win 6).blk t).view.elt_eq.symm) ((dats W O R c).after 6 t ((cfg3.win 6).xinj (cfg3.grid.coords t) y))
        = Z6 W c (((cfg3.win 6).blk t).view.emb y) := by
  obtain ⟨a, b, hy⟩ : ∃ (a : Fin 2048) (b : Fin 68), y = ix2 a b := ⟨y 0, y 1, eq_ix2 (n0 := 2048) (n1 := 68) y⟩
  subst hy
  blk_simp
  rw [after0_6]
  exact (out6_apply W c t a b).trans (congrArg (Z6 W c) (place6 t a b)).symm

theorem arr6 (c : Dev nD) : (dats W O R c).arrAt 6 cfg3.N = Z6 W c :=
  (dats W O R c).arrAt_eq_of_covers 6 (Z6 W c) covers6 (fun t _ y => after6 W O R c t y) (Memref.isWhole_whole _)

theorem after7 (c : Dev nD) (t : Fin cfg3.N) (y : ((cfg3.win 7).xblock (cfg3.grid.coords t)).Idx) :
    _root_.cast (congrArg (Elt Ideal) ((cfg3.win 7).blk t).view.elt_eq.symm) ((dats W O R c).after 7 t ((cfg3.win 7).xinj (cfg3.grid.coords t) y))
        = Z7 W c (((cfg3.win 7).blk t).view.emb y) := by
  obtain ⟨a, b, hy⟩ : ∃ (a : Fin 2048) (b : Fin 16), y = ix2 a b := ⟨y 0, y 1, eq_ix2 (n0 := 2048) (n1 := 16) y⟩
  subst hy
  blk_simp
  rw [after0_7]
  exact (out7_apply W c t a b).trans (congrArg (Z7 W c) (place7 t a b)).symm

theorem arr7 (c : Dev nD) : (dats W O R c).arrAt 7 cfg3.N = Z7 W c :=
  (dats W O R c).arrAt_eq_of_covers 7 (Z7 W c) covers7 (fun t _ y => after7 W O R c t y) (Memref.isWhole_whole _)

end Cert.Proof.Region3

end
-- ==== Proof.Region4Value.lean ====
/-
  What the denominators' call leaves in its arrays.
-/
module

public import proofs.«01_k».proof.Proof.Region4
public import Idealize.ShloMosaic.Lib.Pipeline.Value

@[expose] public section

set_option maxRecDepth 16384

noncomputable section

namespace Cert.Proof.Region4

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

theorem flushed2 (c : Dev nD) (t : Fin cfg4.N) :
    (dats W O R c).flushed 2 t = (cfg4.win 2).cut (grid4.coords t) (out0_2 (iblk W c 0 t) (iblk W c 1 t)) := by
  show (cfg4.win 2).cut (grid4.coords t) ((dats W O R c).after 2 t) = _
  rw [after0_2]

theorem idx_inj2 : ∀ t t' : Fin cfg4.N, win4_2.index t = win4_2.index t' → t = t' :=
  (by decide +kernel : ∀ t t' : Fin grid4.N, win4_2.index t = win4_2.index t' → t = t')

theorem disjoint2 : ∀ t t' : Fin cfg4.N, (cfg4.win 2).flush t = true → (cfg4.win 2).flush t' = true → t ≠ t' →
    Disjoint ((cfg4.win 2).blk t).view.set ((cfg4.win 2).blk t').view.set :=
  fun t t' _ _ hne => (cfg4.win 2).disjoint_blk fun h => hne (idx_inj2 t t' h)

theorem blocks2 (c : Dev nD) (t : Fin cfg4.N) (hf : (cfg4.win 2).flush t = true) :
    ((cfg4.win 2).blk t).view.read (Elt F) ((dats W O R c).arrAt 2 cfg4.N) = (dats W O R c).flushed 2 t :=
  (dats W O R c).read_blk_arrAt_eq_flushed 2 disjoint2 cfg4.N t t.isLt hf

theorem entry2 (c : Dev nD) (i : S16384x128.Idx) (h : ∀ t : Fin cfg4.N, (cfg4.win 2).flush t = true → i ∉ ((cfg4.win 2).blk t).view.set) :
    (dats W O R c).arrAt 2 cfg4.N i = W c (Proc.devRef .tc (Pipeline.arrRef spec4 2)) i := by
  rw [(dats W O R c).arrAt_apply_of_forall_not_mem 2 cfg4.N i (fun t _ hf => h t hf), A_eq]

theorem flushed3 (c : Dev nD) (t : Fin cfg4.N) :
    (dats W O R c).flushed 3 t = (cfg4.win 3).cut (grid4.coords t) (out0_3 (iblk W c 0 t) (iblk W c 1 t)) := by
  show (cfg4.win 3).cut (grid4.coords t) ((dats W O R c).after 3 t) = _
  rw [after0_3]

theorem idx_inj3 : ∀ t t' : Fin cfg4.N, win4_3.index t = win4_3.index t' → t = t' :=
  (by decide +kernel : ∀ t t' : Fin grid4.N, win4_3.index t = win4_3.index t' → t = t')

theorem disjoint3 : ∀ t t' : Fin cfg4.N, (cfg4.win 3).flush t = true → (cfg4.win 3).flush t' = true → t ≠ t' →
    Disjoint ((cfg4.win 3).blk t).view.set ((cfg4.win 3).blk t').view.set :=
  fun t t' _ _ hne => (cfg4.win 3).disjoint_blk fun h => hne (idx_inj3 t t' h)

theorem blocks3 (c : Dev nD) (t : Fin cfg4.N) (hf : (cfg4.win 3).flush t = true) :
    ((cfg4.win 3).blk t).view.read (Elt F) ((dats W O R c).arrAt 3 cfg4.N) = (dats W O R c).flushed 3 t :=
  (dats W O R c).read_blk_arrAt_eq_flushed 3 disjoint3 cfg4.N t t.isLt hf

theorem entry3 (c : Dev nD) (i : S16384x1.Idx) (h : ∀ t : Fin cfg4.N, (cfg4.win 3).flush t = true → i ∉ ((cfg4.win 3).blk t).view.set) :
    (dats W O R c).arrAt 3 cfg4.N i = W c (Proc.devRef .tc (Pipeline.arrRef spec4 3)) i := by
  rw [(dats W O R c).arrAt_apply_of_forall_not_mem 3 cfg4.N i (fun t _ hf => h t hf), A_eq]

set_option backward.proofsInPublic true in
abbrev ix2_0 (y : S16384x128.Idx) : S1x16384x1.Idx := fun a => match a with | ⟨0, _⟩ => ⟨0, by have hy0 : (y 0).val < 16384 := (y 0).isLt; have hy1 : (y 1).val < 128 := (y 1).isLt; show 0 < 1; omega⟩ | ⟨1, _⟩ => ⟨(y 0).val, by have hy0 : (y 0).val < 16384 := (y 0).isLt; have hy1 : (y 1).val < 128 := (y 1).isLt; show (y 0).val < 16384; omega⟩ | ⟨2, _⟩ => ⟨0, by have hy0 : (y 0).val < 16384 := (y 0).isLt; have hy1 : (y 1).val < 128 := (y 1).isLt; show 0 < 1; omega⟩

set_option backward.proofsInPublic true in
abbrev ix2_1 (y : S16384x128.Idx) : S1x16384x1.Idx := fun a => match a with | ⟨0, _⟩ => ⟨0, by have hy0 : (y 0).val < 16384 := (y 0).isLt; have hy1 : (y 1).val < 128 := (y 1).isLt; show 0 < 1; omega⟩ | ⟨1, _⟩ => ⟨(y 0).val, by have hy0 : (y 0).val < 16384 := (y 0).isLt; have hy1 : (y 1).val < 128 := (y 1).isLt; show (y 0).val < 16384; omega⟩ | ⟨2, _⟩ => ⟨0, by have hy0 : (y 0).val < 16384 := (y 0).isLt; have hy1 : (y 1).val < 128 := (y 1).isLt; show 0 < 1; omega⟩

set_option backward.proofsInPublic true in
abbrev ix2_2 (y : S16384x128.Idx) : S16384x1.Idx := fun a => match a with | ⟨0, _⟩ => ⟨(y 0).val, by have hy0 : (y 0).val < 16384 := (y 0).isLt; have hy1 : (y 1).val < 128 := (y 1).isLt; show (y 0).val < 16384; omega⟩ | ⟨1, _⟩ => ⟨0, by have hy0 : (y 0).val < 16384 := (y 0).isLt; have hy1 : (y 1).val < 128 := (y 1).isLt; show 0 < 1; omega⟩

abbrev E2 (P0 : Vec F S1x16384x1 .f32) (P1 : Vec F S1x16384x1 .f32) (P2 : Vec F S16384x1 .f32) : Vec F S16384x128 .f32 := fun y => FloatOps.addf (FloatOps.addf (P0 (ix2_0 y)) (P1 (ix2_1 y))) (P2 (ix2_2 y))

theorem lay2_0_eq (P0 : Vec F S1x16384x1 .f32) (P1 : Vec F S1x16384x1 .f32) (P2 : Vec F S16384x1 .f32) : k4_pay2 P0 P1 P2 = broadcastTo S16384x128 (shapeCast S16384x1 (addf (addf (shapeCast S16384x1 P0 shapeCasts_S1x16384x1_S16384x1) (shapeCast S16384x1 P1 shapeCasts_S1x16384x1_S16384x1)) P2) shapeCasts_S16384x1_S16384x1) broadcasts_S16384x1_S16384x128 := by
  unfold k4_pay2 k4_pay1; simp only [shapeCast_self]

theorem piece2_0 (P0 : Vec F S1x16384x1 .f32) (P1 : Vec F S1x16384x1 .f32) (P2 : Vec F S16384x1 .f32) (x : S16384x128.Idx) : (k4_pay2 P0 P1 P2) x = E2 P0 P1 P2 (r0_3.idx x) := by
  have hx0 : (x 0).val < 16384 := (x 0).isLt
  have hx1 : (x 1).val < 128 := (x 1).isLt
  rw [lay2_0_eq P0 P1 P2]
  show (broadcastTo S16384x128 (shapeCast S16384x1 (addf (addf (shapeCast S16384x1 P0 shapeCasts_S1x16384x1_S16384x1) (shapeCast S16384x1 P1 shapeCasts_S1x16384x1_S16384x1)) P2) shapeCasts_S16384x1_S16384x1) broadcasts_S16384x1_S16384x128) x = FloatOps.addf (FloatOps.addf (P0 (ix2_0 (r0_3.idx x))) (P1 (ix2_1 (r0_3.idx x)))) (P2 (ix2_2 (r0_3.idx x)))
  refine (broadcastTo_apply _ _ x (fun a => match a with | ⟨0, _⟩ => ⟨(x 0).val, by show (x 0).val < 16384; omega⟩ | ⟨1, _⟩ => ⟨0, by show 0 < 1; omega⟩ : S16384x1.Idx) (fun a => match a with | ⟨0, _⟩ => by show (x 0).val = (if (16384 : Nat) = 1 then 0 else (x 0).val); rw [if_neg (by decide)] | ⟨1, _⟩ => by show 0 = (if (1 : Nat) = 1 then 0 else (x 1).val); rw [if_pos rfl])).trans ?_
  refine (shapeCast_apply _ _ (fun a => match a with | ⟨0, _⟩ => ⟨(x 0).val, by show (x 0).val < 16384; omega⟩ | ⟨1, _⟩ => ⟨0, by show 0 < 1; omega⟩ : S16384x1.Idx) (fun a => match a with | ⟨0, _⟩ => ⟨(x 0).val, by show (x 0).val < 16384; omega⟩ | ⟨1, _⟩ => ⟨0, by show 0 < 1; omega⟩ : S16384x1.Idx) rfl).trans ?_
  have e1 : (addf (shapeCast S16384x1 P0 shapeCasts_S1x16384x1_S16384x1) (shapeCast S16384x1 P1 shapeCasts_S1x16384x1_S16384x1)) (fun a => match a with | ⟨0, _⟩ => ⟨(x 0).val, by show (x 0).val < 16384; omega⟩ | ⟨1, _⟩ => ⟨0, by show 0 < 1; omega⟩ : S16384x1.Idx) = FloatOps.addf (P0 (ix2_0 (r0_3.idx x))) (P1 (ix2_1 (r0_3.idx x))) := by
    have e2 : (shapeCast S16384x1 P0 shapeCasts_S1x16384x1_S16384x1) (fun a => match a with | ⟨0, _⟩ => ⟨(x 0).val, by show (x 0).val < 16384; omega⟩ | ⟨1, _⟩ => ⟨0, by show 0 < 1; omega⟩ : S16384x1.Idx) = (P0 (ix2_0 (r0_3.idx x))) := by
      refine (shapeCast_apply _ _ (fun a => match a with | ⟨0, _⟩ => ⟨(x 0).val, by show (x 0).val < 16384; omega⟩ | ⟨1, _⟩ => ⟨0, by show 0 < 1; omega⟩ : S16384x1.Idx) (fun a => match a with | ⟨0, _⟩ => ⟨0, by show 0 < 1; omega⟩ | ⟨1, _⟩ => ⟨(x 0).val, by show (x 0).val < 16384; omega⟩ | ⟨2, _⟩ => ⟨0, by show 0 < 1; omega⟩ : S1x16384x1.Idx) (by rw [Shape.rowMajor_val_three, Shape.rowMajor_val_two]; show (0 * 16384 + (x 0).val) * 1 + 0 = (x 0).val * 1 + 0; omega)).trans ?_
      refine congrArg _ (funext fun a => Fin.ext ?_)
      match a with | ⟨0, _⟩ => show 0 = 0; omega | ⟨1, _⟩ => show (x 0).val = (0 + 1 * (x 0).val); omega | ⟨2, _⟩ => show 0 = 0; omega
    have e3 : (shapeCast S16384x1 P1 shapeCasts_S1x16384x1_S16384x1) (fun a => match a with | ⟨0, _⟩ => ⟨(x 0).val, by show (x 0).val < 16384; omega⟩ | ⟨1, _⟩ => ⟨0, by show 0 < 1; omega⟩ : S16384x1.Idx) = (P1 (ix2_1 (r0_3.idx x))) := by
      refine (shapeCast_apply _ _ (fun a => match a with | ⟨0, _⟩ => ⟨(x 0).val, by show (x 0).val < 16384; omega⟩ | ⟨1, _⟩ => ⟨0, by show 0 < 1; omega⟩ : S16384x1.Idx) (fun a => match a with | ⟨0, _⟩ => ⟨0, by show 0 < 1; omega⟩ | ⟨1, _⟩ => ⟨(x 0).val, by show (x 0).val < 16384; omega⟩ | ⟨2, _⟩ => ⟨0, by show 0 < 1; omega⟩ : S1x16384x1.Idx) (by rw [Shape.rowMajor_val_three, Shape.rowMajor_val_two]; show (0 * 16384 + (x 0).val) * 1 + 0 = (x 0).val * 1 + 0; omega)).trans ?_
      refine congrArg _ (funext fun a => Fin.ext ?_)
      match a with | ⟨0, _⟩ => show 0 = 0; omega | ⟨1, _⟩ => show (x 0).val = (0 + 1 * (x 0).val); omega | ⟨2, _⟩ => show 0 = 0; omega
    show FloatOps.addf ((shapeCast S16384x1 P0 shapeCasts_S1x16384x1_S16384x1) (fun a => match a with | ⟨0, _⟩ => ⟨(x 0).val, by show (x 0).val < 16384; omega⟩ | ⟨1, _⟩ => ⟨0, by show 0 < 1; omega⟩ : S16384x1.Idx)) ((shapeCast S16384x1 P1 shapeCasts_S1x16384x1_S16384x1) (fun a => match a with | ⟨0, _⟩ => ⟨(x 0).val, by show (x 0).val < 16384; omega⟩ | ⟨1, _⟩ => ⟨0, by show 0 < 1; omega⟩ : S16384x1.Idx)) = FloatOps.addf (P0 (ix2_0 (r0_3.idx x))) (P1 (ix2_1 (r0_3.idx x)))
    rw [e2, e3]
  have e4 : P2 (fun a => match a with | ⟨0, _⟩ => ⟨(x 0).val, by show (x 0).val < 16384; omega⟩ | ⟨1, _⟩ => ⟨0, by show 0 < 1; omega⟩ : S16384x1.Idx) = (P2 (ix2_2 (r0_3.idx x))) := by
    refine congrArg _ (funext fun a => Fin.ext ?_)
    match a with | ⟨0, _⟩ => show (x 0).val = (0 + 1 * (x 0).val); omega | ⟨1, _⟩ => show 0 = 0; omega
  show FloatOps.addf ((addf (shapeCast S16384x1 P0 shapeCasts_S1x16384x1_S16384x1) (shapeCast S16384x1 P1 shapeCasts_S1x16384x1_S16384x1)) (fun a => match a with | ⟨0, _⟩ => ⟨(x 0).val, by show (x 0).val < 16384; omega⟩ | ⟨1, _⟩ => ⟨0, by show 0 < 1; omega⟩ : S16384x1.Idx)) (P2 (fun a => match a with | ⟨0, _⟩ => ⟨(x 0).val, by show (x 0).val < 16384; omega⟩ | ⟨1, _⟩ => ⟨0, by show 0 < 1; omega⟩ : S16384x1.Idx)) = FloatOps.addf (FloatOps.addf (P0 (ix2_0 (r0_3.idx x))) (P1 (ix2_1 (r0_3.idx x)))) (P2 (ix2_2 (r0_3.idx x)))
  rw [e1, e4]

theorem canon2_eq (P0 : Vec F S1x16384x1 .f32) (P1 : Vec F S1x16384x1 .f32) (P2 : Vec F S16384x1 .f32) (y : S16384x128.Idx) :
    View.canon [⟨r0_3, k4_pay2 P0 P1 P2⟩] y = E2 P0 P1 P2 y := by
  refine View.canon_apply_of_pieces (E2 P0 P1 P2) _ ?_ y (cover0_2 _ y)
  intro pc hpc
  rcases List.mem_cons.mp hpc with rfl | hpc  -- piece 0, through `r0_3`
  · exact fun x => piece2_0 P0 P1 P2 x
  nomatch hpc

set_option backward.proofsInPublic true in
abbrev ix3_0 (y : S16384x1.Idx) : S16384x1.Idx := fun a => match a with | ⟨0, _⟩ => ⟨(y 0).val, by have hy0 : (y 0).val < 16384 := (y 0).isLt; have hy1 : (y 1).val < 1 := (y 1).isLt; show (y 0).val < 16384; omega⟩ | ⟨1, _⟩ => ⟨0, by have hy0 : (y 0).val < 16384 := (y 0).isLt; have hy1 : (y 1).val < 1 := (y 1).isLt; show 0 < 1; omega⟩

set_option backward.proofsInPublic true in
abbrev ix3_1 (y : S16384x1.Idx) : S1x16384x1.Idx := fun a => match a with | ⟨0, _⟩ => ⟨0, by have hy0 : (y 0).val < 16384 := (y 0).isLt; have hy1 : (y 1).val < 1 := (y 1).isLt; show 0 < 1; omega⟩ | ⟨1, _⟩ => ⟨(y 0).val, by have hy0 : (y 0).val < 16384 := (y 0).isLt; have hy1 : (y 1).val < 1 := (y 1).isLt; show (y 0).val < 16384; omega⟩ | ⟨2, _⟩ => ⟨0, by have hy0 : (y 0).val < 16384 := (y 0).isLt; have hy1 : (y 1).val < 1 := (y 1).isLt; show 0 < 1; omega⟩

set_option backward.proofsInPublic true in
abbrev ix3_2 (y : S16384x1.Idx) : S1x16384x1.Idx := fun a => match a with | ⟨0, _⟩ => ⟨0, by have hy0 : (y 0).val < 16384 := (y 0).isLt; have hy1 : (y 1).val < 1 := (y 1).isLt; show 0 < 1; omega⟩ | ⟨1, _⟩ => ⟨(y 0).val, by have hy0 : (y 0).val < 16384 := (y 0).isLt; have hy1 : (y 1).val < 1 := (y 1).isLt; show (y 0).val < 16384; omega⟩ | ⟨2, _⟩ => ⟨0, by have hy0 : (y 0).val < 16384 := (y 0).isLt; have hy1 : (y 1).val < 1 := (y 1).isLt; show 0 < 1; omega⟩

set_option backward.proofsInPublic true in
abbrev ix3_3 (y : S16384x1.Idx) : S16384x1.Idx := fun a => match a with | ⟨0, _⟩ => ⟨(y 0).val, by have hy0 : (y 0).val < 16384 := (y 0).isLt; have hy1 : (y 1).val < 1 := (y 1).isLt; show (y 0).val < 16384; omega⟩ | ⟨1, _⟩ => ⟨0, by have hy0 : (y 0).val < 16384 := (y 0).isLt; have hy1 : (y 1).val < 1 := (y 1).isLt; show 0 < 1; omega⟩

abbrev E3 (P0 : Vec F S16384x1 .f32) (P1 : Vec F S1x16384x1 .f32) (P2 : Vec F S1x16384x1 .f32) : Vec F S16384x1 .f32 := fun y => FloatOps.divf (P0 (ix3_0 y)) (FloatOps.addf (FloatOps.addf (P1 (ix3_1 y)) (P2 (ix3_2 y))) (P0 (ix3_3 y)))

theorem lay3_0_eq (P0 : Vec F S16384x1 .f32) (P1 : Vec F S1x16384x1 .f32) (P2 : Vec F S1x16384x1 .f32) : k4_pay3 P1 P2 P0 P0 = divf P0 (addf (addf (shapeCast S16384x1 P1 shapeCasts_S1x16384x1_S16384x1) (shapeCast S16384x1 P2 shapeCasts_S1x16384x1_S16384x1)) P0) := by
  unfold k4_pay3 k4_pay1; simp only [shapeCast_self]

theorem piece3_0 (P0 : Vec F S16384x1 .f32) (P1 : Vec F S1x16384x1 .f32) (P2 : Vec F S1x16384x1 .f32) (x : S16384x1.Idx) : (k4_pay3 P1 P2 P0 P0) x = E3 P0 P1 P2 (r0_2.idx x) := by
  have hx0 : (x 0).val < 16384 := (x 0).isLt
  have hx1 : (x 1).val < 1 := (x 1).isLt
  rw [lay3_0_eq P0 P1 P2]
  show (divf P0 (addf (addf (shapeCast S16384x1 P1 shapeCasts_S1x16384x1_S16384x1) (shapeCast S16384x1 P2 shapeCasts_S1x16384x1_S16384x1)) P0)) x = FloatOps.divf (P0 (ix3_0 (r0_2.idx x))) (FloatOps.addf (FloatOps.addf (P1 (ix3_1 (r0_2.idx x))) (P2 (ix3_2 (r0_2.idx x)))) (P0 (ix3_3 (r0_2.idx x))))
  have e1 : P0 x = (P0 (ix3_0 (r0_2.idx x))) := by
    refine congrArg _ (funext fun a => Fin.ext ?_)
    match a with | ⟨0, _⟩ => show (x 0).val = (0 + 1 * (x 0).val); omega | ⟨1, _⟩ => show (x 1).val = 0; omega
  have e2 : (addf (addf (shapeCast S16384x1 P1 shapeCasts_S1x16384x1_S16384x1) (shapeCast S16384x1 P2 shapeCasts_S1x16384x1_S16384x1)) P0) x = FloatOps.addf (FloatOps.addf (P1 (ix3_1 (r0_2.idx x))) (P2 (ix3_2 (r0_2.idx x)))) (P0 (ix3_3 (r0_2.idx x))) := by
    have e3 : (addf (shapeCast S16384x1 P1 shapeCasts_S1x16384x1_S16384x1) (shapeCast S16384x1 P2 shapeCasts_S1x16384x1_S16384x1)) x = FloatOps.addf (P1 (ix3_1 (r0_2.idx x))) (P2 (ix3_2 (r0_2.idx x))) := by
      have e4 : (shapeCast S16384x1 P1 shapeCasts_S1x16384x1_S16384x1) x = (P1 (ix3_1 (r0_2.idx x))) := by
        refine (shapeCast_apply _ _ x (fun a => match a with | ⟨0, _⟩ => ⟨0, by show 0 < 1; omega⟩ | ⟨1, _⟩ => ⟨(x 0).val, by show (x 0).val < 16384; omega⟩ | ⟨2, _⟩ => ⟨0, by show 0 < 1; omega⟩ : S1x16384x1.Idx) (by rw [Shape.rowMajor_val_three, Shape.rowMajor_val_two]; show (0 * 16384 + (x 0).val) * 1 + 0 = (x 0).val * 1 + (x 1).val; omega)).trans ?_
        refine congrArg _ (funext fun a => Fin.ext ?_)
        match a with | ⟨0, _⟩ => show 0 = 0; omega | ⟨1, _⟩ => show (x 0).val = (0 + 1 * (x 0).val); omega | ⟨2, _⟩ => show 0 = 0; omega
      have e5 : (shapeCast S16384x1 P2 shapeCasts_S1x16384x1_S16384x1) x = (P2 (ix3_2 (r0_2.idx x))) := by
        refine (shapeCast_apply _ _ x (fun a => match a with | ⟨0, _⟩ => ⟨0, by show 0 < 1; omega⟩ | ⟨1, _⟩ => ⟨(x 0).val, by show (x 0).val < 16384; omega⟩ | ⟨2, _⟩ => ⟨0, by show 0 < 1; omega⟩ : S1x16384x1.Idx) (by rw [Shape.rowMajor_val_three, Shape.rowMajor_val_two]; show (0 * 16384 + (x 0).val) * 1 + 0 = (x 0).val * 1 + (x 1).val; omega)).trans ?_
        refine congrArg _ (funext fun a => Fin.ext ?_)
        match a with | ⟨0, _⟩ => show 0 = 0; omega | ⟨1, _⟩ => show (x 0).val = (0 + 1 * (x 0).val); omega | ⟨2, _⟩ => show 0 = 0; omega
      show FloatOps.addf ((shapeCast S16384x1 P1 shapeCasts_S1x16384x1_S16384x1) x) ((shapeCast S16384x1 P2 shapeCasts_S1x16384x1_S16384x1) x) = FloatOps.addf (P1 (ix3_1 (r0_2.idx x))) (P2 (ix3_2 (r0_2.idx x)))
      rw [e4, e5]
    have e6 : P0 x = (P0 (ix3_3 (r0_2.idx x))) := by
      refine congrArg _ (funext fun a => Fin.ext ?_)
      match a with | ⟨0, _⟩ => show (x 0).val = (0 + 1 * (x 0).val); omega | ⟨1, _⟩ => show (x 1).val = 0; omega
    show FloatOps.addf ((addf (shapeCast S16384x1 P1 shapeCasts_S1x16384x1_S16384x1) (shapeCast S16384x1 P2 shapeCasts_S1x16384x1_S16384x1)) x) (P0 x) = FloatOps.addf (FloatOps.addf (P1 (ix3_1 (r0_2.idx x))) (P2 (ix3_2 (r0_2.idx x)))) (P0 (ix3_3 (r0_2.idx x)))
    rw [e3, e6]
  show FloatOps.divf (P0 x) ((addf (addf (shapeCast S16384x1 P1 shapeCasts_S1x16384x1_S16384x1) (shapeCast S16384x1 P2 shapeCasts_S1x16384x1_S16384x1)) P0) x) = FloatOps.divf (P0 (ix3_0 (r0_2.idx x))) (FloatOps.addf (FloatOps.addf (P1 (ix3_1 (r0_2.idx x))) (P2 (ix3_2 (r0_2.idx x)))) (P0 (ix3_3 (r0_2.idx x))))
  rw [e1, e2]

theorem canon3_eq (P0 : Vec F S16384x1 .f32) (P1 : Vec F S1x16384x1 .f32) (P2 : Vec F S1x16384x1 .f32) (y : S16384x1.Idx) :
    View.canon [⟨r0_2, k4_pay3 P1 P2 P0 P0⟩] y = E3 P0 P1 P2 y := by
  refine View.canon_apply_of_pieces (E3 P0 P1 P2) _ ?_ y (cover0_3 _ y)
  intro pc hpc
  rcases List.mem_cons.mp hpc with rfl | hpc  -- piece 0, through `r0_2`
  · exact fun x => piece3_0 P0 P1 P2 x
  nomatch hpc

theorem hz0 : (![0, 0, 0] : Fin 3 → Nat) = fun _ => 0 := funext fun a => by fin_cases a <;> rfl

theorem idx_zero0 : ∀ t : Fin cfg4.N, win4_0.index t (0 : Fin 3) = 0 ∧ win4_0.index t (1 : Fin 3) = 0 ∧ win4_0.index t (2 : Fin 3) = 0 :=
  (by decide +kernel : ∀ t : Fin grid4.N, _)

theorem emb0 (t : Fin cfg4.N) (j : S2x16384x16.Idx) : ((cfg4.win 0).blk t).view.emb j = j := by
  obtain ⟨e0, e1, e2⟩ := idx_zero0 t
  funext a; apply Fin.ext
  match a with
  | ⟨0, _⟩ => show win4_0.index t (0 : Fin 3) * 2 + 1 * (j 0).val = (j 0).val; omega
  | ⟨1, _⟩ => show win4_0.index t (1 : Fin 3) * 16384 + 1 * (j 1).val = (j 1).val; omega
  | ⟨2, _⟩ => show win4_0.index t (2 : Fin 3) * 16 + 1 * (j 2).val = (j 2).val; omega

theorem iblk0_eq (c : Dev nD) (t : Fin cfg4.N) : iblk W c 0 t = W c (Proc.devRef .tc main_v53) := by
  funext j; show W c (Proc.devRef .tc main_v53) (((cfg4.win 0).blk t).view.emb j) = W c (Proc.devRef .tc main_v53) j; rw [emb0]

theorem hz1 : (![0, 0] : Fin 2 → Nat) = fun _ => 0 := funext fun a => by fin_cases a <;> rfl

theorem idx_zero1 : ∀ t : Fin cfg4.N, win4_1.index t (0 : Fin 2) = 0 ∧ win4_1.index t (1 : Fin 2) = 0 :=
  (by decide +kernel : ∀ t : Fin grid4.N, _)

theorem emb1 (t : Fin cfg4.N) (j : S16384x1.Idx) : ((cfg4.win 1).blk t).view.emb j = j := by
  obtain ⟨e0, e1⟩ := idx_zero1 t
  funext a; apply Fin.ext
  match a with
  | ⟨0, _⟩ => show win4_1.index t (0 : Fin 2) * 16384 + 1 * (j 0).val = (j 0).val; omega
  | ⟨1, _⟩ => show win4_1.index t (1 : Fin 2) * 1 + 1 * (j 1).val = (j 1).val; omega

theorem iblk1_eq (c : Dev nD) (t : Fin cfg4.N) : iblk W c 1 t = W c (Proc.devRef .tc main_v36_1) := by
  funext j; show W c (Proc.devRef .tc main_v36_1) (((cfg4.win 1).blk t).view.emb j) = W c (Proc.devRef .tc main_v36_1) j; rw [emb1]

theorem hz2 : (![0, 0] : Fin 2 → Nat) = fun _ => 0 := funext fun a => by fin_cases a <;> rfl

theorem idx_zero2 : ∀ t : Fin cfg4.N, win4_2.index t (0 : Fin 2) = 0 ∧ win4_2.index t (1 : Fin 2) = 0 :=
  (by decide +kernel : ∀ t : Fin grid4.N, _)

theorem emb2 (t : Fin cfg4.N) (j : S16384x128.Idx) : ((cfg4.win 2).blk t).view.emb j = j := by
  obtain ⟨e0, e1⟩ := idx_zero2 t
  funext a; apply Fin.ext
  match a with
  | ⟨0, _⟩ => show win4_2.index t (0 : Fin 2) * 16384 + 1 * (j 0).val = (j 0).val; omega
  | ⟨1, _⟩ => show win4_2.index t (1 : Fin 2) * 128 + 1 * (j 1).val = (j 1).val; omega

theorem hz3 : (![0, 0] : Fin 2 → Nat) = fun _ => 0 := funext fun a => by fin_cases a <;> rfl

theorem idx_zero3 : ∀ t : Fin cfg4.N, win4_3.index t (0 : Fin 2) = 0 ∧ win4_3.index t (1 : Fin 2) = 0 :=
  (by decide +kernel : ∀ t : Fin grid4.N, _)

theorem emb3 (t : Fin cfg4.N) (j : S16384x1.Idx) : ((cfg4.win 3).blk t).view.emb j = j := by
  obtain ⟨e0, e1⟩ := idx_zero3 t
  funext a; apply Fin.ext
  match a with
  | ⟨0, _⟩ => show win4_3.index t (0 : Fin 2) * 16384 + 1 * (j 0).val = (j 0).val; omega
  | ⟨1, _⟩ => show win4_3.index t (1 : Fin 2) * 1 + 1 * (j 1).val = (j 1).val; omega

abbrev G2 (a0 : Vec F S2x16384x16 .f32) (a1 : Vec F S16384x1 .f32) : Vec F S16384x128 .f32 :=
  k4_pay2 (View.ld a0 r0_0) (View.ld a0 r0_1) a1

theorem out2_eq (a0 : Vec F S2x16384x16 .f32) (a1 : Vec F S16384x1 .f32) : out0_2 (F := F) a0 a1 = G2 a0 a1 := by
  unfold out0_2
  rw [View.canon_unit_zero hz2, View.ld_unit_zero (S := S16384x1) hz1 _ a1]

theorem cut2_eq (t : Fin cfg4.N) (X : Vec F S16384x128 .f32) :
    (cfg4.win 2).cut (grid4.coords t) X = ((cfg4.win 2).blk t).view.read (Elt F) X := by
  funext j
  show X j = X (((cfg4.win 2).blk t).view.emb j)
  rw [emb2]

theorem flushed2_eq (c : Dev nD) (t : Fin cfg4.N) :
    (dats W O R c).flushed 2 t = ((cfg4.win 2).blk t).view.read (Elt F) (G2 (W c (Proc.devRef .tc main_v53)) (W c (Proc.devRef .tc main_v36_1))) := by
  show (cfg4.win 2).cut (grid4.coords t) ((dats W O R c).after 2 t) = _
  rw [after0_2, out2_eq, iblk0_eq, iblk1_eq]
  exact cut2_eq t _

theorem covered2 (i : S16384x128.Idx) :
    ∃ t : Fin cfg4.N, (cfg4.win 2).flush t = true ∧ i ∈ ((cfg4.win 2).blk t).view.set :=
  ⟨(⟨0, by decide⟩ : Fin cfg4.N), flush4_2 _, by have h := ((cfg4.win 2).blk (⟨0, by decide⟩ : Fin cfg4.N)).view.emb_mem_set i; rwa [emb2] at h⟩

theorem final2 (c : Dev nD) : (dats W O R c).arrAt 2 cfg4.N = G2 (W c (Proc.devRef .tc main_v53)) (W c (Proc.devRef .tc main_v36_1)) :=
  ((dats W O R c).arrAt_eq_of_cover 2 (G2 (W c (Proc.devRef .tc main_v53)) (W c (Proc.devRef .tc main_v36_1))) (fun t _ => flushed2_eq W O R c t) covered2)

abbrev G3 (a0 : Vec F S2x16384x16 .f32) (a1 : Vec F S16384x1 .f32) : Vec F S16384x1 .f32 :=
  k4_pay3 (View.ld a0 r0_0) (View.ld a0 r0_1) a1 a1

theorem out3_eq (a0 : Vec F S2x16384x16 .f32) (a1 : Vec F S16384x1 .f32) : out0_3 (F := F) a0 a1 = G3 a0 a1 := by
  unfold out0_3
  rw [View.canon_unit_zero hz3, View.ld_unit_zero (S := S16384x1) hz1 _ a1]

theorem cut3_eq (t : Fin cfg4.N) (X : Vec F S16384x1 .f32) :
    (cfg4.win 3).cut (grid4.coords t) X = ((cfg4.win 3).blk t).view.read (Elt F) X := by
  funext j
  show X j = X (((cfg4.win 3).blk t).view.emb j)
  rw [emb3]

theorem flushed3_eq (c : Dev nD) (t : Fin cfg4.N) :
    (dats W O R c).flushed 3 t = ((cfg4.win 3).blk t).view.read (Elt F) (G3 (W c (Proc.devRef .tc main_v53)) (W c (Proc.devRef .tc main_v36_1))) := by
  show (cfg4.win 3).cut (grid4.coords t) ((dats W O R c).after 3 t) = _
  rw [after0_3, out3_eq, iblk0_eq, iblk1_eq]
  exact cut3_eq t _

theorem covered3 (i : S16384x1.Idx) :
    ∃ t : Fin cfg4.N, (cfg4.win 3).flush t = true ∧ i ∈ ((cfg4.win 3).blk t).view.set :=
  ⟨(⟨0, by decide⟩ : Fin cfg4.N), flush4_3 _, by have h := ((cfg4.win 3).blk (⟨0, by decide⟩ : Fin cfg4.N)).view.emb_mem_set i; rwa [emb3] at h⟩

theorem final3 (c : Dev nD) : (dats W O R c).arrAt 3 cfg4.N = G3 (W c (Proc.devRef .tc main_v53)) (W c (Proc.devRef .tc main_v36_1)) :=
  ((dats W O R c).arrAt_eq_of_cover 3 (G3 (W c (Proc.devRef .tc main_v53)) (W c (Proc.devRef .tc main_v36_1))) (fun t _ => flushed3_eq W O R c t) covered3)

end Cert.Proof.Region4

end
-- ==== Proof.Arr4.lean ====
/-
  The arrays the denominators' call writes, entry by entry, over the reals.
-/
module

public import proofs.«01_k».proof.Proof.Region4Value
public import Idealize.ShloMosaic.Lib.Pointwise

@[expose] public section

set_option maxRecDepth 16384

noncomputable section

namespace Cert.Proof.Region4

open Cert.KernelIdeal Cert.KernelIdeal.Gen Cert.Proof
open Idealize.ShloMosaic

/-- A segment's denominator: its two partial sums and the end term. -/
def den (a0 : S2x16384x16.Idx → EReal) (a1 : S16384x1.Idx → EReal) (s : Fin 16384) : EReal :=
  a0 (ix3 0 s 0) + a0 (ix3 1 s 0) + a1 (ix2 s 0)

theorem ld0 (a0 : Vec Ideal S2x16384x16 .f32) (s : Fin 16384) : View.ld a0 r0_0 (ix3 0 s 0) = a0 (ix3 0 s 0) :=
  congrArg a0 (funext fun x => match x with
    | ⟨0, _⟩ => rfl
    | ⟨1, _⟩ => Fin.ext (by show 0 + 1 * s.val = s.val; omega)
    | ⟨2, _⟩ => rfl)

theorem ld1 (a0 : Vec Ideal S2x16384x16 .f32) (s : Fin 16384) : View.ld a0 r0_1 (ix3 0 s 0) = a0 (ix3 1 s 0) :=
  congrArg a0 (funext fun x => match x with
    | ⟨0, _⟩ => rfl
    | ⟨1, _⟩ => Fin.ext (by show 0 + 1 * s.val = s.val; omega)
    | ⟨2, _⟩ => rfl)

theorem r0_3_idx (s : Fin 16384) (k : Fin 128) : r0_3.idx (ix2 s k) = ix2 s k :=
  funext fun x => match x with
    | ⟨0, _⟩ => Fin.ext (by show 0 + 1 * s.val = s.val; omega)
    | ⟨1, _⟩ => Fin.ext (by show 0 + 1 * k.val = k.val; omega)

theorem r0_2_idx (s : Fin 16384) : r0_2.idx (ix2 s 0) = ix2 s 0 :=
  funext fun x => match x with
    | ⟨0, _⟩ => Fin.ext (by show 0 + 1 * s.val = s.val; omega)
    | ⟨1, _⟩ => rfl

theorem E2_apply (P0 P1 : Vec Ideal S1x16384x1 .f32) (P2 : Vec Ideal S16384x1 .f32) (s : Fin 16384) (k : Fin 128) :
    E2 P0 P1 P2 (ix2 s k) = (P0 (ix3 0 s 0) + P1 (ix3 0 s 0) + P2 (ix2 s 0) : EReal) := by
  have h0 : ix2_0 (ix2 s k) = ix3 0 s 0 := funext fun x => match x with
    | ⟨0, _⟩ => rfl
    | ⟨1, _⟩ => rfl
    | ⟨2, _⟩ => rfl
  have h1 : ix2_1 (ix2 s k) = ix3 0 s 0 := h0
  have h2 : ix2_2 (ix2 s k) = ix2 s 0 := funext fun x => match x with
    | ⟨0, _⟩ => rfl
    | ⟨1, _⟩ => rfl
  unfold E2
  rw [h0, h1, h2]
  rfl

theorem E3_apply (P0 : Vec Ideal S16384x1 .f32) (P1 P2 : Vec Ideal S1x16384x1 .f32) (s : Fin 16384) :
    E3 P0 P1 P2 (ix2 s 0) = Ideal.div (P0 (ix2 s 0)) (P1 (ix3 0 s 0) + P2 (ix3 0 s 0) + P0 (ix2 s 0)) := by
  have h0 : ix3_1 (ix2 s 0) = ix3 0 s 0 := funext fun x => match x with
    | ⟨0, _⟩ => rfl
    | ⟨1, _⟩ => rfl
    | ⟨2, _⟩ => rfl
  have h1 : ix3_2 (ix2 s 0) = ix3 0 s 0 := h0
  have h2 : ix3_0 (ix2 s 0) = ix2 s 0 := funext fun x => match x with
    | ⟨0, _⟩ => rfl
    | ⟨1, _⟩ => rfl
  have h3 : ix3_3 (ix2 s 0) = ix2 s 0 := h2
  unfold E3
  rw [h0, h1, h2, h3]
  rfl

theorem G2_apply (a0 : Vec Ideal S2x16384x16 .f32) (a1 : Vec Ideal S16384x1 .f32) (s : Fin 16384) (k : Fin 128) : G2 a0 a1 (ix2 s k) = den a0 a1 s := by
  unfold G2
  refine (piece2_0 _ _ _ (ix2 s k)).trans ?_
  rw [r0_3_idx, E2_apply, ld0, ld1]
  rfl

theorem G3_apply (a0 : Vec Ideal S2x16384x16 .f32) (a1 : Vec Ideal S16384x1 .f32) (s : Fin 16384) : G3 a0 a1 (ix2 s 0) = Ideal.div (a1 (ix2 s 0)) (den a0 a1 s) := by
  unfold G3
  refine (piece3_0 _ _ _ (ix2 s 0)).trans ?_
  rw [r0_2_idx, E3_apply, ld0, ld1]
  rfl

end Cert.Proof.Region4

end
-- ==== Proof.Region6Value.lean ====
/-
  What the normalising call leaves in its arrays.
-/
module

public import proofs.«01_k».proof.Proof.Region6
public import Idealize.ShloMosaic.Lib.Pipeline.Value

@[expose] public section

set_option maxRecDepth 16384

noncomputable section

namespace Cert.Proof.Region6

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! The buffers' contents at the region's entry, what the core owes there, and the waits it has recorded. -/
variable (W : Dev nD → Valuation τ sig (Elt F)) (O : Dev nD → CellTallies nD τ sig (HIx 2)) (R : Dev nD → Set (SemLoc sig × HIx 2))

theorem flushed2 (c : Dev nD) (t : Fin cfg6.N) :
    (dats W O R c).flushed 2 t = (cfg6.win 2).cut (grid6.coords t) (out0_2 (iblk W c 0 t) (iblk W c 1 t)) := by
  show (cfg6.win 2).cut (grid6.coords t) ((dats W O R c).after 2 t) = _
  rw [after0_2]

theorem idx_inj2 : ∀ t t' : Fin cfg6.N, win6_2.index t = win6_2.index t' → t = t' :=
  (by decide +kernel : ∀ t t' : Fin grid6.N, win6_2.index t = win6_2.index t' → t = t')

theorem disjoint2 : ∀ t t' : Fin cfg6.N, (cfg6.win 2).flush t = true → (cfg6.win 2).flush t' = true → t ≠ t' →
    Disjoint ((cfg6.win 2).blk t).view.set ((cfg6.win 2).blk t').view.set :=
  fun t t' _ _ hne => (cfg6.win 2).disjoint_blk fun h => hne (idx_inj2 t t' h)

theorem blocks2 (c : Dev nD) (t : Fin cfg6.N) (hf : (cfg6.win 2).flush t = true) :
    ((cfg6.win 2).blk t).view.read (Elt F) ((dats W O R c).arrAt 2 cfg6.N) = (dats W O R c).flushed 2 t :=
  (dats W O R c).read_blk_arrAt_eq_flushed 2 disjoint2 cfg6.N t t.isLt hf

theorem entry2 (c : Dev nD) (i : S327680x4.Idx) (h : ∀ t : Fin cfg6.N, (cfg6.win 2).flush t = true → i ∉ ((cfg6.win 2).blk t).view.set) :
    (dats W O R c).arrAt 2 cfg6.N i = W c (Proc.devRef .tc (Pipeline.arrRef spec6 2)) i := by
  rw [(dats W O R c).arrAt_apply_of_forall_not_mem 2 cfg6.N i (fun t _ hf => h t hf), A_eq]

theorem flushed3 (c : Dev nD) (t : Fin cfg6.N) :
    (dats W O R c).flushed 3 t = (cfg6.win 3).cut (grid6.coords t) (out0_3 (iblk W c 0 t) (iblk W c 1 t)) := by
  show (cfg6.win 3).cut (grid6.coords t) ((dats W O R c).after 3 t) = _
  rw [after0_3]

theorem idx_inj3 : ∀ t t' : Fin cfg6.N, win6_3.index t = win6_3.index t' → t = t' :=
  (by decide +kernel : ∀ t t' : Fin grid6.N, win6_3.index t = win6_3.index t' → t = t')

theorem disjoint3 : ∀ t t' : Fin cfg6.N, (cfg6.win 3).flush t = true → (cfg6.win 3).flush t' = true → t ≠ t' →
    Disjoint ((cfg6.win 3).blk t).view.set ((cfg6.win 3).blk t').view.set :=
  fun t t' _ _ hne => (cfg6.win 3).disjoint_blk fun h => hne (idx_inj3 t t' h)

theorem blocks3 (c : Dev nD) (t : Fin cfg6.N) (hf : (cfg6.win 3).flush t = true) :
    ((cfg6.win 3).blk t).view.read (Elt F) ((dats W O R c).arrAt 3 cfg6.N) = (dats W O R c).flushed 3 t :=
  (dats W O R c).read_blk_arrAt_eq_flushed 3 disjoint3 cfg6.N t t.isLt hf

theorem entry3 (c : Dev nD) (i : S327680x64.Idx) (h : ∀ t : Fin cfg6.N, (cfg6.win 3).flush t = true → i ∉ ((cfg6.win 3).blk t).view.set) :
    (dats W O R c).arrAt 3 cfg6.N i = W c (Proc.devRef .tc (Pipeline.arrRef spec6 3)) i := by
  rw [(dats W O R c).arrAt_apply_of_forall_not_mem 3 cfg6.N i (fun t _ hf => h t hf), A_eq]

set_option backward.proofsInPublic true in
abbrev ix2_0 (y : S2048x4.Idx) : S2048x68.Idx := fun a => match a with | ⟨0, _⟩ => ⟨(y 0).val, by have hy0 : (y 0).val < 2048 := (y 0).isLt; have hy1 : (y 1).val < 4 := (y 1).isLt; show (y 0).val < 2048; omega⟩ | ⟨1, _⟩ => ⟨(y 1).val, by have hy0 : (y 0).val < 2048 := (y 0).isLt; have hy1 : (y 1).val < 4 := (y 1).isLt; show (y 1).val < 68; omega⟩

set_option backward.proofsInPublic true in
abbrev ix2_1 (y : S2048x4.Idx) : S2048x1.Idx := fun a => match a with | ⟨0, _⟩ => ⟨(y 0).val, by have hy0 : (y 0).val < 2048 := (y 0).isLt; have hy1 : (y 1).val < 4 := (y 1).isLt; show (y 0).val < 2048; omega⟩ | ⟨1, _⟩ => ⟨0, by have hy0 : (y 0).val < 2048 := (y 0).isLt; have hy1 : (y 1).val < 4 := (y 1).isLt; show 0 < 1; omega⟩

abbrev E2 (P0 : Vec F S2048x68 .f32) (P1 : Vec F S2048x1 .f32) : Vec F S2048x4 .f32 := fun y => FloatOps.mulf (P0 (ix2_0 y)) (FloatOps.divf (Scalar.ofBits .f32 0x3F800000#32) (P1 (ix2_1 y)))

theorem lay2_0_eq (P0 : Vec F S2048x68 .f32) (P1 : Vec F S2048x1 .f32) : k6_pay2 P0 P1 = extractStridedSlice S2048x4 ![0, 0] (mulf P0 (broadcastTo S2048x68 (divf (broadcast S2048x1 (Scalar.ofBits .f32 0x3F800000#32)) P1) broadcasts_S2048x1_S2048x68)) slices_S2048x68_o0_0_S2048x4 := by
  unfold k6_pay2 k6_pay1
  simp only [shapeCast_self]

theorem piece2_0 (P0 : Vec F S2048x68 .f32) (P1 : Vec F S2048x1 .f32) (x : S2048x4.Idx) : (k6_pay2 P0 P1) x = E2 P0 P1 (r0_2.idx x) := by
  have hx0 : (x 0).val < 2048 := (x 0).isLt
  have hx1 : (x 1).val < 4 := (x 1).isLt
  rw [lay2_0_eq P0 P1]
  show (extractStridedSlice S2048x4 ![0, 0] (mulf P0 (broadcastTo S2048x68 (divf (broadcast S2048x1 (Scalar.ofBits .f32 0x3F800000#32)) P1) broadcasts_S2048x1_S2048x68)) slices_S2048x68_o0_0_S2048x4) x = FloatOps.mulf (P0 (ix2_0 (r0_2.idx x))) (FloatOps.divf (Scalar.ofBits .f32 0x3F800000#32) (P1 (ix2_1 (r0_2.idx x))))
  refine (extractStridedSlice_apply ![0, 0] _ _ x (fun a => match a with | ⟨0, _⟩ => ⟨(x 0).val, by show (x 0).val < 2048; omega⟩ | ⟨1, _⟩ => ⟨(x 1).val, by show (x 1).val < 68; omega⟩ : S2048x68.Idx) (fun a => match a with | ⟨0, _⟩ => by show (x 0).val = 0 + (x 0).val; omega | ⟨1, _⟩ => by show (x 1).val = 0 + (x 1).val; omega)).trans ?_
  have e1 : P0 (fun a => match a with | ⟨0, _⟩ => ⟨(x 0).val, by show (x 0).val < 2048; omega⟩ | ⟨1, _⟩ => ⟨(x 1).val, by show (x 1).val < 68; omega⟩ : S2048x68.Idx) = (P0 (ix2_0 (r0_2.idx x))) := by
    refine congrArg _ (funext fun a => Fin.ext ?_)
    match a with | ⟨0, _⟩ => show (x 0).val = (0 + 1 * (x 0).val); omega | ⟨1, _⟩ => show (x 1).val = (0 + 1 * (x 1).val); omega
  have e2 : (broadcastTo S2048x68 (divf (broadcast S2048x1 (Scalar.ofBits .f32 0x3F800000#32)) P1) broadcasts_S2048x1_S2048x68) (fun a => match a with | ⟨0, _⟩ => ⟨(x 0).val, by show (x 0).val < 2048; omega⟩ | ⟨1, _⟩ => ⟨(x 1).val, by show (x 1).val < 68; omega⟩ : S2048x68.Idx) = FloatOps.divf (Scalar.ofBits .f32 0x3F800000#32) (P1 (ix2_1 (r0_2.idx x))) := by
    refine (broadcastTo_apply _ _ (fun a => match a with | ⟨0, _⟩ => ⟨(x 0).val, by show (x 0).val < 2048; omega⟩ | ⟨1, _⟩ => ⟨(x 1).val, by show (x 1).val < 68; omega⟩ : S2048x68.Idx) (fun a => match a with | ⟨0, _⟩ => ⟨(x 0).val, by show (x 0).val < 2048; omega⟩ | ⟨1, _⟩ => ⟨0, by show 0 < 1; omega⟩ : S2048x1.Idx) (fun a => match a with | ⟨0, _⟩ => by show (x 0).val = (if (2048 : Nat) = 1 then 0 else (x 0).val); rw [if_neg (by decide)] | ⟨1, _⟩ => by show 0 = (if (1 : Nat) = 1 then 0 else (x 1).val); rw [if_pos rfl])).trans ?_
    have e3 : P1 (fun a => match a with | ⟨0, _⟩ => ⟨(x 0).val, by show (x 0).val < 2048; omega⟩ | ⟨1, _⟩ => ⟨0, by show 0 < 1; omega⟩ : S2048x1.Idx) = (P1 (ix2_1 (r0_2.idx x))) := by
      refine congrArg _ (funext fun a => Fin.ext ?_)
      match a with | ⟨0, _⟩ => show (x 0).val = (0 + 1 * (x 0).val); omega | ⟨1, _⟩ => show 0 = 0; omega
    show FloatOps.divf (Scalar.ofBits .f32 0x3F800000#32) (P1 (fun a => match a with | ⟨0, _⟩ => ⟨(x 0).val, by show (x 0).val < 2048; omega⟩ | ⟨1, _⟩ => ⟨0, by show 0 < 1; omega⟩ : S2048x1.Idx)) = FloatOps.divf (Scalar.ofBits .f32 0x3F800000#32) (P1 (ix2_1 (r0_2.idx x)))
    rw [e3]
  show FloatOps.mulf (P0 (fun a => match a with | ⟨0, _⟩ => ⟨(x 0).val, by show (x 0).val < 2048; omega⟩ | ⟨1, _⟩ => ⟨(x 1).val, by show (x 1).val < 68; omega⟩ : S2048x68.Idx)) ((broadcastTo S2048x68 (divf (broadcast S2048x1 (Scalar.ofBits .f32 0x3F800000#32)) P1) broadcasts_S2048x1_S2048x68) (fun a => match a with | ⟨0, _⟩ => ⟨(x 0).val, by show (x 0).val < 2048; omega⟩ | ⟨1, _⟩ => ⟨(x 1).val, by show (x 1).val < 68; omega⟩ : S2048x68.Idx)) = FloatOps.mulf (P0 (ix2_0 (r0_2.idx x))) (FloatOps.divf (Scalar.ofBits .f32 0x3F800000#32) (P1 (ix2_1 (r0_2.idx x))))
  rw [e1, e2]

theorem canon2_eq (P0 : Vec F S2048x68 .f32) (P1 : Vec F S2048x1 .f32) (y : S2048x4.Idx) :
    View.canon [⟨r0_2, k6_pay2 P0 P1⟩] y = E2 P0 P1 y := by
  refine View.canon_apply_of_pieces (E2 P0 P1) _ ?_ y (cover0_2 _ y)
  intro pc hpc
  rcases List.mem_cons.mp hpc with rfl | hpc  -- piece 0, through `r0_2`
  · exact fun x => piece2_0 P0 P1 x
  nomatch hpc

set_option backward.proofsInPublic true in
abbrev ix3_0 (y : S2048x64.Idx) : S2048x68.Idx := fun a => match a with | ⟨0, _⟩ => ⟨(y 0).val, by have hy0 : (y 0).val < 2048 := (y 0).isLt; have hy1 : (y 1).val < 64 := (y 1).isLt; show (y 0).val < 2048; omega⟩ | ⟨1, _⟩ => ⟨(y 1).val + 4, by have hy0 : (y 0).val < 2048 := (y 0).isLt; have hy1 : (y 1).val < 64 := (y 1).isLt; show (y 1).val + 4 < 68; omega⟩

set_option backward.proofsInPublic true in
abbrev ix3_1 (y : S2048x64.Idx) : S2048x1.Idx := fun a => match a with | ⟨0, _⟩ => ⟨(y 0).val, by have hy0 : (y 0).val < 2048 := (y 0).isLt; have hy1 : (y 1).val < 64 := (y 1).isLt; show (y 0).val < 2048; omega⟩ | ⟨1, _⟩ => ⟨0, by have hy0 : (y 0).val < 2048 := (y 0).isLt; have hy1 : (y 1).val < 64 := (y 1).isLt; show 0 < 1; omega⟩

abbrev E3 (P0 : Vec F S2048x68 .f32) (P1 : Vec F S2048x1 .f32) : Vec F S2048x64 .f32 := fun y => FloatOps.mulf (P0 (ix3_0 y)) (FloatOps.divf (Scalar.ofBits .f32 0x3F800000#32) (P1 (ix3_1 y)))

theorem lay3_0_eq (P0 : Vec F S2048x68 .f32) (P1 : Vec F S2048x1 .f32) : k6_pay3 P0 P1 = extractStridedSlice S2048x64 ![0, 4] (mulf P0 (broadcastTo S2048x68 (divf (broadcast S2048x1 (Scalar.ofBits .f32 0x3F800000#32)) P1) broadcasts_S2048x1_S2048x68)) slices_S2048x68_o0_4_S2048x64 := by
  unfold k6_pay3 k6_pay1
  simp only [shapeCast_self]

theorem piece3_0 (P0 : Vec F S2048x68 .f32) (P1 : Vec F S2048x1 .f32) (x : S2048x64.Idx) : (k6_pay3 P0 P1) x = E3 P0 P1 (r0_3.idx x) := by
  have hx0 : (x 0).val < 2048 := (x 0).isLt
  have hx1 : (x 1).val < 64 := (x 1).isLt
  rw [lay3_0_eq P0 P1]
  show (extractStridedSlice S2048x64 ![0, 4] (mulf P0 (broadcastTo S2048x68 (divf (broadcast S2048x1 (Scalar.ofBits .f32 0x3F800000#32)) P1) broadcasts_S2048x1_S2048x68)) slices_S2048x68_o0_4_S2048x64) x = FloatOps.mulf (P0 (ix3_0 (r0_3.idx x))) (FloatOps.divf (Scalar.ofBits .f32 0x3F800000#32) (P1 (ix3_1 (r0_3.idx x))))
  refine (extractStridedSlice_apply ![0, 4] _ _ x (fun a => match a with | ⟨0, _⟩ => ⟨(x 0).val, by show (x 0).val < 2048; omega⟩ | ⟨1, _⟩ => ⟨(x 1).val + 4, by show (x 1).val + 4 < 68; omega⟩ : S2048x68.Idx) (fun a => match a with | ⟨0, _⟩ => by show (x 0).val = 0 + (x 0).val; omega | ⟨1, _⟩ => by show (x 1).val + 4 = 4 + (x 1).val; omega)).trans ?_
  have e1 : P0 (fun a => match a with | ⟨0, _⟩ => ⟨(x 0).val, by show (x 0).val < 2048; omega⟩ | ⟨1, _⟩ => ⟨(x 1).val + 4, by show (x 1).val + 4 < 68; omega⟩ : S2048x68.Idx) = (P0 (ix3_0 (r0_3.idx x))) := by
    refine congrArg _ (funext fun a => Fin.ext ?_)
    match a with | ⟨0, _⟩ => show (x 0).val = (0 + 1 * (x 0).val); omega | ⟨1, _⟩ => show (x 1).val + 4 = (0 + 1 * (x 1).val) + 4; omega
  have e2 : (broadcastTo S2048x68 (divf (broadcast S2048x1 (Scalar.ofBits .f32 0x3F800000#32)) P1) broadcasts_S2048x1_S2048x68) (fun a => match a with | ⟨0, _⟩ => ⟨(x 0).val, by show (x 0).val < 2048; omega⟩ | ⟨1, _⟩ => ⟨(x 1).val + 4, by show (x 1).val + 4 < 68; omega⟩ : S2048x68.Idx) = FloatOps.divf (Scalar.ofBits .f32 0x3F800000#32) (P1 (ix3_1 (r0_3.idx x))) := by
    refine (broadcastTo_apply _ _ (fun a => match a with | ⟨0, _⟩ => ⟨(x 0).val, by show (x 0).val < 2048; omega⟩ | ⟨1, _⟩ => ⟨(x 1).val + 4, by show (x 1).val + 4 < 68; omega⟩ : S2048x68.Idx) (fun a => match a with | ⟨0, _⟩ => ⟨(x 0).val, by show (x 0).val < 2048; omega⟩ | ⟨1, _⟩ => ⟨0, by show 0 < 1; omega⟩ : S2048x1.Idx) (fun a => match a with | ⟨0, _⟩ => by show (x 0).val = (if (2048 : Nat) = 1 then 0 else (x 0).val); rw [if_neg (by decide)] | ⟨1, _⟩ => by show 0 = (if (1 : Nat) = 1 then 0 else (x 1).val + 4); rw [if_pos rfl])).trans ?_
    have e3 : P1 (fun a => match a with | ⟨0, _⟩ => ⟨(x 0).val, by show (x 0).val < 2048; omega⟩ | ⟨1, _⟩ => ⟨0, by show 0 < 1; omega⟩ : S2048x1.Idx) = (P1 (ix3_1 (r0_3.idx x))) := by
      refine congrArg _ (funext fun a => Fin.ext ?_)
      match a with | ⟨0, _⟩ => show (x 0).val = (0 + 1 * (x 0).val); omega | ⟨1, _⟩ => show 0 = 0; omega
    show FloatOps.divf (Scalar.ofBits .f32 0x3F800000#32) (P1 (fun a => match a with | ⟨0, _⟩ => ⟨(x 0).val, by show (x 0).val < 2048; omega⟩ | ⟨1, _⟩ => ⟨0, by show 0 < 1; omega⟩ : S2048x1.Idx)) = FloatOps.divf (Scalar.ofBits .f32 0x3F800000#32) (P1 (ix3_1 (r0_3.idx x)))
    rw [e3]
  show FloatOps.mulf (P0 (fun a => match a with | ⟨0, _⟩ => ⟨(x 0).val, by show (x 0).val < 2048; omega⟩ | ⟨1, _⟩ => ⟨(x 1).val + 4, by show (x 1).val + 4 < 68; omega⟩ : S2048x68.Idx)) ((broadcastTo S2048x68 (divf (broadcast S2048x1 (Scalar.ofBits .f32 0x3F800000#32)) P1) broadcasts_S2048x1_S2048x68) (fun a => match a with | ⟨0, _⟩ => ⟨(x 0).val, by show (x 0).val < 2048; omega⟩ | ⟨1, _⟩ => ⟨(x 1).val + 4, by show (x 1).val + 4 < 68; omega⟩ : S2048x68.Idx)) = FloatOps.mulf (P0 (ix3_0 (r0_3.idx x))) (FloatOps.divf (Scalar.ofBits .f32 0x3F800000#32) (P1 (ix3_1 (r0_3.idx x))))
  rw [e1, e2]

theorem canon3_eq (P0 : Vec F S2048x68 .f32) (P1 : Vec F S2048x1 .f32) (y : S2048x64.Idx) :
    View.canon [⟨r0_3, k6_pay3 P0 P1⟩] y = E3 P0 P1 y := by
  refine View.canon_apply_of_pieces (E3 P0 P1) _ ?_ y (cover0_3 _ y)
  intro pc hpc
  rcases List.mem_cons.mp hpc with rfl | hpc  -- piece 0, through `r0_3`
  · exact fun x => piece3_0 P0 P1 x
  nomatch hpc

end Cert.Proof.Region6

end
-- ==== Proof.Arr6.lean ====
/-
  The arrays the normalising call writes, entry by entry, over the reals.
-/
module

public import proofs.«01_k».proof.Proof.Region6Value
public import Idealize.ShloMosaic.Lib.Pointwise
public import Idealize.ShloMosaic.Lib.Pipeline.ValueKit

@[expose] public section

set_option maxRecDepth 16384

noncomputable section

namespace Cert.Proof.Region6

open Cert.KernelIdeal Cert.KernelIdeal.Gen Cert.Proof
open Idealize.ShloMosaic Idealize.ShloMosaic.TcCoe Idealize.ShloMosaic.Tactic
open Idealize.ShloMosaic.SparseCore.Cfg (HIx)
open Idealize.ShloMosaic.Pipeline (Dat Cfg Window)

variable (W : Dev nD → Valuation τ sig (Elt Ideal)) (O : Dev nD → CellTallies nD τ sig (HIx 2)) (R : Dev nD → Set (SemLoc sig × HIx 2))

/-- The index maps. -/
theorem index4 : ∀ t : Fin cfg6.N, win6_0.index t = ![t.val, 0] ∧ win6_1.index t = ![t.val, 0] ∧ win6_2.index t = ![t.val, 0] ∧ win6_3.index t = ![t.val, 0] :=
  (by decide +kernel : ∀ t : Fin grid6.N, win6_0.index t = ![t.val, 0] ∧ win6_1.index t = ![t.val, 0] ∧ win6_2.index t = ![t.val, 0] ∧ win6_3.index t = ![t.val, 0])

/-- An entry times the reciprocal of its denominator. -/
def nval (z d : EReal) : EReal := z * Ideal.div 1 d

/-- The normalised exponential at row `i`, column `l`. -/
def nent (c : Dev nD) (i : Fin 327680) (l : Fin 68) : EReal :=
  nval ((W c (Proc.devRef .tc main_v42_0) : S327680x68.Idx → EReal) (ix2 i l)) ((W c (Proc.devRef .tc main_v55) : S327680x128.Idx → EReal) (ix2 i 0))

theorem one_bits : (Scalar.ofBits .f32 0x3F800000#32 : Ideal .f32) = (1 : EReal) := by
  pointwise

theorem r0_0_idx (a : Fin 2048) (b : Fin 68) : r0_0.idx (ix2 a b) = ix2 a b := by
  funext x
  match x with
  | ⟨0, _⟩ => exact Fin.ext (by show 0 + 1 * a.val = a.val; omega)
  | ⟨1, _⟩ => exact Fin.ext (by show 0 + 1 * b.val = b.val; omega)

theorem r0_1_idx (a : Fin 2048) : r0_1.idx (ix2 a 0) = ix2 a 0 := by
  funext x
  match x with
  | ⟨0, _⟩ => exact Fin.ext (by show 0 + 1 * a.val = a.val; omega)
  | ⟨1, _⟩ => rfl

theorem E2_apply (P0 : Vec Ideal S2048x68 .f32) (P1 : Vec Ideal S2048x1 .f32) (a : Fin 2048) (b : Fin 4) :
    E2 P0 P1 (ix2 a b) = nval (P0 (ix2 a ⟨b.val, by omega⟩)) (P1 (ix2 a 0)) := by
  have h0 : ix2_0 (ix2 a b) = ix2 a ⟨b.val, by omega⟩ := funext fun x => match x with
    | ⟨0, _⟩ => rfl
    | ⟨1, _⟩ => rfl
  have h1 : ix2_1 (ix2 a b) = ix2 a 0 := funext fun x => match x with
    | ⟨0, _⟩ => rfl
    | ⟨1, _⟩ => rfl
  unfold E2
  rw [h0, h1, one_bits]
  rfl

theorem E3_apply (P0 : Vec Ideal S2048x68 .f32) (P1 : Vec Ideal S2048x1 .f32) (a : Fin 2048) (b : Fin 64) :
    E3 P0 P1 (ix2 a b) = nval (P0 (ix2 a ⟨b.val + 4, by omega⟩)) (P1 (ix2 a 0)) := by
  have h0 : ix3_0 (ix2 a b) = ix2 a ⟨b.val + 4, by omega⟩ := funext fun x => match x with
    | ⟨0, _⟩ => rfl
    | ⟨1, _⟩ => rfl
  have h1 : ix3_1 (ix2 a b) = ix2 a 0 := funext fun x => match x with
    | ⟨0, _⟩ => rfl
    | ⟨1, _⟩ => rfl
  unfold E3
  rw [h0, h1, one_bits]
  rfl

theorem ent_iblk (c : Dev nD) (t : Fin cfg6.N) (a : Fin 2048) (l : Fin 68) :
    nval (View.ld (iblk W c 0 t) r0_0 (ix2 a l)) (View.ld (iblk W c 1 t) r0_1 (ix2 a 0))
      = nent W c ⟨t.val * 2048 + a.val, by have := t.isLt; have e : cfg6.N = 160 := rfl; omega⟩ l := by
  obtain ⟨e0, e1, -, -⟩ := index4 t
  unfold nent
  congr 1
  · refine congrArg (W c (Proc.devRef .tc main_v42_0)) (show ((cfg6.win 0).blk t).view.emb (r0_0.idx (ix2 a l)) = _ from ?_); rw [r0_0_idx]; blk_ext [e0]
  · refine congrArg (W c (Proc.devRef .tc main_v55)) (show ((cfg6.win 1).blk t).view.emb (r0_1.idx (ix2 a 0)) = _ from ?_); rw [r0_1_idx]; blk_ext [e1]

theorem place2 (t : Fin cfg6.N) (a : Fin 2048) (b : Fin 4) :
    ((cfg6.win 2).blk t).view.emb (ix2 a b) = (ix2 ⟨t.val * 2048 + a.val, by have := t.isLt; have e : cfg6.N = 160 := rfl; omega⟩ b : S327680x4.Idx) := by
  obtain ⟨-, -, e, -⟩ := index4 t
  blk_ext [e]

theorem place3 (t : Fin cfg6.N) (a : Fin 2048) (b : Fin 64) :
    ((cfg6.win 3).blk t).view.emb (ix2 a b) = (ix2 ⟨t.val * 2048 + a.val, by have := t.isLt; have e : cfg6.N = 160 := rfl; omega⟩ b : S327680x64.Idx) := by
  obtain ⟨-, -, -, e⟩ := index4 t
  blk_ext [e]

theorem out2_apply (c : Dev nD) (t : Fin cfg6.N) (a : Fin 2048) (b : Fin 4) :
    out0_2 (iblk W c 0 t) (iblk W c 1 t) (ix2 a b) = nent W c ⟨t.val * 2048 + a.val, by have := t.isLt; have e : cfg6.N = 160 := rfl; omega⟩ ⟨b.val, by omega⟩ := by
  unfold out0_2
  refine (canon2_eq _ _ (ix2 a b)).trans ?_
  rw [E2_apply]
  exact ent_iblk W c t a _

theorem out3_apply (c : Dev nD) (t : Fin cfg6.N) (a : Fin 2048) (b : Fin 64) :
    out0_3 (iblk W c 0 t) (iblk W c 1 t) (ix2 a b) = nent W c ⟨t.val * 2048 + a.val, by have := t.isLt; have e : cfg6.N = 160 := rfl; omega⟩ ⟨b.val + 4, by omega⟩ := by
  unfold out0_3
  refine (canon3_eq _ _ (ix2 a b)).trans ?_
  rw [E3_apply]
  exact ent_iblk W c t a _

theorem covers2 : (cfg6.win 2).Covers := by decide +kernel
theorem covers3 : (cfg6.win 3).Covers := by decide +kernel

/-- The first four columns of the normalised table. -/
def N2 (c : Dev nD) : S327680x4.Idx → EReal := fun i => nent W c (i 0) (Fin.castLE (m := 68) (n := 4) (by omega) (i 1))
/-- The other sixty-four columns of the normalised table. -/
def N3 (c : Dev nD) : S327680x64.Idx → EReal := fun i => nent W c (i 0) (Fin.natAdd (m := 64) 4 (i 1))

theorem N2_apply (c : Dev nD) (i : Fin 327680) (b : Fin 4) : N2 W c (ix2 i b) = nent W c i ⟨b.val, by omega⟩ := rfl
theorem N3_apply (c : Dev nD) (i : Fin 327680) (b : Fin 64) : N3 W c (ix2 i b) = nent W c i ⟨b.val + 4, by omega⟩ :=
  congrArg (nent W c i) (Fin.ext (by show 4 + b.val = b.val + 4; omega))

theorem after2 (c : Dev nD) (t : Fin cfg6.N) (y : ((cfg6.win 2).xblock (cfg6.grid.coords t)).Idx) :
    _root_.cast (congrArg (Elt Ideal) ((cfg6.win 2).blk t).view.elt_eq.symm) ((dats W O R c).after 2 t ((cfg6.win 2).xinj (cfg6.grid.coords t) y))
        = N2 W c (((cfg6.win 2).blk t).view.emb y) := by
  obtain ⟨a, b, hy⟩ : ∃ (a : Fin 2048) (b : Fin 4), y = ix2 a b := ⟨y 0, y 1, eq_ix2 (n0 := 2048) (n1 := 4) y⟩
  subst hy
  blk_simp
  rw [after0_2]
  exact (out2_apply W c t a b).trans (congrArg (N2 W c) (place2 t a b)).symm

theorem arr2 (c : Dev nD) : (dats W O R c).arrAt 2 cfg6.N = N2 W c :=
  (dats W O R c).arrAt_eq_of_covers 2 (N2 W c) covers2 (fun t _ y => after2 W O R c t y) (Memref.isWhole_whole _)

theorem after3 (c : Dev nD) (t : Fin cfg6.N) (y : ((cfg6.win 3).xblock (cfg6.grid.coords t)).Idx) :
    _root_.cast (congrArg (Elt Ideal) ((cfg6.win 3).blk t).view.elt_eq.symm) ((dats W O R c).after 3 t ((cfg6.win 3).xinj (cfg6.grid.coords t) y))
        = N3 W c (((cfg6.win 3).blk t).view.emb y) := by
  obtain ⟨a, b, hy⟩ : ∃ (a : Fin 2048) (b : Fin 64), y = ix2 a b := ⟨y 0, y 1, eq_ix2 (n0 := 2048) (n1 := 64) y⟩
  subst hy
  blk_simp
  rw [after0_3]
  exact ((out3_apply W c t a b).trans (N3_apply W c _ b).symm).trans (congrArg (N3 W c) (place3 t a b)).symm

theorem arr3 (c : Dev nD) : (dats W O R c).arrAt 3 cfg6.N = N3 W c :=
  (dats W O R c).arrAt_eq_of_covers 3 (N3 W c) covers3 (fun t _ y => after3 W O R c t y) (Memref.isWhole_whole _)

end Cert.Proof.Region6

end
-- ==== Proof.Scatter.lean ====
/-
  Two additive scatters by one index word per update, entry by entry over the reals: scalars into a vector, and rows into
  a table. Each entry is the operand's plus the sum of the updates whose index word, read signed, is the entry's row.
-/
module

public import Idealize.ShloMosaic.Lib.Pointwise
public import Idealize.ShloMosaic.Lib.Routing.Ops

@[expose] public section

noncomputable section

namespace Cert.Proof

open Idealize.ShloMosaic

abbrev Sh1 (a : ℕ) : Shape := ⟨1, ![a]⟩
abbrev Sh2 (a b : ℕ) : Shape := ⟨2, ![a, b]⟩
abbrev Sh3 (a b c : ℕ) : Shape := ⟨3, ![a, b, c]⟩

section One

variable {S N : ℕ} (d : ScatterDims (Sh1 S) (Sh2 N 1) (Sh1 N)) (hiw : d.insertedWindowDims = [0])
  (hsd : d.scatterDimsToOperandDims = [0]) (hivd : d.indexVectorDim = 1) (idx : IVec (Sh2 N 1) 32)

include hiw in
theorem window1 (u : (Sh1 N).Idx) : d.window u 0 = 0 := by
  unfold ScatterDims.window
  rw [dif_neg fun h => (of_decide_eq_true (List.mem_filter.1 h).2) (by rw [hiw]; exact List.mem_singleton.2 rfl)]

include hsd hivd in
theorem start1 (u : (Sh1 N).Idx) : d.start u idx 0 = (idx (ix2 (u 0) (0 : Fin 1))).toInt := by
  have hm : (0 : Fin 1) ∈ d.scatterDimsToOperandDims := by rw [hsd]; exact List.mem_singleton.2 rfl
  unfold ScatterDims.start
  rw [dif_pos hm]
  refine congrArg (fun z => (idx z).toInt) (funext fun a => Fin.ext ?_)
  match a with
  | ⟨0, _⟩ =>
    unfold ScatterDims.siIdx
    rw [dif_neg (by rw [hivd]; exact Nat.zero_ne_one)]
    unfold ScatterDims.siCoord
    simp only [Fin.val_cast]
    exact congrArg (fun z => (u z).val) (Subsingleton.elim (α := Fin 1) _ _)
  | ⟨1, _⟩ =>
    unfold ScatterDims.siIdx
    rw [dif_pos (by rw [hivd])]
    show List.idxOf (0 : Fin 1) d.scatterDimsToOperandDims = 0
    rw [hsd]; simp

include hiw hsd hivd in
theorem lands1 (u : (Sh1 N).Idx) (x : Fin S) : d.resultIdx? u idx = some (ix1 x) ↔ (idx (ix2 (u 0) (0 : Fin 1))).toInt = (x.val : Int) := by
  have hwin := window1 d hiw u
  have hstart := start1 d hsd hivd idx u
  have hx := x.isLt
  unfold ScatterDims.resultIdx?
  split
  · next h =>
    have h0 := h 0
    constructor
    · intro e
      have e0 := congrArg Fin.val (congrFun (Option.some.inj e) 0)
      change (d.start u idx 0 + (d.window u 0 : Int)).toNat = x.val at e0
      rw [hstart, hwin] at e0 h0
      omega
    · intro e
      refine congrArg some (funext fun a => Fin.ext ?_)
      match a with
      | ⟨0, _⟩ =>
        show (d.start u idx 0 + (d.window u 0 : Int)).toNat = x.val
        rw [hstart, hwin]; omega
  · next h =>
    constructor
    · intro e; cases e
    · intro e
      refine (h fun a => ?_).elim
      match a with
      | ⟨0, _⟩ =>
        show 0 ≤ d.start u idx 0 + (d.window u 0 : Int) ∧ d.start u idx 0 + (d.window u 0 : Int) < (S : Int)
        rw [hstart, hwin]; omega

include hiw hsd hivd in
/-- Scalars added into a vector. -/
theorem scatter1_apply (x : (Sh1 S).Idx → EReal) (u : (Sh1 N).Idx → EReal) (s : Fin S) :
    Ideal.hostScatterAdd d x idx u (ix1 s) = x (ix1 s) + ∑ i : Fin N, if (idx (ix2 i (0 : Fin 1))).toInt = (s.val : Int) then u (ix1 i) else 0 := by
  unfold Ideal.hostScatterAdd
  rw [Finset.sum_filter]
  simp only [lands1 d hiw hsd hivd idx _ s]
  refine congrArg _ (Fintype.sum_equiv ⟨fun j => j 0, fun i => ix1 i, fun j => ?_, fun i => rfl⟩ _ _ fun j => ?_)
  · funext a; match a with | ⟨0, _⟩ => rfl
  · have hj : j = ix1 (j 0) := by funext a; match a with | ⟨0, _⟩ => rfl
    exact congrArg (fun z => if (idx (ix2 (j 0) (0 : Fin 1))).toInt = (s.val : Int) then u z else 0) hj

end One

section Three

variable {S N C : ℕ} (d : ScatterDims (Sh3 S 1 C) (Sh2 N 1) (Sh3 N 1 C)) (huw : d.updateWindowDims = [1, 2]) (hiw : d.insertedWindowDims = [0])
  (hsd : d.scatterDimsToOperandDims = [0]) (hivd : d.indexVectorDim = 1) (idx : IVec (Sh2 N 1) 32)

include huw hiw in
theorem window3 (u : (Sh3 N 1 C).Idx) : d.window u 0 = 0 ∧ d.window u 1 = (u 1).val ∧ d.window u 2 = (u 2).val := by
  obtain ⟨uw, iw, sd, iv, wf⟩ := d
  simp only at huw hiw
  subst huw hiw
  exact ⟨rfl, rfl, rfl⟩

include huw hsd hivd in
theorem start3 (u : (Sh3 N 1 C).Idx) : d.start u idx 0 = (idx (ix2 (u 0) (0 : Fin 1))).toInt ∧ d.start u idx 1 = 0 ∧ d.start u idx 2 = 0 := by
  obtain ⟨uw, iw, sd, iv, wf⟩ := d
  simp only at huw hsd hivd
  subst huw hsd hivd
  refine ⟨?_, rfl, rfl⟩
  unfold ScatterDims.start
  rw [dif_pos (List.mem_singleton.2 rfl)]
  refine congrArg (fun z => (idx z).toInt) (funext fun a => Fin.ext ?_)
  match a with
  | ⟨0, _⟩ => rfl
  | ⟨1, _⟩ => rfl

include huw hiw hsd hivd in
theorem lands3 (u : (Sh3 N 1 C).Idx) (x : Fin S) (l : Fin C) :
    d.resultIdx? u idx = some (ix3 x (0 : Fin 1) l) ↔ (idx (ix2 (u 0) (0 : Fin 1))).toInt = (x.val : Int) ∧ @Eq (Fin C) (u 2) l := by
  obtain ⟨hw0, hw1, hw2⟩ := window3 d huw hiw u
  obtain ⟨hs0, hs1, hs2⟩ := start3 d huw hsd hivd idx u
  have hx := x.isLt
  have hu1 : (u 1).val < 1 := (u 1).isLt
  have hu2 : (u 2).val < C := (u 2).isLt
  unfold ScatterDims.resultIdx?
  split
  · next h =>
    have h0 := h 0
    rw [hs0, hw0] at h0
    constructor
    · intro e
      have e0 := congrArg Fin.val (congrFun (Option.some.inj e) 0)
      have e2 := congrArg Fin.val (congrFun (Option.some.inj e) 2)
      change (d.start u idx 0 + (d.window u 0 : Int)).toNat = x.val at e0
      change (d.start u idx 2 + (d.window u 2 : Int)).toNat = l.val at e2
      rw [hs0, hw0] at e0
      rw [hs2, hw2] at e2
      exact ⟨by omega, Fin.ext (by omega)⟩
    · rintro ⟨e, rfl⟩
      refine congrArg some (funext fun a => Fin.ext ?_)
      match a with
      | ⟨0, _⟩ =>
        show (d.start u idx 0 + (d.window u 0 : Int)).toNat = x.val
        rw [hs0, hw0]; omega
      | ⟨1, _⟩ =>
        show (d.start u idx 1 + (d.window u 1 : Int)).toNat = 0
        rw [hs1, hw1]; omega
      | ⟨2, _⟩ =>
        show (d.start u idx 2 + (d.window u 2 : Int)).toNat = (u 2).val
        rw [hs2, hw2]; omega
  · next h =>
    constructor
    · intro e; cases e
    · rintro ⟨e, -⟩
      refine (h fun a => ?_).elim
      match a with
      | ⟨0, _⟩ =>
        show 0 ≤ d.start u idx 0 + (d.window u 0 : Int) ∧ d.start u idx 0 + (d.window u 0 : Int) < (S : Int)
        rw [hs0, hw0]; omega
      | ⟨1, _⟩ =>
        show 0 ≤ d.start u idx 1 + (d.window u 1 : Int) ∧ d.start u idx 1 + (d.window u 1 : Int) < ((1 : ℕ) : Int)
        rw [hs1, hw1]; omega
      | ⟨2, _⟩ =>
        show 0 ≤ d.start u idx 2 + (d.window u 2 : Int) ∧ d.start u idx 2 + (d.window u 2 : Int) < (C : Int)
        rw [hs2, hw2]; omega

/-- The indices of a table of rows `1 × C` by their row and column. -/
def pairs : (Sh3 N 1 C).Idx ≃ Fin N × Fin C where
  toFun j := (j 0, j 2)
  invFun p := ix3 p.1 (0 : Fin 1) p.2
  left_inv j := by
    funext a
    match a with
    | ⟨0, _⟩ => rfl
    | ⟨1, _⟩ => exact (Subsingleton.elim (α := Fin 1) _ _)
    | ⟨2, _⟩ => rfl
  right_inv _ := rfl

include huw hiw hsd hivd in
/-- Rows added into a table. -/
theorem scatter3_apply (x : (Sh3 S 1 C).Idx → EReal) (u : (Sh3 N 1 C).Idx → EReal) (s : Fin S) (l : Fin C) :
    Ideal.hostScatterAdd d x idx u (ix3 s (0 : Fin 1) l)
      = x (ix3 s (0 : Fin 1) l) + ∑ i : Fin N, if (idx (ix2 i (0 : Fin 1))).toInt = (s.val : Int) then u (ix3 i (0 : Fin 1) l) else 0 := by
  unfold Ideal.hostScatterAdd
  rw [Finset.sum_filter]
  refine congrArg _ ((Fintype.sum_equiv pairs _ (fun p : Fin N × Fin C =>
    if (idx (ix2 p.1 (0 : Fin 1))).toInt = (s.val : Int) ∧ p.2 = l then u (ix3 p.1 (0 : Fin 1) p.2) else 0) fun j => ?_).trans ?_)
  · obtain ⟨i, k, hj⟩ : ∃ (i : Fin N) (k : Fin C), j = ix3 i (0 : Fin 1) k := ⟨j 0, j 2, (pairs.left_inv j).symm⟩
    subst hj
    have e := lands3 d huw hiw hsd hivd idx (ix3 i (0 : Fin 1) k) s l
    show (if _ then _ else _) = if (idx (ix2 i (0 : Fin 1))).toInt = (s.val : Int) ∧ k = l then u (ix3 i (0 : Fin 1) k) else 0
    exact if_congr e rfl rfl
  · rw [Fintype.sum_prod_type]
    refine Finset.sum_congr rfl fun i _ => ?_
    by_cases h : (idx (ix2 i (0 : Fin 1))).toInt = (s.val : Int)
    · simp only [h, true_and, if_true]
      exact (Finset.sum_ite_eq' Finset.univ l fun k => u (ix3 i (0 : Fin 1) k)).trans (if_pos (Finset.mem_univ l))
    · simp only [h, false_and, if_false, Finset.sum_const_zero]

end Three

end Cert.Proof

end
-- ==== Proof.Spec.lean ====
/-
  What both programs compute, entry by entry over the reals: the table of exponentials, the segments' denominators, and
  the quotients. The kernel multiplies by a reciprocal where the reference divides; the two agree where the denominator
  is not zero, and it is positive where the end term is.
-/
module

public import proofs.«01_k».proof.Proof.RowK

@[expose] public section

noncomputable section

namespace Cert.Proof

open Cert.KernelIdeal
open Idealize.ShloMosaic

/-- The segment an index word names (a word out of range, which the precondition excludes, wraps). -/
def segOf (w : BitVec 32) : Fin 16384 := ⟨w.toNat % 16384, Nat.mod_lt _ (by decide)⟩

section

variable (X : Vec Ideal S327680x64 .f32) (I : S327680.Idx → BitVec 32) (Wh : Vec Ideal S64x128 .f32) (Wx : Vec Ideal S68x64 .f32)
  (bx : Vec Ideal S68 .f32) (bt : Vec Ideal S16384x128 .f32) (sc : Vec Ideal S8x64 .f32) (ze : Vec Ideal S16384x1 .f32)

/-- The exponential at row `i`, column `l`. -/
def zt (i : Fin 327680) (l : Fin 68) : EReal :=
  zval (fun f => X (ix2 i f)) (fun f h => Wh (ix2 h (⟨f.val, by omega⟩ : Fin 128))) (fun h => sc (ix2 (0 : Fin 8) h))
    (fun h => bt (ix2 (segOf (I (ix1 i))) (⟨h.val, by omega⟩ : Fin 128))) (fun h => Wx (ix2 l h)) (bx (ix1 l))

/-- A segment's denominator: the exponentials of its rows, and its end term. -/
def dn (s : Fin 16384) : EReal :=
  (∑ i : Fin 327680, if (I (ix1 i)).toInt = (s.val : Int) then ∑ l : Fin 68, zt X I Wh Wx bx bt sc i l else 0) + ze (ix2 s (0 : Fin 1))

/-- The quotient at row `i`, column `l`. -/
def nt (i : Fin 327680) (l : Fin 68) : EReal :=
  Ideal.div (zt X I Wh Wx bx bt sc i l) (dn X I Wh Wx bx bt sc ze (segOf (I (ix1 i))))

/-- The end quotient of a segment. -/
def et (s : Fin 16384) : EReal := Ideal.div (ze (ix2 s (0 : Fin 1))) (dn X I Wh Wx bx bt sc ze s)

theorem exp_nonneg (x : EReal) : 0 ≤ Ideal.exp x := by
  induction x with
  | bot => exact le_rfl
  | top => exact le_top
  | coe r => exact EReal.coe_nonneg.mpr (Real.exp_pos r).le

theorem zt_nonneg (i : Fin 327680) (l : Fin 68) : 0 ≤ zt X I Wh Wx bx bt sc i l := exp_nonneg _

theorem dn_pos (s : Fin 16384) (h : 0 < ze (ix2 s (0 : Fin 1))) : 0 < dn X I Wh Wx bx bt sc ze s := by
  refine lt_of_lt_of_le h ?_
  unfold dn
  refine le_add_of_nonneg_left (Finset.sum_nonneg fun i _ => ?_)
  split
  · exact Finset.sum_nonneg fun l _ => zt_nonneg X I Wh Wx bx bt sc i l
  · exact le_rfl

end

/-- The product with the reciprocal is the quotient, the divisor not being zero. -/
theorem mul_div_one (z d : EReal) (hd : d ≠ 0) : z * Ideal.div 1 d = Ideal.div z d := by
  unfold Ideal.div
  rw [if_neg hd, if_neg hd, one_mul]

end Cert.Proof

end
-- ==== Proof.KSide.lean ====
/-
  The kernel's three results, entry by entry over the reals, from its arguments.
-/
module

public import proofs.«01_k».proof.Proof.Chain
public import proofs.«01_k».proof.Proof.Arr3
public import proofs.«01_k».proof.Proof.Arr4
public import proofs.«01_k».proof.Proof.Arr6
public import proofs.«01_k».proof.Proof.Scatter
public import proofs.«01_k».proof.Proof.Spec

@[expose] public section

set_option maxRecDepth 16384

noncomputable section

namespace Cert.Proof

open Cert.KernelIdeal Cert.KernelIdeal.Gen
open Idealize.ShloMosaic

section

variable {F : FTy → Type} [FloatOps F]

/-- The host operations up to the two partial sums, and the rest. -/
def opsB1 : List (HloOp τ sig (Elt F)) :=
  [StableHlo.unary main_v42_1 main_v43 ((extractStridedSlice S327680x1 ![0, 0] · slices_S327680x16_S327680x1_0_0) : (⟨S327680x16, .f32⟩ : BufTy).Contents (Elt F) → (⟨S327680x1, .f32⟩ : BufTy).Contents (Elt F)),
   StableHlo.reshape main_v43 main_v44 (rfl : (.f32 : EltTy) = .f32) shapeCasts_S327680x1_S327680,
   StableHlo.nullary main_cst_7 (constant S_ .f32 0x00000000#32),
   StableHlo.unary main_cst_7 main_v45 (broadcastInDim S16384 ![] bcast_S_S16384 : (⟨S_, .f32⟩ : BufTy).Contents (Elt F) → (⟨S16384, .f32⟩ : BufTy).Contents (Elt F)),
   StableHlo.unary main_arg2 main_v46 (broadcastInDim S327680x1 ![0] bcast_S327680_S327680x1_0 : (⟨S327680, .i32⟩ : BufTy).Contents (Elt F) → (⟨S327680x1, .i32⟩ : BufTy).Contents (Elt F)),
   StableHlo.ternary main_v45 main_v46 main_v44 main_v47 ((fun x i u => Host.scatterAdd scatter_S16384_S327680x1_S327680_n_0_0_1 x i u) : (⟨S16384, .f32⟩ : BufTy).Contents (Elt F) → (⟨S327680x1, .i32⟩ : BufTy).Contents (Elt F) → (⟨S327680, .f32⟩ : BufTy).Contents (Elt F) → (⟨S16384, .f32⟩ : BufTy).Contents (Elt F)),
   StableHlo.nullary main_cst_8 (constant S_ .f32 0x00000000#32),
   StableHlo.unary main_cst_8 main_v48 (broadcastInDim S16384 ![] bcast_S_S16384 : (⟨S_, .f32⟩ : BufTy).Contents (Elt F) → (⟨S16384, .f32⟩ : BufTy).Contents (Elt F)),
   StableHlo.unary main_v47 main_v49 (broadcastInDim S1x16384 ![1] bcast_S16384_S1x16384_1 : (⟨S16384, .f32⟩ : BufTy).Contents (Elt F) → (⟨S1x16384, .f32⟩ : BufTy).Contents (Elt F)),
   StableHlo.unary main_v48 main_v50 (broadcastInDim S1x16384 ![1] bcast_S16384_S1x16384_1 : (⟨S16384, .f32⟩ : BufTy).Contents (Elt F) → (⟨S1x16384, .f32⟩ : BufTy).Contents (Elt F))]

def opsB2 : List (HloOp τ sig (Elt F)) :=
  [StableHlo.binary main_v49 main_v50 main_v51 ((fun a b => concatenate S2x16384 0 [⟨S1x16384, a⟩, ⟨S1x16384, b⟩] concatenates_S1x16384_S1x16384_S2x16384_d0) : (⟨S1x16384, .f32⟩ : BufTy).Contents (Elt F) → (⟨S1x16384, .f32⟩ : BufTy).Contents (Elt F) → (⟨S2x16384, .f32⟩ : BufTy).Contents (Elt F)),
   StableHlo.unary main_v51 main_v52 (broadcastInDim S2x16384x1 ![0, 1] bcast_S2x16384_S2x16384x1_0_1 : (⟨S2x16384, .f32⟩ : BufTy).Contents (Elt F) → (⟨S2x16384x1, .f32⟩ : BufTy).Contents (Elt F)),
   StableHlo.unary main_v52 main_v53 (broadcastInDim S2x16384x16 ![0, 1, 2] bcast_S2x16384x1_S2x16384x16_0_1_2 : (⟨S2x16384x1, .f32⟩ : BufTy).Contents (Elt F) → (⟨S2x16384x16, .f32⟩ : BufTy).Contents (Elt F))]
theorem opsB_split : (opsB : List (HloOp τ sig (Elt F))) = opsB1 ++ opsB2 := rfl

end

variable (m : (ℓ : Loc nD τ sig) → Buf (Elt Ideal) ℓ) (d : Dev nD)

abbrev aX : Vec Ideal S327680x64 .f32 := m ((d.tc : Thread nD τ).loc main_arg0)
abbrev aI : S327680.Idx → BitVec 32 := m ((d.tc : Thread nD τ).loc main_arg2)
abbrev aWh : Vec Ideal S64x128 .f32 := m ((d.tc : Thread nD τ).loc main_arg3)
abbrev aWx : Vec Ideal S68x64 .f32 := m ((d.tc : Thread nD τ).loc main_arg9)
abbrev abx : Vec Ideal S68 .f32 := m ((d.tc : Thread nD τ).loc main_arg10)
abbrev abt : Vec Ideal S16384x128 .f32 := V0 m d (tcr main_v36_0)
abbrev asc : Vec Ideal S8x64 .f32 := V0 m d (tcr main_v36_2)
abbrev aze : Vec Ideal S16384x1 .f32 := V0 m d (tcr main_v36_1)

/-! What no statement writes is as launched. -/

theorem V1_arg {r : Ref sig .tc} (hr : r ∉ written) (hp : r ∉ writtenP) : V1 m d (tcr r) = m ((d.tc : Thread nD τ).loc r) :=
  (V1_kept m d hr).trans (V0_kept m d hp)
theorem V2_arg {r : Ref sig .tc} (hr : r ∉ written) (hp : r ∉ writtenP) : V2 m d (tcr r) = m ((d.tc : Thread nD τ).loc r) :=
  (V2_kept m d hr).trans (V0_kept m d hp)
theorem V3_arg {r : Ref sig .tc} (hr : r ∉ written) (hp : r ∉ writtenP) : V3 m d (tcr r) = m ((d.tc : Thread nD τ).loc r) :=
  (V3_kept m d hr).trans (V0_kept m d hp)
theorem V5_arg {r : Ref sig .tc} (hr : r ∉ written) (hp : r ∉ writtenP) : V5 m d (tcr r) = m ((d.tc : Thread nD τ).loc r) :=
  (V5_kept m d hr).trans (V0_kept m d hp)

/-- The exponential at a row and a column, the segment's denominator, and the product with its reciprocal. -/
abbrev kz (i : Fin 327680) (l : Fin 68) : EReal := zt (aX m d) (aI m d) (aWh m d) (aWx m d) (abx m d) (abt m d) (asc m d) i l
abbrev kd (s : Fin 16384) : EReal := dn (aX m d) (aI m d) (aWh m d) (aWx m d) (abx m d) (abt m d) (asc m d) (aze m d) s

theorem gathered_apply (T : Vec Ideal S16384x128 .f32) (I : S327680.Idx → BitVec 32) (i : Fin 327680) (k : Fin 128) :
    gathered (F := Ideal) T I (ix2 i k) = T (ix2 (segOf (I (ix1 i))) k) := by
  have h : listIx i = ix1 i := funext fun a => match a with
    | ⟨0, _⟩ => rfl
  show T (rowIx (I (listIx i)) k) = _
  rw [h]
  exact congrArg T (funext fun a => match a with
    | ⟨0, _⟩ => rfl
    | ⟨1, _⟩ => rfl)

/-! ## Before the first pipelined call -/

theorem V2_v0 : V2 m d (tcr main_v37) = gathered (F := Ideal) (abt m d) (aI m d) := by
  unfold V2 opsA
  after_results_simp
  unfold V1
  rw [Function.update_self]
  rfl

theorem V2_v2 : V2 m d (tcr main_v39) = transpose S64x64 [1, 0] (extractStridedSlice S64x64 ![0, 0] (aWh m d) slices_S64x128_S64x64_0_0) transposes_S64x64_S64x64_1_0 := by
  have h := V1_arg m d (r := main_arg3) (by decide) (by decide)
  unfold V2 opsA
  after_results_simp
  first | rw [h] | simp only [h]

theorem V2_v3 : V2 m d (tcr main_v40) = transpose S64x68 [1, 0] (aWx m d) transposes_S68x64_S64x68_1_0 := by
  have h := V1_arg m d (r := main_arg9) (by decide) (by decide)
  unfold V2 opsA
  after_results_simp
  first | rw [h] | simp only [h]

theorem V2_v4 : V2 m d (tcr main_v41) = shapeCast S1x68 (abx m d) shapeCasts_S68_S1x68 := by
  have h := V1_arg m d (r := main_arg10) (by decide) (by decide)
  unfold V2 opsA
  after_results_simp
  rw [h]
  rfl

theorem tr_v2 (x : Vec Ideal S64x128 .f32) (f h : Fin 64) :
    transpose S64x64 [1, 0] (extractStridedSlice S64x64 ![0, 0] x slices_S64x128_S64x64_0_0) transposes_S64x64_S64x64_1_0 (ix2 f h) = x (ix2 h (⟨f.val, by omega⟩ : Fin 128)) := by
  pointwise

theorem tr_v3 (x : Vec Ideal S68x64 .f32) (h : Fin 64) (l : Fin 68) :
    transpose S64x68 [1, 0] x transposes_S68x64_S64x68_1_0 (ix2 h l) = x (ix2 l h) := by
  pointwise

theorem sc_v4 (x : Vec Ideal S68 .f32) (l : Fin 68) : shapeCast S1x68 x shapeCasts_S68_S1x68 (ix2 (0 : Fin 1) l) = x (ix1 l) := by
  pointwise

theorem zval_congr {x x' : Fin 64 → EReal} {Wt Wt' : Fin 64 → Fin 64 → EReal} {s s' b b' v v' : Fin 64 → EReal} {c c' : EReal} (hx : ∀ f, x f = x' f)
    (hW : ∀ f h, Wt f h = Wt' f h) (hs : ∀ h, s h = s' h) (hb : ∀ h, b h = b' h) (hv : ∀ h, v h = v' h) (hc : c = c') :
    zval x Wt s b v c = zval x' Wt' s' b' v' c' := by
  obtain rfl : x = x' := funext hx
  obtain rfl : Wt = Wt' := funext fun f => funext (hW f)
  obtain rfl : s = s' := funext hs
  obtain rfl : b = b' := funext hb
  obtain rfl : v = v' := funext hv
  rw [hc]

theorem zent_eq (i : Fin 327680) (l : Fin 68) : Region3.zent (V2 m) d i l = kz m d i l := by
  unfold Region3.zent kz zt
  have h0 : V2 m d (Proc.devRef .tc main_arg0) = aX m d := V2_arg m d (by decide) (by decide)
  have h6 : V2 m d (Proc.devRef .tc main_v36_2) = asc m d := V2_kept m d (by decide)
  rw [h0, h6, V2_v0, V2_v2, V2_v3, V2_v4]
  exact zval_congr (fun _ => rfl) (fun f h => tr_v2 _ f h) (fun _ => rfl) (fun h => gathered_apply _ _ i _) (fun h => tr_v3 _ h l) (sc_v4 _ l)

/-! ## Between the first two pipelined calls -/

theorem V3_v5_1 : V3 m d (tcr main_v42_1) = Region3.Z7 (V2 m) d := by
  unfold V3 upd3
  rw [Function.update_self]
  exact Region3.arr7 (V2 m) _ _ d

theorem V3_v5_0 : V3 m d (tcr main_v42_0) = Region3.Z6 (V2 m) d := by
  unfold V3 upd3
  rw [Function.update_of_ne (StableHlo.devRef_ne_of_ne (by decide)), Function.update_self]
  exact Region3.arr6 (V2 m) _ _ d

/-- The segments' sums of the exponentials. -/
abbrev ssum (u : Vec Ideal S327680x16 .f32) (I : S327680.Idx → BitVec 32) : Vec Ideal S16384 .f32 :=
  Host.scatterAdd scatter_S16384_S327680x1_S327680_n_0_0_1 (broadcastInDim S16384 ![] bcast_S_S16384 (constant (F := Ideal) S_ .f32 0x00000000#32))
    (broadcastInDim S327680x1 ![0] bcast_S327680_S327680x1_0 I) (shapeCast S327680 (extractStridedSlice S327680x1 ![0, 0] u slices_S327680x16_S327680x1_0_0) shapeCasts_S327680x1_S327680)

/-- Two rows, one under the other, along sixteen lanes. -/
abbrev parts2 (a b : Vec Ideal S1x16384 .f32) : Vec Ideal S2x16384x16 .f32 :=
  broadcastInDim S2x16384x16 ![0, 1, 2] bcast_S2x16384x1_S2x16384x16_0_1_2 (broadcastInDim S2x16384x1 ![0, 1] bcast_S2x16384_S2x16384x1_0_1
    (concatenate S2x16384 0 [⟨S1x16384, a⟩, ⟨S1x16384, b⟩] concatenates_S1x16384_S1x16384_S2x16384_d0))

/-- The two partial sums: the segments' sums, and zero. -/
abbrev parts (a : Vec Ideal S16384 .f32) : Vec Ideal S2x16384x16 .f32 :=
  parts2 (broadcastInDim S1x16384 ![1] bcast_S16384_S1x16384_1 a)
    (broadcastInDim S1x16384 ![1] bcast_S16384_S1x16384_1 (broadcastInDim S16384 ![] bcast_S_S16384 (constant (F := Ideal) S_ .f32 0x00000000#32)))

theorem after_B2 (V : Valuation τ sig (Elt Ideal)) : StableHlo.after opsB2 V (tcr main_v53) = parts2 (V (tcr main_v49)) (V (tcr main_v50)) := by
  unfold opsB2
  after_results_simp

theorem after_v12 : StableHlo.after opsB1 (V3 m d) (tcr main_v49) = broadcastInDim S1x16384 ![1] bcast_S16384_S1x16384_1 (ssum (Region3.Z7 (V2 m) d) (aI m d)) := by
  have h := V3_arg m d (r := main_arg2) (by decide) (by decide)
  have h1 := V3_v5_1 m d
  unfold opsB1
  after_results_simp
  rw [h, h1]
  rfl

theorem after_v13 : StableHlo.after opsB1 (V3 m d) (tcr main_v50)
    = broadcastInDim S1x16384 ![1] bcast_S16384_S1x16384_1 (broadcastInDim S16384 ![] bcast_S_S16384 (constant (F := Ideal) S_ .f32 0x00000000#32)) := by
  unfold opsB1
  after_results_simp

theorem V4_v16 : V4 m d (tcr main_v53) = parts (ssum (Region3.Z7 (V2 m) d) (aI m d)) := by
  unfold V4
  rw [opsB_split, StableHlo.after_append, after_B2, after_v12, after_v13]

theorem parts_0 (a : Vec Ideal S16384 .f32) (s : Fin 16384) : parts a (ix3 (0 : Fin 2) s (0 : Fin 16)) = a (ix1 s) := by
  unfold parts
  pointwise

theorem parts_1 (a : Vec Ideal S16384 .f32) (s : Fin 16384) : parts a (ix3 (1 : Fin 2) s (0 : Fin 16)) = 0 := by
  unfold parts
  pointwise

theorem ssum_apply (u : Vec Ideal S327680x16 .f32) (I : S327680.Idx → BitVec 32) (s : Fin 16384) :
    ssum u I (ix1 s) = ∑ i : Fin 327680, if (I (ix1 i)).toInt = (s.val : Int) then u (ix2 i (0 : Fin 16)) else 0 := by
  refine (scatter1_apply scatter_S16384_S327680x1_S327680_n_0_0_1 rfl rfl rfl _ _ _ s).trans ?_
  have h0 : broadcastInDim S16384 ![] bcast_S_S16384 (constant (F := Ideal) S_ .f32 0x00000000#32) (ix1 s) = (0 : EReal) := by pointwise
  rw [h0, zero_add]
  refine Finset.sum_congr rfl fun i _ => ?_
  have h1 : broadcastInDim S327680x1 ![0] bcast_S327680_S327680x1_0 I (ix2 i (0 : Fin 1)) = I (ix1 i) := by pointwise
  have h2 : shapeCast S327680 (extractStridedSlice S327680x1 ![0, 0] u slices_S327680x16_S327680x1_0_0) shapeCasts_S327680x1_S327680 (ix1 i) = u (ix2 i (0 : Fin 16)) := by pointwise
  rw [h1, h2]

theorem den_eq (s : Fin 16384) : Region4.den (V4 m d (tcr main_v53)) (V4 m d (tcr main_v36_1)) s = kd m d s := by
  have h7 : V4 m d (tcr main_v36_1) = aze m d := V4_kept m d (by decide)
  unfold Region4.den kd dn
  rw [h7, V4_v16, parts_0, parts_1, ssum_apply, add_zero]
  have hz : ∀ i : Fin 327680, (Region3.Z7 (V2 m) d : S327680x16.Idx → EReal) (ix2 i (0 : Fin 16))
      = ∑ l : Fin 68, zt (aX m d) (aI m d) (aWh m d) (aWx m d) (abx m d) (abt m d) (asc m d) i l :=
    fun i => Finset.sum_congr rfl fun l _ => zent_eq m d i l
  simp only [hz]

/-! ## The denominators' call, the second gather, and the last call -/

theorem V5_v17_0 (s : Fin 16384) (k : Fin 128) : (V5 m d (tcr main_v54_0) : S16384x128.Idx → EReal) (ix2 s k) = kd m d s := by
  have h : V5 m d (tcr main_v54_0) = Region4.G2 (V4 m d (tcr main_v53)) (V4 m d (tcr main_v36_1)) := by
    unfold V5 upd4
    rw [Function.update_of_ne (StableHlo.devRef_ne_of_ne (by decide)), Function.update_self]
    exact Region4.final2 (V4 m) _ _ d
  rw [h, Region4.G2_apply, den_eq]

theorem V5_v17_1 (s : Fin 16384) : (V5 m d (tcr main_v54_1) : S16384x1.Idx → EReal) (ix2 s (0 : Fin 1)) = Ideal.div (aze m d (ix2 s (0 : Fin 1))) (kd m d s) := by
  have h : V5 m d (tcr main_v54_1) = Region4.G3 (V4 m d (tcr main_v53)) (V4 m d (tcr main_v36_1)) := by
    unfold V5 upd4
    rw [Function.update_self]
    exact Region4.final3 (V4 m) _ _ d
  have h7 : V4 m d (tcr main_v36_1) = aze m d := V4_kept m d (by decide)
  rw [h, Region4.G3_apply, den_eq, h7]

theorem V6_v18 (i : Fin 327680) (k : Fin 128) : (V6 m d (tcr main_v55) : S327680x128.Idx → EReal) (ix2 i k) = kd m d (segOf (aI m d (ix1 i))) := by
  have h1 : V5 m d (tcr main_arg2) = aI m d := V5_arg m d (by decide) (by decide)
  unfold V6
  rw [Function.update_self, h1]
  exact (gathered_apply _ _ i k).trans (V5_v17_0 m d _ k)

theorem V6_v5_0 (i : Fin 327680) (l : Fin 68) : (V6 m d (tcr main_v42_0) : S327680x68.Idx → EReal) (ix2 i l) = kz m d i l := by
  have h6 : V6 m d (tcr main_v42_0) = V5 m d (tcr main_v42_0) := by
    unfold V6; rw [Function.update_of_ne (StableHlo.devRef_ne_of_ne (by decide))]
  have h5 : V5 m d (tcr main_v42_0) = V4 m d (tcr main_v42_0) := by
    unfold V5; exact upd4_of_ne _ _ _ (StableHlo.devRef_ne_of_ne (by decide)) (StableHlo.devRef_ne_of_ne (by decide))
  have h4 : V4 m d (tcr main_v42_0) = V3 m d (tcr main_v42_0) := by
    unfold V4 opsB
    after_results_simp
  rw [h6, h5, h4, V3_v5_0]
  exact zent_eq m d i l

theorem nent_eq (i : Fin 327680) (l : Fin 68) : Region6.nent (V6 m) d i l = kz m d i l * Ideal.div 1 (kd m d (segOf (aI m d (ix1 i)))) := by
  unfold Region6.nent Region6.nval
  exact congrArg₂ (fun a b : EReal => a * Ideal.div 1 b) (V6_v5_0 m d i l) (V6_v18 m d i 0)

/-! ## The results -/

theorem V8_connect (i : Fin 327680) (k : Fin 4) :
    (V8 m d (tcr main_v56_0) : S327680x4.Idx → EReal) (ix2 i k) = kz m d i ⟨k.val, by omega⟩ * Ideal.div 1 (kd m d (segOf (aI m d (ix1 i)))) := by
  have h : V8 m d (tcr main_v56_0) = Region6.N2 (V6 m) d := by
    unfold V8 opsC
    after_results_simp
    unfold V7 upd6
    rw [Function.update_of_ne (StableHlo.devRef_ne_of_ne (by decide)), Function.update_self]
    exact Region6.arr2 (V6 m) _ _ d
  rw [h, Region6.N2_apply, nent_eq]

theorem V8_append (i : Fin 327680) (a : Fin 16) (b : Fin 4) :
    (V8 m d (tcr main_v57) : S327680x16x4.Idx → EReal) (ix3 i a b)
      = kz m d i ⟨a.val * 4 + b.val + 4, by omega⟩ * Ideal.div 1 (kd m d (segOf (aI m d (ix1 i)))) := by
  have h : V8 m d (tcr main_v57) = shapeCast S327680x16x4 (Region6.N3 (V6 m) d : Vec Ideal S327680x64 .f32) shapeCasts_S327680x64_S327680x16x4 := by
    have h7 : V7 m d (tcr main_v56_1) = Region6.N3 (V6 m) d := by
      unfold V7 upd6
      rw [Function.update_self]
      exact Region6.arr3 (V6 m) _ _ d
    unfold V8 opsC
    after_results_simp
    rw [h7]
    rfl
  have hs : ∀ x : Vec Ideal S327680x64 .f32, shapeCast S327680x16x4 x shapeCasts_S327680x64_S327680x16x4 (ix3 i a b) = x (ix2 i (⟨a.val * 4 + b.val, by omega⟩ : Fin 64)) := by
    intro x
    pointwise
  rw [h, hs]
  exact (Region6.N3_apply (V6 m) d i _).trans (nent_eq m d i _)

theorem V8_end (s : Fin 16384) : (V8 m d (tcr main_v58) : S16384.Idx → EReal) (ix1 s) = Ideal.div (aze m d (ix2 s (0 : Fin 1))) (kd m d s) := by
  have h : V8 m d (tcr main_v58) = shapeCast S16384 (V5 m d (tcr main_v54_1) : Vec Ideal S16384x1 .f32) shapeCasts_S16384x1_S16384 := by
    have h7 : V7 m d (tcr main_v54_1) = V5 m d (tcr main_v54_1) := by
      unfold V7
      rw [upd6_of_ne _ _ _ (StableHlo.devRef_ne_of_ne (by decide)) (StableHlo.devRef_ne_of_ne (by decide))]
      unfold V6
      rw [Function.update_of_ne (StableHlo.devRef_ne_of_ne (by decide))]
    unfold V8 opsC
    after_results_simp
    rw [h7]
    rfl
  have hs : ∀ x : Vec Ideal S16384x1 .f32, shapeCast S16384 x shapeCasts_S16384x1_S16384 (ix1 s) = x (ix2 s (0 : Fin 1)) := by
    intro x
    pointwise
  rw [h, hs]
  exact V5_v17_1 m d s

end Cert.Proof

end
-- ==== Proof.Tables.lean ====
/-
  The arrays the host computes for the tables' call, entry by entry over the reals: the segments' sums and counts, the
  transposed weights, and the squares' sums of the first call.
-/
module

public import proofs.«01_k».proof.Proof.Sums
public import proofs.«01_k».proof.Proof.KSide

@[expose] public section

set_option maxRecDepth 16384

noncomputable section

namespace Cert.Proof

open Cert.KernelIdeal Cert.KernelIdeal.Gen
open Idealize.ShloMosaic Idealize.ShloMosaic.Tactic

section Two

variable {S N C : ℕ} (d : ScatterDims (Sh2 S C) (Sh2 N 1) (Sh2 N C)) (huw : d.updateWindowDims = [1]) (hiw : d.insertedWindowDims = [0])
  (hsd : d.scatterDimsToOperandDims = [0]) (hivd : d.indexVectorDim = 1) (idx : IVec (Sh2 N 1) 32)

include huw hiw in
theorem window2 (u : (Sh2 N C).Idx) : d.window u 0 = 0 ∧ d.window u 1 = (u 1).val := by
  obtain ⟨uw, iw, sd, iv, wf⟩ := d
  simp only at huw hiw
  subst huw hiw
  exact ⟨rfl, rfl⟩

include huw hsd hivd in
theorem start2 (u : (Sh2 N C).Idx) : d.start u idx 0 = (idx (ix2 (u 0) (0 : Fin 1))).toInt ∧ d.start u idx 1 = 0 := by
  obtain ⟨uw, iw, sd, iv, wf⟩ := d
  simp only at huw hsd hivd
  subst huw hsd hivd
  refine ⟨?_, rfl⟩
  unfold ScatterDims.start
  rw [dif_pos (List.mem_singleton.2 rfl)]
  refine congrArg (fun z => (idx z).toInt) (funext fun a => Fin.ext ?_)
  match a with
  | ⟨0, _⟩ => rfl
  | ⟨1, _⟩ => rfl

include huw hiw hsd hivd in
theorem lands2 (u : (Sh2 N C).Idx) (x : Fin S) (l : Fin C) :
    d.resultIdx? u idx = some (ix2 x l) ↔ (idx (ix2 (u 0) (0 : Fin 1))).toInt = (x.val : Int) ∧ @Eq (Fin C) (u 1) l := by
  obtain ⟨hw0, hw1⟩ := window2 d huw hiw u
  obtain ⟨hs0, hs1⟩ := start2 d huw hsd hivd idx u
  have hx := x.isLt
  have hu1 : (u 1).val < C := (u 1).isLt
  unfold ScatterDims.resultIdx?
  split
  · next h =>
    have h0 := h 0
    rw [hs0, hw0] at h0
    constructor
    · intro e
      have e0 := congrArg Fin.val (congrFun (Option.some.inj e) 0)
      have e1 := congrArg Fin.val (congrFun (Option.some.inj e) 1)
      change (d.start u idx 0 + (d.window u 0 : Int)).toNat = x.val at e0
      change (d.start u idx 1 + (d.window u 1 : Int)).toNat = l.val at e1
      rw [hs0, hw0] at e0
      rw [hs1, hw1] at e1
      exact ⟨by omega, Fin.ext (by omega)⟩
    · rintro ⟨e, rfl⟩
      refine congrArg some (funext fun a => Fin.ext ?_)
      match a with
      | ⟨0, _⟩ =>
        show (d.start u idx 0 + (d.window u 0 : Int)).toNat = x.val
        rw [hs0, hw0]; omega
      | ⟨1, _⟩ =>
        show (d.start u idx 1 + (d.window u 1 : Int)).toNat = (u 1).val
        rw [hs1, hw1]; omega
  · next h =>
    constructor
    · intro e; cases e
    · rintro ⟨e, -⟩
      refine (h fun a => ?_).elim
      match a with
      | ⟨0, _⟩ =>
        show 0 ≤ d.start u idx 0 + (d.window u 0 : Int) ∧ d.start u idx 0 + (d.window u 0 : Int) < (S : Int)
        rw [hs0, hw0]; omega
      | ⟨1, _⟩ =>
        show 0 ≤ d.start u idx 1 + (d.window u 1 : Int) ∧ d.start u idx 1 + (d.window u 1 : Int) < (C : Int)
        rw [hs1, hw1]; omega

/-- The indices of a table by their row and column. -/
def cells : (Sh2 N C).Idx ≃ Fin N × Fin C where
  toFun j := (j 0, j 1)
  invFun p := ix2 p.1 p.2
  left_inv j := by
    funext a
    match a with
    | ⟨0, _⟩ => rfl
    | ⟨1, _⟩ => rfl
  right_inv _ := rfl

include huw hiw hsd hivd in
/-- Rows added into a table. -/
theorem scatter2_apply (x : (Sh2 S C).Idx → EReal) (u : (Sh2 N C).Idx → EReal) (s : Fin S) (l : Fin C) :
    Ideal.hostScatterAdd d x idx u (ix2 s l)
      = x (ix2 s l) + ∑ i : Fin N, if (idx (ix2 i (0 : Fin 1))).toInt = (s.val : Int) then u (ix2 i l) else 0 := by
  unfold Ideal.hostScatterAdd
  rw [Finset.sum_filter]
  refine congrArg _ ((Fintype.sum_equiv cells _ (fun p : Fin N × Fin C =>
    if (idx (ix2 p.1 (0 : Fin 1))).toInt = (s.val : Int) ∧ p.2 = l then u (ix2 p.1 p.2) else 0) fun j => ?_).trans ?_)
  · obtain ⟨i, k, hj⟩ : ∃ (i : Fin N) (k : Fin C), j = ix2 i k := ⟨j 0, j 1, (cells.left_inv j).symm⟩
    subst hj
    have e := lands2 d huw hiw hsd hivd idx (ix2 i k) s l
    show (if _ then _ else _) = if (idx (ix2 i (0 : Fin 1))).toInt = (s.val : Int) ∧ k = l then u (ix2 i k) else 0
    exact if_congr e rfl rfl
  · rw [Fintype.sum_prod_type]
    refine Finset.sum_congr rfl fun i _ => ?_
    by_cases h : (idx (ix2 i (0 : Fin 1))).toInt = (s.val : Int)
    · simp only [h, true_and, if_true]
      exact (Finset.sum_ite_eq' Finset.univ l fun k => u (ix2 i k)).trans (if_pos (Finset.mem_univ l))
    · simp only [h, false_and, if_false, Finset.sum_const_zero]

end Two

section

variable {F : FTy → Type} [FloatOps F]

/-- The host operations before the first call, in four parts. -/
def opsP1 : List (HloOp τ sig (Elt F)) :=
  [StableHlo.nullary main_cst (constant S_ .f32 0x00000000#32),
   StableHlo.unary main_cst main_v0 (broadcastInDim S128x64 ![] bcast_S_S128x64 : (⟨S_, .f32⟩ : BufTy).Contents (Elt F) → (⟨S128x64, .f32⟩ : BufTy).Contents (Elt F)),
   StableHlo.nullary main_cst_0 (constant S_ .f32 0x00000000#32),
   StableHlo.unary main_cst_0 main_v1 (broadcastInDim S128x16 ![] bcast_S_S128x16 : (⟨S_, .f32⟩ : BufTy).Contents (Elt F) → (⟨S128x16, .f32⟩ : BufTy).Contents (Elt F)),
   StableHlo.nullary main_cst_1 (constant S_ .f32 0x3F800000#32),
   StableHlo.unary main_cst_1 main_v2 (broadcastInDim S128x16 ![] bcast_S_S128x16 : (⟨S_, .f32⟩ : BufTy).Contents (Elt F) → (⟨S128x16, .f32⟩ : BufTy).Contents (Elt F)),
   StableHlo.nullary main_cst_2 (constant S_ .f32 0x00000000#32),
   StableHlo.unary main_cst_2 main_v3 (broadcastInDim S16384x64 ![] bcast_S_S16384x64 : (⟨S_, .f32⟩ : BufTy).Contents (Elt F) → (⟨S16384x64, .f32⟩ : BufTy).Contents (Elt F)),
   StableHlo.unary main_arg2 main_v4 (broadcastInDim S327680x1 ![0] bcast_S327680_S327680x1_0 : (⟨S327680, .i32⟩ : BufTy).Contents (Elt F) → (⟨S327680x1, .i32⟩ : BufTy).Contents (Elt F)),
   StableHlo.ternary main_v3 main_v4 main_arg0 main_v5 ((fun x i u => Host.scatterAdd scatter_S16384x64_S327680x1_S327680x64_1_0_0_1 x i u) : (⟨S16384x64, .f32⟩ : BufTy).Contents (Elt F) → (⟨S327680x1, .i32⟩ : BufTy).Contents (Elt F) → (⟨S327680x64, .f32⟩ : BufTy).Contents (Elt F) → (⟨S16384x64, .f32⟩ : BufTy).Contents (Elt F)),
   StableHlo.nullary main_cst_3 (constant S_ .f32 0x3F800000#32),
   StableHlo.unary main_cst_3 main_v6 (broadcastInDim S327680 ![] bcast_S_S327680 : (⟨S_, .f32⟩ : BufTy).Contents (Elt F) → (⟨S327680, .f32⟩ : BufTy).Contents (Elt F)),
   StableHlo.nullary main_cst_4 (constant S_ .f32 0x00000000#32),
   StableHlo.unary main_cst_4 main_v7 (broadcastInDim S16384 ![] bcast_S_S16384 : (⟨S_, .f32⟩ : BufTy).Contents (Elt F) → (⟨S16384, .f32⟩ : BufTy).Contents (Elt F)),
   StableHlo.unary main_arg2 main_v8 (broadcastInDim S327680x1 ![0] bcast_S327680_S327680x1_0 : (⟨S327680, .i32⟩ : BufTy).Contents (Elt F) → (⟨S327680x1, .i32⟩ : BufTy).Contents (Elt F)),
   StableHlo.ternary main_v7 main_v8 main_v6 main_v9 ((fun x i u => Host.scatterAdd scatter_S16384_S327680x1_S327680_n_0_0_1 x i u) : (⟨S16384, .f32⟩ : BufTy).Contents (Elt F) → (⟨S327680x1, .i32⟩ : BufTy).Contents (Elt F) → (⟨S327680, .f32⟩ : BufTy).Contents (Elt F) → (⟨S16384, .f32⟩ : BufTy).Contents (Elt F)),
   StableHlo.nullary main_cst_5 (constant S_ .f32 0x00000000#32),
   StableHlo.unary main_cst_5 main_v10 (broadcastInDim S16384x64 ![] bcast_S_S16384x64 : (⟨S_, .f32⟩ : BufTy).Contents (Elt F) → (⟨S16384x64, .f32⟩ : BufTy).Contents (Elt F)),
   StableHlo.unary main_v5 main_v11 (broadcastInDim S1x16384x64 ![1, 2] bcast_S16384x64_S1x16384x64_1_2 : (⟨S16384x64, .f32⟩ : BufTy).Contents (Elt F) → (⟨S1x16384x64, .f32⟩ : BufTy).Contents (Elt F)),
   StableHlo.unary main_v10 main_v12 (broadcastInDim S1x16384x64 ![1, 2] bcast_S16384x64_S1x16384x64_1_2 : (⟨S16384x64, .f32⟩ : BufTy).Contents (Elt F) → (⟨S1x16384x64, .f32⟩ : BufTy).Contents (Elt F))]

def opsP2 : List (HloOp τ sig (Elt F)) :=
  [StableHlo.binary main_v11 main_v12 main_v13 ((fun a b => concatenate S2x16384x64 0 [⟨S1x16384x64, a⟩, ⟨S1x16384x64, b⟩] concatenates_S1x16384x64_S1x16384x64_S2x16384x64_d0) : (⟨S1x16384x64, .f32⟩ : BufTy).Contents (Elt F) → (⟨S1x16384x64, .f32⟩ : BufTy).Contents (Elt F) → (⟨S2x16384x64, .f32⟩ : BufTy).Contents (Elt F)),
   StableHlo.nullary main_cst_6 (constant S_ .f32 0x00000000#32),
   StableHlo.unary main_cst_6 main_v14 (broadcastInDim S16384 ![] bcast_S_S16384 : (⟨S_, .f32⟩ : BufTy).Contents (Elt F) → (⟨S16384, .f32⟩ : BufTy).Contents (Elt F)),
   StableHlo.unary main_v9 main_v15 (broadcastInDim S1x16384 ![1] bcast_S16384_S1x16384_1 : (⟨S16384, .f32⟩ : BufTy).Contents (Elt F) → (⟨S1x16384, .f32⟩ : BufTy).Contents (Elt F)),
   StableHlo.unary main_v14 main_v16 (broadcastInDim S1x16384 ![1] bcast_S16384_S1x16384_1 : (⟨S16384, .f32⟩ : BufTy).Contents (Elt F) → (⟨S1x16384, .f32⟩ : BufTy).Contents (Elt F))]

def opsP3 : List (HloOp τ sig (Elt F)) :=
  [StableHlo.binary main_v15 main_v16 main_v17 ((fun a b => concatenate S2x16384 0 [⟨S1x16384, a⟩, ⟨S1x16384, b⟩] concatenates_S1x16384_S1x16384_S2x16384_d0) : (⟨S1x16384, .f32⟩ : BufTy).Contents (Elt F) → (⟨S1x16384, .f32⟩ : BufTy).Contents (Elt F) → (⟨S2x16384, .f32⟩ : BufTy).Contents (Elt F)),
   StableHlo.unary main_v17 main_v18 (broadcastInDim S2x16384x1 ![0, 1] bcast_S2x16384_S2x16384x1_0_1 : (⟨S2x16384, .f32⟩ : BufTy).Contents (Elt F) → (⟨S2x16384x1, .f32⟩ : BufTy).Contents (Elt F)),
   StableHlo.unary main_v18 main_v19 (broadcastInDim S2x16384x16 ![0, 1, 2] bcast_S2x16384x1_S2x16384x16_0_1_2 : (⟨S2x16384x1, .f32⟩ : BufTy).Contents (Elt F) → (⟨S2x16384x16, .f32⟩ : BufTy).Contents (Elt F))]

def opsP4 : List (HloOp τ sig (Elt F)) :=
  [StableHlo.unary main_arg3 main_v20 ((extractStridedSlice S64x64 ![0, 0] · slices_S64x128_S64x64_0_0) : (⟨S64x128, .f32⟩ : BufTy).Contents (Elt F) → (⟨S64x64, .f32⟩ : BufTy).Contents (Elt F)),
   StableHlo.unary main_v20 main_v21 ((transpose S64x64 [1, 0] · transposes_S64x64_S64x64_1_0) : (⟨S64x64, .f32⟩ : BufTy).Contents (Elt F) → (⟨S64x64, .f32⟩ : BufTy).Contents (Elt F))]

theorem opsP_split : (opsP : List (HloOp τ sig (Elt F))) = opsP1 ++ (opsP2 ++ (opsP3 ++ opsP4)) := rfl

end

variable (m : (ℓ : Loc nD τ sig) → Buf (Elt Ideal) ℓ) (d : Dev nD)

abbrev aN : S16384.Idx → BitVec 32 := m ((d.tc : Thread nD τ).loc main_arg1)
abbrev ag : Vec Ideal S64 .f32 := m ((d.tc : Thread nD τ).loc main_arg4)
abbrev ab : Vec Ideal S64 .f32 := m ((d.tc : Thread nD τ).loc main_arg5)
abbrev aWt : Vec Ideal S64x64 .f32 := m ((d.tc : Thread nD τ).loc main_arg6)
abbrev agt : Vec Ideal S64 .f32 := m ((d.tc : Thread nD τ).loc main_arg7)
abbrev abt' : Vec Ideal S64 .f32 := m ((d.tc : Thread nD τ).loc main_arg8)
abbrev aWe : Vec Ideal S1x64 .f32 := m ((d.tc : Thread nD τ).loc main_arg11)
abbrev abe : Vec Ideal S1 .f32 := m ((d.tc : Thread nD τ).loc main_arg12)

/-- A segment's sum of rows, and its count of rows, as the host scatters them. -/
abbrev rowsum (X : Vec Ideal S327680x64 .f32) (I : S327680.Idx → BitVec 32) : Vec Ideal S16384x64 .f32 :=
  Ideal.hostScatterAdd scatter_S16384x64_S327680x1_S327680x64_1_0_0_1 (broadcastInDim S16384x64 ![] bcast_S_S16384x64 (constant (F := Ideal) S_ .f32 0x00000000#32))
    (broadcastInDim S327680x1 ![0] bcast_S327680_S327680x1_0 I) X
abbrev rowcnt (I : S327680.Idx → BitVec 32) : Vec Ideal S16384 .f32 :=
  Ideal.hostScatterAdd scatter_S16384_S327680x1_S327680_n_0_0_1 (broadcastInDim S16384 ![] bcast_S_S16384 (constant (F := Ideal) S_ .f32 0x00000000#32))
    (broadcastInDim S327680x1 ![0] bcast_S327680_S327680x1_0 I) (broadcastInDim S327680 ![] bcast_S_S327680 (constant (F := Ideal) S_ .f32 0x3F800000#32))

theorem rowsum_apply (X : Vec Ideal S327680x64 .f32) (I : S327680.Idx → BitVec 32) (s : Fin 16384) (f : Fin 64) :
    rowsum X I (ix2 s f) = ∑ i : Fin 327680, if (I (ix1 i)).toInt = (s.val : Int) then X (ix2 i f) else 0 := by
  refine (scatter2_apply scatter_S16384x64_S327680x1_S327680x64_1_0_0_1 rfl rfl rfl rfl _ _ _ s f).trans ?_
  have h0 : broadcastInDim S16384x64 ![] bcast_S_S16384x64 (constant (F := Ideal) S_ .f32 0x00000000#32) (ix2 s f) = (0 : EReal) := by pointwise
  rw [h0, zero_add]
  refine Finset.sum_congr rfl fun i _ => ?_
  have h1 : broadcastInDim S327680x1 ![0] bcast_S327680_S327680x1_0 I (ix2 i (0 : Fin 1)) = I (ix1 i) := by pointwise
  rw [h1]

theorem rowcnt_apply (I : S327680.Idx → BitVec 32) (s : Fin 16384) :
    rowcnt I (ix1 s) = (∑ i : Fin 327680, if (I (ix1 i)).toInt = (s.val : Int) then 1 else 0 : EReal) := by
  refine (scatter1_apply scatter_S16384_S327680x1_S327680_n_0_0_1 rfl rfl rfl _ _ _ s).trans ?_
  have h0 : broadcastInDim S16384 ![] bcast_S_S16384 (constant (F := Ideal) S_ .f32 0x00000000#32) (ix1 s) = (0 : EReal) := by pointwise
  rw [h0, zero_add]
  refine Finset.sum_congr rfl fun i _ => ?_
  have h1 : broadcastInDim S327680x1 ![0] bcast_S327680_S327680x1_0 I (ix2 i (0 : Fin 1)) = I (ix1 i) := by pointwise
  have h2 : broadcastInDim S327680 ![] bcast_S_S327680 (constant (F := Ideal) S_ .f32 0x3F800000#32) (ix1 i) = (1 : EReal) := by pointwise
  rw [h1, h2]

/-! ## After the first operations -/

variable (V : Valuation τ sig (Elt Ideal))

theorem P1_v11 : StableHlo.after opsP1 V (tcr main_v11) = broadcastInDim S1x16384x64 ![1, 2] bcast_S16384x64_S1x16384x64_1_2 (rowsum (V (tcr main_arg0)) (V (tcr main_arg2))) := by
  unfold opsP1
  after_results_simp
  rfl
theorem P1_v12 : StableHlo.after opsP1 V (tcr main_v12) = broadcastInDim S1x16384x64 ![1, 2] bcast_S16384x64_S1x16384x64_1_2 (broadcastInDim S16384x64 ![] bcast_S_S16384x64 (constant (F := Ideal) S_ .f32 0x00000000#32)) := by
  unfold opsP1
  after_results_simp
theorem P1_v9 : StableHlo.after opsP1 V (tcr main_v9) = rowcnt (V (tcr main_arg2)) := by
  unfold opsP1
  after_results_simp
  rfl
theorem P2_v13 : StableHlo.after opsP2 V (tcr main_v13) = concatenate S2x16384x64 0 [⟨S1x16384x64, V (tcr main_v11)⟩, ⟨S1x16384x64, V (tcr main_v12)⟩] concatenates_S1x16384x64_S1x16384x64_S2x16384x64_d0 := by
  unfold opsP2
  after_results_simp
theorem P2_v15 : StableHlo.after opsP2 V (tcr main_v15) = broadcastInDim S1x16384 ![1] bcast_S16384_S1x16384_1 (V (tcr main_v9)) := by
  unfold opsP2
  after_results_simp
theorem P2_v16 : StableHlo.after opsP2 V (tcr main_v16) = broadcastInDim S1x16384 ![1] bcast_S16384_S1x16384_1 (broadcastInDim S16384 ![] bcast_S_S16384 (constant (F := Ideal) S_ .f32 0x00000000#32)) := by
  unfold opsP2
  after_results_simp
theorem P3_v19 : StableHlo.after opsP3 V (tcr main_v19) = parts2 (V (tcr main_v15)) (V (tcr main_v16)) := by
  unfold opsP3
  after_results_simp
theorem P3_v13 : StableHlo.after opsP3 V (tcr main_v13) = V (tcr main_v13) := by
  unfold opsP3
  after_results_simp
theorem P4_v13 : StableHlo.after opsP4 V (tcr main_v13) = V (tcr main_v13) := by
  unfold opsP4
  after_results_simp
theorem P4_v19 : StableHlo.after opsP4 V (tcr main_v19) = V (tcr main_v19) := by
  unfold opsP4
  after_results_simp
theorem P4_v21 : StableHlo.after opsP4 V (tcr main_v21) = transpose S64x64 [1, 0] (extractStridedSlice S64x64 ![0, 0] (V (tcr main_arg3) : Vec Ideal S64x128 .f32) slices_S64x128_S64x64_0_0) transposes_S64x64_S64x64_1_0 := by
  unfold opsP4
  after_results_simp
theorem P13_arg3 : StableHlo.after opsP3 (StableHlo.after opsP2 (StableHlo.after opsP1 V)) (tcr main_arg3) = V (tcr main_arg3) := by
  have h3 : ∀ V : Valuation τ sig (Elt Ideal), StableHlo.after opsP3 V (tcr main_arg3) = V (tcr main_arg3) := fun V => by unfold opsP3; after_results_simp
  have h2 : ∀ V : Valuation τ sig (Elt Ideal), StableHlo.after opsP2 V (tcr main_arg3) = V (tcr main_arg3) := fun V => by unfold opsP2; after_results_simp
  have h1 : ∀ V : Valuation τ sig (Elt Ideal), StableHlo.after opsP1 V (tcr main_arg3) = V (tcr main_arg3) := fun V => by unfold opsP1; after_results_simp
  rw [h3, h2, h1]

/-- Two planes, one after the other. -/
abbrev planes (a b : Vec Ideal S1x16384x64 .f32) : Vec Ideal S2x16384x64 .f32 :=
  concatenate S2x16384x64 0 [⟨S1x16384x64, a⟩, ⟨S1x16384x64, b⟩] concatenates_S1x16384x64_S1x16384x64_S2x16384x64_d0

theorem planes_0 (a : Vec Ideal S16384x64 .f32) (b : Vec Ideal S1x16384x64 .f32) (s : Fin 16384) (f : Fin 64) :
    planes (broadcastInDim S1x16384x64 ![1, 2] bcast_S16384x64_S1x16384x64_1_2 a) b (ix3 (0 : Fin 2) s f) = a (ix2 s f) := by
  unfold planes
  pointwise
theorem planes_1 (a : Vec Ideal S1x16384x64 .f32) (s : Fin 16384) (f : Fin 64) :
    planes a (broadcastInDim S1x16384x64 ![1, 2] bcast_S16384x64_S1x16384x64_1_2 (broadcastInDim S16384x64 ![] bcast_S_S16384x64 (constant (F := Ideal) S_ .f32 0x00000000#32))) (ix3 (1 : Fin 2) s f) = (0 : EReal) := by
  unfold planes
  pointwise

theorem U1_v13 : U1 m d (tcr main_v13) = planes (broadcastInDim S1x16384x64 ![1, 2] bcast_S16384x64_S1x16384x64_1_2 (rowsum (aX m d) (aI m d)))
    (broadcastInDim S1x16384x64 ![1, 2] bcast_S16384x64_S1x16384x64_1_2 (broadcastInDim S16384x64 ![] bcast_S_S16384x64 (constant (F := Ideal) S_ .f32 0x00000000#32))) := by
  unfold U1
  rw [opsP_split, StableHlo.after_append, StableHlo.after_append, StableHlo.after_append, P4_v13, P3_v13, P2_v13, P1_v11, P1_v12]
  rfl
theorem U1_v19 : U1 m d (tcr main_v19) = parts (rowcnt (aI m d)) := by
  unfold U1
  rw [opsP_split, StableHlo.after_append, StableHlo.after_append, StableHlo.after_append, P4_v19, P3_v19, P2_v15, P2_v16, P1_v9]
  rfl
theorem U1_v21 : U1 m d (tcr main_v21) = transpose S64x64 [1, 0] (extractStridedSlice S64x64 ![0, 0] (aWh m d) slices_S64x128_S64x64_0_0) transposes_S64x64_S64x64_1_0 := by
  unfold U1
  rw [opsP_split, StableHlo.after_append, StableHlo.after_append, StableHlo.after_append, P4_v21, P13_arg3]
  rfl

theorem v21_apply (f h : Fin 64) : (U1 m d (tcr main_v21) : S64x64.Idx → EReal) (ix2 f h) = aWh m d (ix2 h (⟨f.val, by omega⟩ : Fin 128)) := by
  rw [U1_v21]
  pointwise

/-! ## The squares' call -/

theorem indexQ : ∀ t : Fin cfg0.N, win0_0.index t = ![t.val, 0] ∧ win0_1.index t = ![0, 0] :=
  (by decide +kernel : ∀ t : Fin grid0.N, win0_0.index t = ![t.val, 0] ∧ win0_1.index t = ![0, 0])

theorem blkX (W : Dev nD → Valuation τ sig (Elt Ideal)) (t : Fin cfg0.N) (r : Fin 2048) (f : Fin 64) (hlt : t.val * 2048 + r.val < 327680) :
    Region0.iblk W d 0 t (ix2 r f) = (W d (tcr main_arg0) : S327680x64.Idx → EReal) (ix2 ⟨t.val * 2048 + r.val, hlt⟩ f) := by
  have e : (cfg0.win 0).index t = ![t.val, 0] := (indexQ t).1
  refine congrArg (W d (tcr main_arg0)) (show ((cfg0.win 0).blk t).view.emb (ix2 r f) = _ from ?_)
  blk_ext [e]
theorem blkW (W : Dev nD → Valuation τ sig (Elt Ideal)) (t : Fin cfg0.N) (f h : Fin 64) :
    Region0.iblk W d 1 t (ix2 f h) = (W d (tcr main_v21) : S64x64.Idx → EReal) (ix2 f h) := by
  have e : (cfg0.win 1).index t = ![0, 0] := (indexQ t).2
  refine congrArg (W d (tcr main_v21)) (show ((cfg0.win 1).blk t).view.emb (ix2 f h) = _ from ?_)
  blk_ext [e]

theorem ldX (x : Vec Ideal S2048x64 .f32) (r : Fin 2048) (f : Fin 64) : (View.ld x Region0.qX : Vec Ideal S2048x64 .f32) (ix2 r f) = x (ix2 r f) :=
  congrArg x (funext fun a => match a with
    | ⟨0, _⟩ => Fin.ext (by show 0 + 1 * r.val = r.val; omega)
    | ⟨1, _⟩ => Fin.ext (by show 0 + 1 * f.val = f.val; omega))

theorem accQ_apply (x0 : Vec Ideal S2048x64 .f32) (x1 : Vec Ideal S64x64 .f32) (a : Vec Ideal S8x64 .f32) (h : Fin 64) :
    Region0.accQ x0 x1 a (ix2 0 h) = (a (ix2 0 h) + ∑ r : Fin 2048, (∑ f : Fin 64, x0 (ix2 r f) * x1 (ix2 f h)) * (∑ f : Fin 64, x0 (ix2 r f) * x1 (ix2 f h)) : EReal) := by
  unfold Region0.accQ
  refine (Region1.canon_hit 0 _ _ _ h).trans ((p0 _ _ _ h).trans ?_)
  have e : ∀ r : Fin 2048, (∑ f : Fin 64, (View.ld x0 Region0.qX : Vec Ideal S2048x64 .f32) (ix2 r f) * (View.ld x1 Region1.q3 : Vec Ideal S64x64 .f32) (ix2 f h) : EReal) = ∑ f : Fin 64, x0 (ix2 r f) * x1 (ix2 f h) :=
    fun r => Finset.sum_congr rfl fun f _ => congrArg₂ (fun x y : EReal => x * y) (ldX x0 r f) (Region1.ld3 x1 f h)
  exact congrArg₂ (fun x y : EReal => x + y) (Region1.ldr0 a h) (Finset.sum_congr rfl fun r _ => congrArg₂ (fun x y : EReal => x * y) (e r) (e r))

theorem pay1_zero (k : Fin 8) (h : Fin 64) : k0_pay1 (F := Ideal) (ix2 k h) = (0 : EReal) := by
  unfold k0_pay1; pointwise

/-- A row through the first half of the weights. -/
def lin (X : Vec Ideal S327680x64 .f32) (Wh : Vec Ideal S64x128 .f32) (i : Fin 327680) (h : Fin 64) : EReal := ∑ f : Fin 64, X (ix2 i f) * Wh (ix2 h (⟨f.val, by omega⟩ : Fin 128))

theorem lin_of (X : Vec Ideal S327680x64 .f32) (Wh : Vec Ideal S64x128 .f32) (x0 : Vec Ideal S2048x64 .f32) (x1 : Vec Ideal S64x64 .f32) (r : Fin 2048) (i : Fin 327680) (h : Fin 64)
    (hx : ∀ f : Fin 64, x0 (ix2 r f) = X (ix2 i f)) (hw : ∀ f : Fin 64, x1 (ix2 f h) = Wh (ix2 h (⟨f.val, by omega⟩ : Fin 128))) :
    (∑ f : Fin 64, x0 (ix2 r f) * x1 (ix2 f h) : EReal) = lin X Wh i h :=
  Finset.sum_congr rfl fun f _ => congrArg₂ (fun x y : EReal => x * y) (hx f) (hw f)

theorem sumQ_step (n : ℕ) (hn : n < 160) (h : Fin 64) (hlt : ∀ r : Fin 2048, n * 2048 + r.val < 327680) : Region0.sumQ (U1 m) d (n + 1) (ix2 0 h)
    = (Region0.sumQ (U1 m) d n (ix2 0 h) + ∑ r : Fin 2048, lin (aX m d) (aWh m d) ⟨n * 2048 + r.val, hlt r⟩ h * lin (aX m d) (aWh m d) ⟨n * 2048 + r.val, hlt r⟩ h : EReal) := by
  have hX : U1 m d (tcr main_arg0) = aX m d := U1_kept m d (by decide)
  refine (congrFun (Region0.sumQ_succ (U1 m) d ⟨n, hn⟩) (ix2 0 h)).trans ((accQ_apply _ _ _ h).trans ?_)
  refine congrArg (fun x : EReal => _ + x) (Finset.sum_congr rfl fun r _ => ?_)
  have e := lin_of (aX m d) (aWh m d) (Region0.iblk (U1 m) d 0 ⟨n, hn⟩) (Region0.iblk (U1 m) d 1 ⟨n, hn⟩) r ⟨n * 2048 + r.val, hlt r⟩ h
    (fun f => (blkX d (U1 m) ⟨n, hn⟩ r f (hlt r)).trans (congrFun hX _)) (fun f => (blkW d (U1 m) ⟨n, hn⟩ f h).trans (v21_apply m d f h))
  exact congrArg₂ (fun x y : EReal => x * y) e e

theorem sumQ_0 (h : Fin 64) : Region0.sumQ (U1 m) d 160 (ix2 0 h) = (∑ i : Fin 327680, lin (aX m d) (aWh m d) i h * lin (aX m d) (aWh m d) i h : EReal) :=
  Region1.sum_blocks 160 2048 rfl (fun i => lin (aX m d) (aWh m d) i h * lin (aX m d) (aWh m d) i h) (fun n => Region0.sumQ (U1 m) d n (ix2 0 h)) (pay1_zero 0 h)
    fun n hn => sumQ_step m d n hn h fun r => by have := r.isLt; omega

/-! ## The tables' call's arrays -/

theorem U2_v22 : U2 m d (tcr main_v22) = Region0.sumQ (U1 m) d 160 := by
  unfold U2 upd0
  rw [Function.update_self]

theorem U3_0 : U3 m d (tcr main_v13) = U1 m d (tcr main_v13) := by
  have h : U2 m d (tcr main_v13) = U1 m d (tcr main_v13) := by unfold U2; exact upd0_of_ne _ _ _ (StableHlo.devRef_ne_of_ne (by decide))
  unfold U3 opsQ
  after_results_simp
  exact h
theorem U3_1 : U3 m d (tcr main_v19) = U1 m d (tcr main_v19) := by
  have h : U2 m d (tcr main_v19) = U1 m d (tcr main_v19) := by unfold U2; exact upd0_of_ne _ _ _ (StableHlo.devRef_ne_of_ne (by decide))
  unfold U3 opsQ
  after_results_simp
  exact h
theorem U3_12 : U3 m d (tcr main_v22) = Region0.sumQ (U1 m) d 160 := by
  unfold U3 opsQ
  after_results_simp
  exact U2_v22 m d

open Region1 in
theorem A0_0 (s : Fin 16384) (f : Fin 64) : A0 (U3 m) d (ix3 0 s f) = ∑ i : Fin 327680, if (aI m d (ix1 i)).toInt = (s.val : Int) then aX m d (ix2 i f) else 0 := by
  unfold A0
  rw [show U3 m d (Proc.devRef .tc main_v13) = _ from (U3_0 m d).trans (U1_v13 m d), planes_0, rowsum_apply]
open Region1 in
theorem A0_1 (s : Fin 16384) (f : Fin 64) : A0 (U3 m) d (ix3 1 s f) = (0 : EReal) := by
  unfold A0
  rw [show U3 m d (Proc.devRef .tc main_v13) = _ from (U3_0 m d).trans (U1_v13 m d), planes_1]
open Region1 in
theorem A1_0 (s : Fin 16384) : A1 (U3 m) d (ix3 0 s 0) = (∑ i : Fin 327680, if (aI m d (ix1 i)).toInt = (s.val : Int) then 1 else 0 : EReal) := by
  unfold A1
  rw [show U3 m d (Proc.devRef .tc main_v19) = _ from (U3_1 m d).trans (U1_v19 m d), parts_0, rowcnt_apply]
open Region1 in
theorem A1_1 (s : Fin 16384) : A1 (U3 m) d (ix3 1 s 0) = (0 : EReal) := by
  unfold A1
  rw [show U3 m d (Proc.devRef .tc main_v19) = _ from (U3_1 m d).trans (U1_v19 m d), parts_1]
open Region1 in
theorem A12_0 (h : Fin 64) : A12 (U3 m) d (ix2 0 h) = (∑ i : Fin 327680, lin (aX m d) (aWh m d) i h * lin (aX m d) (aWh m d) i h : EReal) := by
  unfold A12
  rw [show U3 m d (Proc.devRef .tc main_v22) = _ from U3_12 m d, sumQ_0]
open Region1 in
theorem A2_at (s : Fin 16384) : A2 (U3 m) d (ix2 s 0) = FloatOps.sitofp (F := Ideal) .f32 (aN m d (ix1 s)) := by
  have h : U2 m d (tcr main_arg1) = m ((d.tc : Thread nD τ).loc main_arg1) := U2_kept m d (by decide)
  unfold A2 U3 opsQ
  after_results_simp
  rw [h]
  pointwise
open Region1 in
theorem A3_at (f h : Fin 64) : A3 (U3 m) d (ix2 f h) = aWh m d (ix2 h (⟨f.val, by omega⟩ : Fin 128)) := by
  have h : U2 m d (tcr main_arg3) = m ((d.tc : Thread nD τ).loc main_arg3) := U2_kept m d (by decide)
  unfold A3 U3 opsQ
  after_results_simp
  rw [h]
  pointwise
open Region1 in
theorem A4_at (f h : Fin 64) : A4 (U3 m) d (ix2 f h) = aWh m d (ix2 h (⟨64 + f.val, by omega⟩ : Fin 128)) := by
  have h : U2 m d (tcr main_arg3) = m ((d.tc : Thread nD τ).loc main_arg3) := U2_kept m d (by decide)
  unfold A4 U3 opsQ
  after_results_simp
  rw [h]
  pointwise
open Region1 in
theorem A5_at (f h : Fin 64) : A5 (U3 m) d (ix2 f h) = aWt m d (ix2 h f) := by
  have h : U2 m d (tcr main_arg6) = m ((d.tc : Thread nD τ).loc main_arg6) := U2_kept m d (by decide)
  unfold A5 U3 opsQ
  after_results_simp
  rw [h]
  pointwise
open Region1 in
theorem A6_at (h : Fin 64) : A6 (U3 m) d (ix2 0 h) = ag m d (ix1 h) := by
  have h : U2 m d (tcr main_arg4) = m ((d.tc : Thread nD τ).loc main_arg4) := U2_kept m d (by decide)
  unfold A6 U3 opsQ
  after_results_simp
  rw [h]
  pointwise
open Region1 in
theorem A7_at (h : Fin 64) : A7 (U3 m) d (ix2 0 h) = ab m d (ix1 h) := by
  have h : U2 m d (tcr main_arg5) = m ((d.tc : Thread nD τ).loc main_arg5) := U2_kept m d (by decide)
  unfold A7 U3 opsQ
  after_results_simp
  rw [h]
  pointwise
open Region1 in
theorem A8_at (h : Fin 64) : A8 (U3 m) d (ix2 0 h) = agt m d (ix1 h) := by
  have h : U2 m d (tcr main_arg7) = m ((d.tc : Thread nD τ).loc main_arg7) := U2_kept m d (by decide)
  unfold A8 U3 opsQ
  after_results_simp
  rw [h]
  pointwise
open Region1 in
theorem A9_at (h : Fin 64) : A9 (U3 m) d (ix2 0 h) = abt' m d (ix1 h) := by
  have h : U2 m d (tcr main_arg8) = m ((d.tc : Thread nD τ).loc main_arg8) := U2_kept m d (by decide)
  unfold A9 U3 opsQ
  after_results_simp
  rw [h]
  pointwise
open Region1 in
theorem A10_at (h : Fin 64) : A10 (U3 m) d (ix2 h 0) = aWe m d (ix2 0 h) := by
  have h : U2 m d (tcr main_arg11) = m ((d.tc : Thread nD τ).loc main_arg11) := U2_kept m d (by decide)
  unfold A10 U3 opsQ
  after_results_simp
  rw [h]
  pointwise
open Region1 in
theorem A11_at  : A11 (U3 m) d (ix2 0 0) = abe m d (ix1 0) := by
  have h : U2 m d (tcr main_arg12) = m ((d.tc : Thread nD τ).loc main_arg12) := U2_kept m d (by decide)
  unfold A11 U3 opsQ
  after_results_simp
  rw [h]
  pointwise

end Cert.Proof

end
-- ==== Proof.RSide.lean ====
/-
  The reference's three results, entry by entry over the reals, from its arguments, the list of segments lying in range.
-/
module

public import proofs.«01_k».proof.Proof.NormR
public import proofs.«01_k».proof.Proof.Tables
public import proofs.«01_k».proof.Proof.Scatter
public import proofs.«01_k».proof.Proof.Spec
public import proofs.«01_k».proof.Proof.Gen.ReferenceIdeal
public import Idealize.ShloMosaic.Lib.Routing.Ops

@[expose] public section

noncomputable section

namespace Cert.Proof.Ref

open Cert.ReferenceIdeal Cert.ReferenceIdeal.Gen
open Idealize.ShloMosaic Idealize.ShloMosaic.Tactic

/-- A table of single entries read by one row number each: where the index holds the row number `b`, the result holds
    the table's entry `b`. -/
theorem gather_unit {α : Type} {nb n : ℕ} (d : GatherDims (Sh3 nb 1 1) (Sh2 n 1) (Sh3 n 1 1)) (hoff : d.offsetDims = [1, 2])
    (hcoll : d.collapsedSliceDims = [0]) (hob : d.operandBatchingDims = []) (hsim : d.startIndexMap = [0]) (hivd : d.indexVectorDim = 1)
    (x : (Sh3 nb 1 1).Idx → α) (idx : IVec (Sh2 n 1) 32) (c : Fin n) (b : Fin nb) (hb : (idx (ix2 c (0 : Fin 1))).toInt = (b.val : Int)) :
    Host.gather d x idx (ix3 c (0 : Fin 1) (0 : Fin 1)) = x (ix3 b (0 : Fin 1) (0 : Fin 1)) := by
  unfold Host.gather
  refine congrArg x (funext fun a => ?_)
  match a with
  | ⟨1, _⟩ => exact Subsingleton.elim (α := Fin 1) _ _
  | ⟨2, _⟩ => exact Subsingleton.elim (α := Fin 1) _ _
  | ⟨0, _⟩ =>
    apply Fin.ext
    have hbatch : ∀ k ∈ d.batchDims, k = (0 : Fin 3) := fun k hk => by
      have hk' : k ∉ d.offsetDims := of_decide_eq_true (List.mem_filter.1 hk).2
      rw [hoff] at hk'
      have h1 : k.val ≠ 1 := fun e => hk' (List.mem_cons.2 (Or.inl (Fin.ext e)))
      have h2 : k.val ≠ 2 := fun e => hk' (List.mem_cons.2 (Or.inr (List.mem_singleton.2 (Fin.ext e))))
      have h3 : k.val < 3 := k.isLt
      exact Fin.ext (by show k.val = 0; omega)
    have hrow : ∀ q : Fin 3, q = 0 → (ix3 c (0 : Fin 1) (0 : Fin 1) q).val = c.val := fun q h => by subst h; rfl
    have hc : (0 : Fin 3) ∈ d.collapsedSliceDims := by rw [hcoll]; exact List.mem_singleton.2 rfl
    have hm : (0 : Fin 3) ∈ d.startIndexMap := by rw [hsim]; exact List.mem_singleton.2 rfl
    have hk : (0 : Fin 3) ∉ d.sKept := fun h => ((d.mem_sKept 0).1 h).1 hc
    have hn : (0 : Fin 3) ∉ d.operandBatchingDims := by rw [hob]; exact List.not_mem_nil
    show d.start (ix3 c (0 : Fin 1) (0 : Fin 1)) idx 0 + d.batchCoord (ix3 c (0 : Fin 1) (0 : Fin 1)) 0 + d.offCoord (ix3 c (0 : Fin 1) (0 : Fin 1)) 0 = b.val
    rw [d.batchCoord_eq_zero _ _ hn, d.offCoord_eq_zero _ _ hk]
    unfold GatherDims.start
    rw [dif_pos hm]
    have hat : d.siIdx (ix3 c (0 : Fin 1) (0 : Fin 1)) ⟨d.startIndexMap.idxOf 0, List.idxOf_lt_length_iff.2 hm⟩ = ix2 c (0 : Fin 1) := by
      funext q
      match q with
      | ⟨1, _⟩ => exact Subsingleton.elim (α := Fin 1) _ _
      | ⟨0, _⟩ =>
        apply Fin.ext
        unfold GatherDims.siIdx
        rw [dif_neg (by rw [hivd]; exact Nat.zero_ne_one)]
        unfold GatherDims.siCoord
        simp only [Fin.val_cast]
        exact hrow _ (hbatch _ (List.getElem_mem _))
    have hbl := b.isLt
    rw [hat, hb, d.slice_collapsed 0 hc]
    show min ((b.val : Int)).toNat (nb - 1) + 0 + 0 = b.val
    omega

variable (X : Vec Ideal S327680x64 .f32) (I : S327680.Idx → BitVec 32) (Wh : Vec Ideal S64x128 .f32) (Wx : Vec Ideal S68x64 .f32)
  (bx : Vec Ideal S68 .f32) (bt : Vec Ideal Cert.KernelIdeal.S16384x128 .f32) (sc : Vec Ideal Cert.KernelIdeal.S8x64 .f32) (ze : Vec Ideal S16384x1 .f32)
  (hI : ∀ j, (I j).toNat < 16384)

/-- The list of segments, negative numbers wrapped, as a column. -/
abbrev wrapped : IVec S327680x1 32 :=
  broadcastInDim S327680x1 ![0] bcast_S327680_S327680x1_0
    (select (cmpi .slt I (broadcastInDim S327680 ![] bcast_S_S327680 (constantI S_ 32 0#32)))
      (addi I (broadcastInDim S327680 ![] bcast_S_S327680 (constantI S_ 32 16384#32))) I)

include hI in
theorem wrapped_apply (i : Fin 327680) : wrapped I (ix2 i (0 : Fin 1)) = I (ix1 i) := by
  have hw := hI (ix1 i)
  have hs : IntOp.cmpi .slt (I (ix1 i)) 0#32 = 0#1 := by
    simp only [IntOp.cmpi, BitVec.slt_eq_decide, BitVec.toInt_eq_toNat_cond, BitVec.toNat_ofNat]
    rw [decide_eq_false (by split <;> omega)]
    rfl
  have hl : ∀ f : S327680.Idx → BitVec 32, broadcastInDim S327680x1 ![0] bcast_S327680_S327680x1_0 f (ix2 i (0 : Fin 1)) = f (ix1 i) := by
    intro f
    refine congrArg f (funext fun a => Fin.ext ?_)
    match a with
    | ⟨0, _⟩ => rfl
  refine (hl _).trans ?_
  simp only [select, cmpi, broadcastInDim, constantI, hs]
  simp [Scalar.select]

include hI in
theorem seg_val (i : Fin 327680) : (segOf (I (ix1 i))).val = (I (ix1 i)).toNat := Nat.mod_eq_of_lt (hI (ix1 i))

include hI in
theorem seg_ofNat (i : Fin 327680) : I (ix1 i) = BitVec.ofNat 32 (segOf (I (ix1 i))).val := by
  rw [seg_val I hI i, BitVec.ofNat_toNat, BitVec.setWidth_eq]

include hI in
theorem seg_toInt (i : Fin 327680) : (I (ix1 i)).toInt = ((segOf (I (ix1 i))).val : Int) := by
  have hw := hI (ix1 i)
  rw [seg_val I hI i, BitVec.toInt_eq_toNat_cond]
  split <;> omega

/-! ## The segments' ends -/

section Ends

variable (NX : S16384.Idx → BitVec 32) (g b : Vec Ideal S64 .f32) (Wt : Vec Ideal S64x64 .f32) (gt bt' : Vec Ideal S64 .f32) (We : Vec Ideal S1x64 .f32) (be : Vec Ideal S1 .f32)

/-- The segments' sums, each divided by its segment's number of points. -/
abbrev ends : Vec Ideal S16384x64 .f32 :=
  Host.divf (F := Ideal) (φ := .f32) (Host.scatterAdd (F := Ideal) (φ := .f32) scatter_S16384x64_S327680x1_S327680x64_1_0_0_1 (broadcastInDim S16384x64 ![] bcast_S_S16384x64 (constant (F := Ideal) S_ .f32 0x00000000#32))
      (broadcastInDim S327680x1 ![0] bcast_S327680_S327680x1_0 I) X)
    (broadcastInDim S16384x64 ![0, 1] bcast_S16384x1_S16384x64_0_1 (sitofp (F := Ideal) .f32 (broadcastInDim S16384x1 ![0] bcast_S16384_S16384x1_0 NX)))

/-- One entry of a segment's end. -/
def xe (s : Fin 16384) (f : Fin 64) : EReal :=
  Ideal.div (∑ i : Fin 327680, if (I (ix1 i)).toInt = (s.val : Int) then (X (ix2 i f) : EReal) else 0) (FloatOps.sitofp (F := Ideal) .f32 (NX (ix1 s)))

theorem ends_apply (s : Fin 16384) (f : Fin 64) : ends X I NX (ix2 s f) = xe X I NX s f := by
  have e : ∀ u : Vec Ideal S16384x64 .f32, Host.divf (F := Ideal) (φ := .f32) u (broadcastInDim S16384x64 ![0, 1] bcast_S16384x1_S16384x64_0_1 (sitofp (F := Ideal) .f32 (broadcastInDim S16384x1 ![0] bcast_S16384_S16384x1_0 NX))) (ix2 s f)
      = Ideal.div (u (ix2 s f)) (FloatOps.sitofp (F := Ideal) .f32 (NX (ix1 s))) := by
    intro u
    pointwise
  refine (e _).trans (congrArg (fun z : EReal => Ideal.div z (FloatOps.sitofp (F := Ideal) .f32 (NX (ix1 s)))) ?_)
  refine (scatter2_apply scatter_S16384x64_S327680x1_S327680x64_1_0_0_1 rfl rfl rfl rfl _ _ _ s f).trans ?_
  have h0 : broadcastInDim S16384x64 ![] bcast_S_S16384x64 (constant (F := Ideal) S_ .f32 0x00000000#32) (ix2 s f) = (0 : EReal) := by pointwise
  rw [h0, zero_add]
  refine Finset.sum_congr rfl fun i _ => ?_
  have h1 : broadcastInDim S327680x1 ![0] bcast_S327680_S327680x1_0 I (ix2 i (0 : Fin 1)) = I (ix1 i) := by pointwise
  rw [h1]

/-! ## The rows before they are normalised -/

/-- The rows of features beside their segments' ends. -/
abbrev pairs : Vec Ideal S327680x128 .f32 :=
  concatenate S327680x128 1 [⟨S327680x64, X⟩, ⟨S327680x64, (Host.gather gather_S16384x64_S327680x1_S327680x64_1_0_n_n_0_1_164 (ends X I NX) (wrapped I) : Vec Ideal S327680x64 .f32)⟩] concatenates_S327680x64_S327680x64_S327680x128_d1

/-- The rows' products with the weights. -/
abbrev ytab : Vec Ideal S327680x64 .f32 :=
  Host.dotGeneral (F := Ideal) (φ₁ := .f32) (φ₂ := .f32) dot_S327680x128_S128x64_S327680x64_1_0_0_1_n_n none (pairs X I NX) (transpose S128x64 [1, 0] Wh transposes_S64x128_S128x64_1_0)

theorem cat_left (G : Vec Ideal S327680x64 .f32) (i : Fin 327680) (f : Fin 64) :
    concatenate S327680x128 1 [⟨S327680x64, X⟩, ⟨S327680x64, G⟩] concatenates_S327680x64_S327680x64_S327680x128_d1 (ix2 i (⟨f.val, by omega⟩ : Fin 128)) = X (ix2 i f) := by
  pointwise

theorem cat_right (G : Vec Ideal S327680x64 .f32) (i : Fin 327680) (f : Fin 64) :
    concatenate S327680x128 1 [⟨S327680x64, X⟩, ⟨S327680x64, G⟩] concatenates_S327680x64_S327680x64_S327680x128_d1 (ix2 i (⟨64 + f.val, by omega⟩ : Fin 128)) = G (ix2 i f) := by
  pointwise

theorem dot_y (P : Vec Ideal S327680x128 .f32) (i : Fin 327680) (h : Fin 64) :
    (Host.dotGeneral (F := Ideal) (φ₁ := .f32) (φ₂ := .f32) dot_S327680x128_S128x64_S327680x64_1_0_0_1_n_n none P (transpose S128x64 [1, 0] Wh transposes_S64x128_S128x64_1_0) : Vec Ideal S327680x64 .f32) (ix2 i h)
      = ∑ k : Fin 128, (P (ix2 i k) : EReal) * Wh (ix2 h k) := by
  pointwise

theorem sum_halves (u : Fin 128 → EReal) : ∑ k : Fin 128, u k = (∑ f : Fin 64, u ⟨f.val, by omega⟩) + ∑ f : Fin 64, u ⟨64 + f.val, by omega⟩ :=
  Fin.sum_univ_add (a := 64) (b := 64) u

/-- One entry of a segment's end's product with the second half of the weights. -/
def off (s : Fin 16384) (h : Fin 64) : EReal := ∑ f : Fin 64, xe X I NX s f * Wh (ix2 h (⟨64 + f.val, by omega⟩ : Fin 128))

include hI in
theorem ytab_apply (i : Fin 327680) (h : Fin 64) :
    ytab X I Wh NX (ix2 i h) = (∑ f : Fin 64, (X (ix2 i f) : EReal) * Wh (ix2 h (⟨f.val, by omega⟩ : Fin 128))) + off X I Wh NX (segOf (I (ix1 i))) h := by
  refine (dot_y Wh _ i h).trans ((sum_halves _).trans ?_)
  refine congrArg₂ (fun x y : EReal => x + y) (Finset.sum_congr rfl fun f _ => ?_) (Finset.sum_congr rfl fun f _ => ?_)
  · exact congrArg (fun z : EReal => z * Wh (ix2 h (⟨f.val, by omega⟩ : Fin 128))) (cat_left X _ i f)
  · refine congrArg (fun z : EReal => z * Wh (ix2 h (⟨64 + f.val, by omega⟩ : Fin 128))) ((cat_right X _ i f).trans ?_)
    refine (Idealize.ShloMosaic.Routing.gather_row _ rfl rfl rfl rfl rfl _ _ i f (segOf (I (ix1 i))) ?_ (by decide)).trans (ends_apply X I NX _ f)
    exact (wrapped_apply I hI i).trans (seg_ofNat I hI i)

/-- The ends' products with the end's weights. -/
abbrev etab : Vec Ideal S16384x64 .f32 :=
  Host.dotGeneral (F := Ideal) (φ₁ := .f32) (φ₂ := .f32) dot_S16384x64_S64x64_S16384x64_1_0_0_1_n_n none (ends X I NX) (transpose S64x64 [1, 0] Wt transposes_S64x64_S64x64_1_0)

theorem etab_apply (s : Fin 16384) (h : Fin 64) : etab X I NX Wt (ix2 s h) = ∑ f : Fin 64, xe X I NX s f * Wt (ix2 h f) := by
  have e : ∀ P : Vec Ideal S16384x64 .f32, (Host.dotGeneral (F := Ideal) (φ₁ := .f32) (φ₂ := .f32) dot_S16384x64_S64x64_S16384x64_1_0_0_1_n_n none P (transpose S64x64 [1, 0] Wt transposes_S64x64_S64x64_1_0) : Vec Ideal S16384x64 .f32) (ix2 s h)
      = ∑ f : Fin 64, (P (ix2 s f) : EReal) * Wt (ix2 h f) := by
    intro P
    pointwise
  refine (e _).trans (Finset.sum_congr rfl fun f _ => ?_)
  exact congrArg (fun z : EReal => z * Wt (ix2 h f)) (ends_apply X I NX s f)

/-! ## The exponentials -/

abbrev ztab : Vec Ideal S327680x68 .f32 :=
  Host.exp (F := Ideal) (φ := .f32) (addf (F := Ideal) (φ := .f32) (Host.dotGeneral (F := Ideal) (φ₁ := .f32) (φ₂ := .f32) dot_S327680x64_S64x68_S327680x68_1_0_0_1_n_n none (normN (ytab X I Wh NX) g b) (transpose S64x68 [1, 0] Wx transposes_S68x64_S64x68_1_0))
    (broadcastInDim S327680x68 ![0, 1] bcast_S1x68_S327680x68_0_1 (broadcastInDim S1x68 ![1] bcast_S68_S1x68_1 bx)))

theorem ztab_apply (i : Fin 327680) (l : Fin 68) : ztab X I Wh Wx bx NX g b (ix2 i l)
    = Ideal.exp ((∑ h : Fin 64, (normN (ytab X I Wh NX) g b (ix2 i h) : EReal) * Wx (ix2 l h)) + bx (ix1 l)) := by
  have e : ∀ P : Vec Ideal S327680x64 .f32, Host.exp (F := Ideal) (φ := .f32) (addf (F := Ideal) (φ := .f32) (Host.dotGeneral (F := Ideal) (φ₁ := .f32) (φ₂ := .f32) dot_S327680x64_S64x68_S327680x68_1_0_0_1_n_n none P (transpose S64x68 [1, 0] Wx transposes_S68x64_S64x68_1_0))
    (broadcastInDim S327680x68 ![0, 1] bcast_S1x68_S327680x68_0_1 (broadcastInDim S1x68 ![1] bcast_S68_S1x68_1 bx))) (ix2 i l)
      = Ideal.exp ((∑ h : Fin 64, (P (ix2 i h) : EReal) * Wx (ix2 l h)) + bx (ix1 l)) := by
    intro P
    pointwise
  exact e _

abbrev zend : Vec Ideal S16384x1 .f32 :=
  Host.exp (F := Ideal) (φ := .f32) (addf (F := Ideal) (φ := .f32) (Host.dotGeneral (F := Ideal) (φ₁ := .f32) (φ₂ := .f32) dot_S16384x64_S64x1_S16384x1_1_0_0_1_n_n none (normS (etab X I NX Wt) gt bt') (transpose S64x1 [1, 0] We transposes_S1x64_S64x1_1_0))
    (broadcastInDim S16384x1 ![0, 1] bcast_S1x1_S16384x1_0_1 (broadcastInDim S1x1 ![1] bcast_S1_S1x1_1 be)))

theorem zend_apply (s : Fin 16384) : zend X I NX Wt gt bt' We be (ix2 s (0 : Fin 1))
    = Ideal.exp ((∑ h : Fin 64, (normS (etab X I NX Wt) gt bt' (ix2 s h) : EReal) * We (ix2 0 h)) + be (ix1 0)) := by
  have e : ∀ P : Vec Ideal S16384x64 .f32, Host.exp (F := Ideal) (φ := .f32) (addf (F := Ideal) (φ := .f32) (Host.dotGeneral (F := Ideal) (φ₁ := .f32) (φ₂ := .f32) dot_S16384x64_S64x1_S16384x1_1_0_0_1_n_n none P (transpose S64x1 [1, 0] We transposes_S1x64_S64x1_1_0))
    (broadcastInDim S16384x1 ![0, 1] bcast_S1x1_S16384x1_0_1 (broadcastInDim S1x1 ![1] bcast_S1_S1x1_1 be))) (ix2 s (0 : Fin 1))
      = Ideal.exp ((∑ h : Fin 64, (P (ix2 s h) : EReal) * We (ix2 0 h)) + be (ix1 0)) := by
    intro P
    pointwise
  exact e _

end Ends

/-! ## The denominators -/

abbrev dtab (Z : Vec Ideal S327680x68 .f32) : Vec Ideal S16384x1x1 .f32 :=
  addf (broadcastInDim S16384x1x1 ![0, 1] bcast_S16384x1_S16384x1x1_0_1
      (Host.reduceAdd (F := Ideal) (φ := .f32) (Host.scatterAdd scatter_S16384x1x68_S327680x1_S327680x1x68_12_0_0_1 (broadcastInDim S16384x1x68 ![] bcast_S_S16384x1x68 (constant (F := Ideal) S_ .f32 0x00000000#32))
        (broadcastInDim S327680x1 ![0] bcast_S327680_S327680x1_0 I) (shapeCast S327680x1x68 Z shapeCasts_S327680x68_S327680x1x68))
        (constant S_ .f32 0x00000000#32) reducesTo_S16384x1x68_S16384x1_d2 h_S_))
    (shapeCast S16384x1x1 ze shapeCasts_S16384x1_S16384x1x1)

theorem red_apply (u : Vec Ideal S16384x1x68 .f32) (s : Fin 16384) :
    (Host.reduceAdd (F := Ideal) (φ := .f32) u (constant S_ .f32 0x00000000#32) reducesTo_S16384x1x68_S16384x1_d2 h_S_ : Vec Ideal S16384x1 .f32) (ix2 s (0 : Fin 1))
      = ∑ l : Fin 68, u (ix3 s (0 : Fin 1) l) := by
  pointwise

theorem dtab_sum (Z : Vec Ideal S327680x68 .f32) (s : Fin 16384) :
    dtab I ze Z (ix3 s (0 : Fin 1) (0 : Fin 1))
      = (∑ i : Fin 327680, if (I (ix1 i)).toInt = (s.val : Int) then ∑ l : Fin 68, Z (ix2 i l) else 0) + ze (ix2 s (0 : Fin 1)) := by
  have hadd : ∀ (a : Vec Ideal S16384x1 .f32), addf (F := Ideal) (φ := .f32) (broadcastInDim S16384x1x1 ![0, 1] bcast_S16384x1_S16384x1x1_0_1 a) (shapeCast S16384x1x1 ze shapeCasts_S16384x1_S16384x1x1) (ix3 s (0 : Fin 1) (0 : Fin 1))
      = (a (ix2 s (0 : Fin 1)) + ze (ix2 s (0 : Fin 1)) : EReal) := by
    intro a
    pointwise
  refine (hadd _).trans (congrArg (· + (ze (ix2 s (0 : Fin 1)) : EReal)) ?_)
  rw [red_apply]
  have hrow : ∀ l : Fin 68, Host.scatterAdd (F := Ideal) (φ := .f32) scatter_S16384x1x68_S327680x1_S327680x1x68_12_0_0_1 (broadcastInDim S16384x1x68 ![] bcast_S_S16384x1x68 (constant (F := Ideal) S_ .f32 0x00000000#32))
        (broadcastInDim S327680x1 ![0] bcast_S327680_S327680x1_0 I) (shapeCast S327680x1x68 Z shapeCasts_S327680x68_S327680x1x68) (ix3 s (0 : Fin 1) l)
      = (∑ i : Fin 327680, if (I (ix1 i)).toInt = (s.val : Int) then Z (ix2 i l) else 0 : EReal) := by
    intro l
    refine (scatter3_apply scatter_S16384x1x68_S327680x1_S327680x1x68_12_0_0_1 rfl rfl rfl rfl _ _ _ s l).trans ?_
    have h0 : broadcastInDim S16384x1x68 ![] bcast_S_S16384x1x68 (constant (F := Ideal) S_ .f32 0x00000000#32) (ix3 s (0 : Fin 1) l) = (0 : EReal) := by pointwise
    rw [h0, zero_add]
    refine Finset.sum_congr rfl fun i _ => ?_
    have h1 : broadcastInDim S327680x1 ![0] bcast_S327680_S327680x1_0 I (ix2 i (0 : Fin 1)) = I (ix1 i) := by pointwise
    have h2 : shapeCast S327680x1x68 Z shapeCasts_S327680x68_S327680x1x68 (ix3 i (0 : Fin 1) l) = Z (ix2 i l) := by pointwise
    rw [h1, h2]
  simp only [hrow]
  rw [Finset.sum_comm]
  refine Finset.sum_congr rfl fun i _ => ?_
  by_cases h : (I (ix1 i)).toInt = (s.val : Int)
  · simp only [h, if_true]
  · simp only [h, if_false, Finset.sum_const_zero]

section Agree

variable (Z : Vec Ideal S327680x68 .f32) (E : Vec Ideal S16384x1 .f32) (hZ : ∀ i l, Z (ix2 i l) = zt X I Wh Wx bx bt sc i l)
  (hE : ∀ s : Fin 16384, E (ix2 s (0 : Fin 1)) = ze (ix2 s (0 : Fin 1)))

include hZ hE in
theorem dtab_apply (s : Fin 16384) : dtab I E Z (ix3 s (0 : Fin 1) (0 : Fin 1)) = dn X I Wh Wx bx bt sc ze s := by
  rw [dtab_sum, hE]
  unfold dn
  simp only [hZ]

end Agree

/-! ## The quotients -/

abbrev qtab (Z : Vec Ideal S327680x68 .f32) (D : Vec Ideal S16384x1x1 .f32) : Vec Ideal S327680x68 .f32 :=
  shapeCast S327680x68 (Host.divf (F := Ideal) (φ := .f32) (shapeCast S327680x1x68 Z shapeCasts_S327680x68_S327680x1x68)
    (broadcastInDim S327680x1x68 ![0, 1, 2] bcast_S327680x1x1_S327680x1x68_0_1_2 (Host.gather gather_S16384x1x1_S327680x1_S327680x1x1_12_0_n_n_0_1_111 D (wrapped I))))
    shapeCasts_S327680x1x68_S327680x68

include hI in
theorem qtab_apply (Z : Vec Ideal S327680x68 .f32) (D : Vec Ideal S16384x1x1 .f32) (i : Fin 327680) (l : Fin 68) :
    qtab I Z D (ix2 i l) = Ideal.div (Z (ix2 i l)) (D (ix3 (segOf (I (ix1 i))) (0 : Fin 1) (0 : Fin 1))) := by
  have hq : ∀ g : Vec Ideal S327680x1x1 .f32, shapeCast S327680x68 (Host.divf (F := Ideal) (φ := .f32) (shapeCast S327680x1x68 Z shapeCasts_S327680x68_S327680x1x68)
      (broadcastInDim S327680x1x68 ![0, 1, 2] bcast_S327680x1x1_S327680x1x68_0_1_2 g)) shapeCasts_S327680x1x68_S327680x68 (ix2 i l)
        = Ideal.div (Z (ix2 i l)) (g (ix3 i (0 : Fin 1) (0 : Fin 1))) := by
    intro g
    pointwise
  refine (hq _).trans (congrArg _ ?_)
  refine gather_unit _ rfl rfl rfl rfl rfl _ _ i (segOf (I (ix1 i))) ?_
  exact (congrArg BitVec.toInt (wrapped_apply I hI i)).trans (seg_toInt I hI i)

section Agree

variable (Z : Vec Ideal S327680x68 .f32) (E : Vec Ideal S16384x1 .f32) (hZ : ∀ i l, Z (ix2 i l) = zt X I Wh Wx bx bt sc i l)
  (hE : ∀ s : Fin 16384, E (ix2 s (0 : Fin 1)) = ze (ix2 s (0 : Fin 1)))

abbrev qres : Vec Ideal S327680x68 .f32 := qtab I Z (dtab I E Z)

include hI hZ hE in
theorem qres_apply (i : Fin 327680) (l : Fin 68) : qres I Z E (ix2 i l) = nt X I Wh Wx bx bt sc ze i l := by
  refine (qtab_apply I hI _ _ i l).trans ?_
  rw [hZ, dtab_apply X I Wh Wx bx bt sc ze Z E hZ hE]
  rfl

/-! ## The results -/

abbrev connectR : Vec Ideal S327680x4 .f32 := extractStridedSlice S327680x4 ![0, 0] (qres I Z E) slices_S327680x68_S327680x4_0_0
abbrev appendR : Vec Ideal S327680x16x4 .f32 :=
  shapeCast S327680x16x4 (extractStridedSlice S327680x64 ![0, 4] (qres I Z E) slices_S327680x68_S327680x64_0_4) shapeCasts_S327680x64_S327680x16x4
abbrev endR : Vec Ideal S16384 .f32 :=
  shapeCast S16384 (shapeCast S16384x1 (Host.divf (F := Ideal) (φ := .f32) (shapeCast S16384x1x1 E shapeCasts_S16384x1_S16384x1x1) (dtab I E Z)) shapeCasts_S16384x1x1_S16384x1) shapeCasts_S16384x1_S16384

include hI hZ hE in
theorem connectR_apply (i : Fin 327680) (k : Fin 4) : connectR I Z E (ix2 i k) = nt X I Wh Wx bx bt sc ze i ⟨k.val, by omega⟩ := by
  have h : ∀ q : Vec Ideal S327680x68 .f32, extractStridedSlice S327680x4 ![0, 0] q slices_S327680x68_S327680x4_0_0 (ix2 i k) = q (ix2 i (⟨k.val, by omega⟩ : Fin 68)) := by
    intro q
    pointwise
  exact (h _).trans (qres_apply X I Wh Wx bx bt sc ze hI Z E hZ hE i _)

include hI hZ hE in
theorem appendR_apply (i : Fin 327680) (a : Fin 16) (b : Fin 4) :
    appendR I Z E (ix3 i a b) = nt X I Wh Wx bx bt sc ze i ⟨a.val * 4 + b.val + 4, by omega⟩ := by
  have h : ∀ q : Vec Ideal S327680x68 .f32, shapeCast S327680x16x4 (extractStridedSlice S327680x64 ![0, 4] q slices_S327680x68_S327680x64_0_4) shapeCasts_S327680x64_S327680x16x4 (ix3 i a b)
      = q (ix2 i (⟨a.val * 4 + b.val + 4, by omega⟩ : Fin 68)) := by
    intro q
    pointwise
    exact congrArg (fun k : Fin 68 => q (ix2 i k)) (Fin.ext (Nat.add_comm _ _))
  exact (h _).trans (qres_apply X I Wh Wx bx bt sc ze hI Z E hZ hE i _)

include hZ hE in
theorem endR_apply (s : Fin 16384) : endR I Z E (ix1 s) = et X I Wh Wx bx bt sc ze s := by
  have h : ∀ D : Vec Ideal S16384x1x1 .f32, shapeCast S16384 (shapeCast S16384x1 (Host.divf (F := Ideal) (φ := .f32) (shapeCast S16384x1x1 E shapeCasts_S16384x1_S16384x1x1) D) shapeCasts_S16384x1x1_S16384x1) shapeCasts_S16384x1_S16384 (ix1 s)
      = Ideal.div (E (ix2 s (0 : Fin 1))) (D (ix3 s (0 : Fin 1) (0 : Fin 1))) := by
    intro D
    pointwise
  refine (h _).trans ?_
  rw [dtab_apply X I Wh Wx bx bt sc ze Z E hZ hE]
  rw [hE]
  rfl

end Agree

end Cert.Proof.Ref

end
-- ==== Proof.Fold.lean ====
/-
  The kernel's folded tables against the reference's batch norms, for finite features, weights and scales: both give the
  same exponentials.
-/
module

public import proofs.«01_k».proof.Proof.NormE
public import proofs.«01_k».proof.Proof.RSide

@[expose] public section

set_option maxRecDepth 16384

noncomputable section

namespace Cert.Proof.Fold

open Cert.KernelIdeal Cert.KernelIdeal.Gen
open Idealize.ShloMosaic Idealize.ShloMosaic.Tactic Cert.Proof.Norm Cert.Proof.Region1

theorem cE_val : Ideal.ofBits .f32 0x3727C5AC#32 = ((10995116 / 2 ^ 40 : ℝ) : EReal) := by
  simp [Ideal.ofBits, Ideal.ieee, -EReal.coe_mul]; norm_num

theorem c2_val : Ideal.ofBits .f32 0x40000000#32 = ((2 : ℝ) : EReal) := by
  simp [Ideal.ofBits, Ideal.ieee, -EReal.coe_mul]; norm_num

/-- The constant added to a variance. -/
abbrev eps : ℝ := 10995116 / 2 ^ 40

theorem eps_pos : 0 < eps := by unfold eps; norm_num

theorem cardN : (Fintype.card (Fin 327680) : ℝ) = 327680 := by rw [Fintype.card_fin]; norm_num
theorem cardS : (Fintype.card (Fin 16384) : ℝ) = 16384 := by rw [Fintype.card_fin]; norm_num

variable (m : (ℓ : Loc nD τ sig) → Buf (Elt Ideal) ℓ) (d : Dev nD)

/-- The segment of a row. -/
abbrev seg (i : Fin 327680) : Fin 16384 := segOf (aI m d (ix1 i))

/-- A segment's declared number of points. -/
abbrev nr (s : Fin 16384) : ℝ := ((aN m d (ix1 s)).toInt : ℝ)

variable (hI : ∀ j, (aI m d j).toNat < 16384) (hN : ∀ s, 0 < (aN m d s).toInt)
  (x : Fin 327680 → Fin 64 → ℝ) (hX : ∀ i f, (aX m d (ix2 i f) : EReal) = (x i f : EReal))
  (w : Fin 64 → Fin 128 → ℝ) (hW : ∀ h k, (aWh m d (ix2 h k) : EReal) = (w h k : EReal))
  (g : Fin 64 → ℝ) (hg : ∀ h, (ag m d (ix1 h) : EReal) = (g h : EReal))
  (v : Fin 64 → Fin 64 → ℝ) (hv : ∀ h k, (aWt m d (ix2 h k) : EReal) = (v h k : EReal))
  (q : Fin 64 → ℝ) (hq : ∀ h, (agt m d (ix1 h) : EReal) = (q h : EReal))

/-- The two halves of a row of weights. -/
abbrev wa (h : Fin 64) (f : Fin 64) : ℝ := w h (⟨f.val, by omega⟩ : Fin 128)
abbrev wb (h : Fin 64) (f : Fin 64) : ℝ := w h (⟨64 + f.val, by omega⟩ : Fin 128)

/-- A segment's offset in one column, before it is normalised. -/
abbrev ob (s : Fin 16384) (h : Fin 64) : ℝ := rB x (seg m d) (nr m d) (wb w h) s

/-- A segment's end in one column, before it is normalised. -/
abbrev oe (s : Fin 16384) (h : Fin 64) : ℝ := rB x (seg m d) (nr m d) (v h) s

/-- A row in one column, before it is normalised. -/
abbrev oy (h : Fin 64) (i : Fin 327680) : ℝ := rL x (wa w h) i + ob m d x w (seg m d i) h

include hI in
theorem seg_iff (i : Fin 327680) (s : Fin 16384) : (aI m d (ix1 i)).toInt = (s.val : Int) ↔ seg m d i = s := by
  rw [Ref.seg_toInt (aI m d) hI i, Int.natCast_inj, Fin.ext_iff]

include hN in
theorem nr_ne (s : Fin 16384) : nr m d s ≠ 0 := by
  have h := hN (ix1 s)
  exact Int.cast_ne_zero.2 h.ne'

/-! ## The kernel's sums -/

include hI hX in
theorem tS_val (s : Fin 16384) (f : Fin 64) : tS (U3 m) d s f = ((rS x (seg m d) s f : ℝ) : EReal) := by
  refine (congrArg₂ (fun a b : EReal => a + b) (A0_0 m d s f) (A0_1 m d s f)).trans ((add_zero _).trans ?_)
  exact seg_sum x (seg m d) (fun i => (aI m d (ix1 i)).toInt = (s.val : Int)) s (fun i => seg_iff m d hI i s) f _ fun i => hX i f

include hI in
theorem tc_val (s : Fin 16384) : tc (U3 m) d s = ((rC (seg m d) s : ℝ) : EReal) := by
  refine (congrArg₂ (fun a b : EReal => a + b) (A1_0 m d s) (A1_1 m d s)).trans ((add_zero _).trans ?_)
  exact seg_count (seg m d) (fun i => (aI m d (ix1 i)).toInt = (s.val : Int)) s fun i => seg_iff m d hI i s

theorem A2_val (s : Fin 16384) : A2 (U3 m) d (ix2 s 0) = ((nr m d s : ℝ) : EReal) := A2_at m d s

include hI hN hX hW in
theorem tB_val (s : Fin 16384) (h : Fin 64) : tB (U3 m) d (A4 (U3 m) d) s h = ((ob m d x w s h : ℝ) : EReal) :=
  kB x (seg m d) (nr m d) (nr_ne m d hN) s _ (fun f => tS_val m d hI x hX s f) _ (A2_val m d s) (wb w h) _ fun f => (A4_at m d f h).trans (hW _ _)

include hI hN hX hv in
theorem tE_val (s : Fin 16384) (h : Fin 64) : tB (U3 m) d (A5 (U3 m) d) s h = ((oe m d x v s h : ℝ) : EReal) :=
  kB x (seg m d) (nr m d) (nr_ne m d hN) s _ (fun f => tS_val m d hI x hX s f) _ (A2_val m d s) (v h) _ fun f => (A5_at m d f h).trans (hv _ _)

include hX hW in
theorem lin_val (i : Fin 327680) (h : Fin 64) : lin (aX m d) (aWh m d) i h = ((rL x (wa w h) i : ℝ) : EReal) :=
  qL x i _ (fun f => hX i f) (wa w h) _ fun f => hW h _

include hI hN hX hW in
theorem mK_val (h : Fin 64) : mK (U3 m) d h = ((rM (oy m d x w h) 327680 : ℝ) : EReal) := by
  unfold mK
  rw [show cN = ((327680 : ℝ) : EReal) from Ref.cN_val]
  exact kM x (seg m d) 327680 (by norm_num) _ (fun s f => tS_val m d hI x hX s f) _ (fun s => tc_val m d hI s) (wa w h) _ (fun f => (A3_at m d f h).trans (hW _ _))
    (fun s => ob m d x w s h) _ fun s => tB_val m d hI hN x hX w hW s h

include hI hN hX hW hg in
theorem sK_val (h : Fin 64) : sK (U3 m) d h = ((g h * (Real.sqrt (rV (oy m d x w h) 327680 + eps))⁻¹ : ℝ) : EReal) := by
  unfold sK
  rw [show cN = ((327680 : ℝ) : EReal) from Ref.cN_val, show cE = ((eps : ℝ) : EReal) from cE_val]
  refine kS x (seg m d) 327680 eps (by norm_num) eps_pos _ (fun s f => tS_val m d hI x hX s f) _ (fun s => tc_val m d hI s) (wa w h) _ (fun f => (A3_at m d f h).trans (hW _ _))
    (fun s => ob m d x w s h) _ (fun s => tB_val m d hI hN x hX w hW s h) cardN _ (mK_val m d hI hN x hX w hW h) _ ?_ _ c2_val _ _ ((A6_at m d h).trans (hg h))
  refine (A12_0 m d h).trans ?_
  rw [coe_sum]
  refine Finset.sum_congr rfl fun i _ => ?_
  rw [lin_val m d x hX w hW i h, EReal.coe_mul]

include hI hN hX hv in
theorem mT_val (h : Fin 64) : mT (U3 m) d h = ((rM (fun s => oe m d x v s h) 16384 : ℝ) : EReal) := by
  unfold mT
  refine (congrArg (fun z : EReal => Ideal.div _ z) Ref.cS_val).trans ?_
  exact qM 16384 (by norm_num) (fun s => oe m d x v s h) _ fun s => tE_val m d hI hN x hX v hv s h

include hI hN hX hv hq in
theorem sT_val (h : Fin 64) : sT (U3 m) d h = ((q h * (Real.sqrt (rV (fun s => oe m d x v s h) 16384 + eps))⁻¹ : ℝ) : EReal) := by
  unfold sT
  refine (congrArg₂ (fun z y : EReal => A8 (U3 m) d (ix2 0 h) * Ideal.rsqrt (Ideal.div _ z - mT (U3 m) d h * mT (U3 m) d h + y)) Ref.cS_val cE_val).trans ?_
  exact qS 16384 eps (by norm_num) eps_pos cardS (fun s => oe m d x v s h) _ (fun s => tE_val m d hI hN x hX v hv s h) _ (mT_val m d hI hN x hX v hv h) _ _ ((A8_at m d h).trans (hq h))

/-! ## The reference's -/

include hI hN hX in
theorem xe_val (s : Fin 16384) (f : Fin 64) : Ref.xe (aX m d) (aI m d) (aN m d) s f = ((rS x (seg m d) s f / nr m d s : ℝ) : EReal) := by
  unfold Ref.xe
  refine (congrArg (fun z : EReal => Ideal.div z ((nr m d s : ℝ) : EReal)) (seg_sum x (seg m d) (fun i => (aI m d (ix1 i)).toInt = (s.val : Int)) s (fun i => seg_iff m d hI i s) f _ fun i => hX i f)).trans ?_
  exact coe_div (nr_ne m d hN s)

include hI hN hX hW in
theorem y_val (h : Fin 64) (i : Fin 327680) : Ref.ytab (aX m d) (aI m d) (aWh m d) (aN m d) (ix2 i h) = ((oy m d x w h i : ℝ) : EReal) := by
  refine (Ref.ytab_apply (aX m d) (aI m d) (aWh m d) hI (aN m d) i h).trans ?_
  rw [EReal.coe_add]
  refine congrArg₂ (fun a b : EReal => a + b) (lin_val m d x hX w hW i h) ?_
  exact qB x (seg m d) (nr m d) (nr_ne m d hN) _ _ (fun f => xe_val m d hI hN x hX _ f) (wb w h) _ fun f => hW h _

include hI hN hX hv in
theorem e_val (h : Fin 64) (s : Fin 16384) : Ref.etab (aX m d) (aI m d) (aN m d) (aWt m d) (ix2 s h) = ((oe m d x v s h : ℝ) : EReal) := by
  refine (Ref.etab_apply (aX m d) (aI m d) (aN m d) (aWt m d) s h).trans ?_
  exact qB x (seg m d) (nr m d) (nr_ne m d hN) _ _ (fun f => xe_val m d hI hN x hX _ f) (v h) _ fun f => hv h _

include hI hN hX hW in
theorem mN_val (h : Fin 64) : Ref.mN (Ref.ytab (aX m d) (aI m d) (aWh m d) (aN m d)) h = ((rM (oy m d x w h) 327680 : ℝ) : EReal) := by
  unfold Ref.mN
  rw [Ref.cN_val]
  exact qM 327680 (by norm_num) _ _ fun i => y_val m d hI hN x hX w hW h i

include hI hN hX hW in
theorem vN_val (h : Fin 64) : Ref.vN (Ref.ytab (aX m d) (aI m d) (aWh m d) (aN m d)) h = ((rV (oy m d x w h) 327680 : ℝ) : EReal) := by
  unfold Ref.vN
  rw [Ref.cN_val]
  exact qV 327680 (by norm_num) _ _ (fun i => y_val m d hI hN x hX w hW h i) _ (mN_val m d hI hN x hX w hW h)

include hI hN hX hv in
theorem mS_val (h : Fin 64) : Ref.mS (Ref.etab (aX m d) (aI m d) (aN m d) (aWt m d)) h = ((rM (fun s => oe m d x v s h) 16384 : ℝ) : EReal) := by
  unfold Ref.mS
  rw [Ref.cS_val]
  exact qM 16384 (by norm_num) _ _ fun s => e_val m d hI hN x hX v hv h s

include hI hN hX hv in
theorem vS_val (h : Fin 64) : Ref.vS (Ref.etab (aX m d) (aI m d) (aN m d) (aWt m d)) h = ((rV (fun s => oe m d x v s h) 16384 : ℝ) : EReal) := by
  unfold Ref.vS
  rw [Ref.cS_val]
  exact qV 16384 (by norm_num) _ _ (fun s => e_val m d hI hN x hX v hv h s) _ (mS_val m d hI hN x hX v hv h)

/-! ## Both agree -/

include hI hN hX hW hg in
theorem row_eq (i : Fin 327680) (h : Fin 64) :
    max ((lin (aX m d) (aWh m d) i h) * sK (U3 m) d h + (tB (U3 m) d (A4 (U3 m) d) (seg m d i) h * sK (U3 m) d h + (A7 (U3 m) d (ix2 0 h) - mK (U3 m) d h * sK (U3 m) d h))) 0
      = (Ref.normN (Ref.ytab (aX m d) (aI m d) (aWh m d) (aN m d)) (ag m d) (ab m d) (ix2 i h) : EReal) := by
  refine Eq.trans ?_ (Ref.normN_apply _ _ _ i h).symm
  rw [lin_val m d x hX w hW i h, sK_val m d hI hN x hX w hW g hg h, tB_val m d hI hN x hX w hW (seg m d i) h, mK_val m d hI hN x hX w hW h, A7_at,
    y_val m d hI hN x hX w hW h i, mN_val m d hI hN x hX w hW h, vN_val m d hI hN x hX w hW h, hg h, cE_val, ← EReal.coe_add]
  refine congrArg (fun z : EReal => max z 0) ?_
  exact fold_row _ _ _ _ _ (by have := rV_nonneg (oy m d x w h) 327680 (by norm_num); have := eps_pos; linarith) _

include hI hN hX hv hq in
theorem end_eq (s : Fin 16384) (h : Fin 64) :
    max (tB (U3 m) d (A5 (U3 m) d) s h * sT (U3 m) d h + (A9 (U3 m) d (ix2 0 h) - mT (U3 m) d h * sT (U3 m) d h)) 0
      = (Ref.normS (Ref.etab (aX m d) (aI m d) (aN m d) (aWt m d)) (agt m d) (abt' m d) (ix2 s h) : EReal) := by
  refine Eq.trans ?_ (Ref.normS_apply _ _ _ s h).symm
  rw [sT_val m d hI hN x hX v hv q hq h, tE_val m d hI hN x hX v hv s h, mT_val m d hI hN x hX v hv h, A9_at,
    e_val m d hI hN x hX v hv h s, mS_val m d hI hN x hX v hv h, vS_val m d hI hN x hX v hv h, hq h, cE_val, ← EReal.coe_add]
  refine congrArg (fun z : EReal => max z 0) ?_
  exact fold_end _ _ _ _ (by have := rV_nonneg (fun s => oe m d x v s h) 16384 (by norm_num); have := eps_pos; linarith) _

theorem asc_val (h : Fin 64) : (asc m d (ix2 (0 : Fin 8) h) : EReal) = sK (U3 m) d h :=
  (congrFun (upd1_2 (U3 m) 0 d) (ix2 (0 : Fin 8) h)).trans (O15_apply (U3 m) d 0 h)

theorem abt_val (s : Fin 16384) (h : Fin 64) : (abt m d (ix2 s (⟨h.val, by omega⟩ : Fin 128)) : EReal)
    = tB (U3 m) d (A4 (U3 m) d) s h * sK (U3 m) d h + (A7 (U3 m) d (ix2 0 h) - mK (U3 m) d h * sK (U3 m) d h) :=
  (congrFun (upd1_0 (U3 m) 0 d) (ix2 s (⟨h.val, by omega⟩ : Fin 128))).trans (F13_apply (U3 m) d s h)

theorem aze_val (s : Fin 16384) : (aze m d (ix2 s (0 : Fin 1)) : EReal)
    = Ideal.exp ((∑ h : Fin 64, max (tB (U3 m) d (A5 (U3 m) d) s h * sT (U3 m) d h + (A9 (U3 m) d (ix2 0 h) - mT (U3 m) d h * sT (U3 m) d h)) 0 * A10 (U3 m) d (ix2 h 0) : EReal) + A11 (U3 m) d (ix2 0 0)) :=
  (congrFun (upd1_1 (U3 m) 0 d) (ix2 s (0 : Fin 1))).trans (F14_apply (U3 m) d s)

include hI hN hX hW hg in
/-- The reference's exponentials are the kernel's. -/
theorem z_eq (i : Fin 327680) (l : Fin 68) :
    Ref.ztab (aX m d) (aI m d) (aWh m d) (aWx m d) (abx m d) (aN m d) (ag m d) (ab m d) (ix2 i l)
      = zt (aX m d) (aI m d) (aWh m d) (aWx m d) (abx m d) (abt m d) (asc m d) i l := by
  refine (Ref.ztab_apply (aX m d) (aI m d) (aWh m d) (aWx m d) (abx m d) (aN m d) (ag m d) (ab m d) i l).trans ?_
  unfold zt zval
  refine congrArg (fun z : EReal => Ideal.exp (z + abx m d (ix1 l))) (Finset.sum_congr rfl fun h _ => ?_)
  refine congrArg (fun z : EReal => z * aWx m d (ix2 l h)) ?_
  refine (row_eq m d hI hN x hX w hW g hg i h).symm.trans ?_
  exact congrArg₂ (fun a b : EReal => max (lin (aX m d) (aWh m d) i h * a + b) 0) (asc_val m d h).symm (abt_val m d (seg m d i) h).symm

include hI hN hX hv hq in
/-- The reference's end terms are the kernel's. -/
theorem ze_eq (s : Fin 16384) :
    Ref.zend (aX m d) (aI m d) (aN m d) (aWt m d) (agt m d) (abt' m d) (aWe m d) (abe m d) (ix2 s (0 : Fin 1)) = aze m d (ix2 s (0 : Fin 1)) := by
  refine (Ref.zend_apply (aX m d) (aI m d) (aN m d) (aWt m d) (agt m d) (abt' m d) (aWe m d) (abe m d) s).trans (Eq.trans ?_ (aze_val m d s).symm)
  refine congrArg₂ (fun a b : EReal => Ideal.exp (a + b)) (Finset.sum_congr rfl fun h _ => ?_) (A11_at m d).symm
  exact congrArg₂ (fun a b : EReal => a * b) (end_eq m d hI hN x hX v hv q hq s h).symm (A10_at m d h).symm

variable (p : Fin 64 → ℝ) (hp : ∀ h, (abt' m d (ix1 h) : EReal) = (p h : EReal)) (u : Fin 64 → ℝ) (hu : ∀ h, (aWe m d (ix2 0 h) : EReal) = (u h : EReal))
  (o : ℝ) (ho : (abe m d (ix1 0) : EReal) = (o : EReal))

include hI hN hX hv hq hp hu ho in
/-- The end terms are positive, their rows being finite. -/
theorem ze_pos (s : Fin 16384) : (0 : EReal) < aze m d (ix2 s (0 : Fin 1)) := by
  rw [aze_val]
  have hr : ∀ h : Fin 64, ∃ r : ℝ, (max (tB (U3 m) d (A5 (U3 m) d) s h * sT (U3 m) d h + (A9 (U3 m) d (ix2 0 h) - mT (U3 m) d h * sT (U3 m) d h)) 0 * A10 (U3 m) d (ix2 h 0) : EReal) = (r : EReal) := by
    intro h
    rw [sT_val m d hI hN x hX v hv q hq h, tE_val m d hI hN x hX v hv s h, mT_val m d hI hN x hX v hv h, A9_at, A10_at, hp, hu, ← EReal.coe_mul, ← EReal.coe_mul, ← EReal.coe_sub, ← EReal.coe_add,
      ← EReal.coe_zero, ← EReal.coe_strictMono.monotone.map_max, ← EReal.coe_mul]
    exact ⟨_, rfl⟩
  choose r hr using hr
  have hs : (∑ h : Fin 64, max (tB (U3 m) d (A5 (U3 m) d) s h * sT (U3 m) d h + (A9 (U3 m) d (ix2 0 h) - mT (U3 m) d h * sT (U3 m) d h)) 0 * A10 (U3 m) d (ix2 h 0) : EReal) = ((∑ h, r h : ℝ) : EReal) := by
    rw [coe_sum]
    exact Finset.sum_congr rfl fun h _ => hr h
  rw [hs, A11_at, ho, ← EReal.coe_add, Ideal.exp_coe]
  exact_mod_cast Real.exp_pos _

end Cert.Proof.Fold

end
-- ==== Proof.Pre.lean ====
/-
  What the two preconditions say. That of the frames: every index names a segment. That of the results: every index names a segment, every segment's divisor is at least one, and the arrays the
  normalisation is computed from are finite.
-/
module

public import proofs.«01_k».proof.Proof.Gen.Pre_finite_in_range
public import proofs.«01_k».proof.Pre_ids_in_range
public import Idealize.ShloMosaic.Lib.ReduceAll
public import Idealize.ShloMosaic.Lib.Pointwise

@[expose] public section

noncomputable section

namespace Cert.Proof

/-- The shape relation of the frames' precondition. -/
instance rangeFacts : Cert.Pre_ids_in_range.Facts where
  bcast_S_S327680 := by decide

open Cert.Pre_finite_in_range
open Idealize.ShloMosaic

theorem and_ofBool (p q : Bool) : IntOp.andi (BitVec.ofBool p) (BitVec.ofBool q) = BitVec.ofBool (p && q) := by
  cases p <;> cases q <;> rfl

theorem bool_word (p : Bool) : BitVec.ofBool p = 1#1 ↔ p = true := by cases p <;> decide

theorem and_word (a b : BitVec 1) (h : IntOp.andi a b = 1#1) : a = 1#1 ∧ b = 1#1 := by
  revert a b; decide

/-- A word that is at least 0 and less than 16384, both as signed words, is a segment. -/
theorem seg_of_bounds (v : BitVec 32) (h : IntOp.andi (IntOp.cmpi .sge v 0#32) (IntOp.cmpi .slt v 16384#32) = 1#1) : v.toNat < 16384 := by
  simp only [IntOp.cmpi, and_ofBool, bool_word, Bool.and_eq_true, BitVec.sle_eq_decide, BitVec.slt_eq_decide, decide_eq_true_eq,
    BitVec.toInt_eq_toNat_cond, BitVec.toNat_ofNat] at h
  have := v.isLt
  obtain ⟨h1, h2⟩ := h
  split at h1 <;> split at h2 <;> omega

/-- A word that is at least 1 as a signed word is positive. -/
theorem pos_of_bounds (v : BitVec 32) (b : BitVec 1) (h : IntOp.andi (IntOp.cmpi .sge v 1#32) b = 1#1) : 0 < v.toInt := by
  have h1 := (and_word _ _ h).1
  simp only [IntOp.cmpi, bool_word, BitVec.sle_eq_decide, decide_eq_true_eq] at h1
  have e : (1#32 : BitVec 32).toInt = 1 := by decide
  rw [e] at h1
  omega

/-- A number whose absolute value is below the infinite one is real. -/
theorem real_of_lt (a : EReal) (h : BitVec.ofBool (decide (max a (-a) < Ideal.ofBits .f32 0x7F800000#32)) = 1#1) : ∃ r : ℝ, a = (r : EReal) := by
  have e : Ideal.ofBits .f32 0x7F800000#32 = (⊤ : EReal) := by
    simp [Ideal.ofBits, Ideal.ieee]
  rw [e, bool_word, decide_eq_true_eq] at h
  induction a with
  | bot => simp at h
  | top => simp at h
  | coe r => exact ⟨r, rfl⟩

theorem cmp_inf {s : Shape} (x : FVec Ideal s .f32) (hb : S_.BroadcastsInDim s (![] : Fin 0 → Fin s.rank)) (i : s.Idx) :
    cmpf (F := Ideal) (φ := .f32) .olt (Host.absf x) (broadcastInDim s ![] hb (constant (F := Ideal) S_ .f32 0x7F800000#32)) i
      = BitVec.ofBool (decide (max (x i : EReal) (-(x i : EReal)) < Ideal.ofBits .f32 0x7F800000#32)) := rfl

variable {F : FTy → Type} [FloatOps F] (x0 : FVec F S327680x64 .f32) (x1 : IVec S16384 32) (x2 : IVec S327680 32) (x3 : FVec F S64x128 .f32) (x4 x5 : FVec F S64 .f32)
  (x6 : FVec F S64x64 .f32) (x7 x8 : FVec F S64 .f32) (x9 : FVec F S68x64 .f32) (x10 : FVec F S68 .f32) (x11 : FVec F S1x64 .f32) (x12 : FVec F S1 .f32)

theorem all_sub : Subsingleton S_.Idx := ⟨fun a b => funext fun q => q.elim0⟩

theorem ids_of_pre (h : fn (F := F) x0 x1 x2 x3 x4 x5 x6 x7 x8 x9 x10 x11 x12 = fun _ => 1#1) (j : S327680.Idx) : (x2 j).toNat < 16384 := by
  have e := congrFun h j
  simp only [fn, fn_part1, fn_part2, fn_part3] at e
  have e1 := (and_word _ _ (and_word _ _ (and_word _ _ (and_word _ _ (and_word _ _ (and_word _ _ (and_word _ _ (and_word _ _ (and_word _ _ e).1).1).1).1).1).1).1).1).1
  simp only [andi, cmpi, broadcastInDim, constantI] at e1
  exact seg_of_bounds _ e1

theorem ids_of_range (h : Cert.Pre_ids_in_range.fn (F := F) x0 x1 x2 x3 x4 x5 x6 x7 x8 x9 x10 x11 x12 = fun _ => 1#1) (j : S327680.Idx) : (x2 j).toNat < 16384 := by
  have e := congrFun h j
  simp only [Cert.Pre_ids_in_range.fn, andi, cmpi, broadcastInDim, constantI] at e
  exact seg_of_bounds _ e

section
variable (x0 : FVec Ideal S327680x64 .f32) (x1 : IVec S16384 32) (x2 : IVec S327680 32) (x3 : FVec Ideal S64x128 .f32) (x4 x5 : FVec Ideal S64 .f32)
  (x6 : FVec Ideal S64x64 .f32) (x7 x8 : FVec Ideal S64 .f32) (x9 : FVec Ideal S68x64 .f32) (x10 : FVec Ideal S68 .f32) (x11 : FVec Ideal S1x64 .f32) (x12 : FVec Ideal S1 .f32)

set_option maxHeartbeats 800000 in
/-- The divisors are positive and the arrays of the normalisation finite. -/
theorem vals_of_pre (h : fn (F := Ideal) x0 x1 x2 x3 x4 x5 x6 x7 x8 x9 x10 x11 x12 = fun _ => 1#1) :
    (∀ s, 0 < (x1 s).toInt) ∧ (∀ i, ∃ r : ℝ, x0 i = (r : EReal)) ∧ (∀ i, ∃ r : ℝ, x3 i = (r : EReal)) ∧ (∀ i, ∃ r : ℝ, x4 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x11 i = (r : EReal)) ∧ (∀ i, ∃ r : ℝ, x12 i = (r : EReal)) := by
  have e := congrFun h (ix1 (0 : Fin 327680))
  simp only [fn, fn_part1, fn_part2, fn_part3] at e
  obtain ⟨e, e12⟩ := and_word _ _ e
  obtain ⟨e, e11⟩ := and_word _ _ e
  obtain ⟨e, e8⟩ := and_word _ _ e
  obtain ⟨e, e7⟩ := and_word _ _ e
  obtain ⟨e, e6⟩ := and_word _ _ e
  obtain ⟨e, e4⟩ := and_word _ _ e
  obtain ⟨e, e3⟩ := and_word _ _ e
  obtain ⟨e, e0⟩ := and_word _ _ e
  obtain ⟨-, e1⟩ := and_word _ _ e
  have hsub := all_sub
  refine ⟨fun s => ?_, fun i => ?_, fun i => ?_, fun i => ?_, fun i => ?_, fun i => ?_, fun i => ?_, fun i => ?_, fun i => ?_⟩
  · exact pos_of_bounds _ _ (Host.reduce_andi_all _ _ _ _ _ e1 s)
  · exact real_of_lt _ ((cmp_inf x0 _ i).symm.trans (Host.reduce_andi_all _ _ _ _ _ e0 i))
  · exact real_of_lt _ ((cmp_inf x3 _ i).symm.trans (Host.reduce_andi_all _ _ _ _ _ e3 i))
  · exact real_of_lt _ ((cmp_inf x4 _ i).symm.trans (Host.reduce_andi_all _ _ _ _ _ e4 i))
  · exact real_of_lt _ ((cmp_inf x6 _ i).symm.trans (Host.reduce_andi_all _ _ _ _ _ e6 i))
  · exact real_of_lt _ ((cmp_inf x7 _ i).symm.trans (Host.reduce_andi_all _ _ _ _ _ e7 i))
  · exact real_of_lt _ ((cmp_inf x8 _ i).symm.trans (Host.reduce_andi_all _ _ _ _ _ e8 i))
  · exact real_of_lt _ ((cmp_inf x11 _ i).symm.trans (Host.reduce_andi_all _ _ _ _ _ e11 i))
  · exact real_of_lt _ ((cmp_inf x12 _ i).symm.trans (Host.reduce_andi_all _ _ _ _ _ e12 i))

end

end Cert.Proof

end
-- ==== Proof.Same0.lean ====
/-
  The column-sum call's body is one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The column-sum call's body is the same in both. -/
theorem body0 (h : 0 < 7) (a) : Cert.Kernel.defs₀ (F := Bits) .tc ⟨0, h⟩ a = Cert.KernelIdeal.defs₀ (F := Bits) .tc ⟨0, h⟩ a := by
  obtain ⟨t, s⟩ := a
  unfold Cert.Kernel.defs₀ Cert.KernelIdeal.defs₀
  dsimp only
  unfold Cert.Kernel.cc0__tca_body Cert.KernelIdeal.cc0__tca_body
  rfl

end Cert.Proof.Same
-- ==== Proof.Same1.lean ====
/-
  The tables call's body is one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The tables call's body is the same in both. -/
theorem body1 (h : 1 < 7) (a) : Cert.Kernel.defs₀ (F := Bits) .tc ⟨1, h⟩ a = Cert.KernelIdeal.defs₀ (F := Bits) .tc ⟨1, h⟩ a := by
  obtain ⟨t, s⟩ := a
  unfold Cert.Kernel.defs₀ Cert.KernelIdeal.defs₀
  dsimp only
  unfold Cert.Kernel.cc1__tcb_body Cert.KernelIdeal.cc1__tcb_body
  rfl

end Cert.Proof.Same
-- ==== Proof.Same3.lean ====
/-
  The exponentials call's body is one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The exponentials call's body is the same in both. -/
theorem body3 (h : 3 < 7) (a) : Cert.Kernel.defs₀ (F := Bits) .tc ⟨3, h⟩ a = Cert.KernelIdeal.defs₀ (F := Bits) .tc ⟨3, h⟩ a := by
  obtain ⟨t, s⟩ := a
  unfold Cert.Kernel.defs₀ Cert.KernelIdeal.defs₀
  dsimp only
  unfold Cert.Kernel.cc3__tcc_body Cert.KernelIdeal.cc3__tcc_body
  rfl

end Cert.Proof.Same
-- ==== Proof.Same4.lean ====
/-
  The denominators call's body is one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The denominators call's body is the same in both. -/
theorem body4 (h : 4 < 7) (a) : Cert.Kernel.defs₀ (F := Bits) .tc ⟨4, h⟩ a = Cert.KernelIdeal.defs₀ (F := Bits) .tc ⟨4, h⟩ a := by
  obtain ⟨t, s⟩ := a
  unfold Cert.Kernel.defs₀ Cert.KernelIdeal.defs₀
  dsimp only
  unfold Cert.Kernel.cc4__tcd_body Cert.KernelIdeal.cc4__tcd_body
  rfl

end Cert.Proof.Same
-- ==== Proof.Same6.lean ====
/-
  The normalising call's body is one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The normalising call's body is the same in both. -/
theorem body6 (h : 6 < 7) (a) : Cert.Kernel.defs₀ (F := Bits) .tc ⟨6, h⟩ a = Cert.KernelIdeal.defs₀ (F := Bits) .tc ⟨6, h⟩ a := by
  obtain ⟨t, s⟩ := a
  unfold Cert.Kernel.defs₀ Cert.KernelIdeal.defs₀
  dsimp only
  unfold Cert.Kernel.cc6__tce_body Cert.KernelIdeal.cc6__tce_body
  rfl

end Cert.Proof.Same
-- ==== Proof.SameI.lean ====
/-
  The entries of the two tables of bodies under which nothing runs: the label calls itself.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

/-- Whether nothing is run for label `l` on processor `p`. -/
def idleKernel (p : Proc Cert.Kernel.τ) (l : Fin 7) : Bool :=
  match p, l with
  | .tc, ⟨0, _⟩ => false
  | .tc, ⟨1, _⟩ => false
  | .scVector _ _, ⟨2, _⟩ => false
  | .tc, ⟨3, _⟩ => false
  | .tc, ⟨4, _⟩ => false
  | .scVector _ _, ⟨5, _⟩ => false
  | .tc, ⟨6, _⟩ => false
  | _, _ => true

theorem callKernel (p : Proc Cert.Kernel.τ) (l : Fin 7) (a) (h : idleKernel p l = true) :
    Cert.Kernel.defs₀ (F := Bits) p l a = .op (.call l a) .ret := by
  match p, l, a, h with
  | .tc, ⟨0, _⟩, _, h => exact Bool.noConfusion h
  | .scVector _ _, ⟨0, _⟩, _, _ => rfl
  | .scScalar _, ⟨0, _⟩, _, _ => rfl
  | .tc, ⟨1, _⟩, _, h => exact Bool.noConfusion h
  | .scVector _ _, ⟨1, _⟩, _, _ => rfl
  | .scScalar _, ⟨1, _⟩, _, _ => rfl
  | .tc, ⟨2, _⟩, _, _ => rfl
  | .scVector _ _, ⟨2, _⟩, _, h => exact Bool.noConfusion h
  | .scScalar _, ⟨2, _⟩, _, _ => rfl
  | .tc, ⟨3, _⟩, _, h => exact Bool.noConfusion h
  | .scVector _ _, ⟨3, _⟩, _, _ => rfl
  | .scScalar _, ⟨3, _⟩, _, _ => rfl
  | .tc, ⟨4, _⟩, _, h => exact Bool.noConfusion h
  | .scVector _ _, ⟨4, _⟩, _, _ => rfl
  | .scScalar _, ⟨4, _⟩, _, _ => rfl
  | .tc, ⟨5, _⟩, _, _ => rfl
  | .scVector _ _, ⟨5, _⟩, _, h => exact Bool.noConfusion h
  | .scScalar _, ⟨5, _⟩, _, _ => rfl
  | .tc, ⟨6, _⟩, _, h => exact Bool.noConfusion h
  | .scVector _ _, ⟨6, _⟩, _, _ => rfl
  | .scScalar _, ⟨6, _⟩, _, _ => rfl

/-- Whether nothing is run for label `l` on processor `p`. -/
def idleKernelIdeal (p : Proc Cert.KernelIdeal.τ) (l : Fin 7) : Bool :=
  match p, l with
  | .tc, ⟨0, _⟩ => false
  | .tc, ⟨1, _⟩ => false
  | .scVector _ _, ⟨2, _⟩ => false
  | .tc, ⟨3, _⟩ => false
  | .tc, ⟨4, _⟩ => false
  | .scVector _ _, ⟨5, _⟩ => false
  | .tc, ⟨6, _⟩ => false
  | _, _ => true

theorem callKernelIdeal (p : Proc Cert.KernelIdeal.τ) (l : Fin 7) (a) (h : idleKernelIdeal p l = true) :
    Cert.KernelIdeal.defs₀ (F := Bits) p l a = .op (.call l a) .ret := by
  match p, l, a, h with
  | .tc, ⟨0, _⟩, _, h => exact Bool.noConfusion h
  | .scVector _ _, ⟨0, _⟩, _, _ => rfl
  | .scScalar _, ⟨0, _⟩, _, _ => rfl
  | .tc, ⟨1, _⟩, _, h => exact Bool.noConfusion h
  | .scVector _ _, ⟨1, _⟩, _, _ => rfl
  | .scScalar _, ⟨1, _⟩, _, _ => rfl
  | .tc, ⟨2, _⟩, _, _ => rfl
  | .scVector _ _, ⟨2, _⟩, _, h => exact Bool.noConfusion h
  | .scScalar _, ⟨2, _⟩, _, _ => rfl
  | .tc, ⟨3, _⟩, _, h => exact Bool.noConfusion h
  | .scVector _ _, ⟨3, _⟩, _, _ => rfl
  | .scScalar _, ⟨3, _⟩, _, _ => rfl
  | .tc, ⟨4, _⟩, _, h => exact Bool.noConfusion h
  | .scVector _ _, ⟨4, _⟩, _, _ => rfl
  | .scScalar _, ⟨4, _⟩, _, _ => rfl
  | .tc, ⟨5, _⟩, _, _ => rfl
  | .scVector _ _, ⟨5, _⟩, _, h => exact Bool.noConfusion h
  | .scScalar _, ⟨5, _⟩, _, _ => rfl
  | .tc, ⟨6, _⟩, _, h => exact Bool.noConfusion h
  | .scVector _ _, ⟨6, _⟩, _, _ => rfl
  | .scScalar _, ⟨6, _⟩, _, _ => rfl

end Cert.Proof.Same
-- ==== Proof.SameG.lean ====
/-
  The SparseCore's gathers are one text in the kernel as printed and in the kernel read over the reals.
-/
module

public import proofs.«01_k».proof.Proof.Launch
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
/-- The first gather's body is the same in both. -/
theorem body2 (h : 2 < 7) (c s a) : Cert.Kernel.defs₀ (F := Bits) (.scVector c s) ⟨2, h⟩ a = Cert.KernelIdeal.defs₀ (F := Bits) (.scVector c s) ⟨2, h⟩ a := by
  unfold Cert.Kernel.defs₀ Cert.KernelIdeal.defs₀
  rfl

set_option maxHeartbeats 4000000 in
/-- The second gather's body is the same in both. -/
theorem body5 (h : 5 < 7) (c s a) : Cert.Kernel.defs₀ (F := Bits) (.scVector c s) ⟨5, h⟩ a = Cert.KernelIdeal.defs₀ (F := Bits) (.scVector c s) ⟨5, h⟩ a := by
  unfold Cert.Kernel.defs₀ Cert.KernelIdeal.defs₀
  rfl

end Cert.Proof.Same
-- ==== Proof.Same.lean ====
/-
  The kernel as printed and the kernel read over the reals are one text: their body tables agree, whatever the floats.
-/
module

public import proofs.«01_k».proof.Proof.Same0
public import proofs.«01_k».proof.Proof.Same1
public import proofs.«01_k».proof.Proof.Same3
public import proofs.«01_k».proof.Proof.Same4
public import proofs.«01_k».proof.Proof.Same6
public import proofs.«01_k».proof.Proof.SameI
public import proofs.«01_k».proof.Proof.SameG
public import proofs.«01_k».proof.Proof.Gen.Kernel
public import proofs.«01_k».proof.Proof.Gen.Kernel.Skeleton

@[expose] public section

namespace Cert.Proof.Same

open Idealize.ShloMosaic Idealize.ShloMosaic.TcCoe Idealize.SL.Sem

set_option maxHeartbeats 4000000 in
theorem same (p : Proc Cert.Kernel.τ) (l : Fin 7) (a) (h : idleKernel p l = true) (h' : idleKernelIdeal p l = true) :
    Cert.Kernel.defs₀ (F := Bits) p l a = Cert.KernelIdeal.defs₀ (F := Bits) p l a :=
  (callKernel p l a h).trans (callKernelIdeal p l a h').symm

set_option maxHeartbeats 8000000 in
/-- The two tables of bodies are one. -/
theorem bodies : Cert.Kernel.defs₀ (F := Bits) = Cert.KernelIdeal.defs₀ (F := Bits) := by
  funext p l a
  match p, l, a with
  | .tc, ⟨0, _⟩, a => exact body0 _ a
  | .scVector _ _, ⟨0, h⟩, a => exact same _ ⟨0, h⟩ a rfl rfl
  | .scScalar _, ⟨0, h⟩, a => exact same _ ⟨0, h⟩ a rfl rfl
  | .tc, ⟨1, _⟩, a => exact body1 _ a
  | .scVector _ _, ⟨1, h⟩, a => exact same _ ⟨1, h⟩ a rfl rfl
  | .scScalar _, ⟨1, h⟩, a => exact same _ ⟨1, h⟩ a rfl rfl
  | .tc, ⟨2, h⟩, a => exact same _ ⟨2, h⟩ a rfl rfl
  | .scVector c s, ⟨2, _⟩, a => exact body2 _ c s a
  | .scScalar _, ⟨2, h⟩, a => exact same _ ⟨2, h⟩ a rfl rfl
  | .tc, ⟨3, _⟩, a => exact body3 _ a
  | .scVector _ _, ⟨3, h⟩, a => exact same _ ⟨3, h⟩ a rfl rfl
  | .scScalar _, ⟨3, h⟩, a => exact same _ ⟨3, h⟩ a rfl rfl
  | .tc, ⟨4, _⟩, a => exact body4 _ a
  | .scVector _ _, ⟨4, h⟩, a => exact same _ ⟨4, h⟩ a rfl rfl
  | .scScalar _, ⟨4, h⟩, a => exact same _ ⟨4, h⟩ a rfl rfl
  | .tc, ⟨5, h⟩, a => exact same _ ⟨5, h⟩ a rfl rfl
  | .scVector c s, ⟨5, _⟩, a => exact body5 _ c s a
  | .scScalar _, ⟨5, h⟩, a => exact same _ ⟨5, h⟩ a rfl rfl
  | .tc, ⟨6, _⟩, a => exact body6 _ a
  | .scVector _ _, ⟨6, h⟩, a => exact same _ ⟨6, h⟩ a rfl rfl
  | .scScalar _, ⟨6, h⟩, a => exact same _ ⟨6, h⟩ a rfl rfl

set_option maxHeartbeats 8000000 in
/-- With the pipelines and the SparseCore's calls added, they still are. -/
theorem defs_eq : Cert.Kernel.defs (F := Bits) = Cert.KernelIdeal.defs (F := Bits) :=
  congrArg (fun D => Cert.Kernel.sc.defs (Pipeline.defs Cert.Kernel.pcfgs D)) bodies

end Cert.Proof.Same
-- ==== Proof.lean ====
/-
  The certificate: the frames of the kernel (as printed and over the extended reals) and of the reference, and the
  equality of their three results, assembled from the launch (Proof/Launch.lean), the kernel's results entry by entry
  (Proof/KSide.lean), the reference's (Proof/RSide.lean) and the agreement of their batch norms (Proof/Fold.lean).
-/
module

public import proofs.«01_k».proof.Defs
public import proofs.«01_k».proof.Proof.Launch
public import proofs.«01_k».proof.Proof.Fold
public import proofs.«01_k».proof.Proof.Pre
public import proofs.«01_k».proof.Proof.Same
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_in_range
public import Idealize.ShloMosaic.Adequacy
public import Idealize.ShloMosaic.Init

@[expose] public section

noncomputable section

namespace Cert.Proof

open Idealize.ShloMosaic Idealize.ShloMosaic.TcCoe Idealize.SL.Sem

/-! ## The frames -/

/-- The kernel's frame, over any float values. -/
theorem frame_F {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (hok : ListOK m) :
    θ_run (Cert.KernelIdeal.defs (F := F)) (Cert.KernelIdeal.threads (F := F)) ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0 :=
  (θ_run Cert.KernelIdeal.defs _ _).mono (fun r h => ⟨fun c => ⟨(h.1 c _ (mem_uc (by decide))).trans ((V8_kept m c (r := Cert.KernelIdeal.main_arg0) (by decide)).trans (V0_kept m c (by decide))),
      (h.1 c _ (mem_uc (by decide))).trans ((V8_kept m c (r := Cert.KernelIdeal.main_arg1) (by decide)).trans (V0_kept m c (by decide))),
      (h.1 c _ (mem_uc (by decide))).trans ((V8_kept m c (r := Cert.KernelIdeal.main_arg2) (by decide)).trans (V0_kept m c (by decide))),
      (h.1 c _ (mem_uc (by decide))).trans ((V8_kept m c (r := Cert.KernelIdeal.main_arg3) (by decide)).trans (V0_kept m c (by decide))),
      (h.1 c _ (mem_uc (by decide))).trans ((V8_kept m c (r := Cert.KernelIdeal.main_arg4) (by decide)).trans (V0_kept m c (by decide))),
      (h.1 c _ (mem_uc (by decide))).trans ((V8_kept m c (r := Cert.KernelIdeal.main_arg5) (by decide)).trans (V0_kept m c (by decide))),
      (h.1 c _ (mem_uc (by decide))).trans ((V8_kept m c (r := Cert.KernelIdeal.main_arg6) (by decide)).trans (V0_kept m c (by decide))),
      (h.1 c _ (mem_uc (by decide))).trans ((V8_kept m c (r := Cert.KernelIdeal.main_arg7) (by decide)).trans (V0_kept m c (by decide))),
      (h.1 c _ (mem_uc (by decide))).trans ((V8_kept m c (r := Cert.KernelIdeal.main_arg8) (by decide)).trans (V0_kept m c (by decide))),
      (h.1 c _ (mem_uc (by decide))).trans ((V8_kept m c (r := Cert.KernelIdeal.main_arg9) (by decide)).trans (V0_kept m c (by decide))),
      (h.1 c _ (mem_uc (by decide))).trans ((V8_kept m c (r := Cert.KernelIdeal.main_arg10) (by decide)).trans (V0_kept m c (by decide))),
      (h.1 c _ (mem_uc (by decide))).trans ((V8_kept m c (r := Cert.KernelIdeal.main_arg11) (by decide)).trans (V0_kept m c (by decide))),
      (h.1 c _ (mem_uc (by decide))).trans ((V8_kept m c (r := Cert.KernelIdeal.main_arg12) (by decide)).trans (V0_kept m c (by decide)))⟩, h.2⟩)
    (run_main m ρ hok)

set_option maxHeartbeats 2000000 in
/-- The kernel's frame, bit for bit. -/
theorem frame_p : Cert.quiescent_Kernel := fun m ρ hpre => by
  have hok : ListOK (F := Bits) m := fun d j => ids_of_range _ _ _ _ _ _ _ _ _ _ _ _ _ (hpre d) j
  have ht : Cert.Kernel.threads (F := Bits) = Cert.KernelIdeal.threads (F := Bits) := rfl
  rw [Same.defs_eq, ht]
  exact frame_F (F := Bits) m ρ hok

/-- The idealized kernel's frame. -/
theorem frame_pi : Cert.quiescent_KernelIdeal := fun m ρ hpre => frame_F (F := Ideal) m ρ (fun d j => ids_of_range _ _ _ _ _ _ _ _ _ _ _ _ _ (hpre d) j)

/-- The same under the results' precondition. -/
theorem frame_pi_finite : Cert.quiescent_KernelIdeal_pre_finite_in_range := fun m ρ hpre => frame_F (F := Ideal) m ρ (fun d j => ids_of_pre _ _ _ _ _ _ _ _ _ _ _ _ _ (hpre d) j)

/-- The reference's frame: it has no semaphore at all. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same under the results' precondition. -/
theorem frame_ri_finite : Cert.quiescent_ReferenceIdeal_pre_finite_in_range := fun m ρ _ => frame_ri m ρ trivial

/-! ## The results -/

section

variable (m : (ℓ : Loc Cert.KernelIdeal.nD Cert.KernelIdeal.τ Cert.KernelIdeal.sig) → Buf (Elt Ideal) ℓ) (c : Dev Cert.KernelIdeal.nD)

/-- What the precondition gives of one device's arguments, put together: the exponentials and the end terms agree, and
    the end terms are positive. -/
structure Agree : Prop where
  ids : ∀ j, (aI m c j).toNat < 16384
  rows : ∀ i l, (Ref.ztab (aX m c) (aI m c) (aWh m c) (aWx m c) (abx m c) (aN m c) (ag m c) (ab m c)) (ix2 i l) = kz m c i l
  ends : ∀ s : Fin 16384, (Ref.zend (aX m c) (aI m c) (aN m c) (aWt m c) (agt m c) (abt' m c) (aWe m c) (abe m c)) (ix2 s (0 : Fin 1)) = aze m c (ix2 s (0 : Fin 1))
  pos : ∀ s : Fin 16384, (0 : EReal) < aze m c (ix2 s (0 : Fin 1))

theorem agree_of (hI : ∀ j, (aI m c j).toNat < 16384) (hN : ∀ s, 0 < (aN m c s).toInt) (h0 : ∀ i, ∃ r : ℝ, aX m c i = (r : EReal)) (h3 : ∀ i, ∃ r : ℝ, aWh m c i = (r : EReal))
    (h4 : ∀ i, ∃ r : ℝ, ag m c i = (r : EReal)) (h6 : ∀ i, ∃ r : ℝ, aWt m c i = (r : EReal)) (h7 : ∀ i, ∃ r : ℝ, agt m c i = (r : EReal)) (h8 : ∀ i, ∃ r : ℝ, abt' m c i = (r : EReal))
    (h11 : ∀ i, ∃ r : ℝ, aWe m c i = (r : EReal)) (h12 : ∀ i, ∃ r : ℝ, abe m c i = (r : EReal)) : Agree m c := by
  choose x hx using h0
  choose w hw using h3
  choose g hg using h4
  choose v hv using h6
  choose q hq using h7
  choose p hp using h8
  choose u hu using h11
  choose o ho using h12
  exact
    { ids := hI
      rows := Fold.z_eq m c hI hN (fun i f => x (ix2 i f)) (fun i f => hx _) (fun h k => w (ix2 h k)) (fun h k => hw _) (fun h => g (ix1 h)) (fun h => hg _)
      ends := Fold.ze_eq m c hI hN (fun i f => x (ix2 i f)) (fun i f => hx _) (fun h k => v (ix2 h k)) (fun h k => hv _) (fun h => q (ix1 h)) (fun h => hq _)
      pos := Fold.ze_pos m c hI hN (fun i f => x (ix2 i f)) (fun i f => hx _) (fun h k => v (ix2 h k)) (fun h k => hv _) (fun h => q (ix1 h)) (fun h => hq _)
        (fun h => p (ix1 h)) (fun h => hp _) (fun h => u (ix2 0 h)) (fun h => hu _) (o (ix1 0)) (ho _) }

variable (hA : Agree m c)

include hA in
theorem quot_eq (i : Fin 327680) (l : Fin 68) :
    kz m c i l * Ideal.div 1 (kd m c (segOf (aI m c (ix1 i)))) = nt (aX m c) (aI m c) (aWh m c) (aWx m c) (abx m c) (abt m c) (asc m c) (aze m c) i l :=
  mul_div_one _ _ (dn_pos _ _ _ _ _ _ _ _ _ (hA.pos _)).ne'

include hA in
theorem connect_eq : (Ref.connectR (aI m c) (Ref.ztab (aX m c) (aI m c) (aWh m c) (aWx m c) (abx m c) (aN m c) (ag m c) (ab m c)) (Ref.zend (aX m c) (aI m c) (aN m c) (aWt m c) (agt m c) (abt' m c) (aWe m c) (abe m c)) : Cert.KernelIdeal.S327680x4.Idx → EReal)
    = V8 m c (tcr Cert.KernelIdeal.main_v56_0) := by
  funext y
  obtain ⟨i, k, rfl⟩ : ∃ (i : Fin 327680) (k : Fin 4), y = ix2 i k := ⟨y 0, y 1, eq_ix2 (n0 := 327680) (n1 := 4) y⟩
  exact (Ref.connectR_apply (aX m c) (aI m c) (aWh m c) (aWx m c) (abx m c) (abt m c) (asc m c) (aze m c) hA.ids _ _ hA.rows hA.ends i k).trans (((V8_connect m c i k).trans (quot_eq m c hA i _)).symm)

include hA in
theorem append_eq : (Ref.appendR (aI m c) (Ref.ztab (aX m c) (aI m c) (aWh m c) (aWx m c) (abx m c) (aN m c) (ag m c) (ab m c)) (Ref.zend (aX m c) (aI m c) (aN m c) (aWt m c) (agt m c) (abt' m c) (aWe m c) (abe m c)) : Cert.KernelIdeal.S327680x16x4.Idx → EReal)
    = V8 m c (tcr Cert.KernelIdeal.main_v57) := by
  funext y
  obtain ⟨i, a, b, rfl⟩ : ∃ (i : Fin 327680) (a : Fin 16) (b : Fin 4), y = ix3 i a b := ⟨y 0, y 1, y 2, eq_ix3 (n0 := 327680) (n1 := 16) (n2 := 4) y⟩
  exact (Ref.appendR_apply (aX m c) (aI m c) (aWh m c) (aWx m c) (abx m c) (abt m c) (asc m c) (aze m c) hA.ids _ _ hA.rows hA.ends i a b).trans (((V8_append m c i a b).trans (quot_eq m c hA i _)).symm)

include hA in
theorem end_eq : (Ref.endR (aI m c) (Ref.ztab (aX m c) (aI m c) (aWh m c) (aWx m c) (abx m c) (aN m c) (ag m c) (ab m c)) (Ref.zend (aX m c) (aI m c) (aN m c) (aWt m c) (agt m c) (abt' m c) (aWe m c) (abe m c)) : Cert.KernelIdeal.S16384.Idx → EReal)
    = V8 m c (tcr Cert.KernelIdeal.main_v58) := by
  funext y
  obtain ⟨s, rfl⟩ : ∃ s : Fin 16384, y = ix1 s := ⟨y 0, eq_ix1 (n0 := 16384) y⟩
  exact (Ref.endR_apply (aX m c) (aI m c) (aWh m c) (aWx m c) (abx m c) (abt m c) (asc m c) (aze m c) _ _ hA.rows hA.ends s).trans (V8_end m c s).symm

end

/-- The kernel's results are the reference's. -/
theorem algebraic : Cert.algebraic_KernelIdeal_ReferenceIdeal_pre_finite_in_range := by
  intro m ρ m' ρ' hpre hagree
  have hA : ∀ c, Agree m c := fun c => by
    obtain ⟨hN, h0, h3, h4, h6, h7, h8, h11, h12⟩ := vals_of_pre _ _ _ _ _ _ _ _ _ _ _ _ _ (hpre c)
    exact agree_of m c (fun j => ids_of_pre _ _ _ _ _ _ _ _ _ _ _ _ _ (hpre c) j) hN h0 h3 h4 h6 h7 h8 h11 h12
  refine ⟨fun c => V8 m c (tcr Cert.KernelIdeal.main_v57), fun c => V8 m c (tcr Cert.KernelIdeal.main_v56_0), fun c => V8 m c (tcr Cert.KernelIdeal.main_v58), ?_, ?_⟩
  · exact (θ_run Cert.KernelIdeal.defs _ _).mono (fun r h c => ⟨h.1 c _ (mem_uc (b := Cert.KernelIdeal.main_v57) (by decide)), h.1 c _ (mem_uc (b := Cert.KernelIdeal.main_v56_0) (by decide)),
        h.1 c _ (mem_uc (b := Cert.KernelIdeal.main_v58) (by decide)),
      (h.1 c _ (mem_uc (by decide))).trans ((V8_kept m c (r := Cert.KernelIdeal.main_arg0) (by decide)).trans (V0_kept m c (by decide))),
      (h.1 c _ (mem_uc (by decide))).trans ((V8_kept m c (r := Cert.KernelIdeal.main_arg1) (by decide)).trans (V0_kept m c (by decide))),
      (h.1 c _ (mem_uc (by decide))).trans ((V8_kept m c (r := Cert.KernelIdeal.main_arg2) (by decide)).trans (V0_kept m c (by decide))),
      (h.1 c _ (mem_uc (by decide))).trans ((V8_kept m c (r := Cert.KernelIdeal.main_arg3) (by decide)).trans (V0_kept m c (by decide))),
      (h.1 c _ (mem_uc (by decide))).trans ((V8_kept m c (r := Cert.KernelIdeal.main_arg4) (by decide)).trans (V0_kept m c (by decide))),
      (h.1 c _ (mem_uc (by decide))).trans ((V8_kept m c (r := Cert.KernelIdeal.main_arg5) (by decide)).trans (V0_kept m c (by decide))),
      (h.1 c _ (mem_uc (by decide))).trans ((V8_kept m c (r := Cert.KernelIdeal.main_arg6) (by decide)).trans (V0_kept m c (by decide))),
      (h.1 c _ (mem_uc (by decide))).trans ((V8_kept m c (r := Cert.KernelIdeal.main_arg7) (by decide)).trans (V0_kept m c (by decide))),
      (h.1 c _ (mem_uc (by decide))).trans ((V8_kept m c (r := Cert.KernelIdeal.main_arg8) (by decide)).trans (V0_kept m c (by decide))),
      (h.1 c _ (mem_uc (by decide))).trans ((V8_kept m c (r := Cert.KernelIdeal.main_arg9) (by decide)).trans (V0_kept m c (by decide))),
      (h.1 c _ (mem_uc (by decide))).trans ((V8_kept m c (r := Cert.KernelIdeal.main_arg10) (by decide)).trans (V0_kept m c (by decide))),
      (h.1 c _ (mem_uc (by decide))).trans ((V8_kept m c (r := Cert.KernelIdeal.main_arg11) (by decide)).trans (V0_kept m c (by decide))),
      (h.1 c _ (mem_uc (by decide))).trans ((V8_kept m c (r := Cert.KernelIdeal.main_arg12) (by decide)).trans (V0_kept m c (by decide)))⟩)
      (run_main (F := Ideal) m ρ (fun d j => (hA d).ids j))
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · unfold Cert.ReferenceIdeal.Value.res_main_v93
      obtain ⟨h0, h1, h2, h3, h4, h5, h6, h7, h8, h9, h10, h11, h12⟩ := hagree c
      rw [h0, h1, h2, h3, h4, h5, h6, h7, h8, h9, h10, h11, h12]
      exact append_eq m c (hA c)
    · unfold Cert.ReferenceIdeal.Value.res_main_v91
      obtain ⟨h0, h1, h2, h3, h4, h5, h6, h7, h8, h9, h10, h11, h12⟩ := hagree c
      rw [h0, h1, h2, h3, h4, h5, h6, h7, h8, h9, h10, h11, h12]
      exact connect_eq m c (hA c)
    · unfold Cert.ReferenceIdeal.Value.res_main_v94
      obtain ⟨h0, h1, h2, h3, h4, h5, h6, h7, h8, h9, h10, h11, h12⟩ := hagree c
      rw [h0, h1, h2, h3, h4, h5, h6, h7, h8, h9, h10, h11, h12]
      exact end_eq m c (hA c)

theorem claim : Cert.Claim := ⟨Cert.Kernel.Gen.facts, Cert.KernelIdeal.Gen.facts, Cert.ReferenceIdeal.Gen.facts,
  rangeFacts, Cert.Pre_finite_in_range.Gen.facts, frame_p, frame_pi, frame_pi_finite, frame_ri, frame_ri_finite, trivial, algebraic⟩

end Cert.Proof

end
